-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mixable [hPre_mixable : Cert.Pre_mixable.Facts] (m : (ℓ : Loc Cert.KernelIdeal.nD Cert.KernelIdeal.τ Cert.KernelIdeal.sig) → Buf (Elt Ideal) ℓ) : Prop :=
  ∀ c : Dev Cert.KernelIdeal.nD,
    (Cert.Pre_mixable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mixable [hPre_mixable : Cert.Pre_mixable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mixable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_mixable [hKernelIdeal : Cert.KernelIdeal.Facts] [hPre_mixable : Cert.Pre_mixable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mixable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_mixable [hReferenceIdeal : Cert.ReferenceIdeal.Facts] [hPre_mixable : Cert.Pre_mixable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mixable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "log2e_tau" .f32 0x3DB8AA3B#32 (((16 * (Real.log 2))⁻¹ : ℝ) : EReal)

def algebraic_KernelIdeal_ReferenceIdeal_pre_mixable [hKernelIdeal : Cert.KernelIdeal.Facts] [hReferenceIdeal : Cert.ReferenceIdeal.Facts] [hPre_mixable : Cert.Pre_mixable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mixable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_v41) = v4 c
          ∧ r.2.mem ((c.tc : Thread Cert.Reference4Ideal.nD Cert.Reference4Ideal.τ).loc Cert.Reference4Ideal.main_v42) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_mixable : Cert.Pre_mixable.Facts),
    quiescent_Kernel (hKernel := hKernel)
    ∧ quiescent_KernelIdeal (hKernelIdeal := hKernelIdeal)
    ∧ quiescent_KernelIdeal_pre_mixable (hKernelIdeal := hKernelIdeal) (hPre_mixable := hPre_mixable)
    ∧ quiescent_ReferenceIdeal (hReferenceIdeal := hReferenceIdeal)
    ∧ quiescent_ReferenceIdeal_pre_mixable (hReferenceIdeal := hReferenceIdeal) (hPre_mixable := hPre_mixable)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_mixable (hKernelIdeal := hKernelIdeal) (hReferenceIdeal := hReferenceIdeal) (hPre_mixable := hPre_mixable)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_mixable.lean ====
abbrev S32768x8704 : Shape := ⟨2, ![32768, 8704]⟩
abbrev S32768x128 : Shape := ⟨2, ![32768, 128]⟩
abbrev S32768x2048 : Shape := ⟨2, ![32768, 2048]⟩
abbrev S128x512 : Shape := ⟨2, ![128, 512]⟩
abbrev S1x512 : Shape := ⟨2, ![1, 512]⟩
abbrev S1x256 : Shape := ⟨2, ![1, 256]⟩
abbrev S16 : Shape := ⟨1, ![16]⟩
abbrev S1024x2048 : Shape := ⟨2, ![1024, 2048]⟩
abbrev S2048x2048 : Shape := ⟨2, ![2048, 2048]⟩
abbrev S32768x512 : Shape := ⟨2, ![32768, 512]⟩
abbrev S_ : Shape := ⟨0, ![]⟩
abbrev S32768x1024 : Shape := ⟨2, ![32768, 1024]⟩
abbrev S32768x256 : Shape := ⟨2, ![32768, 256]⟩
abbrev S32768x16 : Shape := ⟨2, ![32768, 16]⟩
abbrev S32768x1808 : Shape := ⟨2, ![32768, 1808]⟩

class Facts : Prop where
  bitsLt_bf16_f32 : FTy.bits .bf16 < FTy.bits .f32
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  slices_S32768x8704_S32768x1024_0_6144 : S32768x8704.Slices ![0, 6144] S32768x1024
  bcast_S_S32768x1024 : S_.BroadcastsInDim S32768x1024 (![] : Fin 0 → Fin S32768x1024.rank)
  slices_S32768x8704_S32768x256_0_8192 : S32768x8704.Slices ![0, 8192] S32768x256
  bcast_S_S32768x256 : S_.BroadcastsInDim S32768x256 (![] : Fin 0 → Fin S32768x256.rank)
  bcast_S_S16 : S_.BroadcastsInDim S16 (![] : Fin 0 → Fin S16.rank)
  bcast_S16_S32768x16_1 : S16.BroadcastsInDim S32768x16 (![1] : Fin 1 → Fin S32768x16.rank)
  concatenates_S32768x512_S32768x1024_S32768x256_S32768x16_S32768x1808_d1 : Shape.Concatenates [S32768x512, S32768x1024, S32768x256, S32768x16] S32768x1808 1
  dot_S32768x128_S128x512_S32768x512_1_0_0_1_n_n_wf : DotDims.WF S32768x128 S128x512 S32768x512 [1] [0] [0] [1] [] []

variable [Facts]

def dot_S32768x128_S128x512_S32768x512_1_0_0_1_n_n : DotDims S32768x128 S128x512 S32768x512 where
  lhsContracting := [1]
  rhsContracting := [0]
  lhsNonContracting := [0]
  rhsNonContracting := [1]
  lhsBatch := []
  rhsBatch := []
  wf := dot_S32768x128_S128x512_S32768x512_1_0_0_1_n_n_wf
def fn {F : FTy → Type} [FloatOps F] (main_arg0 : FVec F S32768x8704 .bf16) (main_arg1 : FVec F S32768x128 .f32) (main_arg2 : FVec F S32768x2048 .f32) (main_arg3 : FVec F S128x512 .bf16) (main_arg4 : FVec F S1x512 .f32) (main_arg5 : FVec F S1x256 .f32) (main_arg6 : FVec F S16 .f32) (main_arg7 : FVec F S1024x2048 .bf16) (main_arg8 : FVec F S1024x2048 .bf16) (main_arg9 : FVec F S2048x2048 .bf16) : IVec S32768x1808 1 :=
  let main_v0 : FVec F S128x512 .f32 := (extf .f32 · bitsLt_bf16_f32) main_arg3
  let main_v1 : FVec F S32768x512 .f32 := (fun l r => Host.dotGeneral dot_S32768x128_S128x512_S32768x512_1_0_0_1_n_n none l r) main_arg1 main_v0
  let main_v2 : FVec F S32768x512 .f32 := broadcastInDim S32768x512 ![0, 1] bcast_S1x512_S32768x512_0_1 main_arg4
  let main_v3 : FVec F S32768x512 .f32 := addf main_v1 main_v2
  let main_cst : FVec F S_ .f32 := constant S_ .f32 0xFF800000#32
  let main_v4 : FVec F S32768x512 .f32 := broadcastInDim S32768x512 ![] bcast_S_S32768x512 main_cst
  let main_v5 : IVec S32768x512 1 := cmpf .ogt main_v3 main_v4
  let main_v6 : FVec F S32768x1024 .bf16 := (extractStridedSlice S32768x1024 ![0, 6144] · slices_S32768x8704_S32768x1024_0_6144) main_arg0
  let main_v7 : FVec F S32768x1024 .f32 := (extf .f32 · bitsLt_bf16_f32) main_v6
  let main_v8 : FVec F S32768x1024 .f32 := Host.absf main_v7
  let main_cst_0 : FVec F S_ .f32 := constant S_ .f32 0x7F800000#32
  let main_v9 : FVec F S32768x1024 .f32 := broadcastInDim S32768x1024 ![] bcast_S_S32768x1024 main_cst_0
  let main_v10 : IVec S32768x1024 1 := cmpf .olt main_v8 main_v9
  let main_v11 : FVec F S32768x256 .bf16 := (extractStridedSlice S32768x256 ![0, 8192] · slices_S32768x8704_S32768x256_0_8192) main_arg0
  let main_v12 : FVec F S32768x256 .f32 := (extf .f32 · bitsLt_bf16_f32) main_v11
  let main_v13 : FVec F S32768x256 .f32 := Host.absf main_v12
  let main_cst_1 : FVec F S_ .f32 := constant S_ .f32 0x7F800000#32
  let main_v14 : FVec F S32768x256 .f32 := broadcastInDim S32768x256 ![] bcast_S_S32768x256 main_cst_1
  let main_v15 : IVec S32768x256 1 := cmpf .olt main_v13 main_v14
  let main_cst_2 : FVec F S_ .f32 := constant S_ .f32 0x7F800000#32
  let main_v16 : FVec F S16 .f32 := broadcastInDim S16 ![] bcast_S_S16 main_cst_2
  let main_v17 : IVec S16 1 := cmpf .olt main_arg6 main_v16
  let main_v18 : IVec S32768x16 1 := broadcastInDim S32768x16 ![1] bcast_S16_S32768x16_1 main_v17
  let main_v19 : IVec S32768x1808 1 := concatenate S32768x1808 1 [⟨S32768x512, main_v5⟩, ⟨S32768x1024, main_v10⟩, ⟨S32768x256, main_v15⟩, ⟨S32768x16, main_v18⟩] concatenates_S32768x512_S32768x1024_S32768x256_S32768x16_S32768x1808_d1
  main_v19
-- ==== Kernel.lean ====
abbrev S32768x8704 : Shape := ⟨2, ![32768, 8704]⟩
abbrev S32768x128 : Shape := ⟨2, ![32768, 128]⟩
abbrev S32768x2048 : Shape := ⟨2, ![32768, 2048]⟩
abbrev S128x512 : Shape := ⟨2, ![128, 512]⟩
abbrev S1x512 : Shape := ⟨2, ![1, 512]⟩
abbrev S1x256 : Shape := ⟨2, ![1, 256]⟩
abbrev S16 : Shape := ⟨1, ![16]⟩
abbrev S1024x2048 : Shape := ⟨2, ![1024, 2048]⟩
abbrev S2048x2048 : Shape := ⟨2, ![2048, 2048]⟩
abbrev S512x128 : Shape := ⟨2, ![512, 128]⟩
abbrev S7x64x64 : Shape := ⟨3, ![7, 64, 64]⟩
abbrev S256x128 : Shape := ⟨2, ![256, 128]⟩
abbrev S_ : Shape := ⟨0, ![]⟩
abbrev S16x1x1 : Shape := ⟨3, ![16, 1, 1]⟩
abbrev S1x256x128 : Shape := ⟨3, ![1, 256, 128]⟩
abbrev S16x256x128 : Shape := ⟨3, ![16, 256, 128]⟩
abbrev S1x16x256x128 : Shape := ⟨4, ![1, 16, 256, 128]⟩
abbrev S2x16x256x128 : Shape := ⟨4, ![2, 16, 256, 128]⟩
abbrev S256x4096 : Shape := ⟨2, ![256, 4096]⟩
abbrev S256x512 : Shape := ⟨2, ![256, 512]⟩
abbrev S256x2048 : Shape := ⟨2, ![256, 2048]⟩
abbrev S2x256x2048 : Shape := ⟨3, ![2, 256, 2048]⟩
abbrev S4x256x128 : Shape := ⟨3, ![4, 256, 128]⟩
abbrev S1x256x2048 : Shape := ⟨3, ![1, 256, 2048]⟩
abbrev S256x1024 : Shape := ⟨2, ![256, 1024]⟩
abbrev S1024x256 : Shape := ⟨2, ![1024, 256]⟩
abbrev S256x256 : Shape := ⟨2, ![256, 256]⟩
abbrev S384x512 : Shape := ⟨2, ![384, 512]⟩
abbrev S128x256 : Shape := ⟨2, ![128, 256]⟩
abbrev S64x128 : Shape := ⟨2, ![64, 128]⟩
abbrev S128x128 : Shape := ⟨2, ![128, 128]⟩
abbrev S1x512x128 : Shape := ⟨3, ![1, 512, 128]⟩
abbrev S4x512x128 : Shape := ⟨3, ![4, 512, 128]⟩
abbrev S128x1024 : Shape := ⟨2, ![128, 1024]⟩
abbrev S1024x128 : Shape := ⟨2, ![1024, 128]⟩
abbrev S1x1x256x128 : Shape := ⟨4, ![1, 1, 256, 128]⟩
abbrev S4x64x128 : Shape := ⟨3, ![4, 64, 128]⟩
abbrev S4x384x128 : Shape := ⟨3, ![4, 384, 128]⟩
abbrev S4x6x64x128 : Shape := ⟨4, ![4, 6, 64, 128]⟩
abbrev S4x64x256 : Shape := ⟨3, ![4, 64, 256]⟩
abbrev S4x1x64x128 : Shape := ⟨4, ![4, 1, 64, 128]⟩
abbrev S4x7x64x128 : Shape := ⟨4, ![4, 7, 64, 128]⟩
abbrev S28x64x128 : Shape := ⟨3, ![28, 64, 128]⟩
abbrev S28x64x64 : Shape := ⟨3, ![28, 64, 64]⟩
abbrev S4x7x64x64 : Shape := ⟨4, ![4, 7, 64, 64]⟩
abbrev S1x7x64x64 : Shape := ⟨4, ![1, 7, 64, 64]⟩
abbrev S4x64x64 : Shape := ⟨3, ![4, 64, 64]⟩
abbrev S1x64x256 : Shape := ⟨3, ![1, 64, 256]⟩
abbrev S64x256 : Shape := ⟨2, ![64, 256]⟩
abbrev S1x64x128 : Shape := ⟨3, ![1, 64, 128]⟩
abbrev S1x1x128 : Shape := ⟨3, ![1, 1, 128]⟩
abbrev S1x128 : Shape := ⟨2, ![1, 128]⟩
abbrev S2048x256 : Shape := ⟨2, ![2048, 256]⟩
abbrev S1 : Shape := ⟨1, ![1]⟩
abbrev S128 : Shape := ⟨1, ![128]⟩
abbrev S256 : Shape := ⟨1, ![256]⟩
abbrev S256x1 : Shape := ⟨2, ![256, 1]⟩
abbrev S1x256x256 : Shape := ⟨3, ![1, 256, 256]⟩
abbrev S1x128x128 : Shape := ⟨3, ![1, 128, 128]⟩

abbrev nBuf : Space → Nat
  | .hbm => 65
  | .vmem => 24
  | .smem => 1
  | _ => 0

abbrev bufTy : (tb : Table) → Fin (tcTables nBuf tb) → BufTy
  | .hbm, ⟨0, _⟩ => ⟨S32768x8704, .bf16⟩
  | .hbm, ⟨1, _⟩ => ⟨S32768x128, .f32⟩
  | .hbm, ⟨2, _⟩ => ⟨S32768x2048, .f32⟩
  | .hbm, ⟨3, _⟩ => ⟨S128x512, .bf16⟩
  | .hbm, ⟨4, _⟩ => ⟨S1x512, .f32⟩
  | .hbm, ⟨5, _⟩ => ⟨S1x256, .f32⟩
  | .hbm, ⟨6, _⟩ => ⟨S16, .f32⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S512x128, .bf16⟩
  | .hbm, ⟨11, _⟩ => ⟨S7x64x64, .f32⟩
  | .hbm, ⟨12, _⟩ => ⟨S256x128, .i32⟩
  | .hbm, ⟨13, _⟩ => ⟨S_, .i32⟩
  | .hbm, ⟨14, _⟩ => ⟨S256x128, .i32⟩
  | .hbm, ⟨15, _⟩ => ⟨S256x128, .i32⟩
  | .hbm, ⟨16, _⟩ => ⟨S256x128, .i32⟩
  | .hbm, ⟨17, _⟩ => ⟨S256x128, .i32⟩
  | .hbm, ⟨18, _⟩ => ⟨S_, .i32⟩
  | .hbm, ⟨19, _⟩ => ⟨S256x128, .i32⟩
  | .hbm, ⟨20, _⟩ => ⟨S256x128, .i1⟩
  | .hbm, ⟨21, _⟩ => ⟨S_, .i32⟩
  | .hbm, ⟨22, _⟩ => ⟨S256x128, .i32⟩
  | .hbm, ⟨23, _⟩ => ⟨S256x128, .i1⟩
  | .hbm, ⟨24, _⟩ => ⟨S256x128, .i1⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16x1x1, .f32⟩
  | .hbm, ⟨39, _⟩ => ⟨S16x1x1, .f32⟩
  | .hbm, ⟨40, _⟩ => ⟨S256x128, .f32⟩
  | .hbm, ⟨41, _⟩ => ⟨S1x256x128, .f32⟩
  | .hbm, ⟨42, _⟩ => ⟨S16x256x128, .f32⟩
  | .hbm, ⟨43, _⟩ => ⟨S16x256x128, .f32⟩
  | .hbm, ⟨44, _⟩ => ⟨S16x256x128, .f32⟩
  | .hbm, ⟨45, _⟩ => ⟨S1x256x128, .i1⟩
  | .hbm, ⟨46, _⟩ => ⟨S_, .f32⟩
  | .hbm, ⟨47, _⟩ => ⟨S_, .f32⟩
  | .hbm, ⟨48, _⟩ => ⟨S16x256x128, .i1⟩
  | .hbm, ⟨49, _⟩ => ⟨S16x256x128, .f32⟩
  | .hbm, ⟨50, _⟩ => ⟨S16x256x128, .f32⟩
  | .hbm, ⟨51, _⟩ => ⟨S_, .i32⟩
  | .hbm, ⟨52, _⟩ => ⟨S256x128, .i32⟩
  | .hbm, ⟨53, _⟩ => ⟨S256x128, .i1⟩
  | .hbm, ⟨54, _⟩ => ⟨S256x128, .i1⟩
  | .hbm, ⟨55, _⟩ => ⟨S1x256x128, .i1⟩
  | .hbm, ⟨56, _⟩ => ⟨S_, .f32⟩
  | .hbm, ⟨57, _⟩ => ⟨S_, .f32⟩
  | .hbm, ⟨58, _⟩ => ⟨S16x256x128, .i1⟩
  | .hbm, ⟨59, _⟩ => ⟨S16x256x128, .f32⟩
  | .hbm, ⟨60, _⟩ => ⟨S16x256x128, .f32⟩
  | .hbm, ⟨61, _⟩ => ⟨S1x16x256x128, .f32⟩
  | .hbm, ⟨62, _⟩ => ⟨S1x16x256x128, .f32⟩
  | .hbm, ⟨63, _⟩ => ⟨S2x16x256x128, .f32⟩
  | .hbm, ⟨64, _⟩ => ⟨S32768x2048, .f32⟩
  | .local _ .vmem, ⟨0, _⟩ => ⟨S256x4096, .bf16⟩
  | .local _ .vmem, ⟨1, _⟩ => ⟨S256x4096, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S256x4096, .bf16⟩
  | .local _ .vmem, ⟨7, _⟩ => ⟨S256x4096, .bf16⟩
  | .local _ .vmem, ⟨8, _⟩ => ⟨S256x2048, .f32⟩
  | .local _ .vmem, ⟨9, _⟩ => ⟨S256x2048, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S512x128, .bf16⟩
  | .local _ .vmem, ⟨14, _⟩ => ⟨S7x64x64, .f32⟩
  | .local _ .vmem, ⟨15, _⟩ => ⟨S2x16x256x128, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S256x2048, .f32⟩
  | .local _ .vmem, ⟨20, _⟩ => ⟨S256x2048, .f32⟩
  | .local _ .vmem, ⟨21, _⟩ => ⟨S2x256x2048, .bf16⟩
  | .local _ .vmem, ⟨22, _⟩ => ⟨S4x256x128, .f32⟩
  | .local _ .vmem, ⟨23, _⟩ => ⟨S128x512, .bf16⟩
  | .local _ .smem, ⟨0, _⟩ => ⟨S16, .f32⟩
  | _, _ => ⟨S32768x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32 : BitVec 32 := 1#32
  let arg0 : BitVec 32 := BitVec.ofNat 32 (i 0).val
  let c2_i32 : BitVec 32 := 2#32
  let v3 : BitVec 32 := Scalar.remsi arg0 c2_i32
  let v7 : BitVec 32 := Scalar.subi c1_i32 v3
  let v8 : Index := Scalar.indexCast v7
  let c0 : Index := 0#32
  let c0_2 : Index := 0#32
  ![v8.toNat, 0, 0]
def k0_off2 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v208 : Index := Scalar.indexCast v199
  let c0_87 : Index := 0#32
  let c0_88 : Index := 0#32
  let c0_89 : Index := 0#32
  ![v208.toNat, 0, 0, 0]
def k0_off3 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v216 : Index := Scalar.indexCast v199
  let c1 : Index := 1#32
  let c0_91 : Index := 0#32
  let c0_92 : Index := 0#32
  ![v216.toNat, 1, 0, 0]
def k0_off4 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v224 : Index := Scalar.indexCast v199
  let c2 : Index := 2#32
  let c0_94 : Index := 0#32
  let c0_95 : Index := 0#32
  ![v224.toNat, 2, 0, 0]
def k0_off5 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v232 : Index := Scalar.indexCast v199
  let c3 : Index := 3#32
  let c0_97 : Index := 0#32
  let c0_98 : Index := 0#32
  ![v232.toNat, 3, 0, 0]
def k0_off6 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v240 : Index := Scalar.indexCast v199
  let c4 : Index := 4#32
  let c0_100 : Index := 0#32
  let c0_101 : Index := 0#32
  ![v240.toNat, 4, 0, 0]
def k0_off7 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v248 : Index := Scalar.indexCast v199
  let c5 : Index := 5#32
  let c0_103 : Index := 0#32
  let c0_104 : Index := 0#32
  ![v248.toNat, 5, 0, 0]
def k0_off8 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v256 : Index := Scalar.indexCast v199
  let c6 : Index := 6#32
  let c0_106 : Index := 0#32
  let c0_107 : Index := 0#32
  ![v256.toNat, 6, 0, 0]
def k0_off9 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v264 : Index := Scalar.indexCast v199
  let c7 : Index := 7#32
  let c0_109 : Index := 0#32
  let c0_110 : Index := 0#32
  ![v264.toNat, 7, 0, 0]
def k0_off10 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v272 : Index := Scalar.indexCast v199
  let c8 : Index := 8#32
  let c0_112 : Index := 0#32
  let c0_113 : Index := 0#32
  ![v272.toNat, 8, 0, 0]
def k0_off11 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v280 : Index := Scalar.indexCast v199
  let c9 : Index := 9#32
  let c0_115 : Index := 0#32
  let c0_116 : Index := 0#32
  ![v280.toNat, 9, 0, 0]
def k0_off12 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v288 : Index := Scalar.indexCast v199
  let c10 : Index := 10#32
  let c0_118 : Index := 0#32
  let c0_119 : Index := 0#32
  ![v288.toNat, 10, 0, 0]
def k0_off13 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v296 : Index := Scalar.indexCast v199
  let c11 : Index := 11#32
  let c0_121 : Index := 0#32
  let c0_122 : Index := 0#32
  ![v296.toNat, 11, 0, 0]
def k0_off14 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v304 : Index := Scalar.indexCast v199
  let c12 : Index := 12#32
  let c0_124 : Index := 0#32
  let c0_125 : Index := 0#32
  ![v304.toNat, 12, 0, 0]
def k0_off15 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v312 : Index := Scalar.indexCast v199
  let c13 : Index := 13#32
  let c0_127 : Index := 0#32
  let c0_128 : Index := 0#32
  ![v312.toNat, 13, 0, 0]
def k0_off16 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v320 : Index := Scalar.indexCast v199
  let c14 : Index := 14#32
  let c0_130 : Index := 0#32
  let c0_131 : Index := 0#32
  ![v320.toNat, 14, 0, 0]
def k0_off17 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.remsi v0 c8_i32
  let c0_i32 : BitVec 32 := 0#32
  let v2 : BitVec 1 := Scalar.cmpi .eq v1 c0_i32
  let c0_i32_82 : BitVec 32 := 0#32
  let c1_i32_83 : BitVec 32 := 1#32
  let v199 : BitVec 32 := Scalar.select v2 c0_i32_82 c1_i32_83
  let v328 : Index := Scalar.indexCast v199
  let c15 : Index := 15#32
  let c0_133 : Index := 0#32
  let c0_134 : Index := 0#32
  ![v328.toNat, 15, 0, 0]
def k0_off18 (i : grid0.Coords) : Fin 3 → Nat :=
  let arg0 : BitVec 32 := BitVec.ofNat 32 (i 0).val
  let c2_i32 : BitVec 32 := 2#32
  let v3 : BitVec 32 := Scalar.remsi arg0 c2_i32
  let v1332 : Index := Scalar.indexCast v3
  let c0_463 : Index := 0#32
  let c0_464 : Index := 0#32
  ![v1332.toNat, 0, 0]
def k0_off19 (i : grid0.Coords) : Fin 3 → Nat :=
  let arg0 : BitVec 32 := BitVec.ofNat 32 (i 0).val
  let c2_i32 : BitVec 32 := 2#32
  let v3 : BitVec 32 := Scalar.remsi arg0 c2_i32
  let v1365 : Index := Scalar.indexCast v3
  let c0_481 : Index := 0#32
  let c256_482 : Index := 256#32
  ![v1365.toNat, 0, 256]
def k0_off20 (i : grid0.Coords) : Fin 3 → Nat :=
  let arg0 : BitVec 32 := BitVec.ofNat 32 (i 0).val
  let c2_i32 : BitVec 32 := 2#32
  let v3 : BitVec 32 := Scalar.remsi arg0 c2_i32
  let v1398 : Index := Scalar.indexCast v3
  let c0_499 : Index := 0#32
  let c512_500 : Index := 512#32
  ![v1398.toNat, 0, 512]
def k0_off21 (i : grid0.Coords) : Fin 3 → Nat :=
  let arg0 : BitVec 32 := BitVec.ofNat 32 (i 0).val
  let c2_i32 : BitVec 32 := 2#32
  let v3 : BitVec 32 := Scalar.remsi arg0 c2_i32
  let v1431 : Index := Scalar.indexCast v3
  let c0_517 : Index := 0#32
  let c768_518 : Index := 768#32
  ![v1431.toNat, 0, 768]
def k0_off22 (i : grid0.Coords) : Fin 3 → Nat :=
  let arg0 : BitVec 32 := BitVec.ofNat 32 (i 0).val
  let c2_i32 : BitVec 32 := 2#32
  let v3 : BitVec 32 := Scalar.remsi arg0 c2_i32
  let v1808 : Index := Scalar.indexCast v3
  let c0_613 : Index := 0#32
  let c1024_614 : Index := 1024#32
  ![v1808.toNat, 0, 1024]
def k0_off23 (i : grid0.Coords) : Fin 3 → Nat :=
  let arg0 : BitVec 32 := BitVec.ofNat 32 (i 0).val
  let c2_i32 : BitVec 32 := 2#32
  let v3 : BitVec 32 := Scalar.remsi arg0 c2_i32
  let v1812 : Index := Scalar.indexCast v3
  let c0_615 : Index := 0#32
  let c1152 : Index := 1152#32
  ![v1812.toNat, 0, 1152]
def k0_off24 (i : grid0.Coords) : Fin 3 → Nat :=
  let arg0 : BitVec 32 := BitVec.ofNat 32 (i 0).val
  let c2_i32 : BitVec 32 := 2#32
  let v3 : BitVec 32 := Scalar.remsi arg0 c2_i32
  let v1816 : Index := Scalar.indexCast v3
  let c0_616 : Index := 0#32
  let c1280_617 : Index := 1280#32
  ![v1816.toNat, 0, 1280]
def k0_off25 (i : grid0.Coords) : Fin 3 → Nat :=
  let arg0 : BitVec 32 := BitVec.ofNat 32 (i 0).val
  let c2_i32 : BitVec 32 := 2#32
  let v3 : BitVec 32 := Scalar.remsi arg0 c2_i32
  let v1820 : Index := Scalar.indexCast v3
  let c0_618 : Index := 0#32
  let c1408 : Index := 1408#32
  ![v1820.toNat, 0, 1408]
def k0_off26 (i : grid0.Coords) : Fin 3 → Nat :=
  let arg0 : BitVec 32 := BitVec.ofNat 32 (i 0).val
  let c2_i32 : BitVec 32 := 2#32
  let v3 : BitVec 32 := Scalar.remsi arg0 c2_i32
  let v1824 : Index := Scalar.indexCast v3
  let c0_619 : Index := 0#32
  let c1536_620 : Index := 1536#32
  ![v1824.toNat, 0, 1536]
def k0_off27 (i : grid0.Coords) : Fin 3 → Nat :=
  let arg0 : BitVec 32 := BitVec.ofNat 32 (i 0).val
  let c2_i32 : BitVec 32 := 2#32
  let v3 : BitVec 32 := Scalar.remsi arg0 c2_i32
  let v1828 : Index := Scalar.indexCast v3
  let c0_621 : Index := 0#32
  let c1664 : Index := 1664#32
  ![v1828.toNat, 0, 1664]
def k0_off28 (i : grid0.Coords) : Fin 3 → Nat :=
  let arg0 : BitVec 32 := BitVec.ofNat 32 (i 0).val
  let c2_i32 : BitVec 32 := 2#32
  let v3 : BitVec 32 := Scalar.remsi arg0 c2_i32
  let v1832 : Index := Scalar.indexCast v3
  let c0_622 : Index := 0#32
  let c1792_623 : Index := 1792#32
  ![v1832.toNat, 0, 1792]
def k0_off29 (i : grid0.Coords) : Fin 3 → Nat :=
  let arg0 : BitVec 32 := BitVec.ofNat 32 (i 0).val
  let c2_i32 : BitVec 32 := 2#32
  let v3 : BitVec 32 := Scalar.remsi arg0 c2_i32
  let v1836 : Index := Scalar.indexCast v3
  let c0_624 : Index := 0#32
  let c1920 : Index := 1920#32
  ![v1836.toNat, 0, 1920]
def k0_off30 (i : grid0.Coords) : Fin 3 → Nat :=
  let arg0 : BitVec 32 := BitVec.ofNat 32 (i 0).val
  let c2_i32 : BitVec 32 := 2#32
  let v3 : BitVec 32 := Scalar.remsi arg0 c2_i32
  let v1840 : Index := Scalar.indexCast v3
  let c128_625 : Index := 128#32
  let c1024_626 : Index := 1024#32
  ![v1840.toNat, 128, 1024]
def k0_off31 (i : grid0.Coords) : Fin 3 → Nat :=
  let arg0 : BitVec 32 := BitVec.ofNat 32 (i 0).val
  let c2_i32 : BitVec 32 := 2#32
  let v3 : BitVec 32 := Scalar.remsi arg0 c2_i32
  let v1844 : Index := Scalar.indexCast v3
  let c128_627 : Index := 128#32
  let c1152_628 : Index := 1152#32
  ![v1844.toNat, 128, 1152]
def k0_off32 (i : grid0.Coords) : Fin 3 → Nat :=
  let arg0 : BitVec 32 := BitVec.ofNat 32 (i 0).val
  let c2_i32 : BitVec 32 := 2#32
  let v3 : BitVec 32 := Scalar.remsi arg0 c2_i32
  let v1848 : Index := Scalar.indexCast v3
  let c128_629 : Index := 128#32
  let c1280_630 : Index := 1280#32
  ![v1848.toNat, 128, 1280]
def k0_off33 (i : grid0.Coords) : Fin 3 → Nat :=
  let arg0 : BitVec 32 := BitVec.ofNat 32 (i 0).val
  let c2_i32 : BitVec 32 := 2#32
  let v3 : BitVec 32 := Scalar.remsi arg0 c2_i32
  let v1852 : Index := Scalar.indexCast v3
  let c128_631 : Index := 128#32
  let c1408_632 : Index := 1408#32
  ![v1852.toNat, 128, 1408]
def k0_off34 (i : grid0.Coords) : Fin 3 → Nat :=
  let arg0 : BitVec 32 := BitVec.ofNat 32 (i 0).val
  let c2_i32 : BitVec 32 := 2#32
  let v3 : BitVec 32 := Scalar.remsi arg0 c2_i32
  let v1856 : Index := Scalar.indexCast v3
  let c128_633 : Index := 128#32
  let c1536_634 : Index := 1536#32
  ![v1856.toNat, 128, 1536]
def k0_off35 (i : grid0.Coords) : Fin 3 → Nat :=
  let arg0 : BitVec 32 := BitVec.ofNat 32 (i 0).val
  let c2_i32 : BitVec 32 := 2#32
  let v3 : BitVec 32 := Scalar.remsi arg0 c2_i32
  let v1860 : Index := Scalar.indexCast v3
  let c128_635 : Index := 128#32
  let c1664_636 : Index := 1664#32
  ![v1860.toNat, 128, 1664]
def k0_off36 (i : grid0.Coords) : Fin 3 → Nat :=
  let arg0 : BitVec 32 := BitVec.ofNat 32 (i 0).val
  let c2_i32 : BitVec 32 := 2#32
  let v3 : BitVec 32 := Scalar.remsi arg0 c2_i32
  let v1864 : Index := Scalar.indexCast v3
  let c128_637 : Index := 128#32
  let c1792_638 : Index := 1792#32
  ![v1864.toNat, 128, 1792]
def k0_off37 (i : grid0.Coords) : Fin 3 → Nat :=
  let arg0 : BitVec 32 := BitVec.ofNat 32 (i 0).val
  let c2_i32 : BitVec 32 := 2#32
  let v3 : BitVec 32 := Scalar.remsi arg0 c2_i32
  let v1868 : Index := Scalar.indexCast v3
  let c128_639 : Index := 128#32
  let c1920_640 : Index := 1920#32
  ![v1868.toNat, 128, 1920]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c16_i32 : BitVec 32 := 16#32
  let c0_i32 : BitVec 32 := 0#32
  ![v0.toNat, c16_i32.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S7x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x16x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "log2e_tau" => some (((16 * (Real.log 2))⁻¹ : ℝ) : EReal)
  | _ => none
-- ==== ReferenceIdeal.lean ====
abbrev S32768x8704 : Shape := ⟨2, ![32768, 8704]⟩
abbrev S32768x128 : Shape := ⟨2, ![32768, 128]⟩
abbrev S32768x2048 : Shape := ⟨2, ![32768, 2048]⟩
abbrev S128x512 : Shape := ⟨2, ![128, 512]⟩
abbrev S1x512 : Shape := ⟨2, ![1, 512]⟩
abbrev S1x256 : Shape := ⟨2, ![1, 256]⟩
abbrev S16 : Shape := ⟨1, ![16]⟩
abbrev S1024x2048 : Shape := ⟨2, ![1024, 2048]⟩
abbrev S2048x2048 : Shape := ⟨2, ![2048, 2048]⟩
abbrev S32768x512 : Shape := ⟨2, ![32768, 512]⟩
abbrev S_ : Shape := ⟨0, ![]⟩
abbrev S16x32x64x4x128 : Shape := ⟨5, ![16, 32, 64, 4, 128]⟩
abbrev S32x16x4x64x128 : Shape := ⟨5, ![32, 16, 4, 64, 128]⟩
abbrev S32768x1024 : Shape := ⟨2, ![32768, 1024]⟩
abbrev S16x32x64x4x256 : Shape := ⟨5, ![16, 32, 64, 4, 256]⟩
abbrev S32x16x4x64x256 : Shape := ⟨5, ![32, 16, 4, 64, 256]⟩
abbrev S16x4x128x256 : Shape := ⟨4, ![16, 4, 128, 256]⟩
abbrev S1x16x4x64x128 : Shape := ⟨5, ![1, 16, 4, 64, 128]⟩
abbrev S16x4x64x128 : Shape := ⟨4, ![16, 4, 64, 128]⟩
abbrev S1x16x4x64x256 : Shape := ⟨5, ![1, 16, 4, 64, 256]⟩
abbrev S16x4x64x256 : Shape := ⟨4, ![16, 4, 64, 256]⟩
abbrev S16x4x64x1x128 : Shape := ⟨5, ![16, 4, 64, 1, 128]⟩
abbrev S16x4x1x64x128 : Shape := ⟨5, ![16, 4, 1, 64, 128]⟩
abbrev S16x4x64x64x128 : Shape := ⟨5, ![16, 4, 64, 64, 128]⟩
abbrev S64x64 : Shape := ⟨2, ![64, 64]⟩
abbrev S64x64x1 : Shape := ⟨3, ![64, 64, 1]⟩
abbrev S16x4x64x64 : Shape := ⟨4, ![16, 4, 64, 64]⟩
abbrev S16x4x1x128 : Shape := ⟨4, ![16, 4, 1, 128]⟩
abbrev S16x4x128 : Shape := ⟨3, ![16, 4, 128]⟩
abbrev S16x4x128x1 : Shape := ⟨4, ![16, 4, 128, 1]⟩
abbrev S32768x4x256 : Shape := ⟨3, ![32768, 4, 256]⟩
abbrev S32768x4 : Shape := ⟨2, ![32768, 4]⟩
abbrev S32768x4x1 : Shape := ⟨3, ![32768, 4, 1]⟩
abbrev S256 : Shape := ⟨1, ![256]⟩
abbrev S1x1x256 : Shape := ⟨3, ![1, 1, 256]⟩
abbrev S32768x256 : Shape := ⟨2, ![32768, 256]⟩
abbrev S16x16x128x4x4x64 : Shape := ⟨6, ![16, 16, 128, 4, 4, 64]⟩
abbrev S16x16x128x4x64 : Shape := ⟨5, ![16, 16, 128, 4, 64]⟩
abbrev S16x15x128x4x64 : Shape := ⟨5, ![16, 15, 128, 4, 64]⟩
abbrev S16x16x256x4x64 : Shape := ⟨5, ![16, 16, 256, 4, 64]⟩
abbrev S16x16x4x256x128x4 : Shape := ⟨6, ![16, 16, 4, 256, 128, 4]⟩
abbrev S16x16x4x4x128x256 : Shape := ⟨6, ![16, 16, 4, 4, 128, 256]⟩
abbrev S128 : Shape := ⟨1, ![128]⟩
abbrev S128x1 : Shape := ⟨2, ![128, 1]⟩
abbrev S128x256 : Shape := ⟨2, ![128, 256]⟩
abbrev S16x1x1 : Shape := ⟨3, ![16, 1, 1]⟩
abbrev S1x128x256 : Shape := ⟨3, ![1, 128, 256]⟩
abbrev S16x1x256 : Shape := ⟨3, ![16, 1, 256]⟩
abbrev S16x128x256 : Shape := ⟨3, ![16, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x16x1x1x128x256 : Shape := ⟨6, ![1, 16, 1, 1, 128, 256]⟩
abbrev S1x1x4x4x128x256 : Shape := ⟨6, ![1, 1, 4, 4, 128, 256]⟩
abbrev S16x16x4x4x128 : Shape := ⟨5, ![16, 16, 4, 4, 128]⟩
abbrev S16x16x4x4x128x1 : Shape := ⟨6, ![16, 16, 4, 4, 128, 1]⟩
abbrev S1x1x4x4x1x1 : Shape := ⟨6, ![1, 1, 4, 4, 1, 1]⟩
abbrev S16x16x4x64x4x128 : Shape := ⟨6, ![16, 16, 4, 64, 4, 128]⟩

abbrev nBuf : Space → Nat
  | .hbm => 304
  | .vmem => 0
  | .smem => 0
  | _ => 0

abbrev hbmTy0_0 (i : Nat) : BufTy := match i % 128 with
  | 0 => ⟨S32768x8704, .bf16⟩
  | 1 => ⟨S32768x128, .f32⟩
  | 2 => ⟨S32768x2048, .f32⟩
  | 3 => ⟨S128x512, .bf16⟩
  | 4 => ⟨S1x512, .f32⟩
  | 5 => ⟨S1x256, .f32⟩
  | 6 => ⟨S16, .f32⟩
  | 7 => ⟨S1024x2048, .bf16⟩
  | 8 => ⟨S1024x2048, .bf16⟩
  | 9 => ⟨S2048x2048, .bf16⟩
  | 10 => ⟨S128x512, .f32⟩
  | 11 => ⟨S32768x512, .f32⟩
  | 12 => ⟨S32768x512, .f32⟩
  | 13 => ⟨S32768x512, .f32⟩
  | 14 => ⟨S32768x512, .f32⟩
  | 15 => ⟨S_, .f32⟩
  | 16 => ⟨S32768x512, .f32⟩
  | 17 => ⟨S32768x512, .f32⟩
  | 18 => ⟨S32768x512, .f32⟩
  | 19 => ⟨S32768x512, .f32⟩
  | 20 => ⟨S32768x512, .i1⟩
  | 21 => ⟨S32768x512, .f32⟩
  | 22 => ⟨S32768x512, .f32⟩
  | 23 => ⟨S32768x512, .f32⟩
  | 24 => ⟨S32768x512, .f32⟩
  | 25 => ⟨S32768x512, .f32⟩
  | 26 => ⟨S32768x512, .f32⟩
  | 27 => ⟨S32768x512, .f32⟩
  | 28 => ⟨S32768x512, .f32⟩
  | 29 => ⟨S32768x512, .f32⟩
  | 30 => ⟨S_, .f32⟩
  | 31 => ⟨S32768x512, .f32⟩
  | 32 => ⟨S32768x512, .f32⟩
  | 33 => ⟨S32768x512, .bf16⟩
  | 34 => ⟨S32768x512, .f32⟩
  | 35 => ⟨S_, .f32⟩
  | 36 => ⟨S32768x512, .f32⟩
  | 37 => ⟨S32768x512, .f32⟩
  | 38 => ⟨S16x32x64x4x128, .f32⟩
  | 39 => ⟨S32x16x4x64x128, .f32⟩
  | 40 => ⟨S32768x512, .bf16⟩
  | 41 => ⟨S32768x512, .f32⟩
  | 42 => ⟨S16x32x64x4x128, .f32⟩
  | 43 => ⟨S32x16x4x64x128, .f32⟩
  | 44 => ⟨S32768x1024, .bf16⟩
  | 45 => ⟨S32768x1024, .f32⟩
  | 46 => ⟨S16x32x64x4x256, .f32⟩
  | 47 => ⟨S32x16x4x64x256, .f32⟩
  | 48 => ⟨S16x32x64x4x128, .f32⟩
  | 49 => ⟨S32x16x4x64x128, .f32⟩
  | 50 => ⟨S_, .f32⟩
  | 51 => ⟨S16x4x128x256, .f32⟩
  | 52 => ⟨S_, .f32⟩
  | 53 => ⟨S32x16x4x64x256, .f32⟩
  | 54 => ⟨S_, .i32⟩
  | 55 => ⟨S32x16x4x64x128, .f32⟩
  | 56 => ⟨S32x16x4x64x128, .f32⟩
  | 57 => ⟨S32x16x4x64x256, .f32⟩
  | 58 => ⟨S32x16x4x64x128, .f32⟩
  | 59 => ⟨S_, .i32⟩
  | 60 => ⟨S16x4x128x256, .f32⟩
  | 61 => ⟨S32x16x4x64x256, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1x16x4x64x128, .f32⟩
  | 69 => ⟨S16x4x64x128, .f32⟩
  | 70 => ⟨S_, .i32⟩
  | 71 => ⟨S_, .i32⟩
  | 72 => ⟨S_, .i32⟩
  | 73 => ⟨S_, .i32⟩
  | 74 => ⟨S1x16x4x64x128, .f32⟩
  | 75 => ⟨S16x4x64x128, .f32⟩
  | 76 => ⟨S_, .i32⟩
  | 77 => ⟨S_, .i32⟩
  | 78 => ⟨S_, .i32⟩
  | 79 => ⟨S_, .i32⟩
  | 80 => ⟨S1x16x4x64x256, .f32⟩
  | 81 => ⟨S16x4x64x256, .f32⟩
  | 82 => ⟨S_, .i32⟩
  | 83 => ⟨S_, .i32⟩
  | 84 => ⟨S_, .i32⟩
  | 85 => ⟨S_, .i32⟩
  | 86 => ⟨S1x16x4x64x128, .f32⟩
  | 87 => ⟨S16x4x64x128, .f32⟩
  | 88 => ⟨S_, .f32⟩
  | 89 => ⟨S_, .f32⟩
  | 90 => ⟨S16x4x64x128, .f32⟩
  | 91 => ⟨S16x4x64x128, .f32⟩
  | 92 => ⟨S16x4x64x128, .f32⟩
  | 93 => ⟨S16x4x64x256, .f32⟩
  | 94 => ⟨S16x4x64x1x128, .f32⟩
  | 95 => ⟨S16x4x1x64x128, .f32⟩
  | 96 => ⟨S16x4x64x64x128, .f32⟩
  | 97 => ⟨S16x4x64x64x128, .f32⟩
  | 98 => ⟨S16x4x64x64x128, .f32⟩
  | 99 => ⟨S_, .i1⟩
  | 100 => ⟨S64x64, .i1⟩
  | 101 => ⟨S64x64, .i32⟩
  | 102 => ⟨S_, .i32⟩
  | 103 => ⟨S64x64, .i32⟩
  | 104 => ⟨S64x64, .i32⟩
  | 105 => ⟨S64x64, .i32⟩
  | 106 => ⟨S64x64, .i1⟩
  | 107 => ⟨S_, .i1⟩
  | 108 => ⟨S64x64, .i1⟩
  | 109 => ⟨S64x64, .i1⟩
  | 110 => ⟨S64x64x1, .i1⟩
  | 111 => ⟨S_, .f32⟩
  | 112 => ⟨S_, .f32⟩
  | 113 => ⟨S16x4x64x64x128, .i1⟩
  | 114 => ⟨S16x4x64x64x128, .f32⟩
  | 115 => ⟨S16x4x64x64x128, .f32⟩
  | 116 => ⟨S16x4x64x64x128, .f32⟩
  | 117 => ⟨S16x4x64x1x128, .f32⟩
  | 118 => ⟨S16x4x1x64x128, .f32⟩
  | 119 => ⟨S16x4x64x64x128, .f32⟩
  | 120 => ⟨S16x4x64x64x128, .f32⟩
  | 121 => ⟨S16x4x64x64x128, .f32⟩
  | 122 => ⟨S16x4x64x64x128, .f32⟩
  | 123 => ⟨S_, .f32⟩
  | 124 => ⟨S16x4x64x64, .f32⟩
  | 125 => ⟨S16x4x64x256, .f32⟩
  | 126 => ⟨S16x4x1x128, .f32⟩
  | 127 => ⟨S16x4x128, .f32⟩
  | _ => ⟨S32768x8704, .bf16⟩

abbrev hbmTy0_1 (i : Nat) : BufTy := match i % 128 with
  | 0 => ⟨S16x4x128, .f32⟩
  | 1 => ⟨S16x4x128x1, .f32⟩
  | 2 => ⟨S16x4x128x256, .f32⟩
  | 3 => ⟨S16x4x128x256, .f32⟩
  | 4 => ⟨S16x4x64x128, .f32⟩
  | 5 => ⟨S16x4x64x128, .f32⟩
  | 6 => ⟨S16x4x64x128, .f32⟩
  | 7 => ⟨S16x4x64x128, .f32⟩
  | 8 => ⟨S16x4x128x256, .f32⟩
  | 9 => ⟨S16x4x128x256, .f32⟩
  | 10 => ⟨S16x4x64x256, .f32⟩
  | 11 => ⟨S1x16x4x64x256, .f32⟩
  | 12 => ⟨S_, .i32⟩
  | 13 => ⟨S_, .i32⟩
  | 14 => ⟨S_, .i32⟩
  | 15 => ⟨S_, .i32⟩
  | 16 => ⟨S32x16x4x64x256, .f32⟩
  | 17 => ⟨S_, .i32⟩
  | 18 => ⟨S_, .i32⟩
  | 19 => ⟨S16x32x64x4x256, .f32⟩
  | 20 => ⟨S32768x4x256, .f32⟩
  | 21 => ⟨S32768x4x256, .f32⟩
  | 22 => ⟨S_, .f32⟩
  | 23 => ⟨S32768x4, .f32⟩
  | 24 => ⟨S32768x4x1, .f32⟩
  | 25 => ⟨S_, .f32⟩
  | 26 => ⟨S32768x4x1, .f32⟩
  | 27 => ⟨S32768x4x1, .f32⟩
  | 28 => ⟨S_, .f32⟩
  | 29 => ⟨S32768x4x1, .f32⟩
  | 30 => ⟨S32768x4x1, .f32⟩
  | 31 => ⟨S32768x4x1, .f32⟩
  | 32 => ⟨S32768x4x256, .f32⟩
  | 33 => ⟨S32768x4x256, .f32⟩
  | 34 => ⟨S256, .f32⟩
  | 35 => ⟨S1x1x256, .f32⟩
  | 36 => ⟨S32768x4x256, .f32⟩
  | 37 => ⟨S32768x4x256, .f32⟩
  | 38 => ⟨S32768x1024, .bf16⟩
  | 39 => ⟨S32768x1024, .f32⟩
  | 40 => ⟨S32768x1024, .f32⟩
  | 41 => ⟨S32768x1024, .f32⟩
  | 42 => ⟨S32768x1024, .f32⟩
  | 43 => ⟨S_, .f32⟩
  | 44 => ⟨S32768x1024, .f32⟩
  | 45 => ⟨S32768x1024, .f32⟩
  | 46 => ⟨S_, .f32⟩
  | 47 => ⟨S32768x1024, .f32⟩
  | 48 => ⟨S32768x1024, .f32⟩
  | 49 => ⟨S32768x1024, .f32⟩
  | 50 => ⟨S32768x1024, .f32⟩
  | 51 => ⟨S32768x1024, .bf16⟩
  | 52 => ⟨S32768x1024, .f32⟩
  | 53 => ⟨S32768x256, .bf16⟩
  | 54 => ⟨S32768x256, .f32⟩
  | 55 => ⟨S32768x256, .bf16⟩
  | 56 => ⟨S32768x256, .f32⟩
  | 57 => ⟨S16x16x128x4x4x64, .f32⟩
  | 58 => ⟨S16x16x128x4x64, .f32⟩
  | 59 => ⟨S16x15x128x4x64, .f32⟩
  | 60 => ⟨S_, .i32⟩
  | 61 => ⟨S_, .f32⟩
  | 62 => ⟨S16x16x128x4x64, .f32⟩
  | 63 => ⟨S16x16x256x4x64, .f32⟩
  | 64 => ⟨S16x16x128x4x64, .f32⟩
  | 65 => ⟨S16x15x128x4x64, .f32⟩
  | 66 => ⟨S_, .i32⟩
  | 67 => ⟨S_, .f32⟩
  | 68 => ⟨S16x16x128x4x64, .f32⟩
  | 69 => ⟨S16x16x256x4x64, .f32⟩
  | 70 => ⟨S16x16x4x256x128x4, .f32⟩
  | 71 => ⟨S16x16x4x4x128x256, .f32⟩
  | 72 => ⟨S_, .f32⟩
  | 73 => ⟨S16x16x4x4x128x256, .f32⟩
  | 74 => ⟨S16x16x4x4x128x256, .f32⟩
  | 75 => ⟨S128, .i32⟩
  | 76 => ⟨S128x1, .i32⟩
  | 77 => ⟨S_, .i32⟩
  | 78 => ⟨S128x1, .i32⟩
  | 79 => ⟨S128x1, .i32⟩
  | 80 => ⟨S256, .i32⟩
  | 81 => ⟨S1x256, .i32⟩
  | 82 => ⟨S128x256, .i32⟩
  | 83 => ⟨S128x256, .i32⟩
  | 84 => ⟨S128x256, .i32⟩
  | 85 => ⟨S_, .i32⟩
  | 86 => ⟨S128x256, .i32⟩
  | 87 => ⟨S128x256, .i1⟩
  | 88 => ⟨S_, .i32⟩
  | 89 => ⟨S128x256, .i32⟩
  | 90 => ⟨S128x256, .i1⟩
  | 91 => ⟨S128x256, .i1⟩
  | 92 => ⟨S16, .i32⟩
  | 93 => ⟨S16x1x1, .i32⟩
  | 94 => ⟨S1x128x256, .i1⟩
  | 95 => ⟨S_, .i32⟩
  | 96 => ⟨S16x1x1, .i32⟩
  | 97 => ⟨S16x1x1, .i1⟩
  | 98 => ⟨S1x1x256, .i32⟩
  | 99 => ⟨S_, .i32⟩
  | 100 => ⟨S1x1x256, .i32⟩
  | 101 => ⟨S1x1x256, .i1⟩
  | 102 => ⟨S16x1x256, .i1⟩
  | 103 => ⟨S16x1x256, .i1⟩
  | 104 => ⟨S16x1x256, .i1⟩
  | 105 => ⟨S16x128x256, .i1⟩
  | 106 => ⟨S16x128x256, .i1⟩
  | 107 => ⟨S16x128x256, .i1⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S4x4, .f32⟩
  | 122 => ⟨S4x4x1x1, .f32⟩
  | 123 => ⟨S4x4x1x1, .f32⟩
  | 124 => ⟨S128x256, .f32⟩
  | 125 => ⟨S1x1x128x256, .f32⟩
  | 126 => ⟨S4x4x128x256, .f32⟩
  | 127 => ⟨S4x4x128x256, .f32⟩
  | _ => ⟨S32768x8704, .bf16⟩

abbrev hbmTy0_2 (i : Nat) : BufTy := match i % 128 with
  | 0 => ⟨S4x4x128x256, .f32⟩
  | 1 => ⟨S1x16x1x1x128x256, .i1⟩
  | 2 => ⟨S1x1x4x4x128x256, .f32⟩
  | 3 => ⟨S16x16x4x4x128x256, .f32⟩
  | 4 => ⟨S16x16x4x4x128x256, .f32⟩
  | 5 => ⟨S_, .f32⟩
  | 6 => ⟨S_, .f32⟩
  | 7 => ⟨S16x16x4x4x128x256, .i1⟩
  | 8 => ⟨S16x16x4x4x128x256, .f32⟩
  | 9 => ⟨S16x16x4x4x128x256, .f32⟩
  | 10 => ⟨S4x4, .f32⟩
  | 11 => ⟨S4x4x1x1, .f32⟩
  | 12 => ⟨S_, .f32⟩
  | 13 => ⟨S16x16x4x4x128, .f32⟩
  | 14 => ⟨S16x16x4x4x128x1, .f32⟩
  | 15 => ⟨S1x1x4x4x1x1, .f32⟩
  | 16 => ⟨S16x16x4x4x128x1, .f32⟩
  | 17 => ⟨S16x16x4x4x128x1, .f32⟩
  | 18 => ⟨S16x16x4x4x128x256, .f32⟩
  | 19 => ⟨S16x16x4x4x128x256, .f32⟩
  | 20 => ⟨S16x16x4x4x128x256, .f32⟩
  | 21 => ⟨S_, .f32⟩
  | 22 => ⟨S16x16x4x4x128, .f32⟩
  | 23 => ⟨S16x16x4x4x128x1, .f32⟩
  | 24 => ⟨S1x1x4x4x1x1, .f32⟩
  | 25 => ⟨S16x16x4x4x128x1, .f32⟩
  | 26 => ⟨S16x16x4x4x128x1, .f32⟩
  | 27 => ⟨S16x16x4x4x128x1, .f32⟩
  | 28 => ⟨S16x16x4x4x128x1, .f32⟩
  | 29 => ⟨S16x16x4x4x128x256, .f32⟩
  | 30 => ⟨S16x16x4x4x128x256, .f32⟩
  | 31 => ⟨S16x16x4x64x4x128, .f32⟩
  | 32 => ⟨S16x16x128x4x4x64, .f32⟩
  | 33 => ⟨S32768x1024, .f32⟩
  | 34 => ⟨S32768x2048, .bf16⟩
  | 35 => ⟨S32768x2048, .f32⟩
  | 36 => ⟨S32768x2048, .bf16⟩
  | 37 => ⟨S32768x2048, .f32⟩
  | 38 => ⟨S1024x2048, .f32⟩
  | 39 => ⟨S32768x2048, .f32⟩
  | 40 => ⟨S32768x2048, .f32⟩
  | 41 => ⟨S1024x2048, .f32⟩
  | 42 => ⟨S32768x2048, .f32⟩
  | 43 => ⟨S32768x2048, .f32⟩
  | 44 => ⟨S32768x2048, .f32⟩
  | 45 => ⟨S2048x2048, .f32⟩
  | 46 => ⟨S32768x2048, .f32⟩
  | 47 => ⟨S32768x2048, .f32⟩
  | _ => ⟨S32768x8704, .bf16⟩

abbrev hbmTy (i : Nat) : BufTy := match i / 128 with
  | 0 => hbmTy0_0 i
  | 1 => hbmTy0_1 i
  | 2 => hbmTy0_2 i
  | _ => ⟨S32768x8704, .bf16⟩

abbrev bufTy : (tb : Table) → Fin (tcTables nBuf tb) → BufTy
  | .hbm, ⟨i, _⟩ => hbmTy i
  | _, _ => ⟨S32768x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩
abbrev main_c : Ref sig .tc := ⟨.hbm, 54, rfl⟩
abbrev main_v25_0 : Ref sig .tc := ⟨.hbm, 55, rfl⟩
abbrev main_v25_1 : Ref sig .tc := ⟨.hbm, 56, rfl⟩
abbrev main_v25_2 : Ref sig .tc := ⟨.hbm, 57, rfl⟩
abbrev main_v25_3 : Ref sig .tc := ⟨.hbm, 58, rfl⟩
abbrev main_v25_4 : Ref sig .tc := ⟨.hbm, 59, rfl⟩
abbrev main_v25_5 : Ref sig .tc := ⟨.hbm, 60, rfl⟩
abbrev main_v25_6 : Ref sig .tc := ⟨.hbm, 61, rfl⟩
abbrev main_while0c_c_29 : Ref sig .tc := ⟨.hbm, 62, rfl⟩
abbrev main_while0c_v158 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_c_2 : Ref sig .tc := ⟨.hbm, 67, rfl⟩
abbrev main_while0b_call1_v0 : Ref sig .tc := ⟨.hbm, 68, rfl⟩
abbrev main_while0b_v158 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_c_1 : Ref sig .tc := ⟨.hbm, 72, rfl⟩
abbrev main_while0b_call2_c_2 : Ref sig .tc := ⟨.hbm, 73, rfl⟩
abbrev main_while0b_call2_v0 : Ref sig .tc := ⟨.hbm, 74, rfl⟩
abbrev main_while0b_v159 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_c_2 : Ref sig .tc := ⟨.hbm, 79, rfl⟩
abbrev main_while0b_call3_v0 : Ref sig .tc := ⟨.hbm, 80, rfl⟩
abbrev main_while0b_v160 : Ref sig .tc := ⟨.hbm, 81, rfl⟩
abbrev main_while0b_call4_c : Ref sig .tc := ⟨.hbm, 82, rfl⟩
abbrev main_while0b_call4_c_0 : Ref sig .tc := ⟨.hbm, 83, rfl⟩
abbrev main_while0b_call4_c_1 : Ref sig .tc := ⟨.hbm, 84, rfl⟩
abbrev main_while0b_call4_c_2 : Ref sig .tc := ⟨.hbm, 85, rfl⟩
abbrev main_while0b_call4_v0 : Ref sig .tc := ⟨.hbm, 86, rfl⟩
abbrev main_while0b_v161 : Ref sig .tc := ⟨.hbm, 87, rfl⟩
abbrev main_while0b_call5_call0_cst : Ref sig .tc := ⟨.hbm, 88, rfl⟩
abbrev main_while0b_call5_call0_v0 : Ref sig .tc := ⟨.hbm, 89, rfl⟩
abbrev main_while0b_v162 : Ref sig .tc := ⟨.hbm, 90, rfl⟩
abbrev main_while0b_v163 : Ref sig .tc := ⟨.hbm, 91, rfl⟩
abbrev main_while0b_v164 : Ref sig .tc := ⟨.hbm, 92, rfl⟩
abbrev main_while0b_v165 : Ref sig .tc := ⟨.hbm, 93, rfl⟩
abbrev main_while0b_v166 : Ref sig .tc := ⟨.hbm, 94, rfl⟩
abbrev main_while0b_v167 : Ref sig .tc := ⟨.hbm, 95, rfl⟩
abbrev main_while0b_v168 : Ref sig .tc := ⟨.hbm, 96, rfl⟩
abbrev main_while0b_v169 : Ref sig .tc := ⟨.hbm, 97, rfl⟩
abbrev main_while0b_v170 : Ref sig .tc := ⟨.hbm, 98, rfl⟩
abbrev main_while0b_c_29 : Ref sig .tc := ⟨.hbm, 99, rfl⟩
abbrev main_while0b_v171 : Ref sig .tc := ⟨.hbm, 100, rfl⟩
abbrev main_while0b_call6_v0 : Ref sig .tc := ⟨.hbm, 101, rfl⟩
abbrev main_while0b_call6_c : Ref sig .tc := ⟨.hbm, 102, rfl⟩
abbrev main_while0b_call6_v1 : Ref sig .tc := ⟨.hbm, 103, rfl⟩
abbrev main_while0b_call6_v2 : Ref sig .tc := ⟨.hbm, 104, rfl⟩
abbrev main_while0b_call6_v3 : Ref sig .tc := ⟨.hbm, 105, rfl⟩
abbrev main_while0b_call6_v4 : Ref sig .tc := ⟨.hbm, 106, rfl⟩
abbrev main_while0b_call6_c_0 : Ref sig .tc := ⟨.hbm, 107, rfl⟩
abbrev main_while0b_call6_v5 : Ref sig .tc := ⟨.hbm, 108, rfl⟩
abbrev main_while0b_v172 : Ref sig .tc := ⟨.hbm, 109, rfl⟩
abbrev main_while0b_v173 : Ref sig .tc := ⟨.hbm, 110, rfl⟩
abbrev main_while0b_cst_30 : Ref sig .tc := ⟨.hbm, 111, rfl⟩
abbrev main_while0b_call7_v0 : Ref sig .tc := ⟨.hbm, 112, rfl⟩
abbrev main_while0b_call7_v1 : Ref sig .tc := ⟨.hbm, 113, rfl⟩
abbrev main_while0b_call7_v2 : Ref sig .tc := ⟨.hbm, 114, rfl⟩
abbrev main_while0b_v174 : Ref sig .tc := ⟨.hbm, 115, rfl⟩
abbrev main_while0b_v175 : Ref sig .tc := ⟨.hbm, 116, rfl⟩
abbrev main_while0b_v176 : Ref sig .tc := ⟨.hbm, 117, rfl⟩
abbrev main_while0b_v177 : Ref sig .tc := ⟨.hbm, 118, rfl⟩
abbrev main_while0b_v178 : Ref sig .tc := ⟨.hbm, 119, rfl⟩
abbrev main_while0b_v179 : Ref sig .tc := ⟨.hbm, 120, rfl⟩
abbrev main_while0b_v180 : Ref sig .tc := ⟨.hbm, 121, rfl⟩
abbrev main_while0b_v181 : Ref sig .tc := ⟨.hbm, 122, rfl⟩
abbrev main_while0b_cst_31 : Ref sig .tc := ⟨.hbm, 123, rfl⟩
abbrev main_while0b_v182 : Ref sig .tc := ⟨.hbm, 124, rfl⟩
abbrev main_while0b_v183 : Ref sig .tc := ⟨.hbm, 125, rfl⟩
abbrev main_while0b_v184 : Ref sig .tc := ⟨.hbm, 126, rfl⟩
abbrev main_while0b_v185 : Ref sig .tc := ⟨.hbm, 127, rfl⟩
abbrev main_while0b_v186 : Ref sig .tc := ⟨.hbm, 128, rfl⟩
abbrev main_while0b_v187 : Ref sig .tc := ⟨.hbm, 129, rfl⟩
abbrev main_while0b_v188 : Ref sig .tc := ⟨.hbm, 130, rfl⟩
abbrev main_while0b_v189 : Ref sig .tc := ⟨.hbm, 131, rfl⟩
abbrev main_while0b_v190 : Ref sig .tc := ⟨.hbm, 132, rfl⟩
abbrev main_while0b_v191 : Ref sig .tc := ⟨.hbm, 133, rfl⟩
abbrev main_while0b_v192 : Ref sig .tc := ⟨.hbm, 134, rfl⟩
abbrev main_while0b_v193 : Ref sig .tc := ⟨.hbm, 135, rfl⟩
abbrev main_while0b_v194 : Ref sig .tc := ⟨.hbm, 136, rfl⟩
abbrev main_while0b_v195 : Ref sig .tc := ⟨.hbm, 137, rfl⟩
abbrev main_while0b_v196 : Ref sig .tc := ⟨.hbm, 138, rfl⟩
abbrev main_while0b_call8_v0 : Ref sig .tc := ⟨.hbm, 139, rfl⟩
abbrev main_while0b_call8_c : Ref sig .tc := ⟨.hbm, 140, rfl⟩
abbrev main_while0b_call8_c_0 : Ref sig .tc := ⟨.hbm, 141, rfl⟩
abbrev main_while0b_call8_c_1 : Ref sig .tc := ⟨.hbm, 142, rfl⟩
abbrev main_while0b_call8_c_2 : Ref sig .tc := ⟨.hbm, 143, rfl⟩
abbrev main_while0b_v197 : Ref sig .tc := ⟨.hbm, 144, rfl⟩
abbrev main_while0b_c_32 : Ref sig .tc := ⟨.hbm, 145, rfl⟩
abbrev main_while0b_v198 : Ref sig .tc := ⟨.hbm, 146, rfl⟩
abbrev main_v26 : Ref sig .tc := ⟨.hbm, 147, rfl⟩
abbrev main_v27 : Ref sig .tc := ⟨.hbm, 148, rfl⟩
abbrev main_v28 : Ref sig .tc := ⟨.hbm, 149, rfl⟩
abbrev main_cst_3 : Ref sig .tc := ⟨.hbm, 150, rfl⟩
abbrev main_v29 : Ref sig .tc := ⟨.hbm, 151, rfl⟩
abbrev main_v30 : Ref sig .tc := ⟨.hbm, 152, rfl⟩
abbrev main_cst_4 : Ref sig .tc := ⟨.hbm, 153, rfl⟩
abbrev main_v31 : Ref sig .tc := ⟨.hbm, 154, rfl⟩
abbrev main_v32 : Ref sig .tc := ⟨.hbm, 155, rfl⟩
abbrev main_cst_5 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_cst_6 : Ref sig .tc := ⟨.hbm, 171, rfl⟩
abbrev main_v47 : Ref sig .tc := ⟨.hbm, 172, rfl⟩
abbrev main_v48 : Ref sig .tc := ⟨.hbm, 173, rfl⟩
abbrev main_cst_7 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_v57 : Ref sig .tc := ⟨.hbm, 183, rfl⟩
abbrev main_v58 : Ref sig .tc := ⟨.hbm, 184, rfl⟩
abbrev main_v59 : Ref sig .tc := ⟨.hbm, 185, rfl⟩
abbrev main_v60 : Ref sig .tc := ⟨.hbm, 186, rfl⟩
abbrev main_v61 : Ref sig .tc := ⟨.hbm, 187, rfl⟩
abbrev main_c_8 : Ref sig .tc := ⟨.hbm, 188, rfl⟩
abbrev main_call9_v0 : Ref sig .tc := ⟨.hbm, 189, rfl⟩
abbrev main_v62 : Ref sig .tc := ⟨.hbm, 190, rfl⟩
abbrev main_v63 : Ref sig .tc := ⟨.hbm, 191, rfl⟩
abbrev main_v64 : Ref sig .tc := ⟨.hbm, 192, rfl⟩
abbrev main_v65 : Ref sig .tc := ⟨.hbm, 193, rfl⟩
abbrev main_c_9 : Ref sig .tc := ⟨.hbm, 194, rfl⟩
abbrev main_call10_v0 : Ref sig .tc := ⟨.hbm, 195, rfl⟩
abbrev main_v66 : Ref sig .tc := ⟨.hbm, 196, rfl⟩
abbrev main_v67 : Ref sig .tc := ⟨.hbm, 197, rfl⟩
abbrev main_v68 : Ref sig .tc := ⟨.hbm, 198, rfl⟩
abbrev main_v69 : Ref sig .tc := ⟨.hbm, 199, rfl⟩
abbrev main_cst_10 : Ref sig .tc := ⟨.hbm, 200, rfl⟩
abbrev main_v70 : Ref sig .tc := ⟨.hbm, 201, rfl⟩
abbrev main_v71 : Ref sig .tc := ⟨.hbm, 202, rfl⟩
abbrev main_v72 : Ref sig .tc := ⟨.hbm, 203, rfl⟩
abbrev main_v73 : Ref sig .tc := ⟨.hbm, 204, rfl⟩
abbrev main_c_11 : Ref sig .tc := ⟨.hbm, 205, rfl⟩
abbrev main_v74 : Ref sig .tc := ⟨.hbm, 206, rfl⟩
abbrev main_v75 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_c_12 : Ref sig .tc := ⟨.hbm, 213, rfl⟩
abbrev main_v81 : Ref sig .tc := ⟨.hbm, 214, rfl⟩
abbrev main_v82 : Ref sig .tc := ⟨.hbm, 215, rfl⟩
abbrev main_c_13 : Ref sig .tc := ⟨.hbm, 216, rfl⟩
abbrev main_v83 : Ref sig .tc := ⟨.hbm, 217, rfl⟩
abbrev main_v84 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_c_14 : Ref sig .tc := ⟨.hbm, 223, rfl⟩
abbrev main_v89 : Ref sig .tc := ⟨.hbm, 224, rfl⟩
abbrev main_v90 : Ref sig .tc := ⟨.hbm, 225, rfl⟩
abbrev main_v91 : Ref sig .tc := ⟨.hbm, 226, rfl⟩
abbrev main_c_15 : Ref sig .tc := ⟨.hbm, 227, rfl⟩
abbrev main_v92 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_cst_16 : Ref sig .tc := ⟨.hbm, 237, rfl⟩
abbrev main_v101 : Ref sig .tc := ⟨.hbm, 238, rfl⟩
abbrev main_v102 : Ref sig .tc := ⟨.hbm, 239, rfl⟩
abbrev main_cst_17 : Ref sig .tc := ⟨.hbm, 240, rfl⟩
abbrev main_v103 : Ref sig .tc := ⟨.hbm, 241, rfl⟩
abbrev main_v104 : Ref sig .tc := ⟨.hbm, 242, rfl⟩
abbrev main_cst_18 : Ref sig .tc := ⟨.hbm, 243, rfl⟩
abbrev main_v105 : Ref sig .tc := ⟨.hbm, 244, rfl⟩
abbrev main_v106 : Ref sig .tc := ⟨.hbm, 245, rfl⟩
abbrev main_cst_19 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_v120 : Ref sig .tc := ⟨.hbm, 260, rfl⟩
abbrev main_cst_20 : Ref sig .tc := ⟨.hbm, 261, rfl⟩
abbrev main_call11_v0 : Ref sig .tc := ⟨.hbm, 262, rfl⟩
abbrev main_call11_v1 : Ref sig .tc := ⟨.hbm, 263, rfl⟩
abbrev main_call11_v2 : Ref sig .tc := ⟨.hbm, 264, rfl⟩
abbrev main_v121 : Ref sig .tc := ⟨.hbm, 265, rfl⟩
abbrev main_v122 : Ref sig .tc := ⟨.hbm, 266, rfl⟩
abbrev main_v123 : Ref sig .tc := ⟨.hbm, 267, rfl⟩
abbrev main_cst_21 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_v127 : Ref sig .tc := ⟨.hbm, 272, rfl⟩
abbrev main_v128 : Ref sig .tc := ⟨.hbm, 273, rfl⟩
abbrev main_v129 : Ref sig .tc := ⟨.hbm, 274, rfl⟩
abbrev main_v130 : Ref sig .tc := ⟨.hbm, 275, rfl⟩
abbrev main_v131 : Ref sig .tc := ⟨.hbm, 276, rfl⟩
abbrev main_cst_22 : Ref sig .tc := ⟨.hbm, 277, rfl⟩
abbrev main_v132 : Ref sig .tc := ⟨.hbm, 278, rfl⟩
abbrev main_v133 : Ref sig .tc := ⟨.hbm, 279, rfl⟩
abbrev main_v134 : Ref sig .tc := ⟨.hbm, 280, rfl⟩
abbrev main_v135 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_v139 : Ref sig .tc := ⟨.hbm, 285, rfl⟩
abbrev main_v140 : Ref sig .tc := ⟨.hbm, 286, rfl⟩
abbrev main_v141 : Ref sig .tc := ⟨.hbm, 287, rfl⟩
abbrev main_v142 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32768x2048 : Shape := ⟨2, ![32768, 2048]⟩
abbrev S1x2048 : Shape := ⟨2, ![1, 2048]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S32768x2048 : Shape := ⟨2, ![32768, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S32768 : Shape := ⟨1, ![32768]⟩
abbrev S32768x1 : Shape := ⟨2, ![32768, 1]⟩
abbrev S32768x8192 : Shape := ⟨2, ![32768, 8192]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S2048x8192, .f32⟩
  | .hbm, ⟨20, _⟩ => ⟨S32768x8192, .f32⟩
  | .hbm, ⟨21, _⟩ => ⟨S_, .f32⟩
  | .hbm, ⟨22, _⟩ => ⟨S32768x8192, .f32⟩
  | .hbm, ⟨23, _⟩ => ⟨S32768x8192, .f32⟩
  | .hbm, ⟨24, _⟩ => ⟨S32768x8192, .f32⟩
  | .hbm, ⟨25, _⟩ => ⟨S8192x2048, .f32⟩
  | .hbm, ⟨26, _⟩ => ⟨S32768x2048, .f32⟩
  | .hbm, ⟨27, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel3.lean ====
abbrev S32768x2048 : Shape := ⟨2, ![32768, 2048]⟩
abbrev S32768x256 : Shape := ⟨2, ![32768, 256]⟩
abbrev S1x2048 : Shape := ⟨2, ![1, 2048]⟩
abbrev S2048x2048 : Shape := ⟨2, ![2048, 2048]⟩
abbrev S256x2048 : Shape := ⟨2, ![256, 2048]⟩
abbrev S1024x2048 : Shape := ⟨2, ![1024, 2048]⟩
abbrev S1024x256 : Shape := ⟨2, ![1024, 256]⟩
abbrev S256 : Shape := ⟨1, ![256]⟩
abbrev S256x1 : Shape := ⟨2, ![256, 1]⟩
abbrev S256x256 : Shape := ⟨2, ![256, 256]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S1x2048, .f32⟩
  | .hbm, ⟨3, _⟩ => ⟨S1x2048, .f32⟩
  | .hbm, ⟨4, _⟩ => ⟨S2048x2048, .bf16⟩
  | .hbm, ⟨5, _⟩ => ⟨S256x2048, .bf16⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S256x2048, .bf16⟩
  | .local _ .vmem, ⟨8, _⟩ => ⟨S1024x2048, .f32⟩
  | .local _ .vmem, ⟨9, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x2048 : Shape := ⟨2, ![32768, 2048]⟩
abbrev S32768x256 : Shape := ⟨2, ![32768, 256]⟩
abbrev S1x2048 : Shape := ⟨2, ![1, 2048]⟩
abbrev S2048x2048 : Shape := ⟨2, ![2048, 2048]⟩
abbrev S256x2048 : Shape := ⟨2, ![256, 2048]⟩
abbrev S_ : Shape := ⟨0, ![]⟩
abbrev S32768 : Shape := ⟨1, ![32768]⟩
abbrev S32768x1 : Shape := ⟨2, ![32768, 1]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S1x2048, .f32⟩
  | .hbm, ⟨3, _⟩ => ⟨S1x2048, .f32⟩
  | .hbm, ⟨4, _⟩ => ⟨S2048x2048, .bf16⟩
  | .hbm, ⟨5, _⟩ => ⟨S256x2048, .bf16⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S2048x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S256x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel4.lean ====
abbrev S32768x2048 : Shape := ⟨2, ![32768, 2048]⟩
abbrev S2048 : Shape := ⟨1, ![2048]⟩
abbrev S2048x8720 : Shape := ⟨2, ![2048, 8720]⟩
abbrev S2048x8192 : Shape := ⟨2, ![2048, 8192]⟩
abbrev S8192x2048 : Shape := ⟨2, ![8192, 2048]⟩
abbrev S2048x2048 : Shape := ⟨2, ![2048, 2048]⟩
abbrev S2048x5632 : Shape := ⟨2, ![2048, 5632]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S32768x8704 : Shape := ⟨2, ![32768, 8704]⟩
abbrev S32768x128 : Shape := ⟨2, ![32768, 128]⟩
abbrev S256x2048 : Shape := ⟨2, ![256, 2048]⟩
abbrev S2048x3072 : Shape := ⟨2, ![2048, 3072]⟩
abbrev S16x8192 : Shape := ⟨2, ![16, 8192]⟩
abbrev S64x2048 : Shape := ⟨2, ![64, 2048]⟩
abbrev S16x2048 : Shape := ⟨2, ![16, 2048]⟩
abbrev S256x8704 : Shape := ⟨2, ![256, 8704]⟩
abbrev S256x128 : Shape := ⟨2, ![256, 128]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S2048x256 : Shape := ⟨2, ![2048, 256]⟩
abbrev S256x256 : Shape := ⟨2, ![256, 256]⟩

abbrev nBuf : Space → Nat
  | .hbm => 20
  | .vmem => 26
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8720, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x8720, .bf16⟩
  | .hbm, ⟨8, _⟩ => ⟨S2048x5632, .bf16⟩
  | .hbm, ⟨9, _⟩ => ⟨S2048x16, .bf16⟩
  | .hbm, ⟨10, _⟩ => ⟨S_, .i32⟩
  | .hbm, ⟨11, _⟩ => ⟨S_, .bf16⟩
  | .hbm, ⟨12, _⟩ => ⟨S2048x128, .bf16⟩
  | .hbm, ⟨13, _⟩ => ⟨S1x2048, .f32⟩
  | .hbm, ⟨14, _⟩ => ⟨S32768x8704, .bf16⟩
  | .hbm, ⟨15, _⟩ => ⟨S32768x128, .f32⟩
  | .hbm, ⟨16, _⟩ => ⟨S2048x8192, .bf16⟩
  | .hbm, ⟨17, _⟩ => ⟨S8192x2048, .bf16⟩
  | .hbm, ⟨18, _⟩ => ⟨S2048x2048, .bf16⟩
  | .hbm, ⟨19, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3072, .bf16⟩
  | .local _ .vmem, ⟨4, _⟩ => ⟨S2048x5632, .bf16⟩
  | .local _ .vmem, ⟨5, _⟩ => ⟨S2048x128, .bf16⟩
  | .local _ .vmem, ⟨6, _⟩ => ⟨S16x8192, .f32⟩
  | .local _ .vmem, ⟨7, _⟩ => ⟨S16x8192, .f32⟩
  | .local _ .vmem, ⟨8, _⟩ => ⟨S64x2048, .f32⟩
  | .local _ .vmem, ⟨9, _⟩ => ⟨S64x2048, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S256x8704, .bf16⟩
  | .local _ .vmem, ⟨15, _⟩ => ⟨S256x8704, .bf16⟩
  | .local _ .vmem, ⟨16, _⟩ => ⟨S256x128, .f32⟩
  | .local _ .vmem, ⟨17, _⟩ => ⟨S256x128, .f32⟩
  | .local _ .vmem, ⟨18, _⟩ => ⟨S16x8192, .bf16⟩
  | .local _ .vmem, ⟨19, _⟩ => ⟨S16x8192, .bf16⟩
  | .local _ .vmem, ⟨20, _⟩ => ⟨S64x2048, .bf16⟩
  | .local _ .vmem, ⟨21, _⟩ => ⟨S64x2048, .bf16⟩
  | .local _ .vmem, ⟨22, _⟩ => ⟨S16x2048, .bf16⟩
  | .local _ .vmem, ⟨23, _⟩ => ⟨S16x2048, .bf16⟩
  | .local _ .vmem, ⟨24, _⟩ => ⟨S16x2048, .bf16⟩
  | .local _ .vmem, ⟨25, _⟩ => ⟨S16x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x8704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S32768x2048 : Shape := ⟨2, ![32768, 2048]⟩
abbrev S2048 : Shape := ⟨1, ![2048]⟩
abbrev S2048x8720 : Shape := ⟨2, ![2048, 8720]⟩
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x8720 : Shape := ⟨2, ![32768, 8720]⟩
abbrev S32768x512 : Shape := ⟨2, ![32768, 512]⟩
abbrev S32768x1024 : Shape := ⟨2, ![32768, 1024]⟩
abbrev S32768x16 : Shape := ⟨2, ![32768, 16]⟩
abbrev S32768x256 : Shape := ⟨2, ![32768, 256]⟩
abbrev S32768x8704 : Shape := ⟨2, ![32768, 8704]⟩
abbrev S32768x128 : Shape := ⟨2, ![32768, 128]⟩

abbrev nBuf : Space → Nat
  | .hbm => 59
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8720, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x8720, .f32⟩
  | .hbm, ⟨24, _⟩ => ⟨S32768x512, .f32⟩
  | .hbm, ⟨25, _⟩ => ⟨S32768x512, .f32⟩
  | .hbm, ⟨26, _⟩ => ⟨S32768x1024, .f32⟩
  | .hbm, ⟨27, _⟩ => ⟨S32768x1024, .f32⟩
  | .hbm, ⟨28, _⟩ => ⟨S32768x16, .f32⟩
  | .hbm, ⟨29, _⟩ => ⟨S32768x1024, .f32⟩
  | .hbm, ⟨30, _⟩ => ⟨S32768x256, .f32⟩
  | .hbm, ⟨31, _⟩ => ⟨S32768x256, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768x2048, .f32⟩
  | .hbm, ⟨49, _⟩ => ⟨S32768x2048, .f32⟩
  | .hbm, ⟨50, _⟩ => ⟨S32768x8704, .f32⟩
  | .hbm, ⟨51, _⟩ => ⟨S32768x8704, .bf16⟩
  | .hbm, ⟨52, _⟩ => ⟨S_, .i32⟩
  | .hbm, ⟨53, _⟩ => ⟨S_, .f32⟩
  | .hbm, ⟨54, _⟩ => ⟨S32768x128, .f32⟩
  | .hbm, ⟨55, _⟩ => ⟨S2048x8192, .bf16⟩
  | .hbm, ⟨56, _⟩ => ⟨S8192x2048, .bf16⟩
  | .hbm, ⟨57, _⟩ => ⟨S2048x2048, .bf16⟩
  | .hbm, ⟨58, _⟩ => ⟨S2048x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.MlpPay.lean ====
/-
  The feed-forward call: what its payloads are at an index. `rmsRow` is a row's root-mean-square norm, `ffRow` the
  squared-ReLU feed-forward of a normed row over one block of the hidden width.
-/
module

public import proofs.«01_k».proof.Proof.Gen.Kernel2Ideal.Skeleton
public import Idealize.ShloMosaic.Lib.Pointwise

@[expose] public section

noncomputable section

namespace Cert.Mix

open Idealize.ShloMosaic

/-- The root-mean-square norm of a row of 2048 numbers, times the gain. -/
def rmsRow (x g : Fin 2048 → EReal) (d : Fin 2048) : EReal :=
  x d * Ideal.rsqrt (Ideal.div (∑ k : Fin 2048, x k * x k) (Ideal.ofBits .f32 0x45000000#32) + Ideal.ofBits .f32 0x358637BD#32) * g d

/-- One hidden unit's squared ReLU. -/
def act (h : Fin 2048 → EReal) (w : Fin 2048 → EReal) : EReal :=
  max (∑ k : Fin 2048, h k * w k) 0 * max (∑ k : Fin 2048, h k * w k) 0

/-- The feed-forward of a row over a block of 1024 hidden units, at output column with weights `wd`. -/
def ffRow (h : Fin 2048 → EReal) (wu : Fin 2048 → Fin 1024 → EReal) (wd : Fin 1024 → EReal) : EReal :=
  ∑ j : Fin 1024, act h (fun k => wu k j) * wd j

end Cert.Mix

namespace Cert.Kernel2Ideal.Val

open Cert.Kernel2Ideal Cert.Kernel2Ideal.Gen Idealize.ShloMosaic Cert.Mix

theorem pay2_apply (v6 : Vec Ideal S1024x2048 .f32) (v8 : Vec Ideal S1024x2048 .bf16) (v9 : Vec Ideal S2048x1024 .bf16) (v15 : Vec Ideal S1024x2048 .bf16) (r : Fin 1024) (c : Fin 2048) :
    k0_pay2 v6 v8 v9 v15 (ix2 r c) = v6 (ix2 r c) + ffRow (fun k => v8 (ix2 r k)) (fun k j => v9 (ix2 k j)) (fun j => v15 (ix2 j c)) := by
  pointwise [k0_pay2, ffRow, act]

theorem pay3_apply (v6 : Vec Ideal S256x2048 .f32) (v17 : Vec Ideal S1x2048 .f32) (r : Fin 256) (c : Fin 2048) :
    k0_pay3 v6 v17 (ix2 r c) = rmsRow (fun k => v6 (ix2 r k)) (fun k => v17 (ix2 0 k)) c := by
  pointwise [k0_pay3, rmsRow]

theorem pay5_apply (v6 : Vec Ideal S256x2048 .f32) (v17 : Vec Ideal S1x2048 .f32) (v24 : Vec Ideal S2048x1024 .bf16) (v30 : Vec Ideal S1024x2048 .bf16) (r : Fin 256) (c : Fin 2048) :
    k0_pay5 v6 v17 v24 v30 (ix2 r c) = v6 (ix2 r c) + ffRow (rmsRow (fun k => v6 (ix2 r k)) (fun k => v17 (ix2 0 k))) (fun k j => v24 (ix2 k j)) (fun j => v30 (ix2 j c)) := by
  unfold k0_pay5
  generalize hg : k0_pay3 v6 v17 = h
  pointwise [ffRow, act]
  simp only [← hg, pay3_apply]

/-- The four row pieces are computed by one function. -/
theorem pay4_eq (v6 : Vec Ideal S256x2048 .f32) (v17 : Vec Ideal S1x2048 .f32) : k0_pay4 v6 v17 = k0_pay3 v6 v17 := by
  unfold k0_pay4; exact shapeCast_self _ _
theorem pay9_eq (v34 : Vec Ideal S256x2048 .f32) (v45 : Vec Ideal S1x2048 .f32) :
    k0_pay9 v34 (k0_pay6 v34) k0_pay7 v45 = k0_pay3 v34 v45 := pay4_eq v34 v45
theorem pay12_eq (v62 : Vec Ideal S256x2048 .f32) (v73 : Vec Ideal S1x2048 .f32) :
    k0_pay12 (k0_pay11 v62 v73) = k0_pay3 v62 v73 := pay4_eq v62 v73
theorem pay15_eq (v90 : Vec Ideal S256x2048 .f32) (v101 : Vec Ideal S1x2048 .f32) :
    k0_pay15 v90 v101 = k0_pay3 v90 v101 := pay4_eq v90 v101
theorem pay10_eq (v34 : Vec Ideal S256x2048 .f32) (v45 : Vec Ideal S1x2048 .f32) (v52 : Vec Ideal S2048x1024 .bf16) (v58 : Vec Ideal S1024x2048 .bf16) :
    k0_pay10 v34 (k0_pay6 v34) k0_pay7 v45 v52 v58 = k0_pay5 v34 v45 v52 v58 := rfl
theorem pay13_eq (v62 : Vec Ideal S256x2048 .f32) (v73 : Vec Ideal S1x2048 .f32) (v80 : Vec Ideal S2048x1024 .bf16) (v86 : Vec Ideal S1024x2048 .bf16) :
    k0_pay13 v62 (k0_pay11 v62 v73) v80 v86 = k0_pay5 v62 v73 v80 v86 := rfl
theorem pay1_eq (v90 : Vec Ideal S256x2048 .f32) (v101 : Vec Ideal S1x2048 .f32) (v108 : Vec Ideal S2048x1024 .bf16) (v114 : Vec Ideal S1024x2048 .bf16) :
    k0_pay1 v90 (k0_pay16 v90 v101 v108) v114 = k0_pay5 v90 v101 v108 v114 := rfl

end Cert.Kernel2Ideal.Val

end
-- ==== Proof.MlpBlock.lean ====
/-
  The feed-forward call: what a point leaves in its output block and in the normed rows it keeps, index by index.
-/
module

public import proofs.«01_k».proof.Proof.Gen.Kernel2Ideal.Frame
public import proofs.«01_k».proof.Proof.MlpPay
public import Idealize.ShloMosaic.Lib.Pipeline.ReadBack
public import Idealize.ShloMosaic.Lib.Pipeline.Value
public import Idealize.ShloMosaic.Lib.Claim

@[expose] public section

set_option maxRecDepth 16384

noncomputable section

namespace Cert.Kernel2Ideal.Val

open Cert.Kernel2Ideal Cert.Kernel2Ideal.Gen Idealize.ShloMosaic Idealize.ShloMosaic.TcCoe Cert.Mix

theorem hz2 : (![0, 0] : Fin 2 → Nat) = fun _ => 0 := by
  funext a; match a with | ⟨0, _⟩ => rfl | ⟨1, _⟩ => rfl

/-- The normed rows of a block. -/
def hBlk (x0 : Vec Ideal S1024x2048 .f32) (x1 : Vec Ideal S1x2048 .f32) (y : S1024x2048.Idx) : EReal :=
  rmsRow (fun k => x0 (ix2 (y 0) k)) (fun k => x1 (ix2 0 k)) (y 1)

/-- A block plus the feed-forward of normed rows `h` over one block of hidden units. -/
def oBlk (x0 : Vec Ideal S1024x2048 .f32) (h : Vec Ideal S1024x2048 .bf16) (x2 : Vec Ideal S2048x1024 .bf16) (x3 : Vec Ideal S1024x2048 .bf16)
    (y : S1024x2048.Idx) : EReal :=
  x0 (ix2 (y 0) (y 1)) + ffRow (fun k => h (ix2 (y 0) k)) (fun k j => x2 (ix2 k j)) (fun j => x3 (ix2 j (y 1)))

/-- A row piece of the block, its rows starting at `o`, read at a row is the block's row `o + r`. -/
theorem ld_piece (x0 : Vec Ideal S1024x2048 .f32) (o : Nat) (h : ∀ a, (![o, 0] : Fin 2 → Nat) a + S256x2048.size a ≤ S1024x2048.size a) (r : Fin 256) (k q : Fin 2048) :
    View.ld x0 (Rect.unit (s := S1024x2048) ![o, 0] S256x2048.size h) (ix2 r k)
      = x0 (ix2 ((Rect.unit (s := S1024x2048) ![o, 0] S256x2048.size h).emb (ix2 r q) 0) k) := by
  refine congrArg x0 (funext fun a => Fin.ext ?_)
  match a with
  | ⟨0, _⟩ => rfl
  | ⟨1, _⟩ => show 0 + 1 * k.val = k.val; omega

theorem emb_piece (o : Nat) (h : ∀ a, (![o, 0] : Fin 2 → Nat) a + S256x2048.size a ≤ S1024x2048.size a) (r : Fin 256) (q : Fin 2048) :
    (Rect.unit (s := S1024x2048) ![o, 0] S256x2048.size h).emb (ix2 r q) 1 = q :=
  Fin.ext (show 0 + 1 * q.val = q.val by omega)

theorem rms_piece (x0 : Vec Ideal S1024x2048 .f32) (x1 : Vec Ideal S1x2048 .f32) (o : Nat) (h : ∀ a, (![o, 0] : Fin 2 → Nat) a + S256x2048.size a ≤ S1024x2048.size a) (r : Fin 256) (q : Fin 2048) :
    rmsRow (fun k => View.ld x0 (Rect.unit (s := S1024x2048) ![o, 0] S256x2048.size h) (ix2 r k)) (fun k => x1 (ix2 0 k)) q
      = hBlk x0 x1 ((Rect.unit (s := S1024x2048) ![o, 0] S256x2048.size h).emb (ix2 r q)) := by
  unfold hBlk
  rw [emb_piece o h r q]
  simp only [ld_piece x0 o h r _ q]

theorem o_piece (x0 : Vec Ideal S1024x2048 .f32) (x1 : Vec Ideal S1x2048 .f32) (x2 : Vec Ideal S2048x1024 .bf16) (x3 : Vec Ideal S1024x2048 .bf16) (o : Nat) (h : ∀ a, (![o, 0] : Fin 2 → Nat) a + S256x2048.size a ≤ S1024x2048.size a) (r : Fin 256) (q : Fin 2048) :
    View.ld x0 (Rect.unit (s := S1024x2048) ![o, 0] S256x2048.size h) (ix2 r q)
      + ffRow (rmsRow (fun k => View.ld x0 (Rect.unit (s := S1024x2048) ![o, 0] S256x2048.size h) (ix2 r k)) (fun k => x1 (ix2 0 k)))
          (fun k j => x2 (ix2 k j)) (fun j => x3 (ix2 j q))
      = oBlk x0 (hBlk x0 x1) x2 x3 ((Rect.unit (s := S1024x2048) ![o, 0] S256x2048.size h).emb (ix2 r q)) := by
  unfold oBlk hBlk
  rw [emb_piece o h r q]
  simp only [ld_piece x0 o h r _ q]
  rfl

theorem rms_at (x0 : Vec Ideal S1024x2048 .f32) (x1 : Vec Ideal S1x2048 .f32) (o : Nat) (h : ∀ a, (![o, 0] : Fin 2 → Nat) a + S256x2048.size a ≤ S1024x2048.size a) (x : S256x2048.Idx) :
    k0_pay3 (View.ld x0 (Rect.unit (s := S1024x2048) ![o, 0] S256x2048.size h)) x1 x
      = hBlk x0 x1 ((Rect.unit (s := S1024x2048) ![o, 0] S256x2048.size h).emb x) := by
  obtain ⟨r, q, rfl⟩ : ∃ r q, x = ix2 r q := ⟨x 0, x 1, (ix2_eta x).symm⟩
  exact (pay3_apply _ _ r q).trans (rms_piece x0 x1 o h r q)

theorem o_at (x0 : Vec Ideal S1024x2048 .f32) (x1 : Vec Ideal S1x2048 .f32) (x2 : Vec Ideal S2048x1024 .bf16) (x3 : Vec Ideal S1024x2048 .bf16) (o : Nat) (h : ∀ a, (![o, 0] : Fin 2 → Nat) a + S256x2048.size a ≤ S1024x2048.size a) (x : S256x2048.Idx) :
    k0_pay5 (View.ld x0 (Rect.unit (s := S1024x2048) ![o, 0] S256x2048.size h)) x1 x2 x3 x
      = oBlk x0 (hBlk x0 x1) x2 x3 ((Rect.unit (s := S1024x2048) ![o, 0] S256x2048.size h).emb x) := by
  obtain ⟨r, q, rfl⟩ : ∃ r q, x = ix2 r q := ⟨x 0, x 1, (ix2_eta x).symm⟩
  exact (pay5_apply _ _ _ _ r q).trans (o_piece x0 x1 x2 x3 o h r q)

section
variable (c : Dev nD) (i : grid0.Coords) (arg2 : Memref sig .tc .vmem S1024x2048 .f32) (h2 : arg2.IsWhole) (arg3 : Memref sig .tc .vmem S1x2048 .f32) (h3 : arg3.IsWhole) (arg4 : Memref sig .tc .vmem S2048x1024 .bf16) (h4 : arg4.IsWhole) (arg5 : Memref sig .tc .vmem S1024x2048 .bf16) (h5 : arg5.IsWhole) (arg6 : Memref sig .tc .vmem S1024x2048 .f32) (h6 : arg6.IsWhole) (arg7 : Memref sig .tc .vmem S1024x2048 .bf16) (h7 : arg7.IsWhole)
  (x0 : Vec Ideal S1024x2048 .f32) (x1 : Vec Ideal S1x2048 .f32) (x2 : Vec Ideal S2048x1024 .bf16) (x3 : Vec Ideal S1024x2048 .bf16)

theorem outB_eq (hc0 : ¬cond0_0 i) (hc1 : cond0_1 i) (xo4 : Vec Ideal S1024x2048 .f32) (xs0 : Vec Ideal S1024x2048 .bf16) :
    out0_B_4 c i arg2 h2 arg3 h3 arg4 h4 arg5 h5 arg6 h6 arg7 h7 hc0 hc1 x0 x1 x2 x3 xo4 xs0 = oBlk xo4 xs0 x2 x3 := by
  unfold out0_B_4
  rw [View.read_writes_junk_eq_canon]
  unfold kernelRun0_B
  dsimp only
  rw [View.canon_unit_zero hz2]
  simp only [View.readAt_eq_ld, h4.read_unread, h5.read_unread, h6.read_unread, h7.read_unread, View.ld_unit_zero (S := S1024x2048) hz2, View.ld_unit_zero (S := S2048x1024) hz2]
  funext y
  rw [← ix2_eta y]
  exact pay2_apply _ _ _ _ _ _

theorem soutA_eq (hc0 : cond0_0 i) (hc1 : ¬cond0_1 i) :
    sout0_A_0 c i arg2 h2 arg3 h3 arg4 h4 arg5 h5 arg6 h6 arg7 h7 hc0 hc1 x0 x1 x2 x3 = hBlk x0 x1 := by
  unfold sout0_A_0
  rw [View.read_writes_junk_eq_canon]
  funext y
  refine View.canon_apply_of_pieces (hBlk x0 x1) _ (View.PiecesOf.mem ?_) y (scover0_A_0 c i arg2 h2 arg3 h3 arg4 h4 arg5 h5 arg6 h6 arg7 h7 hc0 hc1 x0 x1 x2 x3 y)
  unfold kernelRun0_A
  dsimp only
  sl_unfold_words
  simp only [View.readAt_eq_ld, h2.read_unread, h3.read_unread, View.ld_unit_zero (S := S1x2048) hz2]
  exact ⟨fun x => (congrFun (pay15_eq _ _) x).trans (rms_at x0 x1 768 _ x), fun x => (congrFun (pay12_eq _ _) x).trans (rms_at x0 x1 512 _ x),
    fun x => (congrFun (pay9_eq _ _) x).trans (rms_at x0 x1 256 _ x), fun x => (congrFun (pay4_eq _ _) x).trans (rms_at x0 x1 0 _ x), trivial⟩

theorem outA_eq (hc0 : cond0_0 i) (hc1 : ¬cond0_1 i) :
    out0_A_4 c i arg2 h2 arg3 h3 arg4 h4 arg5 h5 arg6 h6 arg7 h7 hc0 hc1 x0 x1 x2 x3 = oBlk x0 (hBlk x0 x1) x2 x3 := by
  unfold out0_A_4
  rw [View.read_writes_junk_eq_canon]
  funext y
  refine View.canon_apply_of_pieces (oBlk x0 (hBlk x0 x1) x2 x3) _ (View.PiecesOf.mem ?_) y (cover0_A_4 c i arg2 h2 arg3 h3 arg4 h4 arg5 h5 arg6 h6 arg7 h7 hc0 hc1 x0 x1 x2 x3 y)
  unfold kernelRun0_A
  dsimp only
  sl_unfold_words
  simp only [View.readAt_eq_ld, h2.read_unread, h3.read_unread, h4.read_unread, h5.read_unread, View.ld_unit_zero (S := S1x2048) hz2, View.ld_unit_zero (S := S1024x2048) hz2, View.ld_unit_zero (S := S2048x1024) hz2]
  exact ⟨fun x => (congrFun (pay1_eq _ _ _ _) x).trans (o_at x0 x1 x2 x3 768 _ x), fun x => (congrFun (pay13_eq _ _ _ _) x).trans (o_at x0 x1 x2 x3 512 _ x),
    fun x => (congrFun (pay10_eq _ _ _ _) x).trans (o_at x0 x1 x2 x3 256 _ x), fun x => o_at x0 x1 x2 x3 0 _ x, trivial⟩
end

end Cert.Kernel2Ideal.Val

end
-- ==== Proof.MlpArr.lean ====
/-
  The feed-forward call: what the output block holds after every point, and the array the call leaves.
-/
module

public import proofs.«01_k».proof.Proof.Gen.Kernel2Ideal.Value
public import proofs.«01_k».proof.Proof.MlpBlock
public import Idealize.ShloMosaic.Lib.Pipeline.Value

@[expose] public section

noncomputable section

namespace Cert.Kernel2Ideal.Val

open Cert.Kernel2Ideal Cert.Kernel2Ideal.Gen Idealize.ShloMosaic Idealize.ShloMosaic.TcCoe Cert.Mix Idealize.SL.Sem
open Cert.Kernel2Ideal.Value

theorem idx0 : ∀ t : Fin cfg0.N, win0_0.index t (0 : Fin 2) = t.val / 8 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 8 := (by decide +kernel : ∀ t : Fin grid0.N, _)
theorem idx3 : ∀ t : Fin cfg0.N, win0_3.index t (0 : Fin 2) = t.val % 8 ∧ win0_3.index t (1 : Fin 2) = 0 := (by decide +kernel : ∀ t : Fin grid0.N, _)
theorem idx4 : ∀ t : Fin cfg0.N, win0_4.index t (0 : Fin 2) = t.val / 8 ∧ win0_4.index t (1 : Fin 2) = 0 := (by decide +kernel : ∀ t : Fin grid0.N, _)

variable (m : (ℓ : Loc nD τ sig) → Buf (Elt Ideal) ℓ) (ρ : Dev nD → PrngReg)

/-- The arguments' arrays, by name. -/
abbrev X (c : Dev nD) : Vec Ideal S32768x2048 .f32 := m ((c : Thread nD τ).loc main_arg0)
abbrev G (c : Dev nD) : Vec Ideal S1x2048 .f32 := m ((c : Thread nD τ).loc main_arg1)
abbrev WU (c : Dev nD) : Vec Ideal S2048x8192 .bf16 := m ((c : Thread nD τ).loc main_arg2)
abbrev WD (c : Dev nD) : Vec Ideal S8192x2048 .bf16 := m ((c : Thread nD τ).loc main_arg3)

/-- The row of the argument that row `r` of point `t`'s block is. -/
def row (t : Nat) (r : Fin 1024) : Fin 32768 := ⟨(1024 * (t / 8) + r.val) % 32768, Nat.mod_lt _ (by decide)⟩
/-- The hidden unit at place `n`. -/
def unit (n : Nat) : Fin 8192 := ⟨n % 8192, Nat.mod_lt _ (by decide)⟩

theorem iblk0_at (c : Dev nD) (t : Fin cfg0.N) (r : Fin 1024) (k : Fin 2048) :
    iblk m c 0 t (ix2 r k) = X m c (ix2 (row t.val r) k) := by
  have hN := lt_of_lt_of_eq t.isLt (show cfg0.N = 256 from N_0)
  obtain ⟨e0, e1⟩ := idx0 t
  show V m c main_arg0 (((cfg0.win 0).blk t).view.emb (ix2 r k)) = _
  rw [V_main_arg0]
  refine congrArg (X m c) (funext fun a => Fin.ext ?_)
  match a with
  | ⟨0, _⟩ => show win0_0.index t (0 : Fin 2) * 1024 + 1 * r.val = (1024 * (t.val / 8) + r.val) % 32768; omega
  | ⟨1, _⟩ => show win0_0.index t (1 : Fin 2) * 2048 + 1 * k.val = k.val; omega

theorem iblk1_at (c : Dev nD) (t : Fin cfg0.N) (k : Fin 2048) :
    iblk m c 1 t (ix2 0 k) = G m c (ix2 0 k) := by
  obtain ⟨e0, e1⟩ := idx1 t
  show V m c main_arg1 (((cfg0.win 1).blk t).view.emb (ix2 0 k)) = _
  rw [V_main_arg1]
  refine congrArg (G m c) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

theorem iblk2_at (c : Dev nD) (t : Fin cfg0.N) (k : Fin 2048) (j : Fin 1024) :
    iblk m c 2 t (ix2 k j) = WU m c (ix2 k (unit (1024 * (t.val % 8) + j.val))) := by
  obtain ⟨e0, e1⟩ := idx2 t
  show V m c main_arg2 (((cfg0.win 2).blk t).view.emb (ix2 k j)) = _
  rw [V_main_arg2]
  refine congrArg (WU m c) (funext fun a => Fin.ext ?_)
  match a with
  | ⟨0, _⟩ => show win0_2.index t (0 : Fin 2) * 2048 + 1 * k.val = k.val; omega
  | ⟨1, _⟩ => show win0_2.index t (1 : Fin 2) * 1024 + 1 * j.val = (1024 * (t.val % 8) + j.val) % 8192; omega

theorem iblk3_at (c : Dev nD) (t : Fin cfg0.N) (j : Fin 1024) (d : Fin 2048) :
    iblk m c 3 t (ix2 j d) = WD m c (ix2 (unit (1024 * (t.val % 8) + j.val)) d) := by
  obtain ⟨e0, e1⟩ := idx3 t
  show V m c main_arg3 (((cfg0.win 3).blk t).view.emb (ix2 j d)) = _
  rw [V_main_arg3]
  refine congrArg (WD m c) (funext fun a => Fin.ext ?_)
  match a with
  | ⟨0, _⟩ => show win0_3.index t (0 : Fin 2) * 1024 + 1 * j.val = (1024 * (t.val % 8) + j.val) % 8192; omega
  | ⟨1, _⟩ => show win0_3.index t (1 : Fin 2) * 2048 + 1 * d.val = d.val; omega

/-- Hidden unit `n`'s part of the result at row `R`, column `d`. -/
def term (c : Dev nD) (R : Fin 32768) (d : Fin 2048) (n : Nat) : EReal :=
  act (rmsRow (fun k => X m c (ix2 R k)) (fun k => G m c (ix2 0 k))) (fun k => WU m c (ix2 k (unit n))) * WD m c (ix2 (unit n) d)

/-- The result at row `R`, column `d` after the first `q` blocks of hidden units. -/
def part (c : Dev nD) (R : Fin 32768) (d : Fin 2048) (q : Nat) : EReal :=
  X m c (ix2 R d) + ∑ s ∈ Finset.range q, ∑ j : Fin 1024, term m c R d (1024 * s + j.val)

theorem hBlk_at (c : Dev nD) (t : Fin cfg0.N) (r : Fin 1024) (k : Fin 2048) :
    hBlk (iblk m c 0 t) (iblk m c 1 t) (ix2 r k) = rmsRow (fun k => X m c (ix2 (row t.val r) k)) (fun k => G m c (ix2 0 k)) k := by
  show rmsRow (fun k => iblk m c 0 t (ix2 r k)) (fun k => iblk m c 1 t (ix2 0 k)) k = _
  simp only [iblk0_at, iblk1_at]

theorem ff_at (c : Dev nD) (t : Fin cfg0.N) (r : Fin 1024) (d : Fin 2048) (h : Vec Ideal S1024x2048 .bf16)
    (hh : ∀ k, h (ix2 r k) = rmsRow (fun k => X m c (ix2 (row t.val r) k)) (fun k => G m c (ix2 0 k)) k) (xo : Vec Ideal S1024x2048 .f32) :
    oBlk xo h (iblk m c 2 t) (iblk m c 3 t) (ix2 r d) = xo (ix2 r d) + ∑ j : Fin 1024, term m c (row t.val r) d (1024 * (t.val % 8) + j.val) := by
  show xo (ix2 r d) + ffRow (fun k => h (ix2 r k)) (fun k j => iblk m c 2 t (ix2 k j)) (fun j => iblk m c 3 t (ix2 j d)) = _
  simp only [hh, iblk2_at, iblk3_at]
  rfl

/-- After every point: the kept rows are the block's normed rows, the output block the result over the blocks of
    hidden units so far. -/
theorem after (c : Dev nD) : ∀ (n : Nat) (hn : n < cfg0.N),
    (∀ (r : Fin 1024) (k : Fin 2048), (outsAt0 m c n hn).2 (ix2 r k) = rmsRow (fun k => X m c (ix2 (row n r) k)) (fun k => G m c (ix2 0 k)) k)
    ∧ ∀ (r : Fin 1024) (d : Fin 2048), (outsAt0 m c n hn).1 (ix2 r d) = part m c (row n r) d (n % 8 + 1) := by
  intro n
  induction n with
  | zero =>
    intro hn
    have e := outsAt0_A m c ⟨0, hn⟩ (Nat.zero_mod 8) (by show ¬ 1 ≤ 0 % 8; omega)
    rw [outA_eq, soutA_eq] at e
    have h2 := hBlk_at m c ⟨0, hn⟩
    constructor
    · intro r k; rw [show outsAt0 m c 0 hn = _ from e]; exact h2 r k
    · intro r d; rw [show outsAt0 m c 0 hn = _ from e]
      refine (ff_at m c ⟨0, hn⟩ r d _ (h2 r) _).trans ?_
      rw [iblk0_at, part, Finset.sum_range_one]
      rfl
  | succ n ih =>
    intro hn
    have hN := lt_of_lt_of_eq hn (show cfg0.N = 256 from N_0)
    by_cases h0 : (n + 1) % 8 = 0
    · have e := outsAt0_A m c ⟨n + 1, hn⟩ h0 (by show ¬ 1 ≤ (n + 1) % 8; omega)
      rw [outA_eq, soutA_eq] at e
      have h2 := hBlk_at m c ⟨n + 1, hn⟩
      constructor
      · intro r k; rw [show outsAt0 m c (n + 1) hn = _ from e]; exact h2 r k
      · intro r d; rw [show outsAt0 m c (n + 1) hn = _ from e]
        refine (ff_at m c ⟨n + 1, hn⟩ r d _ (h2 r) _).trans ?_
        rw [iblk0_at, part]
        simp only [h0]
        rw [zero_add, Finset.sum_range_one]
    · have e := outsAt0_B m c ⟨n + 1, hn⟩ h0 (by show 1 ≤ (n + 1) % 8; omega)
      rw [outB_eq] at e
      obtain ⟨i2, i1⟩ := ih (Nat.lt_of_succ_lt hn)
      have hr : ∀ r, row n r = row (n + 1) r := fun r => Fin.ext (by
        show (1024 * (n / 8) + r.val) % 32768 = (1024 * ((n + 1) / 8) + r.val) % 32768
        have : n / 8 = (n + 1) / 8 := by omega
        rw [this])
      have h2 : ∀ r k, (outsAt0 m c (n + 1) hn).2 (ix2 r k) = rmsRow (fun k => X m c (ix2 (row (n + 1) r) k)) (fun k => G m c (ix2 0 k)) k := by
        intro r k; rw [show outsAt0 m c (n + 1) hn = _ from e, ← hr]; exact i2 r k
      refine ⟨h2, ?_⟩
      intro r d; rw [show outsAt0 m c (n + 1) hn = _ from e]
      refine (ff_at m c ⟨n + 1, hn⟩ r d _ (fun k => ?_) _).trans ?_
      · show (outsAt0 m c n _).2 (ix2 r k) = rmsRow (fun k => X m c (ix2 (row (n + 1) r) k)) (fun k => G m c (ix2 0 k)) k
        rw [← hr]; exact i2 r k
      · have i1' : (outsAt0 m c n (Nat.lt_of_succ_lt hn)).1 (ix2 r d) = part m c (row (n + 1) r) d (n % 8 + 1) := by rw [← hr]; exact i1 r d
        show (outsAt0 m c n _).1 (ix2 r d) + _ = _
        rw [i1', part, part, show (n + 1) % 8 = n % 8 + 1 by omega, Finset.sum_range_succ _ (n % 8 + 1), ← add_assoc]

/-- The result array: every row's feed-forward over all 8 blocks. -/
def out (c : Dev nD) : Vec Ideal S32768x2048 .f32 := fun i => part m c (i 0) (i 1) 8

theorem flushed_eq (c : Dev nD) (t : Fin cfg0.N) (hf : (cfg0.win 4).flush t = true) :
    (dats m 0 c).flushed 4 t = ((cfg0.win 4).blk t).view.read (Elt Ideal) (out m c) := by
  have hN := lt_of_lt_of_eq t.isLt (show cfg0.N = 256 from N_0)
  have h7 : t.val % 8 = 7 := (flush0_4 t).mp hf
  obtain ⟨e0, e1⟩ := idx4 t
  rw [flushed4]
  funext j
  obtain ⟨r, d, rfl⟩ : ∃ r d, j = ix2 (n0 := 1024) (n1 := 2048) r d := ⟨j 0, j 1, (ix2_eta (n0 := 1024) (n1 := 2048) j).symm⟩
  show (outsAt0 m c t.val t.isLt).1 (ix2 r d) = out m c (((cfg0.win 4).blk t).view.emb (ix2 r d))
  have he : ((cfg0.win 4).blk t).view.emb (ix2 r d) = (ix2 (row t.val r) d : S32768x2048.Idx) := by
    funext a; apply Fin.ext
    match a with
    | ⟨0, _⟩ => show win0_4.index t (0 : Fin 2) * 1024 + 1 * r.val = (1024 * (t.val / 8) + r.val) % 32768; omega
    | ⟨1, _⟩ => show win0_4.index t (1 : Fin 2) * 2048 + 1 * d.val = d.val; omega
  rw [he, (after m c t.val t.isLt).2 r d, h7]
  rfl

theorem covered (i : S32768x2048.Idx) : ∃ t : Fin cfg0.N, (cfg0.win 4).flush t = true ∧ i ∈ ((cfg0.win 4).blk t).view.set := by
  have hi : (i 0).val < 32768 := (i 0).isLt
  have ht : 8 * ((i 0).val / 1024) + 7 < cfg0.N := by rw [show cfg0.N = 256 from N_0]; omega
  obtain ⟨e0, e1⟩ := idx4 ⟨_, ht⟩
  refine ⟨⟨_, ht⟩, (flush0_4 _).mpr (by show (8 * ((i 0).val / 1024) + 7) % 8 = 7; omega), ?_⟩
  have h := ((cfg0.win 4).blk ⟨_, ht⟩).view.emb_mem_set (ix2 (n0 := 1024) (n1 := 2048) ⟨(i 0).val % 1024, Nat.mod_lt _ (by decide)⟩ (i 1))
  have he : ((cfg0.win 4).blk ⟨_, ht⟩).view.emb (ix2 (n0 := 1024) (n1 := 2048) ⟨(i 0).val % 1024, Nat.mod_lt _ (by decide)⟩ (i 1)) = i := by
    funext a; apply Fin.ext
    match a with
    | ⟨0, _⟩ => show win0_4.index ⟨_, ht⟩ (0 : Fin 2) * 1024 + 1 * ((i 0).val % 1024) = (i 0).val; dsimp only at e0; omega
    | ⟨1, _⟩ => show win0_4.index ⟨_, ht⟩ (1 : Fin 2) * 2048 + 1 * (i 1).val = (i 1).val; omega
  rwa [he] at h

theorem final (c : Dev nD) : (dats m 0 c).arrAt 4 cfg0.N = out m c :=
  (dats m 0 c).arrAt_eq_of_cover 4 (out m c) (fun t hf => flushed_eq m c t hf) covered

end Cert.Kernel2Ideal.Val

end
-- ==== Proof.MlpRef.lean ====
/-
  The feed-forward call's reference at an index: the row's norm, the squared-ReLU feed-forward over the whole hidden
  width, and that width taken in 8 blocks of 1024.
-/
module

public import proofs.«01_k».proof.Proof.Gen.Reference2Ideal.Read
public import proofs.«01_k».proof.Proof.MlpPay
public import Idealize.ShloMosaic.Lib.Pointwise

@[expose] public section

noncomputable section

namespace Cert.Mix

open Idealize.ShloMosaic

/-- A sum over `b * n` places, taken block by block. -/
theorem sum_blocks (b : Nat) (f : Nat → EReal) : ∀ n : Nat,
    ∑ k ∈ Finset.range (b * n), f k = ∑ s ∈ Finset.range n, ∑ j : Fin b, f (b * s + j.val)
  | 0 => by simp
  | n + 1 => by
    rw [Nat.mul_succ, Finset.sum_range_add, sum_blocks b f n, Finset.sum_range_succ, Finset.sum_range (fun x => f (b * n + x))]

theorem sum_fin_blocks (b n N : Nat) (hN : N = b * n) (f : Nat → EReal) :
    ∑ k : Fin N, f k.val = ∑ s ∈ Finset.range n, ∑ j : Fin b, f (b * s + j.val) := by
  subst hN; rw [← Finset.sum_range, sum_blocks]

end Cert.Mix

namespace Cert.Reference2Ideal.Val

open Cert.Reference2Ideal Cert.Reference2Ideal.Gen Cert.Reference2Ideal.Read Idealize.ShloMosaic Cert.Mix

theorem norm_apply (x0 : Vec Ideal S32768x2048 .f32) (x1 : Vec Ideal S1x2048 .f32) (r : Fin 32768) (d : Fin 2048) :
    val_main_v11 x0 x1 (ix2 r d) = rmsRow (fun k => x0 (ix2 r k)) (fun k => x1 (ix2 0 k)) d := by
  pointwise [val_main_v11, rmsRow, val_main_v10, val_main_v9, val_main_v8, val_main_v7, val_main_v6, val_main_v5, val_main_cst_1, val_main_v4, val_main_v3, val_main_cst_0, val_main_v2, val_main_v1, val_main_cst, val_main_v0]

theorem ref_apply (x0 : Vec Ideal S32768x2048 .f32) (x1 : Vec Ideal S1x2048 .f32) (x2 : Vec Ideal S2048x8192 .bf16) (x3 : Vec Ideal S8192x2048 .bf16) (r : Fin 32768) (d : Fin 2048) :
    val_main_v18 x0 x1 x2 x3 (ix2 r d) = x0 (ix2 r d) + ∑ j : Fin 8192, act (rmsRow (fun k => x0 (ix2 r k)) (fun k => x1 (ix2 0 k))) (fun k => x2 (ix2 k j)) * x3 (ix2 j d) := by
  unfold val_main_v18 val_main_v17 val_main_v15 val_main_v14 val_main_v13
  have hn := norm_apply x0 x1 r
  generalize val_main_v11 (F := Ideal) x0 x1 = h at hn ⊢
  pointwise [act, val_main_v12, val_main_v16, val_main_call0_v0, val_main_call0_cst]
  simp only [hn]

end Cert.Reference2Ideal.Val

end
-- ==== Proof.MlpClaim.lean ====
/-
  The feed-forward call: its result is the reference's, for all arguments.
-/
module

public import proofs.«01_k».proof.Defs
public import proofs.«01_k».proof.Proof.MlpArr
public import proofs.«01_k».proof.Proof.MlpRef
public import proofs.«01_k».proof.Proof.Gen.Kernel2Ideal
public import proofs.«01_k».proof.Proof.Gen.Reference2Ideal

@[expose] public section

noncomputable section

namespace Cert.Mix

open Idealize.ShloMosaic Idealize.ShloMosaic.TcCoe Idealize.SL.Sem

theorem mlp_value (m : (ℓ : Loc Cert.Kernel2Ideal.nD Cert.Kernel2Ideal.τ Cert.Kernel2Ideal.sig) → Buf (Elt Ideal) ℓ) (c : Dev Cert.Kernel2Ideal.nD) :
    Cert.Kernel2Ideal.Val.out m c
      = Cert.Reference2Ideal.Read.val_main_v18 (F := Ideal) (Cert.Kernel2Ideal.Val.X m c) (Cert.Kernel2Ideal.Val.G m c) (Cert.Kernel2Ideal.Val.WU m c) (Cert.Kernel2Ideal.Val.WD m c) := by
  funext i
  obtain ⟨r, d, rfl⟩ : ∃ r d, i = ix2 (n0 := 32768) (n1 := 2048) r d := ⟨i 0, i 1, (ix2_eta (n0 := 32768) (n1 := 2048) i).symm⟩
  refine Eq.trans ?_ (Cert.Reference2Ideal.Val.ref_apply _ _ _ _ r d).symm
  show Cert.Kernel2Ideal.Val.part m c r d 8 = _
  unfold Cert.Kernel2Ideal.Val.part
  rw [← sum_fin_blocks 1024 8 8192 rfl]
  refine congrArg _ (Finset.sum_congr rfl fun j _ => ?_)
  have hu : Cert.Kernel2Ideal.Val.unit j.val = j := Fin.ext (Nat.mod_eq_of_lt j.isLt)
  unfold Cert.Kernel2Ideal.Val.term
  rw [hu]

theorem algebraic2 : Cert.algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Val.out m c, ?_, ?_⟩
  · exact (θ_run _ _ _).mono (fun r h c => ⟨(h c).1.trans (Cert.Kernel2Ideal.Val.final m c), (h c).2⟩) (Cert.Kernel2Ideal.Value.run_blocks m g)
  · refine (θ_run _ _ _).mono (fun r h c => ⟨?_, (h c).2⟩) (Cert.Reference2Ideal.Value.run m' g')
    obtain ⟨h0, h1, h2, h3⟩ := hag c
    refine (h c).1.trans ?_
    rw [h0, h1, h2, h3]
    exact (mlp_value m c).symm

end Cert.Mix

end
-- ==== Proof.PlePay.lean ====
/-
  The gated per-layer embedding call: what its payloads are at an index, and what a point leaves in its output block.
-/
module

public import proofs.«01_k».proof.Proof.Gen.Kernel3Ideal.Frame
public import proofs.«01_k».proof.Proof.MlpPay
public import Idealize.ShloMosaic.Lib.Pointwise
public import Idealize.ShloMosaic.Lib.Pipeline.ReadBack

@[expose] public section

set_option maxRecDepth 16384

noncomputable section

namespace Cert.Mix

open Idealize.ShloMosaic

/-- A row plus its gated embedding: the gate is the logistic of the normed row's product, the embedding the product of `p`. -/
def gateRow (x g : Fin 2048 → EReal) (p : Fin 256 → EReal) (wg : Fin 2048 → Fin 2048 → EReal) (wp : Fin 256 → Fin 2048 → EReal) (d : Fin 2048) : EReal :=
  x d + Ideal.logistic (∑ k : Fin 2048, rmsRow x g k * wg k d) * ∑ k : Fin 256, p k * wp k d

end Cert.Mix

namespace Cert.Kernel3Ideal.Val

open Cert.Kernel3Ideal Cert.Kernel3Ideal.Gen Idealize.ShloMosaic Cert.Mix

theorem pay2_apply (v0 : Vec Ideal S256x2048 .f32) (v14 : Vec Ideal S1x2048 .f32) (r : Fin 256) (c : Fin 2048) :
    k0_pay2 v0 v14 (ix2 r c) = rmsRow (fun k => v0 (ix2 r k)) (fun k => v14 (ix2 0 k)) c := by
  pointwise [k0_pay2, rmsRow]

theorem pay8_apply (v17 : Vec Ideal S256x2048 .bf16) (v60 : Vec Ideal S2048x2048 .bf16) (r : Fin 256) (c : Fin 2048) :
    k0_pay8 v17 v60 (ix2 r c) = ∑ k : Fin 2048, v17 (ix2 r k) * v60 (ix2 k c) := by
  pointwise [k0_pay8]

theorem pay9_apply (v62 : Vec Ideal S256x256 .f32) (v64 : Vec Ideal S256x2048 .bf16) (r : Fin 256) (c : Fin 2048) :
    k0_pay9 v62 v64 (ix2 r c) = ∑ k : Fin 256, v62 (ix2 r k) * v64 (ix2 k c) := by
  pointwise [k0_pay9]

theorem pay16_apply (v0 v61 v65 : Vec Ideal S256x2048 .f32) (v97 : Vec Ideal S1x2048 .f32) (r : Fin 256) (c : Fin 2048) :
    k0_pay16 v0 v61 v65 v97 (ix2 r c)
      = rmsRow (fun d => v0 (ix2 r d) + Ideal.logistic (v61 (ix2 r d)) * v65 (ix2 r d)) (fun k => v97 (ix2 0 k)) c := by
  pointwise [k0_pay16, rmsRow]

/-- One row piece of the block. -/
def piece (v0 : Vec Ideal S256x2048 .f32) (v62 : Vec Ideal S256x256 .f32) (v14 v97 : Vec Ideal S1x2048 .f32) (v60 : Vec Ideal S2048x2048 .bf16) (v64 : Vec Ideal S256x2048 .bf16) :
    Vec Ideal S256x2048 .f32 := k0_pay16 v0 (k0_pay8 (k0_pay2 v0 v14) v60) (k0_pay9 v62 v64) v97

theorem piece_apply (v0 : Vec Ideal S256x2048 .f32) (v62 : Vec Ideal S256x256 .f32) (v14 v97 : Vec Ideal S1x2048 .f32) (v60 : Vec Ideal S2048x2048 .bf16) (v64 : Vec Ideal S256x2048 .bf16)
    (r : Fin 256) (c : Fin 2048) :
    piece v0 v62 v14 v97 v60 v64 (ix2 r c)
      = rmsRow (gateRow (fun k => v0 (ix2 r k)) (fun k => v14 (ix2 0 k)) (fun k => v62 (ix2 r k)) (fun k d => v60 (ix2 k d)) (fun k d => v64 (ix2 k d))) (fun k => v97 (ix2 0 k)) c := by
  unfold piece gateRow
  rw [pay16_apply]
  simp only [pay8_apply, pay9_apply, pay2_apply]

theorem piece1 (v1 : Vec Ideal S256x2048 .f32) (v68 : Vec Ideal S256x256 .f32) (v28 v114 : Vec Ideal S1x2048 .f32) (v66 : Vec Ideal S2048x2048 .bf16) (v70 : Vec Ideal S256x2048 .bf16) :
    k0_pay19 (k0_pay17 v1 (k0_pay10 (k0_pay3 v1 v28) v66) (k0_pay11 v68 v70)) (k0_pay18 v1 (k0_pay10 (k0_pay3 v1 v28) v66) (k0_pay11 v68 v70)) v114
      = piece v1 v68 v28 v114 v66 v70 := rfl
theorem piece2 (v2 : Vec Ideal S256x2048 .f32) (v74 : Vec Ideal S256x256 .f32) (v42 v131 : Vec Ideal S1x2048 .f32) (v72 : Vec Ideal S2048x2048 .bf16) (v76 : Vec Ideal S256x2048 .bf16) :
    k0_pay20 v2 (k0_pay12 (k0_pay6 v2 (k0_pay4 v2) k0_pay5 v42) v72) (k0_pay13 v74 v76) v131 = piece v2 v74 v42 v131 v72 v76 := rfl
theorem piece3 (v3 : Vec Ideal S256x2048 .f32) (v80 : Vec Ideal S256x256 .f32) (v56 v148 : Vec Ideal S1x2048 .f32) (v78 : Vec Ideal S2048x2048 .bf16) (v82 : Vec Ideal S256x2048 .bf16) :
    k0_pay1 (k0_pay21 v3 (k0_pay14 (k0_pay7 v3 v56) v78) (k0_pay15 v80 v82)) (k0_pay22 v148) = piece v3 v80 v56 v148 v78 v82 := rfl

theorem hz2 : (![0, 0] : Fin 2 → Nat) = fun _ => 0 := by
  funext a; match a with | ⟨0, _⟩ => rfl | ⟨1, _⟩ => rfl

/-- What a point leaves in its output block. -/
def oBlk (x0 : Vec Ideal S1024x2048 .f32) (x1 : Vec Ideal S1024x256 .f32) (x2 x3 : Vec Ideal S1x2048 .f32) (x4 : Vec Ideal S2048x2048 .bf16) (x5 : Vec Ideal S256x2048 .bf16)
    (y : S1024x2048.Idx) : EReal :=
  rmsRow (gateRow (fun k => x0 (ix2 (y 0) k)) (fun k => x2 (ix2 0 k)) (fun k => x1 (ix2 (y 0) k)) (fun k d => x4 (ix2 k d)) (fun k d => x5 (ix2 k d))) (fun k => x3 (ix2 0 k)) (y 1)

theorem ld0_at (x0 : Vec Ideal S1024x2048 .f32) (o : Nat) (h : ∀ a, (![o, 0] : Fin 2 → Nat) a + S256x2048.size a ≤ S1024x2048.size a) (r : Fin 256) (k q : Fin 2048) :
    View.ld x0 (Rect.unit (s := S1024x2048) ![o, 0] S256x2048.size h) (ix2 r k)
      = x0 (ix2 ((Rect.unit (s := S1024x2048) ![o, 0] S256x2048.size h).emb (ix2 r q) 0) k) := by
  refine congrArg x0 (funext fun a => Fin.ext ?_)
  match a with
  | ⟨0, _⟩ => rfl
  | ⟨1, _⟩ => show 0 + 1 * k.val = k.val; omega

theorem ld1_at (x1 : Vec Ideal S1024x256 .f32) (o : Nat) (h : ∀ a, (![o, 0] : Fin 2 → Nat) a + S256x2048.size a ≤ S1024x2048.size a) (h' : ∀ a, (![o, 0] : Fin 2 → Nat) a + S256x256.size a ≤ S1024x256.size a)
    (r : Fin 256) (k : Fin 256) (q : Fin 2048) :
    View.ld x1 (Rect.unit (s := S1024x256) ![o, 0] S256x256.size h') (ix2 r k)
      = x1 (ix2 ((Rect.unit (s := S1024x2048) ![o, 0] S256x2048.size h).emb (ix2 r q) 0) k) := by
  refine congrArg x1 (funext fun a => Fin.ext ?_)
  match a with
  | ⟨0, _⟩ => rfl
  | ⟨1, _⟩ => show 0 + 1 * k.val = k.val; omega

theorem piece_at (x0 : Vec Ideal S1024x2048 .f32) (x1 : Vec Ideal S1024x256 .f32) (x2 x3 : Vec Ideal S1x2048 .f32) (x4 : Vec Ideal S2048x2048 .bf16) (x5 : Vec Ideal S256x2048 .bf16)
    (o : Nat) (h : ∀ a, (![o, 0] : Fin 2 → Nat) a + S256x2048.size a ≤ S1024x2048.size a) (h' : ∀ a, (![o, 0] : Fin 2 → Nat) a + S256x256.size a ≤ S1024x256.size a) (x : S256x2048.Idx) :
    piece (View.ld x0 (Rect.unit (s := S1024x2048) ![o, 0] S256x2048.size h)) (View.ld x1 (Rect.unit (s := S1024x256) ![o, 0] S256x256.size h')) x2 x3 x4 x5 x
      = oBlk x0 x1 x2 x3 x4 x5 ((Rect.unit (s := S1024x2048) ![o, 0] S256x2048.size h).emb x) := by
  obtain ⟨r, q, rfl⟩ : ∃ r q, x = ix2 r q := ⟨x 0, x 1, (ix2_eta x).symm⟩
  have e1 : (Rect.unit (s := S1024x2048) ![o, 0] S256x2048.size h).emb (ix2 r q) 1 = q := Fin.ext (show 0 + 1 * q.val = q.val by omega)
  rw [piece_apply]
  unfold oBlk
  rw [e1]
  simp only [ld0_at x0 o h r _ q, ld1_at x1 o h h' r _ q]

theorem out_eq (x0 : Vec Ideal S1024x2048 .f32) (x1 : Vec Ideal S1024x256 .f32) (x2 x3 : Vec Ideal S1x2048 .f32) (x4 : Vec Ideal S2048x2048 .bf16) (x5 : Vec Ideal S256x2048 .bf16) :
    out0_6 x0 x1 x2 x3 x4 x5 = oBlk x0 x1 x2 x3 x4 x5 := by
  unfold out0_6 k0_pay24 k0_pay23
  funext y
  refine View.canon_apply_of_pieces (Val := Elt Ideal) (e := .f32) (oBlk x0 x1 x2 x3 x4 x5) _ (View.PiecesOf.mem ?_) y (cover0_6 _ _ _ _ y)
  simp only [View.ld_unit_zero (S := S1x2048) hz2, View.ld_unit_zero (S := S2048x2048) hz2, View.ld_unit_zero (S := S256x2048) hz2]
  exact ⟨fun x => (congrFun (piece3 _ _ _ _ _ _) x).trans (piece_at x0 x1 x2 x3 x4 x5 768 _ _ x),
    fun x => (congrFun (piece2 _ _ _ _ _ _) x).trans (piece_at x0 x1 x2 x3 x4 x5 512 _ _ x),
    fun x => (congrFun (piece1 _ _ _ _ _ _) x).trans (piece_at x0 x1 x2 x3 x4 x5 256 _ _ x),
    fun x => piece_at x0 x1 x2 x3 x4 x5 0 _ _ x, trivial⟩

end Cert.Kernel3Ideal.Val

end
-- ==== Proof.PleRef.lean ====
/-
  The gated per-layer embedding call's reference at an index.
-/
module

public import proofs.«01_k».proof.Proof.Gen.Reference3Ideal.Read
public import proofs.«01_k».proof.Proof.PlePay
public import Idealize.ShloMosaic.Lib.Pointwise

@[expose] public section

noncomputable section

namespace Cert.Reference3Ideal.Val

open Cert.Reference3Ideal Cert.Reference3Ideal.Gen Cert.Reference3Ideal.Read Idealize.ShloMosaic Cert.Mix

theorem norm_apply (x0 : Vec Ideal S32768x2048 .f32) (x2 : Vec Ideal S1x2048 .f32) (r : Fin 32768) (d : Fin 2048) :
    val_main_v11 x0 x2 (ix2 r d) = rmsRow (fun k => x0 (ix2 r k)) (fun k => x2 (ix2 0 k)) d := by
  pointwise [val_main_v11, rmsRow, val_main_v10, val_main_v9, val_main_v8, val_main_v7, val_main_v6, val_main_v5, val_main_cst_1, val_main_v4, val_main_v3, val_main_cst_0, val_main_v2, val_main_v1, val_main_cst, val_main_v0]

theorem gate_apply (x0 : Vec Ideal S32768x2048 .f32) (x1 : Vec Ideal S32768x256 .f32) (x2 : Vec Ideal S1x2048 .f32) (x4 : Vec Ideal S2048x2048 .bf16) (x5 : Vec Ideal S256x2048 .bf16) (r : Fin 32768) (d : Fin 2048) :
    val_main_v23 x0 x1 x2 x4 x5 (ix2 r d) = gateRow (fun k => x0 (ix2 r k)) (fun k => x2 (ix2 0 k)) (fun k => x1 (ix2 r k)) (fun k d => x4 (ix2 k d)) (fun k d => x5 (ix2 k d)) d := by
  unfold val_main_v23 val_main_v22 val_main_v19 val_main_v17 val_main_v15 val_main_v14 val_main_v13
  have hn := norm_apply x0 x2 r
  generalize val_main_v11 (F := Ideal) x0 x2 = h at hn ⊢
  pointwise [gateRow, Ideal.logistic, val_main_v12, val_main_v16, val_main_v18, val_main_v20, val_main_v21, val_main_cst_2, val_main_cst_3]
  simp only [hn]

theorem ref_apply (x0 : Vec Ideal S32768x2048 .f32) (x1 : Vec Ideal S32768x256 .f32) (x2 x3 : Vec Ideal S1x2048 .f32) (x4 : Vec Ideal S2048x2048 .bf16) (x5 : Vec Ideal S256x2048 .bf16) (r : Fin 32768) (d : Fin 2048) :
    val_main_v35 x0 x1 x2 x3 x4 x5 (ix2 r d) = rmsRow (gateRow (fun k => x0 (ix2 r k)) (fun k => x2 (ix2 0 k)) (fun k => x1 (ix2 r k)) (fun k d => x4 (ix2 k d)) (fun k d => x5 (ix2 k d))) (fun k => x3 (ix2 0 k)) d := by
  unfold val_main_v35 val_main_v33 val_main_v32 val_main_v31 val_main_v30 val_main_v28 val_main_v26 val_main_v25 val_main_v24
  have hn := gate_apply x0 x1 x2 x4 x5 r
  generalize val_main_v23 (F := Ideal) x0 x1 x2 x4 x5 = h at hn ⊢
  pointwise [rmsRow, val_main_v34, val_main_v29, val_main_v27, val_main_cst_4, val_main_cst_5, val_main_cst_6]
  simp only [hn]

end Cert.Reference3Ideal.Val

end
-- ==== Proof.PleClaim.lean ====
/-
  The gated per-layer embedding call: the array it leaves, and that its result is the reference's for all arguments.
-/
module

public import proofs.«01_k».proof.Defs
public import proofs.«01_k».proof.Proof.Gen.Kernel3Ideal.Value
public import proofs.«01_k».proof.Proof.PlePay
public import proofs.«01_k».proof.Proof.PleRef
public import proofs.«01_k».proof.Proof.Gen.Kernel3Ideal
public import proofs.«01_k».proof.Proof.Gen.Reference3Ideal
public import Idealize.ShloMosaic.Lib.Pipeline.Value

@[expose] public section

noncomputable section

namespace Cert.Kernel3Ideal.Val

open Cert.Kernel3Ideal Cert.Kernel3Ideal.Gen Idealize.ShloMosaic Idealize.ShloMosaic.TcCoe Cert.Mix Idealize.SL.Sem
open Cert.Kernel3Ideal.Value

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem flush6 : ∀ t : Fin cfg0.N, (cfg0.win 6).flush t = true := (by decide +kernel : ∀ t : Fin grid0.N, win0_6.flush t = true)

variable (m : (ℓ : Loc nD τ sig) → Buf (Elt Ideal) ℓ) (ρ : Dev nD → PrngReg)

/-- The arguments' arrays, by name. -/
abbrev A0 (c : Dev nD) : Vec Ideal S32768x2048 .f32 := m ((c : Thread nD τ).loc main_arg0)
abbrev A1 (c : Dev nD) : Vec Ideal S32768x256 .f32 := m ((c : Thread nD τ).loc main_arg1)
abbrev A2 (c : Dev nD) : Vec Ideal S1x2048 .f32 := m ((c : Thread nD τ).loc main_arg2)
abbrev A3 (c : Dev nD) : Vec Ideal S1x2048 .f32 := m ((c : Thread nD τ).loc main_arg3)
abbrev A4 (c : Dev nD) : Vec Ideal S2048x2048 .bf16 := m ((c : Thread nD τ).loc main_arg4)
abbrev A5 (c : Dev nD) : Vec Ideal S256x2048 .bf16 := m ((c : Thread nD τ).loc main_arg5)

/-- The row of the argument that row `r` of point `t`'s block is. -/
def row (t : Fin cfg0.N) (r : Fin 1024) : Fin 32768 :=
  ⟨1024 * t.val + r.val, by have := lt_of_lt_of_eq t.isLt (show cfg0.N = 32 from N_0); omega⟩

theorem iblk0_at (c : Dev nD) (t : Fin cfg0.N) (r : Fin 1024) (k : Fin 2048) : iblk m c 0 t (ix2 r k) = A0 m c (ix2 (row t r) k) := by
  obtain ⟨e0, e1⟩ := idx0 t
  show V m c main_arg0 (((cfg0.win 0).blk t).view.emb (ix2 r k)) = _
  rw [V_main_arg0]
  refine congrArg (A0 m c) (funext fun a => Fin.ext ?_)
  match a with
  | ⟨0, _⟩ => show win0_0.index t (0 : Fin 2) * 1024 + 1 * r.val = 1024 * t.val + r.val; omega
  | ⟨1, _⟩ => show win0_0.index t (1 : Fin 2) * 2048 + 1 * k.val = k.val; omega

theorem iblk1_at (c : Dev nD) (t : Fin cfg0.N) (r : Fin 1024) (k : Fin 256) : iblk m c 1 t (ix2 r k) = A1 m c (ix2 (row t r) k) := by
  obtain ⟨e0, e1⟩ := idx1 t
  show V m c main_arg1 (((cfg0.win 1).blk t).view.emb (ix2 r k)) = _
  rw [V_main_arg1]
  refine congrArg (A1 m c) (funext fun a => Fin.ext ?_)
  match a with
  | ⟨0, _⟩ => show win0_1.index t (0 : Fin 2) * 1024 + 1 * r.val = 1024 * t.val + r.val; omega
  | ⟨1, _⟩ => show win0_1.index t (1 : Fin 2) * 256 + 1 * k.val = k.val; omega

theorem iblk2_eq (c : Dev nD) (t : Fin cfg0.N) : iblk m c 2 t = A2 m c := by
  obtain ⟨e0, e1⟩ := idx2 t
  funext j
  show V m c main_arg2 (((cfg0.win 2).blk t).view.emb j) = _
  rw [V_main_arg2]
  refine congrArg (A2 m c) (funext fun a => Fin.ext ?_)
  match a with
  | ⟨0, _⟩ => show win0_2.index t (0 : Fin 2) * 1 + 1 * (j 0).val = (j 0).val; omega
  | ⟨1, _⟩ => show win0_2.index t (1 : Fin 2) * 2048 + 1 * (j 1).val = (j 1).val; omega

theorem iblk3_eq (c : Dev nD) (t : Fin cfg0.N) : iblk m c 3 t = A3 m c := by
  obtain ⟨e0, e1⟩ := idx3 t
  funext j
  show V m c main_arg3 (((cfg0.win 3).blk t).view.emb j) = _
  rw [V_main_arg3]
  refine congrArg (A3 m c) (funext fun a => Fin.ext ?_)
  match a with
  | ⟨0, _⟩ => show win0_3.index t (0 : Fin 2) * 1 + 1 * (j 0).val = (j 0).val; omega
  | ⟨1, _⟩ => show win0_3.index t (1 : Fin 2) * 2048 + 1 * (j 1).val = (j 1).val; omega

theorem iblk4_eq (c : Dev nD) (t : Fin cfg0.N) : iblk m c 4 t = A4 m c := by
  obtain ⟨e0, e1⟩ := idx4 t
  funext j
  show V m c main_arg4 (((cfg0.win 4).blk t).view.emb j) = _
  rw [V_main_arg4]
  refine congrArg (A4 m c) (funext fun a => Fin.ext ?_)
  match a with
  | ⟨0, _⟩ => show win0_4.index t (0 : Fin 2) * 2048 + 1 * (j 0).val = (j 0).val; omega
  | ⟨1, _⟩ => show win0_4.index t (1 : Fin 2) * 2048 + 1 * (j 1).val = (j 1).val; omega

theorem iblk5_eq (c : Dev nD) (t : Fin cfg0.N) : iblk m c 5 t = A5 m c := by
  obtain ⟨e0, e1⟩ := idx5 t
  funext j
  show V m c main_arg5 (((cfg0.win 5).blk t).view.emb j) = _
  rw [V_main_arg5]
  refine congrArg (A5 m c) (funext fun a => Fin.ext ?_)
  match a with
  | ⟨0, _⟩ => show win0_5.index t (0 : Fin 2) * 256 + 1 * (j 0).val = (j 0).val; omega
  | ⟨1, _⟩ => show win0_5.index t (1 : Fin 2) * 2048 + 1 * (j 1).val = (j 1).val; omega

/-- The result array. -/
abbrev out (c : Dev nD) : Vec Ideal S32768x2048 .f32 :=
  Cert.Reference3Ideal.Read.val_main_v35 (F := Ideal) (A0 m c) (A1 m c) (A2 m c) (A3 m c) (A4 m c) (A5 m c)

theorem flushed_eq (c : Dev nD) (t : Fin cfg0.N) :
    (dats m 0 c).flushed 6 t = ((cfg0.win 6).blk t).view.read (Elt Ideal) (out m c) := by
  obtain ⟨e0, e1⟩ := idx6 t
  rw [flushed6, out_eq, iblk2_eq, iblk3_eq, iblk4_eq, iblk5_eq]
  funext j
  obtain ⟨r, d, rfl⟩ : ∃ r d, j = ix2 (n0 := 1024) (n1 := 2048) r d := ⟨j 0, j 1, (ix2_eta (n0 := 1024) (n1 := 2048) j).symm⟩
  show oBlk (iblk m c 0 t) (iblk m c 1 t) (A2 m c) (A3 m c) (A4 m c) (A5 m c) (ix2 r d) = out m c (((cfg0.win 6).blk t).view.emb (ix2 r d))
  have he : ((cfg0.win 6).blk t).view.emb (ix2 r d) = (ix2 (row t r) d : S32768x2048.Idx) := by
    funext a; apply Fin.ext
    match a with
    | ⟨0, _⟩ => show win0_6.index t (0 : Fin 2) * 1024 + 1 * r.val = 1024 * t.val + r.val; omega
    | ⟨1, _⟩ => show win0_6.index t (1 : Fin 2) * 2048 + 1 * d.val = d.val; omega
  rw [he]
  refine Eq.trans ?_ (Cert.Reference3Ideal.Val.ref_apply _ _ _ _ _ _ (row t r) d).symm
  show rmsRow (gateRow (fun k => iblk m c 0 t (ix2 r k)) _ (fun k => iblk m c 1 t (ix2 r k)) _ _) _ d = _
  simp only [iblk0_at, iblk1_at]

theorem covered (i : S32768x2048.Idx) : ∃ t : Fin cfg0.N, (cfg0.win 6).flush t = true ∧ i ∈ ((cfg0.win 6).blk t).view.set := by
  have hi : (i 0).val < 32768 := (i 0).isLt
  have ht : (i 0).val / 1024 < cfg0.N := by rw [show cfg0.N = 32 from N_0]; omega
  obtain ⟨e0, e1⟩ := idx6 ⟨_, ht⟩
  refine ⟨⟨_, ht⟩, flush6 _, ?_⟩
  have h := ((cfg0.win 6).blk ⟨_, ht⟩).view.emb_mem_set (ix2 (n0 := 1024) (n1 := 2048) ⟨(i 0).val % 1024, Nat.mod_lt _ (by decide)⟩ (i 1))
  have he : ((cfg0.win 6).blk ⟨_, ht⟩).view.emb (ix2 (n0 := 1024) (n1 := 2048) ⟨(i 0).val % 1024, Nat.mod_lt _ (by decide)⟩ (i 1)) = i := by
    funext a; apply Fin.ext
    match a with
    | ⟨0, _⟩ => show win0_6.index ⟨_, ht⟩ (0 : Fin 2) * 1024 + 1 * ((i 0).val % 1024) = (i 0).val; dsimp only at e0; omega
    | ⟨1, _⟩ => show win0_6.index ⟨_, ht⟩ (1 : Fin 2) * 2048 + 1 * (i 1).val = (i 1).val; omega
  rwa [he] at h

theorem final (c : Dev nD) : (dats m 0 c).arrAt 6 cfg0.N = out m c :=
  (dats m 0 c).arrAt_eq_of_cover 6 (out m c) (fun t _ => flushed_eq m c t) covered

end Cert.Kernel3Ideal.Val

namespace Cert.Mix

open Idealize.ShloMosaic Idealize.ShloMosaic.TcCoe Idealize.SL.Sem

theorem algebraic3 : Cert.algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Val.out m c, ?_, ?_⟩
  · exact (θ_run _ _ _).mono (fun r h c => ⟨(h c).1.trans (Cert.Kernel3Ideal.Val.final m c), (h c).2⟩) (Cert.Kernel3Ideal.Value.run_blocks m g)
  · refine (θ_run _ _ _).mono (fun r h c => ⟨?_, (h c).2⟩) (Cert.Reference3Ideal.Value.run m' g')
    obtain ⟨h0, h1, h2, h3, h4, h5⟩ := hag c
    refine (h c).1.trans ((Cert.Reference3Ideal.Read.val_main_v35_eq (F := Ideal) m' c).trans ?_)
    rw [h0, h1, h2, h3, h4, h5]

end Cert.Mix

end
-- ==== Proof.InprojPay.lean ====
/-
  The input projection call: what its payloads are at an index, and what a point leaves in each of its output blocks.
-/
module

public import proofs.«01_k».proof.Proof.Gen.Kernel4Ideal.Frame
public import proofs.«01_k».proof.Proof.MlpPay
public import Idealize.ShloMosaic.Lib.Pointwise
public import Idealize.ShloMosaic.Lib.Pipeline.ReadBack
public import Idealize.ShloMosaic.Lib.Claim

@[expose] public section

set_option maxRecDepth 16384

noncomputable section

namespace Cert.Mix

/-- The column of the input weight a column of the projection array comes from: the two gates first, then values, output
    gate, window queries, chunk queries and keys, window keys and values. -/
def srcCol (c : Nat) : Nat :=
  if c < 4096 then c + 4624 else if c < 6144 then c - 3072 else if c < 7168 then c - 3056 else if c < 8192 then c - 7168 else c - 4080

theorem srcCol_lt (c : Nat) (h : c < 8704) : srcCol c < 8720 := by unfold srcCol; split_ifs <;> omega

/-- The gates' columns pass through the logistic function. -/
def gateAt (c : Nat) (s : EReal) : EReal := if c < 4096 then Idealize.ShloMosaic.Ideal.logistic s else s

end Cert.Mix

namespace Cert.Kernel4Ideal.Val

open Cert.Kernel4Ideal Cert.Kernel4Ideal.Gen Idealize.ShloMosaic Cert.Mix

theorem pay8_apply (v12 : Vec Ideal S256x2048 .f32) (v23 : Vec Ideal S1x2048 .f32) (r : Fin 256) (c : Fin 2048) :
    k0_pay8 v12 v23 (ix2 r c) = rmsRow (fun k => v12 (ix2 r k)) (fun k => v23 (ix2 0 k)) c := by
  pointwise [k0_pay8, rmsRow]

theorem pay10_apply (u : Vec Ideal S256x2048 .bf16) (w : Vec Ideal S2048x128 .bf16) (r : Fin 256) (c : Fin 128) :
    k0_pay10 u (k0_pay9 w) (ix2 r c) = ∑ k : Fin 2048, u (ix2 r k) * w (ix2 k c) := by
  pointwise [k0_pay10, k0_pay9]

theorem pay11_apply (u : Vec Ideal S256x2048 .bf16) (w : Vec Ideal S2048x512 .bf16) (r : Fin 256) (c : Fin 512) :
    k0_pay11 u w (ix2 r c) = Ideal.logistic (∑ k : Fin 2048, u (ix2 r k) * w (ix2 k c)) := by
  pointwise [k0_pay11]

theorem pay1_apply (u : Vec Ideal S256x2048 .bf16) (w : Vec Ideal S2048x512 .bf16) (r : Fin 256) (c : Fin 512) :
    k0_pay1 u w (ix2 r c) = ∑ k : Fin 2048, u (ix2 r k) * w (ix2 k c) := by
  pointwise [k0_pay1]

theorem pay2_apply (u : Vec Ideal S256x2048 .bf16) (w : Vec Ideal S2048x256 .bf16) (r : Fin 256) (c : Fin 256) :
    k0_pay2 u w (ix2 r c) = ∑ k : Fin 2048, u (ix2 r k) * w (ix2 k c) := by
  pointwise [k0_pay2]

/-- The weight's column behind a column of the projection array, out of its first 3072 columns and its last 5632. -/
def wcol (x2 : Vec Ideal S2048x3072 .bf16) (x3 : Vec Ideal S2048x5632 .bf16) (k : Fin 2048) (c : Nat) : EReal :=
  if h : srcCol c < 3072 then x2 (ix2 k ⟨srcCol c, h⟩)
  else if h' : srcCol c - 3088 < 5632 then x3 (ix2 k ⟨srcCol c - 3088, h'⟩) else 0

/-- What a point leaves in its block of the projection array. -/
def oBlk (x0 : Vec Ideal S256x2048 .f32) (x1 : Vec Ideal S1x2048 .f32) (x2 : Vec Ideal S2048x3072 .bf16) (x3 : Vec Ideal S2048x5632 .bf16)
    (y : S256x8704.Idx) : EReal :=
  gateAt (y 1).val (∑ k : Fin 2048, rmsRow (fun k => x0 (ix2 (y 0) k)) (fun k => x1 (ix2 0 k)) k * wcol x2 x3 k (y 1).val)

theorem wcol_head (x2 : Vec Ideal S2048x3072 .bf16) (x3 : Vec Ideal S2048x5632 .bf16) (n S c : Nat) (h : ∀ a, (![0, S] : Fin 2 → Nat) a + (⟨2, ![2048, n]⟩ : Shape).size a ≤ S2048x3072.size a)
    (k : Fin 2048) (q : Fin n) (hc : srcCol c = S + q.val) (hS : S + n ≤ 3072) :
    View.ld x2 (Rect.unit (s := S2048x3072) ![0, S] (⟨2, ![2048, n]⟩ : Shape).size h) (ix2 k q) = wcol x2 x3 k c := by
  unfold wcol
  rw [dif_pos (by omega)]
  refine congrArg x2 (funext fun a => Fin.ext ?_)
  match a with
  | ⟨0, _⟩ => show 0 + 1 * k.val = k.val; omega
  | ⟨1, _⟩ => show S + 1 * q.val = srcCol c; omega

theorem wcol_tail (x2 : Vec Ideal S2048x3072 .bf16) (x3 : Vec Ideal S2048x5632 .bf16) (n S c : Nat) (h : ∀ a, (![0, S] : Fin 2 → Nat) a + (⟨2, ![2048, n]⟩ : Shape).size a ≤ S2048x5632.size a)
    (k : Fin 2048) (q : Fin n) (hc : srcCol c = S + q.val + 3088) (hS : S + n ≤ 5632) :
    View.ld x3 (Rect.unit (s := S2048x5632) ![0, S] (⟨2, ![2048, n]⟩ : Shape).size h) (ix2 k q) = wcol x2 x3 k c := by
  unfold wcol
  rw [dif_neg (by omega), dif_pos (by omega)]
  refine congrArg x3 (funext fun a => Fin.ext ?_)
  match a with
  | ⟨0, _⟩ => show 0 + 1 * k.val = k.val; omega
  | ⟨1, _⟩ => show S + 1 * q.val = srcCol c - 3088; omega

theorem sig512 (x0 : Vec Ideal S256x2048 .f32) (x1 : Vec Ideal S1x2048 .f32) (x2 : Vec Ideal S2048x3072 .bf16) (x3 : Vec Ideal S2048x5632 .bf16) (w : Vec Ideal S2048x512 .bf16) (D : Nat)
    (h : ∀ a, (![0, D] : Fin 2 → Nat) a + S256x512.size a ≤ S256x8704.size a) (hD : D + 512 ≤ 4096) (hw : ∀ (k : Fin 2048) (q : Fin 512), w (ix2 k q) = wcol x2 x3 k (D + q.val)) (x : S256x512.Idx) :
    k0_pay11 (k0_pay8 x0 x1) w x = oBlk x0 x1 x2 x3 ((Rect.unit (s := S256x8704) ![0, D] S256x512.size h).emb x) := by
  obtain ⟨r, q, rfl⟩ : ∃ r q, x = ix2 r q := ⟨x 0, x 1, (ix2_eta x).symm⟩
  have e0 : (Rect.unit (s := S256x8704) ![0, D] S256x512.size h).emb (ix2 r q) 0 = r := Fin.ext (show 0 + 1 * r.val = r.val by omega)
  have e1 : ((Rect.unit (s := S256x8704) ![0, D] S256x512.size h).emb (ix2 r q) 1).val = D + q.val := (show D + 1 * q.val = D + q.val by omega)
  rw [pay11_apply]
  unfold oBlk gateAt
  rw [e0, e1, if_pos (by omega)]
  simp only [pay8_apply, hw]

theorem pln512 (x0 : Vec Ideal S256x2048 .f32) (x1 : Vec Ideal S1x2048 .f32) (x2 : Vec Ideal S2048x3072 .bf16) (x3 : Vec Ideal S2048x5632 .bf16) (w : Vec Ideal S2048x512 .bf16) (D : Nat)
    (h : ∀ a, (![0, D] : Fin 2 → Nat) a + S256x512.size a ≤ S256x8704.size a) (hD : 4096 ≤ D) (hw : ∀ (k : Fin 2048) (q : Fin 512), w (ix2 k q) = wcol x2 x3 k (D + q.val)) (x : S256x512.Idx) :
    k0_pay1 (k0_pay8 x0 x1) w x = oBlk x0 x1 x2 x3 ((Rect.unit (s := S256x8704) ![0, D] S256x512.size h).emb x) := by
  obtain ⟨r, q, rfl⟩ : ∃ r q, x = ix2 r q := ⟨x 0, x 1, (ix2_eta x).symm⟩
  have e0 : (Rect.unit (s := S256x8704) ![0, D] S256x512.size h).emb (ix2 r q) 0 = r := Fin.ext (show 0 + 1 * r.val = r.val by omega)
  have e1 : ((Rect.unit (s := S256x8704) ![0, D] S256x512.size h).emb (ix2 r q) 1).val = D + q.val := (show D + 1 * q.val = D + q.val by omega)
  rw [pay1_apply]
  unfold oBlk gateAt
  rw [e0, e1, if_neg (by omega)]
  simp only [pay8_apply, hw]

theorem pln256 (x0 : Vec Ideal S256x2048 .f32) (x1 : Vec Ideal S1x2048 .f32) (x2 : Vec Ideal S2048x3072 .bf16) (x3 : Vec Ideal S2048x5632 .bf16) (w : Vec Ideal S2048x256 .bf16) (D : Nat)
    (h : ∀ a, (![0, D] : Fin 2 → Nat) a + S256x256.size a ≤ S256x8704.size a) (hD : 4096 ≤ D) (hw : ∀ (k : Fin 2048) (q : Fin 256), w (ix2 k q) = wcol x2 x3 k (D + q.val)) (x : S256x256.Idx) :
    k0_pay2 (k0_pay8 x0 x1) w x = oBlk x0 x1 x2 x3 ((Rect.unit (s := S256x8704) ![0, D] S256x256.size h).emb x) := by
  obtain ⟨r, q, rfl⟩ : ∃ r q, x = ix2 r q := ⟨x 0, x 1, (ix2_eta x).symm⟩
  have e0 : (Rect.unit (s := S256x8704) ![0, D] S256x256.size h).emb (ix2 r q) 0 = r := Fin.ext (show 0 + 1 * r.val = r.val by omega)
  have e1 : ((Rect.unit (s := S256x8704) ![0, D] S256x256.size h).emb (ix2 r q) 1).val = D + q.val := (show D + 1 * q.val = D + q.val by omega)
  rw [pay2_apply]
  unfold oBlk gateAt
  rw [e0, e1, if_neg (by omega)]
  simp only [pay8_apply, hw]

theorem hz2 : (![0, 0] : Fin 2 → Nat) = fun _ => 0 := by
  funext a; match a with | ⟨0, _⟩ => rfl | ⟨1, _⟩ => rfl

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x3072 .bf16) (harg3 : arg3.IsWhole) (arg4 : Memref sig .tc .vmem S2048x5632 .bf16) (harg4 : arg4.IsWhole) (arg5 : Memref sig .tc .vmem S2048x128 .bf16) (harg5 : arg5.IsWhole) (arg6 : Memref sig .tc .vmem S16x8192 .f32) (harg6 : arg6.IsWhole) (arg7 : Memref sig .tc .vmem S64x2048 .f32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S256x8704 .bf16) (harg10 : arg10.IsWhole) (arg11 : Memref sig .tc .vmem S256x128 .f32) (harg11 : arg11.IsWhole) (arg12 : Memref sig .tc .vmem S16x8192 .bf16) (harg12 : arg12.IsWhole) (arg13 : Memref sig .tc .vmem S64x2048 .bf16) (harg13 : arg13.IsWhole) (arg14 : Memref sig .tc .vmem S16x2048 .bf16) (harg14 : arg14.IsWhole) (arg15 : Memref sig .tc .vmem S16x2048 .bf16) (harg15 : arg15.IsWhole)
  (x0 : Vec Ideal S256x2048 .f32) (x1 : Vec Ideal S1x2048 .f32) (x2 : Vec Ideal S2048x3072 .bf16) (x3 : Vec Ideal S2048x5632 .bf16) (x4 : Vec Ideal S2048x128 .bf16) (x5 : Vec Ideal S16x8192 .f32) (x6 : Vec Ideal S64x2048 .f32) (x7 : Vec Ideal S16x2048 .f32) (x8 : Vec Ideal S16x2048 .f32)

theorem out9_eq : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = oBlk x0 x1 x2 x3 := by
  funext y
  have hcov := cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y
  unfold out0_A_9
  rw [View.read_writes_junk_eq_canon]
  revert hcov
  unfold kernelRun0_A
  dsimp only
  sl_unfold_words
  intro hcov
  refine View.canon_apply_of_pieces (Val := Elt Ideal) (e := .bf16) (oBlk x0 x1 x2 x3) _ (View.PiecesOf.mem ?_) y hcov
  simp only [View.readAt_eq_ld, harg1.read_unread, harg2.read_unread, harg3.read_unread, harg4.read_unread, View.ld_unit_zero (S := S256x2048) hz2, View.ld_unit_zero (S := S1x2048) hz2]
  clear hcov
  exact ⟨fun x => pln256 x0 x1 x2 x3 _ 8448 inb_S256x8704_S256x256_0_8448 (by omega) (fun k q => wcol_tail x2 x3 256 1280 _ inb_S2048x5632_S2048x256_0_1280 k q (by unfold srcCol; split_ifs <;> omega) (by omega)) x,
    fun x => pln256 x0 x1 x2 x3 _ 8192 inb_S256x8704_S256x256_0_8192 (by omega) (fun k q => wcol_tail x2 x3 256 1024 _ inb_S2048x5632_S2048x256_0_1024 k q (by unfold srcCol; split_ifs <;> omega) (by omega)) x,
    fun x => pln512 x0 x1 x2 x3 _ 7680 inb_S256x8704_S256x512_0_7680 (by omega) (fun k q => wcol_head x2 x3 512 512 _ inb_S2048x3072_S2048x512_0_512 k q (by unfold srcCol; split_ifs <;> omega) (by omega)) x,
    fun x => pln512 x0 x1 x2 x3 _ 7168 inb_S256x8704_S256x512_0_7168 (by omega) (fun k q => wcol_head x2 x3 512 0 _ inb_S2048x3072_S2048x512_0_0 k q (by unfold srcCol; split_ifs <;> omega) (by omega)) x,
    fun x => pln512 x0 x1 x2 x3 _ 6656 inb_S256x8704_S256x512_0_6656 (by omega) (fun k q => wcol_tail x2 x3 512 512 _ inb_S2048x5632_S2048x512_0_512 k q (by unfold srcCol; split_ifs <;> omega) (by omega)) x,
    fun x => pln512 x0 x1 x2 x3 _ 6144 inb_S256x8704_S256x512_0_6144 (by omega) (fun k q => wcol_tail x2 x3 512 0 _ inb_S2048x5632_S2048x512_0_0 k q (by unfold srcCol; split_ifs <;> omega) (by omega)) x,
    fun x => pln512 x0 x1 x2 x3 _ 5632 inb_S256x8704_S256x512_0_5632 (by omega) (fun k q => wcol_head x2 x3 512 2560 _ inb_S2048x3072_S2048x512_0_2560 k q (by unfold srcCol; split_ifs <;> omega) (by omega)) x,
    fun x => pln512 x0 x1 x2 x3 _ 5120 inb_S256x8704_S256x512_0_5120 (by omega) (fun k q => wcol_head x2 x3 512 2048 _ inb_S2048x3072_S2048x512_0_2048 k q (by unfold srcCol; split_ifs <;> omega) (by omega)) x,
    fun x => pln512 x0 x1 x2 x3 _ 4608 inb_S256x8704_S256x512_0_4608 (by omega) (fun k q => wcol_head x2 x3 512 1536 _ inb_S2048x3072_S2048x512_0_1536 k q (by unfold srcCol; split_ifs <;> omega) (by omega)) x,
    fun x => pln512 x0 x1 x2 x3 _ 4096 inb_S256x8704_S256x512_0_4096 (by omega) (fun k q => wcol_head x2 x3 512 1024 _ inb_S2048x3072_S2048x512_0_1024 k q (by unfold srcCol; split_ifs <;> omega) (by omega)) x,
    fun x => sig512 x0 x1 x2 x3 _ 3584 inb_S256x8704_S256x512_0_3584 (by omega) (fun k q => wcol_tail x2 x3 512 5120 _ inb_S2048x5632_S2048x512_0_5120 k q (by unfold srcCol; split_ifs <;> omega) (by omega)) x,
    fun x => sig512 x0 x1 x2 x3 _ 3072 inb_S256x8704_S256x512_0_3072 (by omega) (fun k q => wcol_tail x2 x3 512 4608 _ inb_S2048x5632_S2048x512_0_4608 k q (by unfold srcCol; split_ifs <;> omega) (by omega)) x,
    fun x => sig512 x0 x1 x2 x3 _ 2560 inb_S256x8704_S256x512_0_2560 (by omega) (fun k q => wcol_tail x2 x3 512 4096 _ inb_S2048x5632_S2048x512_0_4096 k q (by unfold srcCol; split_ifs <;> omega) (by omega)) x,
    fun x => sig512 x0 x1 x2 x3 _ 2048 inb_S256x8704_S256x512_0_2048 (by omega) (fun k q => wcol_tail x2 x3 512 3584 _ inb_S2048x5632_S2048x512_0_3584 k q (by unfold srcCol; split_ifs <;> omega) (by omega)) x,
    fun x => sig512 x0 x1 x2 x3 _ 1536 inb_S256x8704_S256x512_0_1536 (by omega) (fun k q => wcol_tail x2 x3 512 3072 _ inb_S2048x5632_S2048x512_0_3072 k q (by unfold srcCol; split_ifs <;> omega) (by omega)) x,
    fun x => sig512 x0 x1 x2 x3 _ 1024 inb_S256x8704_S256x512_0_1024 (by omega) (fun k q => wcol_tail x2 x3 512 2560 _ inb_S2048x5632_S2048x512_0_2560 k q (by unfold srcCol; split_ifs <;> omega) (by omega)) x,
    fun x => sig512 x0 x1 x2 x3 _ 512 inb_S256x8704_S256x512_0_512 (by omega) (fun k q => wcol_tail x2 x3 512 2048 _ inb_S2048x5632_S2048x512_0_2048 k q (by unfold srcCol; split_ifs <;> omega) (by omega)) x,
    fun x => sig512 x0 x1 x2 x3 _ 0 inb_S256x8704_S256x512_0_0 (by omega) (fun k q => wcol_tail x2 x3 512 1536 _ inb_S2048x5632_S2048x512_0_1536 k q (by unfold srcCol; split_ifs <;> omega) (by omega)) x,
    trivial⟩

theorem out10_eq (r : Fin 256) (q : Fin 128) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r q) = ∑ k : Fin 2048, rmsRow (fun k => x0 (ix2 r k)) (fun k => x1 (ix2 0 k)) k * x4 (ix2 k q) := by
  unfold out0_A_10
  rw [View.read_writes_junk_eq_canon]
  unfold kernelRun0_A
  dsimp only
  sl_unfold_words
  rw [View.canon_unit_zero hz2]
  simp only [View.readAt_eq_ld, harg1.read_unread, harg2.read_unread, harg5.read_unread, View.ld_unit_zero (S := S256x2048) hz2, View.ld_unit_zero (S := S1x2048) hz2, View.ld_unit_zero (S := S2048x128) hz2]
  rw [pay10_apply]
  simp only [pay8_apply]

theorem out11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = x5 := by
  unfold out0_A_11
  rw [View.read_writes_junk_eq_canon]
  unfold kernelRun0_A
  dsimp only
  sl_unfold_words
  rw [View.canon_unit_zero hz2]
  simp only [View.readAt_eq_ld, harg6.read_unread, View.ld_unit_zero (S := S16x8192) hz2]
  rfl

theorem out12_eq : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = x6 := by
  unfold out0_A_12
  rw [View.read_writes_junk_eq_canon]
  unfold kernelRun0_A
  dsimp only
  sl_unfold_words
  rw [View.canon_unit_zero hz2]
  simp only [View.readAt_eq_ld, harg7.read_unread, View.ld_unit_zero (S := S64x2048) hz2]
  rfl

theorem out13_eq : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = x7 := by
  unfold out0_A_13
  rw [View.read_writes_junk_eq_canon]
  unfold kernelRun0_A
  dsimp only
  sl_unfold_words
  rw [View.canon_unit_zero hz2]
  simp only [View.readAt_eq_ld, harg8.read_unread, View.ld_unit_zero (S := S16x2048) hz2]
  rfl

theorem out14_eq : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = x8 := by
  unfold out0_A_14
  rw [View.read_writes_junk_eq_canon]
  unfold kernelRun0_A
  dsimp only
  sl_unfold_words
  rw [View.canon_unit_zero hz2]
  simp only [View.readAt_eq_ld, harg9.read_unread, View.ld_unit_zero (S := S16x2048) hz2]
  rfl

end

end Cert.Kernel4Ideal.Val

end
-- ==== Proof.InprojRef.lean ====
/-
  The input projection call's reference at an index.
-/
module

public import proofs.«01_k».proof.Proof.Gen.Reference4Ideal.Read
public import proofs.«01_k».proof.Proof.InprojPay
public import Idealize.ShloMosaic.Lib.Pointwise

@[expose] public section

noncomputable section

namespace Cert.Reference4Ideal.Val

open Cert.Reference4Ideal Cert.Reference4Ideal.Gen Cert.Reference4Ideal.Read Idealize.ShloMosaic Cert.Mix

theorem norm_apply (x0 : Vec Ideal S32768x2048 .f32) (x1 : Vec Ideal S2048 .f32) (r : Fin 32768) (d : Fin 2048) :
    val_main_v12 x0 x1 (ix2 r d) = rmsRow (fun k => x0 (ix2 r k)) (fun k => x1 (ix1 k)) d := by
  pointwise [val_main_v12, val_main_v11, rmsRow, val_main_v10, val_main_v9, val_main_v8, val_main_v7, val_main_v6, val_main_v5, val_main_cst_1, val_main_v4, val_main_v3, val_main_cst_0, val_main_v2, val_main_v1, val_main_cst, val_main_v0]

theorem proj_apply (x0 : Vec Ideal S32768x2048 .f32) (x1 : Vec Ideal S2048 .f32) (x2 : Vec Ideal S2048x8720 .f32) (r : Fin 32768) (d : Fin 8720) :
    val_main_v13 x0 x1 x2 (ix2 r d) = ∑ k : Fin 2048, rmsRow (fun k => x0 (ix2 r k)) (fun k => x1 (ix1 k)) k * x2 (ix2 k d) := by
  unfold val_main_v13
  have hn := norm_apply x0 x1 r
  generalize val_main_v12 (F := Ideal) x0 x1 = h at hn ⊢
  pointwise []
  simp only [hn]

theorem out_apply (x0 : Vec Ideal S32768x2048 .f32) (x1 : Vec Ideal S2048 .f32) (x2 : Vec Ideal S2048x8720 .f32) (r : Fin 32768) (c : Fin 8704) :
    val_main_v37 x0 x1 x2 (ix2 r c) = gateAt c.val (val_main_v13 x0 x1 x2 (ix2 r ⟨srcCol c.val, srcCol_lt c.val c.isLt⟩)) := by
  unfold val_main_v37 val_main_v36 val_main_v35 val_main_v33 val_main_v31 val_main_v30 val_main_v29 val_main_v27 val_main_v25 val_main_v24 val_main_v23 val_main_v22 val_main_v21 val_main_v20 val_main_v19 val_main_v17 val_main_v16 val_main_v15 val_main_v14
  generalize val_main_v13 (F := Ideal) x0 x1 x2 = h
  pointwise [val_main_v34, val_main_v32, val_main_v28, val_main_v26, val_main_cst_5, val_main_cst_4, val_main_cst_3, val_main_cst_2]
  have key : ∀ (n k : Nat) (hn : n < 8720) (hk : k < 8720), n = k → h (ix2 r ⟨n, hn⟩) = h (ix2 r ⟨k, hk⟩) := by
    intro n k hn hk e; subst e; rfl
  have hc := c.isLt
  have hs : ∀ n : Nat, (hn : n < 8720) → n = srcCol c.val → h (ix2 r ⟨n, hn⟩) = h (ix2 r ⟨srcCol c.val, srcCol_lt c.val c.isLt⟩) := fun n hn e => key _ _ _ _ e
  unfold gateAt
  by_cases h0 : c.val < 4096
  · rw [if_pos h0]
    by_cases h1 : c.val < 2048
    · rw [dif_pos h1]
      exact congrArg Ideal.logistic (hs _ _ (by unfold srcCol; split_ifs <;> omega))
    · rw [dif_neg h1, dif_pos (show c.val - 2048 < 2048 by omega)]
      exact congrArg Ideal.logistic (hs _ _ (by unfold srcCol; split_ifs <;> omega))
  · rw [if_neg h0]
    rw [dif_neg (show ¬ c.val < 2048 by omega), dif_neg (show ¬ c.val - 2048 < 2048 by omega)]
    split_ifs <;> exact hs _ _ (by unfold srcCol; split_ifs <;> omega)

theorem gz_apply (x0 : Vec Ideal S32768x2048 .f32) (x1 : Vec Ideal S2048 .f32) (x2 : Vec Ideal S2048x8720 .f32) (r : Fin 32768) (c : Fin 128) :
    val_main_v38 x0 x1 x2 (ix2 r c) = if h : c.val < 16 then val_main_v13 x0 x1 x2 (ix2 r ⟨3072 + c.val, by omega⟩) else 0 := by
  unfold val_main_v38 val_main_v18
  generalize val_main_v13 (F := Ideal) x0 x1 x2 = h
  pointwise [val_main_call0_v0, val_main_c]
  have e : (FloatOps.sitofp FTy.f32 0#32 : Ideal FTy.f32) = (0 : EReal) := by
    show (((0#32 : BitVec 32).toInt : ℝ) : EReal) = 0
    simp
  rw [e]

end Cert.Reference4Ideal.Val

end
-- ==== Proof.InprojClaim.lean ====
/-
  The input projection call's six result arrays, and the call against its reference.
-/
module

public import proofs.«01_k».proof.Proof.Gen.Kernel4Ideal.Value
public import proofs.«01_k».proof.Proof.Gen.Reference4Ideal.Run
public import proofs.«01_k».proof.Proof.InprojRef
public import proofs.«01_k».proof.Defs

@[expose] public section

set_option maxRecDepth 16384

noncomputable section

namespace Cert.Kernel4Ideal.Val

open Cert.Kernel4Ideal Cert.Kernel4Ideal.Gen Idealize.ShloMosaic Idealize.ShloMosaic.TcCoe Cert.Mix Idealize.SL.Sem
open Cert.Kernel4Ideal.Value

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)
theorem idx14 : ∀ t : Fin cfg0.N, win0_14.index t (0 : Fin 2) = t.val ∧ win0_14.index t (1 : Fin 2) = 0 := (by decide +kernel : ∀ t : Fin grid0.N, _)
theorem flush9 : ∀ t : Fin cfg0.N, (cfg0.win 9).flush t = true := (by decide +kernel : ∀ t : Fin grid0.N, win0_9.flush t = true)
theorem flush10 : ∀ t : Fin cfg0.N, (cfg0.win 10).flush t = true := (by decide +kernel : ∀ t : Fin grid0.N, win0_10.flush t = true)
theorem flush11 : ∀ t : Fin cfg0.N, (cfg0.win 11).flush t = true := (by decide +kernel : ∀ t : Fin grid0.N, win0_11.flush t = true)
theorem flush12 : ∀ t : Fin cfg0.N, (cfg0.win 12).flush t = true := (by decide +kernel : ∀ t : Fin grid0.N, win0_12.flush t = true)
theorem flush13 : ∀ t : Fin cfg0.N, (cfg0.win 13).flush t = true := (by decide +kernel : ∀ t : Fin grid0.N, win0_13.flush t = true)
theorem flush14 : ∀ t : Fin cfg0.N, (cfg0.win 14).flush t = true := (by decide +kernel : ∀ t : Fin grid0.N, win0_14.flush t = true)

variable (m : (ℓ : Loc nD τ sig) → Buf (Elt Ideal) ℓ) (ρ : Dev nD → PrngReg)

/-- The arguments' arrays, by name. -/
abbrev A0 (c : Dev nD) : Vec Ideal S32768x2048 .f32 := m ((c : Thread nD τ).loc main_arg0)
abbrev A1 (c : Dev nD) : Vec Ideal S2048 .f32 := m ((c : Thread nD τ).loc main_arg1)
abbrev A2 (c : Dev nD) : Vec Ideal S2048x8720 .f32 := m ((c : Thread nD τ).loc main_arg2)
abbrev A3 (c : Dev nD) : Vec Ideal S2048x8192 .f32 := m ((c : Thread nD τ).loc main_arg3)
abbrev A4 (c : Dev nD) : Vec Ideal S8192x2048 .f32 := m ((c : Thread nD τ).loc main_arg4)
abbrev A5 (c : Dev nD) : Vec Ideal S2048x2048 .f32 := m ((c : Thread nD τ).loc main_arg5)
abbrev A6 (c : Dev nD) : Vec Ideal S2048x2048 .f32 := m ((c : Thread nD τ).loc main_arg6)

theorem V_v4 (c : Dev nD) : V m c main_v4 = (shapeCast S1x2048 (A1 m c) shapeCasts_S2048_S1x2048 : Vec Ideal S1x2048 .f32) := by
  show StableHlo.after ([hostOps0, hostOps0_1, hostOps0_2].flatten) (fun b => m (c, b)) (Proc.tc.devRef main_v4) = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  rfl

theorem V_v1 (c : Dev nD) : V m c main_v1 = (extractStridedSlice S2048x5632 ![0, 3088] (truncf (F := Ideal) .bf16 (A2 m c) bitsLt_bf16_f32) slices_S2048x8720_S2048x5632_0_3088 : Vec Ideal S2048x5632 .bf16) := by
  show StableHlo.after ([hostOps0, hostOps0_1, hostOps0_2].flatten) (fun b => m (c, b)) (Proc.tc.devRef main_v1) = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp

theorem V_v3 (c : Dev nD) : V m c main_v3 = (pad S2048x128 ![0, 0] ![0, 112] ![0, 0] (extractStridedSlice S2048x16 ![0, 3072] (truncf (F := Ideal) .bf16 (A2 m c) bitsLt_bf16_f32) slices_S2048x8720_S2048x16_0_3072) (sitofp (F := Ideal) .bf16 (constantI S_ 32 0#32)) pads_S2048x16_S2048x128_000_01120 h_S_ : Vec Ideal S2048x128 .bf16) := by
  show StableHlo.after ([hostOps0, hostOps0_1, hostOps0_2].flatten) (fun b => m (c, b)) (Proc.tc.devRef main_v3) = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp

theorem lt128 (t : Fin cfg0.N) : t.val < 128 := lt_of_lt_of_eq t.isLt (show cfg0.N = 128 from N_0)

/-- The row of the argument that row `r` of point `t`'s block is. -/
def row (t : Fin cfg0.N) (r : Fin 256) : Fin 32768 := ⟨256 * t.val + r.val, by have := lt128 t; omega⟩

theorem iblk0_at (c : Dev nD) (t : Fin cfg0.N) (r : Fin 256) (k : Fin 2048) : iblk m c 0 t (ix2 r k) = A0 m c (ix2 (row t r) k) := by
  obtain ⟨e0, e1⟩ := idx0 t
  show V m c main_arg0 (((cfg0.win 0).blk t).view.emb (ix2 r k)) = _
  rw [V_main_arg0]
  refine congrArg (A0 m c) (funext fun a => Fin.ext ?_)
  match a with
  | ⟨0, _⟩ => show win0_0.index t (0 : Fin 2) * 256 + 1 * r.val = 256 * t.val + r.val; omega
  | ⟨1, _⟩ => show win0_0.index t (1 : Fin 2) * 2048 + 1 * k.val = k.val; omega

theorem iblk1_at (c : Dev nD) (t : Fin cfg0.N) (k : Fin 2048) : iblk m c 1 t (ix2 0 k) = A1 m c (ix1 k) := by
  obtain ⟨e0, e1⟩ := idx1 t
  show V m c main_v4 (((cfg0.win 1).blk t).view.emb (ix2 0 k)) = _
  have he : ((cfg0.win 1).blk t).view.emb (ix2 0 k) = (ix2 0 k : S1x2048.Idx) := by
    funext a; apply Fin.ext
    match a with
    | ⟨0, _⟩ => show win0_1.index t (0 : Fin 2) * 1 + 1 * 0 = 0; omega
    | ⟨1, _⟩ => show win0_1.index t (1 : Fin 2) * 2048 + 1 * k.val = k.val; omega
  rw [he]
  rw [V_v4]
  pointwise []

theorem X2_at (c : Dev nD) (t : Fin cfg0.N) (r : Fin 2048) (k : Fin 3072) : X0_2 m c t (ix2 r k) = A2 m c (ix2 r ⟨k.val, by omega⟩) := by
  obtain ⟨e0, e1⟩ := idx2 t
  unfold X0_2 Pipeline.Window.fill
  rw [dif_pos (moved0_2 t _)]
  show V m c main_v0 (((cfg0.win 2).blk t).view.emb _) = _
  entry_read
  refine congrArg (A2 m c) (funext fun a => Fin.ext ?_)
  match a with
  | ⟨0, _⟩ => show win0_2.index t (0 : Fin 2) * 2048 + 1 * r.val = r.val; omega
  | ⟨1, _⟩ => show win0_2.index t (1 : Fin 2) * 3072 + 1 * k.val = k.val; omega

theorem iblk3_at (c : Dev nD) (t : Fin cfg0.N) (r : Fin 2048) (k : Fin 5632) : iblk m c 3 t (ix2 r k) = A2 m c (ix2 r ⟨3088 + k.val, by omega⟩) := by
  obtain ⟨e0, e1⟩ := idx3 t
  show V m c main_v1 (((cfg0.win 3).blk t).view.emb (ix2 r k)) = _
  have he : ((cfg0.win 3).blk t).view.emb (ix2 r k) = (ix2 r k : S2048x5632.Idx) := by
    funext a; apply Fin.ext
    match a with
    | ⟨0, _⟩ => show win0_3.index t (0 : Fin 2) * 2048 + 1 * r.val = r.val; omega
    | ⟨1, _⟩ => show win0_3.index t (1 : Fin 2) * 5632 + 1 * k.val = k.val; omega
  rw [he]
  rw [V_v1]
  pointwise []

theorem iblk4_at (c : Dev nD) (t : Fin cfg0.N) (r : Fin 2048) (k : Fin 128) :
    iblk m c 4 t (ix2 r k) = if h : k.val < 16 then A2 m c (ix2 r ⟨3072 + k.val, by omega⟩) else 0 := by
  obtain ⟨e0, e1⟩ := idx4 t
  show V m c main_v3 (((cfg0.win 4).blk t).view.emb (ix2 r k)) = _
  have he : ((cfg0.win 4).blk t).view.emb (ix2 r k) = (ix2 r k : S2048x128.Idx) := by
    funext a; apply Fin.ext
    match a with
    | ⟨0, _⟩ => show win0_4.index t (0 : Fin 2) * 2048 + 1 * r.val = r.val; omega
    | ⟨1, _⟩ => show win0_4.index t (1 : Fin 2) * 128 + 1 * k.val = k.val; omega
  rw [he]
  rw [V_v3]
  have e : (FloatOps.sitofp FTy.bf16 0#32 : Ideal FTy.bf16) = (0 : EReal) := by
    show (((0#32 : BitVec 32).toInt : ℝ) : EReal) = 0
    simp
  pointwise []
  rw [e]

/-- The weight's column, out of the two parts a point is handed, is the argument's own. -/
theorem wcol_at (c : Dev nD) (t : Fin cfg0.N) (k : Fin 2048) (d : Fin 8704) :
    wcol (X0_2 m c t) (iblk m c 3 t) k d.val = A2 m c (ix2 k ⟨srcCol d.val, srcCol_lt d.val d.isLt⟩) := by
  have hk : ∀ (n j : Nat) (hn : n < 8720) (hj : j < 8720), n = j → A2 m c (ix2 k ⟨n, hn⟩) = A2 m c (ix2 k ⟨j, hj⟩) := by
    intro n j hn hj e; subst e; rfl
  have hd := d.isLt
  unfold wcol
  by_cases h : srcCol d.val < 3072
  · rw [dif_pos h, X2_at]
  · have h' : srcCol d.val - 3088 < 5632 := by have := srcCol_lt d.val hd; omega
    rw [dif_neg h, dif_pos h', iblk3_at]
    refine hk _ _ _ _ (show 3088 + (srcCol d.val - 3088) = srcCol d.val from ?_)
    have : 3088 ≤ srcCol d.val := by
      revert h; unfold srcCol; split_ifs <;> omega
    omega

/-- The projection array. -/
abbrev out9 (c : Dev nD) : Vec Ideal S32768x8704 .bf16 := Cert.Reference4Ideal.Read.val_main_v37 (F := Ideal) (A0 m c) (A1 m c) (A2 m c)
/-- The decay gate's low-rank input, padded to 128 lanes. -/
abbrev out10 (c : Dev nD) : Vec Ideal S32768x128 .f32 := Cert.Reference4Ideal.Read.val_main_v38 (F := Ideal) (A0 m c) (A1 m c) (A2 m c)
/-- The cast weights. -/
abbrev out11 (c : Dev nD) : Vec Ideal S2048x8192 .bf16 := Cert.Reference4Ideal.Read.val_main_v39 (F := Ideal) (A3 m c)
abbrev out12 (c : Dev nD) : Vec Ideal S8192x2048 .bf16 := Cert.Reference4Ideal.Read.val_main_v40 (F := Ideal) (A4 m c)
abbrev out13 (c : Dev nD) : Vec Ideal S2048x2048 .bf16 := Cert.Reference4Ideal.Read.val_main_v41 (F := Ideal) (A5 m c)
abbrev out14 (c : Dev nD) : Vec Ideal S2048x2048 .bf16 := Cert.Reference4Ideal.Read.val_main_v42 (F := Ideal) (A6 m c)

theorem flushed9_eq (c : Dev nD) (t : Fin cfg0.N) :
    (dats m 0 c).flushed 9 t = ((cfg0.win 9).blk t).view.read (Elt Ideal) (out9 m c) := by
  obtain ⟨e0, e1⟩ := idx9 t
  rw [flushed9_A, out9_eq]
  funext j
  obtain ⟨r, d, rfl⟩ : ∃ r d, j = ix2 (n0 := 256) (n1 := 8704) r d := ⟨j 0, j 1, (ix2_eta (n0 := 256) (n1 := 8704) j).symm⟩
  show oBlk (iblk m c 0 t) (iblk m c 1 t) (X0_2 m c t) (iblk m c 3 t) (ix2 r d) = out9 m c (((cfg0.win 9).blk t).view.emb (ix2 r d))
  have he : ((cfg0.win 9).blk t).view.emb (ix2 r d) = (ix2 (row t r) d : S32768x8704.Idx) := by
    funext a; apply Fin.ext
    match a with
    | ⟨0, _⟩ => show win0_9.index t (0 : Fin 2) * 256 + 1 * r.val = 256 * t.val + r.val; omega
    | ⟨1, _⟩ => show win0_9.index t (1 : Fin 2) * 8704 + 1 * d.val = d.val; omega
  rw [he]
  refine Eq.trans ?_ (Cert.Reference4Ideal.Val.out_apply _ _ _ (row t r) d).symm
  rw [Cert.Reference4Ideal.Val.proj_apply]
  show gateAt d.val (∑ k : Fin 2048, rmsRow (fun k => iblk m c 0 t (ix2 r k)) (fun k => iblk m c 1 t (ix2 0 k)) k * wcol (X0_2 m c t) (iblk m c 3 t) k d.val) = _
  simp only [iblk0_at, iblk1_at, wcol_at]

theorem flushed10_eq (c : Dev nD) (t : Fin cfg0.N) :
    (dats m 0 c).flushed 10 t = ((cfg0.win 10).blk t).view.read (Elt Ideal) (out10 m c) := by
  obtain ⟨e0, e1⟩ := idx10 t
  rw [flushed10_A]
  funext j
  obtain ⟨r, d, rfl⟩ : ∃ r d, j = ix2 (n0 := 256) (n1 := 128) r d := ⟨j 0, j 1, (ix2_eta (n0 := 256) (n1 := 128) j).symm⟩
  refine (out10_eq _ _ _ _ _ _ _ _ _ _ _ _ _ _ _ _ _ _ _ _ _ _ _ _ _ _ _ _ _ _ _ _ _ _ _ _ _ _ _ _ _ r d).trans ?_
  show _ = out10 m c (((cfg0.win 10).blk t).view.emb (ix2 r d))
  have he : ((cfg0.win 10).blk t).view.emb (ix2 r d) = (ix2 (row t r) d : S32768x128.Idx) := by
    funext a; apply Fin.ext
    match a with
    | ⟨0, _⟩ => show win0_10.index t (0 : Fin 2) * 256 + 1 * r.val = 256 * t.val + r.val; omega
    | ⟨1, _⟩ => show win0_10.index t (1 : Fin 2) * 128 + 1 * d.val = d.val; omega
  rw [he]
  refine Eq.trans ?_ (Cert.Reference4Ideal.Val.gz_apply _ _ _ (row t r) d).symm
  simp only [iblk0_at, iblk1_at, iblk4_at]
  by_cases h : d.val < 16
  · simp only [dif_pos h]
    rw [Cert.Reference4Ideal.Val.proj_apply]
  · simp only [dif_neg h, mul_zero, Finset.sum_const_zero]

theorem flushed11_eq (c : Dev nD) (t : Fin cfg0.N) :
    (dats m 0 c).flushed 11 t = ((cfg0.win 11).blk t).view.read (Elt Ideal) (out11 m c) := by
  obtain ⟨e0, e1⟩ := idx11 t
  obtain ⟨f0, f1⟩ := idx5 t
  rw [flushed11_A, out11_eq]
  funext j
  show V m c main_arg3 (((cfg0.win 5).blk t).view.emb j) = A3 m c (((cfg0.win 11).blk t).view.emb j)
  rw [V_main_arg3]
  refine congrArg (A3 m c) (funext fun a => Fin.ext ?_)
  match a with
  | ⟨0, _⟩ => show win0_5.index t (0 : Fin 2) * 16 + 1 * (j 0).val = win0_11.index t (0 : Fin 2) * 16 + 1 * (j 0).val; omega
  | ⟨1, _⟩ => show win0_5.index t (1 : Fin 2) * 8192 + 1 * (j 1).val = win0_11.index t (1 : Fin 2) * 8192 + 1 * (j 1).val; omega

theorem flushed12_eq (c : Dev nD) (t : Fin cfg0.N) :
    (dats m 0 c).flushed 12 t = ((cfg0.win 12).blk t).view.read (Elt Ideal) (out12 m c) := by
  obtain ⟨e0, e1⟩ := idx12 t
  obtain ⟨f0, f1⟩ := idx6 t
  rw [flushed12_A, out12_eq]
  funext j
  show V m c main_arg4 (((cfg0.win 6).blk t).view.emb j) = A4 m c (((cfg0.win 12).blk t).view.emb j)
  rw [V_main_arg4]
  refine congrArg (A4 m c) (funext fun a => Fin.ext ?_)
  match a with
  | ⟨0, _⟩ => show win0_6.index t (0 : Fin 2) * 64 + 1 * (j 0).val = win0_12.index t (0 : Fin 2) * 64 + 1 * (j 0).val; omega
  | ⟨1, _⟩ => show win0_6.index t (1 : Fin 2) * 2048 + 1 * (j 1).val = win0_12.index t (1 : Fin 2) * 2048 + 1 * (j 1).val; omega

theorem flushed13_eq (c : Dev nD) (t : Fin cfg0.N) :
    (dats m 0 c).flushed 13 t = ((cfg0.win 13).blk t).view.read (Elt Ideal) (out13 m c) := by
  obtain ⟨e0, e1⟩ := idx13 t
  obtain ⟨f0, f1⟩ := idx7 t
  rw [flushed13_A, out13_eq]
  funext j
  show V m c main_arg5 (((cfg0.win 7).blk t).view.emb j) = A5 m c (((cfg0.win 13).blk t).view.emb j)
  rw [V_main_arg5]
  refine congrArg (A5 m c) (funext fun a => Fin.ext ?_)
  match a with
  | ⟨0, _⟩ => show win0_7.index t (0 : Fin 2) * 16 + 1 * (j 0).val = win0_13.index t (0 : Fin 2) * 16 + 1 * (j 0).val; omega
  | ⟨1, _⟩ => show win0_7.index t (1 : Fin 2) * 2048 + 1 * (j 1).val = win0_13.index t (1 : Fin 2) * 2048 + 1 * (j 1).val; omega

theorem flushed14_eq (c : Dev nD) (t : Fin cfg0.N) :
    (dats m 0 c).flushed 14 t = ((cfg0.win 14).blk t).view.read (Elt Ideal) (out14 m c) := by
  obtain ⟨e0, e1⟩ := idx14 t
  obtain ⟨f0, f1⟩ := idx8 t
  rw [flushed14_A, out14_eq]
  funext j
  show V m c main_arg6 (((cfg0.win 8).blk t).view.emb j) = A6 m c (((cfg0.win 14).blk t).view.emb j)
  rw [V_main_arg6]
  refine congrArg (A6 m c) (funext fun a => Fin.ext ?_)
  match a with
  | ⟨0, _⟩ => show win0_8.index t (0 : Fin 2) * 16 + 1 * (j 0).val = win0_14.index t (0 : Fin 2) * 16 + 1 * (j 0).val; omega
  | ⟨1, _⟩ => show win0_8.index t (1 : Fin 2) * 2048 + 1 * (j 1).val = win0_14.index t (1 : Fin 2) * 2048 + 1 * (j 1).val; omega

theorem covered9 (i : S32768x8704.Idx) : ∃ t : Fin cfg0.N, (cfg0.win 9).flush t = true ∧ i ∈ ((cfg0.win 9).blk t).view.set := by
  have hi : (i 0).val < 32768 := (i 0).isLt
  have ht : (i 0).val / 256 < cfg0.N := by rw [show cfg0.N = 128 from N_0]; omega
  obtain ⟨e0, e1⟩ := idx9 ⟨_, ht⟩
  refine ⟨⟨_, ht⟩, flush9 _, ?_⟩
  have h := ((cfg0.win 9).blk ⟨_, ht⟩).view.emb_mem_set (ix2 (n0 := 256) (n1 := 8704) ⟨(i 0).val % 256, Nat.mod_lt _ (by decide)⟩ (i 1))
  have he : ((cfg0.win 9).blk ⟨_, ht⟩).view.emb (ix2 (n0 := 256) (n1 := 8704) ⟨(i 0).val % 256, Nat.mod_lt _ (by decide)⟩ (i 1)) = i := by
    funext a; apply Fin.ext
    match a with
    | ⟨0, _⟩ => show win0_9.index ⟨_, ht⟩ (0 : Fin 2) * 256 + 1 * ((i 0).val % 256) = (i 0).val; dsimp only at e0; omega
    | ⟨1, _⟩ => show win0_9.index ⟨_, ht⟩ (1 : Fin 2) * 8704 + 1 * (i 1).val = (i 1).val; omega
  rwa [he] at h

theorem final9 (c : Dev nD) : (dats m 0 c).arrAt 9 cfg0.N = out9 m c :=
  (dats m 0 c).arrAt_eq_of_cover 9 (out9 m c) (fun t _ => flushed9_eq m c t) covered9

theorem covered10 (i : S32768x128.Idx) : ∃ t : Fin cfg0.N, (cfg0.win 10).flush t = true ∧ i ∈ ((cfg0.win 10).blk t).view.set := by
  have hi : (i 0).val < 32768 := (i 0).isLt
  have ht : (i 0).val / 256 < cfg0.N := by rw [show cfg0.N = 128 from N_0]; omega
  obtain ⟨e0, e1⟩ := idx10 ⟨_, ht⟩
  refine ⟨⟨_, ht⟩, flush10 _, ?_⟩
  have h := ((cfg0.win 10).blk ⟨_, ht⟩).view.emb_mem_set (ix2 (n0 := 256) (n1 := 128) ⟨(i 0).val % 256, Nat.mod_lt _ (by decide)⟩ (i 1))
  have he : ((cfg0.win 10).blk ⟨_, ht⟩).view.emb (ix2 (n0 := 256) (n1 := 128) ⟨(i 0).val % 256, Nat.mod_lt _ (by decide)⟩ (i 1)) = i := by
    funext a; apply Fin.ext
    match a with
    | ⟨0, _⟩ => show win0_10.index ⟨_, ht⟩ (0 : Fin 2) * 256 + 1 * ((i 0).val % 256) = (i 0).val; dsimp only at e0; omega
    | ⟨1, _⟩ => show win0_10.index ⟨_, ht⟩ (1 : Fin 2) * 128 + 1 * (i 1).val = (i 1).val; omega
  rwa [he] at h

theorem final10 (c : Dev nD) : (dats m 0 c).arrAt 10 cfg0.N = out10 m c :=
  (dats m 0 c).arrAt_eq_of_cover 10 (out10 m c) (fun t _ => flushed10_eq m c t) covered10

theorem covered11 (i : S2048x8192.Idx) : ∃ t : Fin cfg0.N, (cfg0.win 11).flush t = true ∧ i ∈ ((cfg0.win 11).blk t).view.set := by
  have hi : (i 0).val < 2048 := (i 0).isLt
  have ht : (i 0).val / 16 < cfg0.N := by rw [show cfg0.N = 128 from N_0]; omega
  obtain ⟨e0, e1⟩ := idx11 ⟨_, ht⟩
  refine ⟨⟨_, ht⟩, flush11 _, ?_⟩
  have h := ((cfg0.win 11).blk ⟨_, ht⟩).view.emb_mem_set (ix2 (n0 := 16) (n1 := 8192) ⟨(i 0).val % 16, Nat.mod_lt _ (by decide)⟩ (i 1))
  have he : ((cfg0.win 11).blk ⟨_, ht⟩).view.emb (ix2 (n0 := 16) (n1 := 8192) ⟨(i 0).val % 16, Nat.mod_lt _ (by decide)⟩ (i 1)) = i := by
    funext a; apply Fin.ext
    match a with
    | ⟨0, _⟩ => show win0_11.index ⟨_, ht⟩ (0 : Fin 2) * 16 + 1 * ((i 0).val % 16) = (i 0).val; dsimp only at e0; omega
    | ⟨1, _⟩ => show win0_11.index ⟨_, ht⟩ (1 : Fin 2) * 8192 + 1 * (i 1).val = (i 1).val; omega
  rwa [he] at h

theorem final11 (c : Dev nD) : (dats m 0 c).arrAt 11 cfg0.N = out11 m c :=
  (dats m 0 c).arrAt_eq_of_cover 11 (out11 m c) (fun t _ => flushed11_eq m c t) covered11

theorem covered12 (i : S8192x2048.Idx) : ∃ t : Fin cfg0.N, (cfg0.win 12).flush t = true ∧ i ∈ ((cfg0.win 12).blk t).view.set := by
  have hi : (i 0).val < 8192 := (i 0).isLt
  have ht : (i 0).val / 64 < cfg0.N := by rw [show cfg0.N = 128 from N_0]; omega
  obtain ⟨e0, e1⟩ := idx12 ⟨_, ht⟩
  refine ⟨⟨_, ht⟩, flush12 _, ?_⟩
  have h := ((cfg0.win 12).blk ⟨_, ht⟩).view.emb_mem_set (ix2 (n0 := 64) (n1 := 2048) ⟨(i 0).val % 64, Nat.mod_lt _ (by decide)⟩ (i 1))
  have he : ((cfg0.win 12).blk ⟨_, ht⟩).view.emb (ix2 (n0 := 64) (n1 := 2048) ⟨(i 0).val % 64, Nat.mod_lt _ (by decide)⟩ (i 1)) = i := by
    funext a; apply Fin.ext
    match a with
    | ⟨0, _⟩ => show win0_12.index ⟨_, ht⟩ (0 : Fin 2) * 64 + 1 * ((i 0).val % 64) = (i 0).val; dsimp only at e0; omega
    | ⟨1, _⟩ => show win0_12.index ⟨_, ht⟩ (1 : Fin 2) * 2048 + 1 * (i 1).val = (i 1).val; omega
  rwa [he] at h

theorem final12 (c : Dev nD) : (dats m 0 c).arrAt 12 cfg0.N = out12 m c :=
  (dats m 0 c).arrAt_eq_of_cover 12 (out12 m c) (fun t _ => flushed12_eq m c t) covered12

theorem covered13 (i : S2048x2048.Idx) : ∃ t : Fin cfg0.N, (cfg0.win 13).flush t = true ∧ i ∈ ((cfg0.win 13).blk t).view.set := by
  have hi : (i 0).val < 2048 := (i 0).isLt
  have ht : (i 0).val / 16 < cfg0.N := by rw [show cfg0.N = 128 from N_0]; omega
  obtain ⟨e0, e1⟩ := idx13 ⟨_, ht⟩
  refine ⟨⟨_, ht⟩, flush13 _, ?_⟩
  have h := ((cfg0.win 13).blk ⟨_, ht⟩).view.emb_mem_set (ix2 (n0 := 16) (n1 := 2048) ⟨(i 0).val % 16, Nat.mod_lt _ (by decide)⟩ (i 1))
  have he : ((cfg0.win 13).blk ⟨_, ht⟩).view.emb (ix2 (n0 := 16) (n1 := 2048) ⟨(i 0).val % 16, Nat.mod_lt _ (by decide)⟩ (i 1)) = i := by
    funext a; apply Fin.ext
    match a with
    | ⟨0, _⟩ => show win0_13.index ⟨_, ht⟩ (0 : Fin 2) * 16 + 1 * ((i 0).val % 16) = (i 0).val; dsimp only at e0; omega
    | ⟨1, _⟩ => show win0_13.index ⟨_, ht⟩ (1 : Fin 2) * 2048 + 1 * (i 1).val = (i 1).val; omega
  rwa [he] at h

theorem final13 (c : Dev nD) : (dats m 0 c).arrAt 13 cfg0.N = out13 m c :=
  (dats m 0 c).arrAt_eq_of_cover 13 (out13 m c) (fun t _ => flushed13_eq m c t) covered13

theorem covered14 (i : S2048x2048.Idx) : ∃ t : Fin cfg0.N, (cfg0.win 14).flush t = true ∧ i ∈ ((cfg0.win 14).blk t).view.set := by
  have hi : (i 0).val < 2048 := (i 0).isLt
  have ht : (i 0).val / 16 < cfg0.N := by rw [show cfg0.N = 128 from N_0]; omega
  obtain ⟨e0, e1⟩ := idx14 ⟨_, ht⟩
  refine ⟨⟨_, ht⟩, flush14 _, ?_⟩
  have h := ((cfg0.win 14).blk ⟨_, ht⟩).view.emb_mem_set (ix2 (n0 := 16) (n1 := 2048) ⟨(i 0).val % 16, Nat.mod_lt _ (by decide)⟩ (i 1))
  have he : ((cfg0.win 14).blk ⟨_, ht⟩).view.emb (ix2 (n0 := 16) (n1 := 2048) ⟨(i 0).val % 16, Nat.mod_lt _ (by decide)⟩ (i 1)) = i := by
    funext a; apply Fin.ext
    match a with
    | ⟨0, _⟩ => show win0_14.index ⟨_, ht⟩ (0 : Fin 2) * 16 + 1 * ((i 0).val % 16) = (i 0).val; dsimp only at e0; omega
    | ⟨1, _⟩ => show win0_14.index ⟨_, ht⟩ (1 : Fin 2) * 2048 + 1 * (i 1).val = (i 1).val; omega
  rwa [he] at h

theorem final14 (c : Dev nD) : (dats m 0 c).arrAt 14 cfg0.N = out14 m c :=
  (dats m 0 c).arrAt_eq_of_cover 14 (out14 m c) (fun t _ => flushed14_eq m c t) covered14

end Cert.Kernel4Ideal.Val

namespace Cert.Mix

open Idealize.ShloMosaic Idealize.ShloMosaic.TcCoe Idealize.SL.Sem

theorem algebraic4 : Cert.algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.Val.out9 m c, fun c => Cert.Kernel4Ideal.Val.out10 m c, fun c => Cert.Kernel4Ideal.Val.out11 m c, fun c => Cert.Kernel4Ideal.Val.out12 m c, fun c => Cert.Kernel4Ideal.Val.out13 m c, fun c => Cert.Kernel4Ideal.Val.out14 m c, ?_, ?_⟩
  · refine (θ_run _ _ _).mono (fun r h c => ?_) (Cert.Kernel4Ideal.Value.run_blocks m g)
    obtain ⟨h0, h1, h2, h3, h4, h5, h6⟩ := h c
    exact ⟨h0.trans (Cert.Kernel4Ideal.Val.final9 m c), h1.trans (Cert.Kernel4Ideal.Val.final10 m c), h2.trans (Cert.Kernel4Ideal.Val.final11 m c), h3.trans (Cert.Kernel4Ideal.Val.final12 m c), h4.trans (Cert.Kernel4Ideal.Val.final13 m c), h5.trans (Cert.Kernel4Ideal.Val.final14 m c), h6⟩
  · refine (θ_run _ _ _).mono (fun r h c => ?_) (Cert.Reference4Ideal.Value.run m' g')
    obtain ⟨h0, h1, h2, h3, h4, h5, h6⟩ := h c
    obtain ⟨a0, a1, a2, a3, a4, a5, a6⟩ := hag c
    refine ⟨h0.trans ((Cert.Reference4Ideal.Read.val_main_v37_eq (F := Ideal) m' c).trans ?_), h1.trans ((Cert.Reference4Ideal.Read.val_main_v38_eq (F := Ideal) _ _ _).trans ?_), h2.trans ((Cert.Reference4Ideal.Read.val_main_v39_eq (F := Ideal) _).trans ?_), h3.trans ((Cert.Reference4Ideal.Read.val_main_v40_eq (F := Ideal) _).trans ?_), h4.trans ((Cert.Reference4Ideal.Read.val_main_v41_eq (F := Ideal) _).trans ?_), h5.trans ((Cert.Reference4Ideal.Read.val_main_v42_eq (F := Ideal) _).trans ?_), h6⟩
    · rw [a0, a1, a2]
    · rw [a0, a1, a2]
    · rw [a3]
    · rw [a4]
    · rw [a5]
    · rw [a6]

end Cert.Mix

end
-- ==== Proof.MixSpec.lean ====
/-
  The mixing call's mathematics: gated linear attention chunk by chunk, window attention with sinks, and the merge.
  Arrays are read at natural-number positions.
-/
module

public import Idealize.ShloMosaic.Lib.Pointwise

@[expose] public section

noncomputable section

namespace Cert.Mixm

open Idealize.ShloMosaic

/-- A matrix read at natural-number positions. -/
def nat2 {a b : Nat} (f : (⟨2, ![a, b]⟩ : Shape).Idx → EReal) (r c : Nat) : EReal :=
  if h : r < a ∧ c < b then f (ix2 ⟨r, h.1⟩ ⟨c, h.2⟩) else 0

theorem nat2_mk {a b : Nat} (f : (⟨2, ![a, b]⟩ : Shape).Idx → EReal) (r c : Nat) (hr : r < a) (hc : c < b) :
    nat2 f r c = f (ix2 ⟨r, hr⟩ ⟨c, hc⟩) := dif_pos ⟨hr, hc⟩

/-- What the layer's mixing reads: the projections, the log-decays, the weights, the sinks and the distance penalty. -/
structure Inp where
  P : Nat → Nat → EReal
  A : Nat → Nat → ℝ
  gain : Nat → EReal
  X : Nat → Nat → EReal
  wa : Nat → Nat → EReal
  wb : Nat → Nat → EReal
  wo : Nat → Nat → EReal
  sink : Nat → EReal
  bias : Nat → Nat → Nat → EReal

/-- The exponential of a real, as an extended real. -/
def ex (x : ℝ) : EReal := ((Real.exp x : ℝ) : EReal)

variable (I : Inp)

/-- The scaled query, the key and the value of the linear attention, at a row and a column of their segment. -/
def Qr (r c : Nat) : EReal := I.P r (7168 + c) * Ideal.ofBits .f32 0x3DB504F3#32
@[inherit_doc Qr] def Kr (r c : Nat) : EReal := I.P r (7680 + c)
@[inherit_doc Qr] def Vr (r c : Nat) : EReal := I.P r (4096 + c)

/-- The cumulated log-decay inside chunk `n`. -/
def bc (n c i : Nat) : ℝ := ∑ t : Fin 64, if t.val ≤ i then I.A (64 * n + t.val) c else 0

/-- The decayed scores inside a chunk. -/
def att (n h i j : Nat) : EReal :=
  if j ≤ i then ∑ d : Fin 128, Qr I (64 * n + i) (128 * h + d.val) * Kr I (64 * n + j) (128 * h + d.val) * ex (bc I n (128 * h + d.val) i - bc I n (128 * h + d.val) j) else 0

/-- What a chunk adds to the state. -/
def upd (n h e d : Nat) : EReal :=
  ∑ c : Fin 64, Vr I (64 * n + c.val) (256 * h + e) * (Kr I (64 * n + c.val) (128 * h + d) * ex (bc I n (128 * h + d) 63 - bc I n (128 * h + d) c.val))

/-- The state before chunk `n` (zero at the start of each sequence of 32 chunks). -/
def S : Nat → Nat → Nat → Nat → EReal
  | 0, _, _, _ => 0
  | n + 1, h, e, d => if (n + 1) % 32 = 0 then 0 else S n h e d * ex (bc I n (128 * h + d) 63) + upd I n h e d

/-- The state after chunk `n`. -/
def Sn (n h e d : Nat) : EReal := S I n h e d * ex (bc I n (128 * h + d) 63) + upd I n h e d

theorem S_zero (n h e d : Nat) (hn : n % 32 = 0) : S I n h e d = 0 := by
  cases n with
  | zero => rfl
  | succ n => rw [S, if_pos hn]

theorem S_succ (n h e d : Nat) (hn : (n + 1) % 32 ≠ 0) : S I (n + 1) h e d = Sn I n h e d := by
  rw [S, if_neg hn]; rfl

/-- The linear attention's output. -/
def oA (n h i e : Nat) : EReal :=
  ∑ d : Fin 128, Qr I (64 * n + i) (128 * h + d.val) * ex (bc I n (128 * h + d.val) i) * S I n h e d.val
    + ∑ j : Fin 64, att I n h i j.val * Vr I (64 * n + j.val) (256 * h + e)

/-- The normed and gated output of the linear attention. -/
def yA (n h i e : Nat) : EReal :=
  oA I n h i e * Ideal.rsqrt (Ideal.div (∑ x : Fin 256, oA I n h i x.val * oA I n h i x.val) (Ideal.ofBits .f32 0x43800000#32) + Ideal.ofBits .f32 0x358637BD#32)
    * I.gain e * (I.P (64 * n + i) (5120 + (256 * h + e)) * Ideal.logistic (I.P (64 * n + i) (5120 + (256 * h + e))))

/-- Whether query `i` of window block `n` sees key `j` of the two blocks. -/
def ok (n i j : Nat) : Prop := i < j ∧ j ≤ i + 128 ∧ (n % 16 ≠ 0 ∨ 128 ≤ j)

instance (n i j : Nat) : Decidable (ok n i j) := by unfold ok; infer_instance

/-- The window attention's scores. -/
def sc (n h i j : Nat) : EReal :=
  if ok n i j then (∑ d : Fin 64, I.P (128 * n + j - 128) (8192 + (64 * (h / 4) + d.val)) * I.P (128 * n + i) (6144 + (64 * h + d.val))) * ((1 / 8 : ℝ) : EReal) + I.bias h i j else ⊥

/-- The softmax's maximum and denominator. -/
def mB (n h i : Nat) : EReal := max (Finset.univ.fold max ⊥ (fun j : Fin 256 => sc I n h i j.val)) (I.sink h)
@[inherit_doc mB] def dB (n h i : Nat) : EReal := ∑ j : Fin 256, Ideal.exp (sc I n h i j.val - mB I n h i) + Ideal.exp (I.sink h - mB I n h i)

/-- The window attention's output. -/
def yB (n h i d : Nat) : EReal :=
  (∑ j : Fin 256, I.P (128 * n + j.val - 128) (8448 + (64 * (h / 4) + d)) * Ideal.exp (sc I n h i j.val - mB I n h i)) * Ideal.div 1 (dB I n h i)

/-- The two branches side by side. -/
def yRow (r c : Nat) : EReal :=
  if c < 1024 then yA I (r / 64) (c / 256) (r % 64) (c % 256) else yB I (r / 128) ((c - 1024) / 64) (r % 128) ((c - 1024) % 64)

/-- The gated sum of the two branches' projections. -/
def merged (r k : Nat) : EReal :=
  I.P r k * ∑ x : Fin 1024, yRow I r x.val * I.wa x.val k + I.P r (2048 + k) * ∑ x : Fin 1024, yRow I r (1024 + x.val) * I.wb x.val k

/-- The layer's mixing, with its residual. -/
def out (r c : Nat) : EReal := I.X r c + ∑ k : Fin 2048, merged I r k.val * I.wo k.val c

/-! ## Decay factors -/

/-- Whether row `i` of the decay table counts the chunk's row `t`. -/
def wt (i t : Nat) : Prop :=
  if i < 64 then t ≤ i else if i < 128 then i - 64 < t else
    let l := (i - 128) / 64
    let j := (i - 128) % 64
    let h := 32 / 2 ^ l
    if h ≤ j % (2 * h) then j / (2 * h) * (2 * h) + (h - 1) < t ∧ t ≤ j else j < t ∧ t ≤ j / (2 * h) * (2 * h) + (h - 1)

instance (i t : Nat) : Decidable (wt i t) := by unfold wt; infer_instance

/-- Whether level `l` carries the pair of rows `i`, `j` (level 6 the diagonal). -/
def pmk (l i j : Nat) : Prop :=
  if l = 6 then i = j else
    let h := 32 / 2 ^ l
    i / (2 * h) = j / (2 * h) ∧ h ≤ i % (2 * h) ∧ j % (2 * h) < h

instance (l i j : Nat) : Decidable (pmk l i j) := by unfold pmk; infer_instance

/-- The decay exponents of a chunk. -/
def ds (n c i : Nat) : ℝ := ∑ t : Fin 64, if wt i t.val then I.A (64 * n + t.val) c else 0

theorem ds_cum (n c i : Nat) (hi : i < 64) : ds I n c i = bc I n c i := by
  unfold ds bc
  refine Finset.sum_congr rfl fun t _ => if_congr ?_ rfl rfl
  unfold wt; rw [if_pos hi]

theorem wt_rev (i t : Nat) (hi : i < 64) : wt (64 + i) t ↔ i < t := by
  unfold wt
  rw [if_neg (by omega), if_pos (by omega), show 64 + i - 64 = i by omega]

theorem ds_rev (n c i : Nat) (hi : i < 64) : ds I n c (64 + i) = bc I n c 63 - bc I n c i := by
  unfold ds bc
  rw [← Finset.sum_sub_distrib]
  refine Finset.sum_congr rfl fun t _ => ?_
  have ht := t.isLt
  rw [if_pos (show t.val ≤ 63 by omega)]
  by_cases h : i < t.val
  · rw [if_pos ((wt_rev i t hi).2 h), if_neg (by omega)]; ring
  · rw [if_neg (fun w => h ((wt_rev i t hi).1 w)), if_pos (by omega)]; ring

theorem wt_lev (l i t : Nat) (hl : l < 6) (hi : i < 64) : wt (128 + (l * 64 + i)) t ↔
    if 32 / 2 ^ l ≤ i % (2 * (32 / 2 ^ l)) then i / (2 * (32 / 2 ^ l)) * (2 * (32 / 2 ^ l)) + (32 / 2 ^ l - 1) < t ∧ t ≤ i
      else i < t ∧ t ≤ i / (2 * (32 / 2 ^ l)) * (2 * (32 / 2 ^ l)) + (32 / 2 ^ l - 1) := by
  unfold wt
  rw [if_neg (by omega), if_neg (by omega)]
  have e1 : (128 + (l * 64 + i) - 128) / 64 = l := by omega
  have e2 : (128 + (l * 64 + i) - 128) % 64 = i := by omega
  simp only [e1, e2]

theorem pmk_lev (l i j : Nat) (hl : l < 6) : pmk l i j ↔ i / (2 * (32 / 2 ^ l)) = j / (2 * (32 / 2 ^ l)) ∧ 32 / 2 ^ l ≤ i % (2 * (32 / 2 ^ l)) ∧ j % (2 * (32 / 2 ^ l)) < 32 / 2 ^ l := by
  unfold pmk
  rw [if_neg (by omega)]

theorem wt_pair (l i j t : Nat) (hl : l < 6) (hi : i < 64) (hj : j < 64) (ht : t < 64) (hp : pmk l i j) :
    (wt (128 + (l * 64 + i)) t ↔ j < t ∧ t ≤ i ∧ wt (128 + (l * 64 + i)) t) ∧ (wt (128 + (l * 64 + j)) t ↔ j < t ∧ t ≤ i ∧ ¬ wt (128 + (l * 64 + i)) t) ∧ j < i := by
  rw [wt_lev l i t hl hi, wt_lev l j t hl hj]
  rw [pmk_lev l i j hl] at hp
  obtain ⟨h1, h2, h3⟩ := hp
  rw [if_pos h2, if_neg (not_le.2 h3)]
  interval_cases l <;> simp only [Nat.reducePow, Nat.reduceDiv, Nat.reduceMul, Nat.reduceSub] at h1 h2 h3 ⊢ <;> omega

theorem ds_pair (n c : Nat) (l : Fin 6) (i j : Fin 64) (hp : pmk l i j) :
    ds I n c (128 + (l.val * 64 + i.val)) + ds I n c (128 + (l.val * 64 + j.val)) = bc I n c i - bc I n c j := by
  rw [eq_sub_iff_add_eq]
  unfold ds bc
  rw [← Finset.sum_add_distrib, ← Finset.sum_add_distrib]
  refine Finset.sum_congr rfl fun t _ => ?_
  obtain ⟨h1, h2, h3⟩ := wt_pair l i j t l.isLt i.isLt j.isLt t.isLt hp
  by_cases a : wt (128 + (l.val * 64 + i.val)) t
  · obtain ⟨a1, a2, -⟩ := h1.1 a
    rw [if_pos a, if_neg (fun b => (h2.1 b).2.2 a), if_neg (by omega), if_pos (by omega)]; ring
  · by_cases b : wt (128 + (l.val * 64 + j.val)) t
    · obtain ⟨a1, a2, -⟩ := h2.1 b
      rw [if_neg a, if_pos b, if_neg (by omega), if_pos (by omega)]; ring
    · rw [if_neg a, if_neg b]
      have : ¬ (j.val < t.val ∧ t.val ≤ i.val) := fun hh => b (h2.2 ⟨hh.1, hh.2, a⟩)
      by_cases d : t.val ≤ j.val
      · rw [if_pos d, if_pos (by omega)]; ring
      · rw [if_neg d, if_neg (by omega)]; ring

theorem pmk_count : ∀ i j : Fin 64, (∑ l : Fin 6, if pmk l i j then 1 else 0) + (if pmk 6 i j then 1 else 0) = if j.val ≤ i.val then 1 else (0 : Nat) := by
  decide +kernel

theorem ex_add (x y : ℝ) : ex x * ex y = ex (x + y) := by
  unfold ex; rw [← EReal.coe_mul, ← Real.exp_add]

theorem ex_zero : ex 0 = 1 := by unfold ex; rw [Real.exp_zero]; rfl

/-- The levels' masked scores add up to the decayed scores. -/
theorem level_sum (n h : Nat) (i j : Fin 64) (q k : Fin 128 → EReal) (E : Nat → Fin 128 → EReal)
    (hE : ∀ l : Nat, l < 384 → ∀ d, E l d = ex (ds I n (128 * h + d.val) (128 + l))) (pm : Fin 7 → EReal)
    (hpm : ∀ l : Fin 7, pm l = if pmk l i j then 1 else 0) :
    ∑ x : Fin 6, (∑ d : Fin 128, q d * E (x.val * 64 + i.val) d * (k d * E (x.val * 64 + j.val) d)) * pm ⟨x.val, by omega⟩
      + (∑ d : Fin 128, q d * k d) * pm 6
    = if j.val ≤ i.val then ∑ d : Fin 128, q d * k d * ex (bc I n (128 * h + d.val) i - bc I n (128 * h + d.val) j) else 0 := by
  have t1 : ∀ x : Fin 6, (∑ d : Fin 128, q d * E (x.val * 64 + i.val) d * (k d * E (x.val * 64 + j.val) d)) * pm ⟨x.val, by omega⟩
      = (if pmk x i j then 1 else 0 : Nat) • ∑ d : Fin 128, q d * k d * ex (bc I n (128 * h + d.val) i - bc I n (128 * h + d.val) j) := by
    intro x
    rw [hpm]
    by_cases hp : pmk x i j
    · rw [if_pos hp, if_pos hp, mul_one, one_smul]
      refine Finset.sum_congr rfl fun d _ => ?_
      rw [hE _ (by omega), hE _ (by omega), ← ds_pair I n _ x i j hp, ← ex_add]
      exact mul_mul_mul_comm _ _ _ _
    · rw [if_neg hp, if_neg hp, mul_zero, zero_smul]
  have t2 : (∑ d : Fin 128, q d * k d) * pm 6
      = (if pmk 6 i j then 1 else 0 : Nat) • ∑ d : Fin 128, q d * k d * ex (bc I n (128 * h + d.val) i - bc I n (128 * h + d.val) j) := by
    rw [hpm]
    by_cases hp : pmk 6 i j
    · have hij : i.val = j.val := by unfold pmk at hp; rwa [if_pos rfl] at hp
      rw [if_pos hp, if_pos (show pmk ((6 : Fin 7) : Nat) i j from hp), mul_one, one_smul]
      refine Finset.sum_congr rfl fun d _ => ?_
      rw [hij, sub_self, ex_zero, mul_one]
    · rw [if_neg hp, if_neg (show ¬ pmk ((6 : Fin 7) : Nat) i j from hp), mul_zero, zero_smul]
  rw [Finset.sum_congr rfl fun x _ => t1 x, t2, ← Finset.sum_smul, ← add_smul, pmk_count]
  by_cases hle : j.val ≤ i.val
  · rw [if_pos hle, if_pos hle, one_smul]
  · rw [if_neg hle, if_neg hle, zero_smul]

end Cert.Mixm

end
-- ==== Proof.MixLs.lean ====
/-
  The logarithm of the logistic function, as the mixing kernel and its reference compute it.
-/
module

public import proofs.«01_k».proof.Proof.Gen.KernelIdeal.Skeleton
public import proofs.«01_k».proof.Proof.MixSpec

@[expose] public section

noncomputable section

namespace Cert.Mixm

open Idealize.ShloMosaic

/-- The logarithm of the logistic function. -/
def ls : EReal → ℝ
  | ⊥ => 0
  | ⊤ => 0
  | (r : ℝ) => min r 0 - Real.log (1 + Real.exp (-|r|))

theorem log_one : Ideal.log 1 = 0 := by
  rw [← EReal.coe_one, Ideal.log_coe, if_neg (by norm_num), Real.log_one, EReal.coe_zero]

theorem log1p_exp (a : ℝ) : Ideal.log (1 + Ideal.exp ((a : ℝ) : EReal)) = ((Real.log (1 + Real.exp a) : ℝ) : EReal) := by
  rw [Ideal.exp_coe, ← EReal.coe_one, ← EReal.coe_add, Ideal.log_coe, if_neg (by have := Real.exp_pos a; linarith)]

theorem max_coe' (a b : ℝ) : max (a : EReal) (b : EReal) = ((max a b : ℝ) : EReal) := (EReal.coe_strictMono.monotone.map_max).symm
theorem min_coe' (a b : ℝ) : min (a : EReal) (b : EReal) = ((min a b : ℝ) : EReal) := (EReal.coe_strictMono.monotone.map_min).symm

theorem abs_coe' (r : ℝ) : max (r : EReal) (-(r : EReal)) = ((|r| : ℝ) : EReal) := by
  rw [← EReal.coe_neg, max_coe']; rfl

/-- What the kernel makes of a decay logit. -/
theorem ker_ls (z : EReal) (hz : z ≠ ⊥) :
    (min z 0 - Ideal.log (1 + Ideal.exp (0 - max z (-z)))) * (((16 * Real.log 2)⁻¹ : ℝ) : EReal) = ((ls z / 16 * (Real.log 2)⁻¹ : ℝ) : EReal) := by
  induction z with
  | bot => exact absurd rfl hz
  | top =>
    rw [show max (⊤ : EReal) (-⊤) = ⊤ from max_eq_left le_top, show min (⊤ : EReal) 0 = 0 from min_eq_right le_top,
      show (0 : EReal) - ⊤ = ⊥ from by simp, Ideal.exp_bot, add_zero, log_one, sub_zero, zero_mul]
    show (0 : EReal) = (((0 : ℝ) / 16 * (Real.log 2)⁻¹ : ℝ) : EReal)
    simp
  | coe r =>
    rw [abs_coe', ← EReal.coe_zero, ← EReal.coe_sub, log1p_exp, min_coe', ← EReal.coe_sub, ← EReal.coe_mul]
    congr 1
    show _ = (min r 0 - Real.log (1 + Real.exp (-|r|))) / 16 * (Real.log 2)⁻¹
    rw [zero_sub, mul_inv]
    ring

theorem sixteen : Ideal.ofBits FTy.f32 1098907648#32 = ((16 : ℝ) : EReal) := by
  simp [Ideal.ofBits, Ideal.ieee, -EReal.coe_mul]; norm_num

/-- What the reference makes of it. -/
theorem ref_ls (z : EReal) (hz : z ≠ ⊥) :
    Ideal.div (-(max (-z) 0 + Ideal.log (1 + Ideal.exp (-(max (-z - 0) (-(-z - 0))))))) (Ideal.ofBits FTy.f32 1098907648#32) = ((ls z / 16 : ℝ) : EReal) := by
  rw [sixteen, Ideal.div, if_neg (by norm_num), ← EReal.coe_inv]
  induction z with
  | bot => exact absurd rfl hz
  | top =>
    rw [sub_zero, show -(⊤ : EReal) = ⊥ from rfl, show -(⊥ : EReal) = ⊤ from rfl, show max (⊥ : EReal) ⊤ = ⊤ from max_eq_right le_top,
      show max (⊥ : EReal) 0 = 0 from max_eq_right bot_le, show -(⊤ : EReal) = ⊥ from rfl, Ideal.exp_bot, add_zero, log_one, add_zero, neg_zero, zero_mul]
    show (0 : EReal) = (((0 : ℝ) / 16 : ℝ) : EReal)
    simp
  | coe r =>
    rw [sub_zero, ← EReal.coe_neg, abs_coe', abs_neg, ← EReal.coe_neg, log1p_exp, ← EReal.coe_zero, max_coe', ← EReal.coe_add, ← EReal.coe_neg, ← EReal.coe_mul]
    congr 1
    show _ = (min r 0 - Real.log (1 + Real.exp (-|r|))) / 16
    have : max (-r) 0 = -min r 0 := by
      rw [← neg_zero, max_neg_neg, neg_zero]
    rw [this]
    ring

end Cert.Mixm

namespace Cert.KernelIdeal.Val

open Cert.KernelIdeal Cert.KernelIdeal.Gen Idealize.ShloMosaic Idealize.ShloMosaic.TcCoe Cert.Mixm

/-- The kernel's log-decays of a tile, in base two. -/
theorem decay_apply (x3 : Vec Ideal S256x128 .f32) (x6 : Vec Ideal S128x512 .bf16) (x7 : Vec Ideal S1x512 .f32) (r : Fin 256) (d : Fin 512) (z : EReal)
    (h : ∑ x : Fin 128, x3 (ix2 r x) * x6 (ix2 x d) + x7 (ix2 0 d) = z) (hz : z ≠ ⊥) :
    k0_pay7 x3 x6 x7 (ix2 r d) = ((ls z / 16 * (Real.log 2)⁻¹ : ℝ) : EReal) := by
  pointwise [k0_pay7]
  rw [h]
  exact ker_ls z hz

end Cert.KernelIdeal.Val

end

end
-- ==== Proof.MixBias.lean ====
/-
  The window attention's distance penalty and its mask, as both programs compute them.
-/
module

public import proofs.«01_k».proof.Proof.MixSpec

@[expose] public section

noncomputable section

namespace Cert.Mixm

open Idealize.ShloMosaic

/-- The distance penalty, as both programs compute it. -/
def biasOf (h i j : Nat) : EReal :=
  -Ideal.pow (Ideal.ofBits FTy.f32 1073741824#32) (Ideal.div (Ideal.ofBits FTy.f32 3238002688#32 * (1 + FloatOps.sitofp (F := Ideal) FTy.f32 (BitVec.ofNat 32 h))) (Ideal.ofBits FTy.f32 1098907648#32))
    * FloatOps.sitofp (F := Ideal) FTy.f32 (IntOp.subi (IntOp.addi (BitVec.ofNat 32 i) 128#32) (BitVec.ofNat 32 j))

theorem mask0_step : ∀ d : Fin 512, IntOp.andi
        (IntOp.cmpi CmpIPredicate.sge (BitVec.ofNat 32 d.val - 256#32) 0#32)
        (IntOp.cmpi CmpIPredicate.slt (BitVec.ofNat 32 d.val - 256#32) 128#32)
      = if 256 ≤ d.val ∧ d.val < 384 then 1#1 else 0#1 := by decide +kernel
theorem mask0 (i : Fin 128) (j : Fin 256) : IntOp.andi
        (IntOp.cmpi CmpIPredicate.sge (IntOp.subi (IntOp.addi (BitVec.ofNat 32 i.val) 128#32) (BitVec.ofNat 32 j.val)) 0#32)
        (IntOp.cmpi CmpIPredicate.slt (IntOp.subi (IntOp.addi (BitVec.ofNat 32 i.val) 128#32) (BitVec.ofNat 32 j.val)) 128#32)
      = if i.val < j.val ∧ j.val ≤ i.val + 128 then 1#1 else 0#1 := by
  have hi := i.isLt
  have hj := j.isLt
  have e : IntOp.subi (IntOp.addi (BitVec.ofNat 32 i.val) 128#32) (BitVec.ofNat 32 j.val) = BitVec.ofNat 32 (i.val + 384 - j.val) - 256#32 := by
    show BitVec.ofNat 32 i.val + 128#32 - BitVec.ofNat 32 j.val = _
    apply BitVec.eq_of_toNat_eq
    simp only [BitVec.toNat_sub, BitVec.toNat_add, BitVec.toNat_ofNat]
    omega
  rw [e]
  refine (mask0_step ⟨i.val + 384 - j.val, by omega⟩).trans ?_
  by_cases c : i.val < j.val ∧ j.val ≤ i.val + 128
  · rw [if_pos c, if_pos (by constructor <;> (show _; simp only []; omega))]
  · rw [if_neg c, if_neg (fun h => c (by have h1 := h.1; have h2 := h.2; simp only [] at h1 h2; omega))]

theorem biasOf_real (h i j : Nat) : ∃ x : ℝ, biasOf h i j = x := by
  have c2 : Ideal.ofBits FTy.f32 1073741824#32 = ((2 : ℝ) : EReal) := by
    simp [Ideal.ofBits, Ideal.ieee, -EReal.coe_mul]; norm_num
  have c8 : Ideal.ofBits FTy.f32 3238002688#32 = ((-8 : ℝ) : EReal) := by
    simp [Ideal.ofBits, Ideal.ieee, -EReal.coe_mul]; norm_num
  have c16 : Ideal.ofBits FTy.f32 1098907648#32 = ((16 : ℝ) : EReal) := by
    simp [Ideal.ofBits, Ideal.ieee, -EReal.coe_mul]; norm_num
  have s : ∀ b : BitVec 32, (FloatOps.sitofp (F := Ideal) FTy.f32 b : EReal) = ((b.toInt : ℝ) : EReal) := fun b => rfl
  unfold biasOf
  rw [c2, c8, c16, s, s]
  generalize (((BitVec.ofNat 32 h).toInt : ℝ)) = a
  generalize (((IntOp.subi (IntOp.addi (BitVec.ofNat 32 i) 128#32) (BitVec.ofNat 32 j)).toInt : ℝ)) = d
  have e : Ideal.div ((-8 : ℝ) * (1 + (a : EReal))) ((16 : ℝ) : EReal) = ((-8 * (1 + a) * 16⁻¹ : ℝ) : EReal) := by
    unfold Ideal.div
    rw [if_neg (by norm_num)]
    norm_cast
  rw [e]
  refine ⟨-(2 ^ (-8 * (1 + a) * 16⁻¹) : ℝ) * d, ?_⟩
  rw [show Ideal.pow ((2 : ℝ) : EReal) ((-8 * (1 + a) * 16⁻¹ : ℝ) : EReal) = (((2 : ℝ) ^ (-8 * (1 + a) * 16⁻¹) : ℝ) : EReal) from rfl]
  norm_cast

end Cert.Mixm

end
-- ==== Proof.MixBlk.lean ====
/-
  The mixing call: its value blocks as functions, and what they are at an index.
-/
module

public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe

/-- Decay factors of one chunk of 64 rows from its log-decays (high and low halves). -/
def fDec1 (o : Fin 2 → Nat) (ho : S256x128.Slices o S64x128) (la : FVec Ideal S256x128 .f32) (w : FVec Ideal S512x128 .bf16) : FVec Ideal S1x512x128 .f32 :=
  shapeCast S1x512x128 (exp2 (matmul dot_S512x128_S128x128_S512x128_1_0_0_1_n_n none w
    (concatenate S128x128 0 [⟨S64x128, extractStridedSlice S64x128 o (truncf .bf16 la bitsLt_bf16_f32) ho⟩,
      ⟨S64x128, extractStridedSlice S64x128 o (truncf .bf16 (subf la (extf .f32 (truncf .bf16 la bitsLt_bf16_f32) bitsLt_bf16_f32)) bitsLt_bf16_f32) ho⟩] concatenates_S64x128_S64x128_S128x128_d0)
    (constant S512x128 .f32 0x00000000#32))) shapeCasts_S512x128_S1x512x128

/-- The decay factors of a tile's four chunks. -/
def fDec (la : FVec Ideal S256x128 .f32) (w : FVec Ideal S512x128 .bf16) : FVec Ideal S4x512x128 .f32 :=
  concatenate S4x512x128 0 [⟨S1x512x128, fDec1 ![0, 0] slices_S256x128_o0_0_S64x128 la w⟩, ⟨S1x512x128, fDec1 ![64, 0] slices_S256x128_o64_0_S64x128 la w⟩,
    ⟨S1x512x128, fDec1 ![128, 0] slices_S256x128_o128_0_S64x128 la w⟩, ⟨S1x512x128, fDec1 ![192, 0] slices_S256x128_o192_0_S64x128 la w⟩] concatenates_S1x512x128_S1x512x128_S1x512x128_S1x512x128_S4x512x128_d0

/-- The masked scores of a tile's chunks. -/
def fA (e : FVec Ideal S4x512x128 .f32) (q k : FVec Ideal S256x128 .bf16) (pm : FVec Ideal S7x64x64 .f32) : FVec Ideal S4x64x64 .f32 :=
  k0_pay68 (k0_pay63 e) (k0_pay64 q) (k0_pay65 k) pm

/-- The state after one, two, three and four chunks. -/
def fSt1 (st : FVec Ideal S256x128 .f32) (e : FVec Ideal S4x512x128 .f32) (k : FVec Ideal S256x128 .bf16) (v : FVec Ideal S256x256 .bf16) : FVec Ideal S256x128 .f32 :=
  k0_pay71 st (k0_pay61 e) (k0_pay62 e) (k0_pay65 k) (k0_pay66 v)
@[inherit_doc fSt1] def fSt2 (st : FVec Ideal S256x128 .f32) (e : FVec Ideal S4x512x128 .f32) (k : FVec Ideal S256x128 .bf16) (v : FVec Ideal S256x256 .bf16) : FVec Ideal S256x128 .f32 :=
  k0_pay72 (k0_pay61 e) (k0_pay66 v) (k0_pay69 (k0_pay62 e) (k0_pay65 k)) (fSt1 st e k v)
@[inherit_doc fSt1] def fSt3 (st : FVec Ideal S256x128 .f32) (e : FVec Ideal S4x512x128 .f32) (k : FVec Ideal S256x128 .bf16) (v : FVec Ideal S256x256 .bf16) : FVec Ideal S256x128 .f32 :=
  k0_pay73 (k0_pay61 e) (k0_pay66 v) (k0_pay69 (k0_pay62 e) (k0_pay65 k)) (fSt1 st e k v)
@[inherit_doc fSt1] def fSt4 (st : FVec Ideal S256x128 .f32) (e : FVec Ideal S4x512x128 .f32) (k : FVec Ideal S256x128 .bf16) (v : FVec Ideal S256x256 .bf16) : FVec Ideal S1x256x128 .f32 :=
  k0_pay77 (k0_pay61 e) (k0_pay66 v) (k0_pay69 (k0_pay62 e) (k0_pay65 k)) (fSt1 st e k v)

/-- The states before the four chunks. -/
def fStack (st : FVec Ideal S256x128 .f32) (e : FVec Ideal S4x512x128 .f32) (k : FVec Ideal S256x128 .bf16) (v : FVec Ideal S256x256 .bf16) : FVec Ideal S4x256x128 .bf16 :=
  k0_pay75 (k0_pay61 e) (k0_pay66 v) (k0_pay69 (k0_pay62 e) (k0_pay65 k)) (k0_pay70 st) (fSt1 st e k v)

/-- One head's normed and gated output. -/
def fY (e : FVec Ideal S4x512x128 .f32) (q k : FVec Ideal S256x128 .bf16) (v : FVec Ideal S256x256 .bf16) (stk : FVec Ideal S4x256x128 .bf16) (a : FVec Ideal S4x64x64 .f32)
    (r : FVec Ideal S256x256 .bf16) (gain : FVec Ideal S1x256 .f32) : FVec Ideal S1x256x256 .bf16 :=
  k0_pay264 (k0_pay66 v) (k0_pay74 (k0_pay61 e) (k0_pay64 q)) stk (k0_pay76 a) r gain

/-- Window attention scores of one head (keys by queries), its query in the first, or the second, half of the lanes. -/
def fScoreE (o : Fin 2 → Nat) (ho : S1024x128.Slices o S64x128) (p : Fin 2 → Nat) (hp : S256x512.Slices p S256x128) (q : FVec Ideal S128x1024 .bf16) (keys : FVec Ideal S256x512 .bf16)
    (bias : FVec Ideal S1x1x256x128 .f32) : FVec Ideal S256x128 .f32 :=
  addf (matmul dot_S256x128_S128x128_S256x128_1_0_0_1_n_n none (extractStridedSlice S256x128 p keys hp)
    (concatenate S128x128 0 [⟨S64x128, extractStridedSlice S64x128 o (k0_pay37 q) ho⟩, ⟨S64x128, k0_pay38 (F := Ideal)⟩] concatenates_S64x128_S64x128_S128x128_d0)
    (constant S256x128 .f32 0x00000000#32)) (shapeCast S256x128 bias shapeCasts_S1x1x256x128_S256x128)
@[inherit_doc fScoreE] def fScoreO (o : Fin 2 → Nat) (ho : S1024x128.Slices o S64x128) (p : Fin 2 → Nat) (hp : S256x512.Slices p S256x128) (q : FVec Ideal S128x1024 .bf16) (keys : FVec Ideal S256x512 .bf16)
    (bias : FVec Ideal S1x1x256x128 .f32) : FVec Ideal S256x128 .f32 :=
  addf (matmul dot_S256x128_S128x128_S256x128_1_0_0_1_n_n none (extractStridedSlice S256x128 p keys hp)
    (concatenate S128x128 0 [⟨S64x128, k0_pay38 (F := Ideal)⟩, ⟨S64x128, extractStridedSlice S64x128 o (k0_pay37 q) ho⟩] concatenates_S64x128_S64x128_S128x128_d0)
    (constant S256x128 .f32 0x00000000#32)) (shapeCast S256x128 bias shapeCasts_S1x1x256x128_S256x128)

/-- Attention-weighted values of one head. -/
def fVal (o : Fin 2 → Nat) (ho : S256x256.Slices o S64x256) (vt : FVec Ideal S256x256 .bf16) (s : FVec Ideal S256x128 .f32) (sink : Elt Ideal .f32) : FVec Ideal S64x128 .f32 :=
  mulf (matmul dot_S64x256_S256x128_S64x128_1_0_0_1_n_n none (extractStridedSlice S64x256 o vt ho) (k0_pay183 s sink) (constant S64x128 .f32 0x00000000#32))
    (broadcastTo S64x128 (k0_pay182 s sink) broadcasts_S1x128_S64x128)

end Cert.KernelIdeal.Val

end
-- ==== Proof.MixGla.lean ====
/-
  The mixing call's linear attention: what one tile's blocks are, of the layer's mathematics.
-/
module

public import proofs.«01_k».proof.Proof.MixBlk
public import proofs.«01_k».proof.Proof.MixSpec

@[expose] public section

set_option maxRecDepth 16384
set_option maxHeartbeats 1000000

noncomputable section

namespace Cert.KernelIdeal.Val

open Cert.KernelIdeal Cert.KernelIdeal.Gen Idealize.ShloMosaic Idealize.ShloMosaic.TcCoe Cert.Mixm

variable (I : Inp)

theorem coe_sum {ι : Type} (s : Finset ι) (f : ι → ℝ) : ((∑ x ∈ s, f x : ℝ) : EReal) = ∑ x ∈ s, (f x : EReal) := by
  classical
  induction s using Finset.induction_on with
  | empty => rfl
  | insert a s ha ih => rw [Finset.sum_insert ha, Finset.sum_insert ha, EReal.coe_add, ih]

theorem exp2_sum (p : Fin 64 → Prop) [DecidablePred p] (w w' f : Fin 64 → EReal) (a : Fin 64 → ℝ)
    (hw : ∀ x, w x = if p x then 1 else 0) (hf : ∀ x, f x = ((a x * (Real.log 2)⁻¹ : ℝ) : EReal)) :
    Ideal.exp2 (∑ x, w x * f x + ∑ x, w' x * (f x - f x)) = ex (∑ x, if p x then a x else 0) := by
  have h1 : ∑ x, w' x * (f x - f x) = 0 := by
    refine Finset.sum_eq_zero fun x _ => ?_
    rw [hf, ← EReal.coe_sub, sub_self, EReal.coe_zero, mul_zero]
  have h2 : ∑ x, w x * f x = (((∑ x, if p x then a x else 0) * (Real.log 2)⁻¹ : ℝ) : EReal) := by
    rw [Finset.sum_mul, coe_sum]
    refine Finset.sum_congr rfl fun x _ => ?_
    rw [hw, hf]
    by_cases h : p x
    · rw [if_pos h, if_pos h, one_mul]
    · rw [if_neg h, if_neg h, zero_mul, zero_mul, EReal.coe_zero]
  rw [h1, h2, add_zero, Ideal.exp2_coe]
  unfold ex
  congr 1
  show (2 : ℝ) ^ (_ : ℝ) = _
  rw [Real.rpow_def_of_pos (by norm_num)]
  congr 1
  have : Real.log 2 ≠ 0 := (Real.log_pos (by norm_num)).ne'
  field_simp

theorem fDec_apply (n0 h : Nat) (la : FVec Ideal S256x128 .f32) (w : FVec Ideal S512x128 .bf16)
    (hla : ∀ (r : Fin 256) (d : Fin 128), la (ix2 r d) = ((I.A (64 * n0 + r.val) (128 * h + d.val) * (Real.log 2)⁻¹ : ℝ) : EReal))
    (hw : ∀ (i : Fin 512) (t : Fin 64), w (ix2 i ⟨t.val, by omega⟩) = if wt i.val t.val then 1 else 0)
    (g : Fin 4) (i : Fin 512) (d : Fin 128) :
    fDec la w (ix3 g i d) = ex (ds I (n0 + g.val) (128 * h + d.val) i.val) := by
  pointwise [fDec, fDec1]
  have key : ∀ (o : Nat) (ho : o = 64 * g.val), FloatOps.exp2 (F := Ideal) (φ := .f32)
        (∑ x : Fin 64, w (ix2 i ⟨x.val, by omega⟩) * la (ix2 ⟨o + x.val, by omega⟩ d) +
          ∑ x : Fin 64, w (ix2 i ⟨64 + x.val, by omega⟩) * (la (ix2 ⟨o + x.val, by omega⟩ d) - la (ix2 ⟨o + x.val, by omega⟩ d)))
      = ex (ds I (n0 + g.val) (128 * h + d.val) i.val) := by
    intro o ho
    unfold ds
    refine exp2_sum (fun x => wt i.val x.val) (fun x => w (ix2 i ⟨x.val, by omega⟩)) (fun x => w (ix2 i ⟨64 + x.val, by omega⟩)) (fun x => la (ix2 ⟨o + x.val, by omega⟩ d)) _ (fun x => hw i x) fun x => ?_
    rw [hla]
    show ((I.A (64 * n0 + (o + x.val)) (128 * h + d.val) * (Real.log 2)⁻¹ : ℝ) : EReal) = _
    rw [show 64 * n0 + (o + x.val) = 64 * (n0 + g.val) + x.val by omega]
  have z : ∀ x : Fin 64, (⟨x.val, by omega⟩ : Fin 256) = ⟨0 + x.val, by omega⟩ := fun x => Fin.ext (Nat.zero_add _).symm
  have hg := g.isLt
  by_cases c0 : g.val < 1
  · rw [dif_pos c0]; simp only [z]; exact key 0 (by omega)
  · rw [dif_neg c0]
    by_cases c1 : g.val - 1 < 1
    · rw [dif_pos c1]; exact key 64 (by omega)
    · rw [dif_neg c1]
      by_cases c2 : g.val - 1 - 1 < 1
      · rw [dif_pos c2]; exact key 128 (by omega)
      · rw [dif_neg c2]; exact key 192 (by omega)

/-- The tile's operands of one head: its queries, keys, values, and decay factors. -/
structure Head (n0 h : Nat) (e : FVec Ideal S4x512x128 .f32) (q k : FVec Ideal S256x128 .bf16) (v : FVec Ideal S256x256 .bf16) : Prop where
  he : ∀ (g : Fin 4) (i : Fin 512) (d : Fin 128), e (ix3 g i d) = ex (ds I (n0 + g.val) (128 * h + d.val) i.val)
  hq : ∀ (r : Fin 256) (d : Fin 128), q (ix2 r d) = I.P (64 * n0 + r.val) (7168 + (128 * h + d.val))
  hk : ∀ (r : Fin 256) (d : Fin 128), k (ix2 r d) = I.P (64 * n0 + r.val) (7680 + (128 * h + d.val))
  hv : ∀ (r : Fin 256) (d : Fin 256), v (ix2 r d) = I.P (64 * n0 + r.val) (4096 + (256 * h + d.val))

variable {I} {n0 h : Nat} {e : FVec Ideal S4x512x128 .f32} {q k : FVec Ideal S256x128 .bf16} {v : FVec Ideal S256x256 .bf16}

theorem Head.cum (H : Head I n0 h e q k v) (g : Fin 4) (i : Nat) (hi : i < 64) (hi' : i < 512) (d : Fin 128) :
    e (ix3 g ⟨i, hi'⟩ d) = ex (bc I (n0 + g.val) (128 * h + d.val) i) := by
  rw [H.he, ds_cum _ _ _ _ hi]

theorem Head.rev (H : Head I n0 h e q k v) (g : Fin 4) (i : Nat) (hi : i < 64) (hi' : 64 + i < 512) (d : Fin 128) :
    e (ix3 g ⟨64 + i, hi'⟩ d) = ex (bc I (n0 + g.val) (128 * h + d.val) 63 - bc I (n0 + g.val) (128 * h + d.val) i) := by
  rw [H.he, ds_rev _ _ _ _ hi]

theorem fA_apply (H : Head I n0 h e q k v) (pm : FVec Ideal S7x64x64 .f32)
    (hpm : ∀ (l : Fin 7) (i j : Fin 64), pm (ix3 l i j) = if pmk l i j then 1 else 0) (g : Fin 4) (i j : Fin 64) :
    fA e q k pm (ix3 g i j) = att I (n0 + g.val) h i.val j.val := by
  pointwise [fA, k0_pay68, k0_pay63, k0_pay64, k0_pay65]
  rw [Fin.sum_univ_one]
  have hq' : ∀ x : Fin 128, q (ix2 ⟨g.val * 64 + i.val, by omega⟩ x) * Ideal.ofBits FTy.f32 1035273459#32 = Qr I (64 * (n0 + g.val) + i.val) (128 * h + x.val) := fun x => by
    rw [H.hq]; unfold Qr; congr 2; show 64 * n0 + (g.val * 64 + i.val) = _; omega
  have hk' : ∀ x : Fin 128, k (ix2 ⟨g.val * 64 + j.val, by omega⟩ x) = Kr I (64 * (n0 + g.val) + j.val) (128 * h + x.val) := fun x => by
    rw [H.hk]; unfold Kr; congr 1; show 64 * n0 + (g.val * 64 + j.val) = _; omega
  simp only [hq', hk']
  refine Eq.trans ?_ (level_sum I (n0 + g.val) h i j (fun d => Qr I (64 * (n0 + g.val) + i.val) (128 * h + d.val)) (fun d => Kr I (64 * (n0 + g.val) + j.val) (128 * h + d.val))
    (fun l d => if hl : l < 384 then e (ix3 g ⟨128 + l, by omega⟩ d) else 0) (fun l hl d => by rw [dif_pos hl, H.he]) (fun l => pm (ix3 l i j)) (fun l => hpm l i j))
  refine congrArg₂ (· + ·) (Finset.sum_congr rfl fun x _ => congrArg₂ (· * ·) (Finset.sum_congr rfl fun d _ => ?_) rfl) rfl
  rw [dif_pos (show x.val * 64 + i.val < 384 by omega), dif_pos (show x.val * 64 + j.val < 384 by omega)]

/-- One chunk's step of the state. -/
theorem Head.step (H : Head I n0 h e q k v) (g : Fin 4) (o : Nat) (ho : o = 64 * g.val) (a : Fin 256) (d : Fin 128) (s : EReal)
    (hs : s = S I (n0 + g.val) h a.val d.val) :
    s * e (ix3 g 63 d) + ∑ x : Fin 64, v (ix2 ⟨o + x.val, by omega⟩ a) * (k (ix2 ⟨o + x.val, by omega⟩ d) * e (ix3 g ⟨64 + x.val, by omega⟩ d))
      = Sn I (n0 + g.val) h a.val d.val := by
  subst hs ho
  unfold Sn upd
  refine congrArg₂ (· + ·) (congrArg _ (H.cum g 63 (by omega) (by omega) d)) (Finset.sum_congr rfl fun x _ => ?_)
  rw [H.hv, H.hk, H.rev g x.val x.isLt]
  unfold Vr Kr
  have e1 : 64 * n0 + (64 * g.val + x.val) = 64 * (n0 + g.val) + x.val := by omega
  simp only [e1]

theorem fSt1_apply (H : Head I n0 h e q k v) (st : FVec Ideal S256x128 .f32) (hst : ∀ a d, st (ix2 a d) = S I n0 h a.val d.val) (a : Fin 256) (d : Fin 128) :
    fSt1 st e k v (ix2 a d) = Sn I n0 h a.val d.val := by
  have h0 := H.step 0 0 rfl a d _ (hst a d)
  pointwise [fSt1, k0_pay71, k0_pay69, k0_pay61, k0_pay62, k0_pay65, k0_pay66]
  refine Eq.trans ?_ h0
  simp only [Nat.zero_add]

theorem fSt2_apply (H : Head I n0 h e q k v) (hn : n0 % 4 = 0) (st : FVec Ideal S256x128 .f32) (hst : ∀ a d, st (ix2 a d) = S I n0 h a.val d.val) (a : Fin 256) (d : Fin 128) :
    fSt2 st e k v (ix2 a d) = Sn I (n0 + 1) h a.val d.val := by
  have h0 := H.step 1 64 rfl a d _ ((fSt1_apply H st hst a d).trans (S_succ I n0 h _ _ (by omega)).symm)
  refine Eq.trans ?_ h0
  unfold fSt2
  generalize fSt1 st e k v = s1
  pointwise [k0_pay72, k0_pay69, k0_pay61, k0_pay62, k0_pay65, k0_pay66]

theorem fSt3_apply (H : Head I n0 h e q k v) (hn : n0 % 4 = 0) (st : FVec Ideal S256x128 .f32) (hst : ∀ a d, st (ix2 a d) = S I n0 h a.val d.val) (a : Fin 256) (d : Fin 128) :
    fSt3 st e k v (ix2 a d) = Sn I (n0 + 2) h a.val d.val := by
  have h0 := H.step 2 128 rfl a d _ ((fSt2_apply H hn st hst a d).trans (S_succ I (n0 + 1) h _ _ (by omega)).symm)
  refine Eq.trans ?_ h0
  unfold fSt3 fSt2
  generalize fSt1 st e k v = s1
  pointwise [k0_pay73, k0_pay72, k0_pay69, k0_pay61, k0_pay62, k0_pay65, k0_pay66]

theorem fSt4_apply (H : Head I n0 h e q k v) (hn : n0 % 4 = 0) (st : FVec Ideal S256x128 .f32) (hst : ∀ a d, st (ix2 a d) = S I n0 h a.val d.val) (z : Fin 1) (a : Fin 256) (d : Fin 128) :
    fSt4 st e k v (ix3 z a d) = Sn I (n0 + 3) h a.val d.val := by
  have h0 := H.step 3 192 rfl a d _ ((fSt3_apply H hn st hst a d).trans (S_succ I (n0 + 2) h _ _ (by omega)).symm)
  refine Eq.trans ?_ h0
  unfold fSt4 fSt3
  generalize fSt1 st e k v = s1
  pointwise [k0_pay77, k0_pay73, k0_pay72, k0_pay69, k0_pay61, k0_pay62, k0_pay65, k0_pay66]

theorem fStack_apply (H : Head I n0 h e q k v) (hn : n0 % 4 = 0) (st : FVec Ideal S256x128 .f32) (hst : ∀ a d, st (ix2 a d) = S I n0 h a.val d.val) (g : Fin 4) (a : Fin 256) (d : Fin 128) :
    fStack st e k v (ix3 g a d) = S I (n0 + g.val) h a.val d.val := by
  have h1 := fSt1_apply H st hst a d
  have h2 := fSt2_apply H hn st hst a d
  have h3 := fSt3_apply H hn st hst a d
  unfold fSt2 at h2
  unfold fSt3 at h3
  unfold fStack
  generalize fSt1 st e k v = s1 at h1 h2 h3 ⊢
  pointwise [k0_pay75, k0_pay70]
  have hg := g.isLt
  split_ifs
  · have e1 : n0 + g.val = n0 := by omega
    rw [hst, e1]
  · have e1 : n0 + g.val = n0 + 1 := by omega
    rw [h1, e1, S_succ I n0 h _ _ (by omega)]
  · have e1 : n0 + g.val = n0 + 1 + 1 := by omega
    rw [h2, e1, S_succ I (n0 + 1) h _ _ (by omega)]
  · have e1 : n0 + g.val = n0 + 2 + 1 := by omega
    rw [h3, e1, S_succ I (n0 + 2) h _ _ (by omega)]

theorem fY_apply (H : Head I n0 h e q k v) (stk : FVec Ideal S4x256x128 .bf16) (hst : ∀ g a d, stk (ix3 g a d) = S I (n0 + g.val) h a.val d.val)
    (A : FVec Ideal S4x64x64 .f32) (hA : ∀ g i j, A (ix3 g i j) = att I (n0 + g.val) h i.val j.val)
    (r : FVec Ideal S256x256 .bf16) (hr : ∀ (i x : Fin 256), r (ix2 i x) = I.P (64 * n0 + i.val) (5120 + (256 * h + x.val)))
    (gain : FVec Ideal S1x256 .f32) (hg : ∀ x : Fin 256, gain (ix2 0 x) = I.gain x.val) (z : Fin 1) (i x : Fin 256) :
    fY e q k v stk A r gain (ix3 z i x) = yA I (n0 + i.val / 64) h (i.val % 64) x.val := by
  pointwise [fY, k0_pay264, k0_pay66, k0_pay74, k0_pay61, k0_pay64, k0_pay76]
  have e1 : 64 * n0 + i.val = 64 * (n0 + i.val / 64) + i.val % 64 := by omega
  have ho : ∀ x : Fin 256, ∑ x_1 : Fin 128, q (ix2 i x_1) * Ideal.ofBits FTy.f32 1035273459#32 * e (ix3 ⟨i.val / 64, by omega⟩ ⟨i.val % 64, by omega⟩ x_1) *
                stk (ix3 ⟨i.val / 64, by omega⟩ x x_1) +
            ∑ x_1 : Fin 64, A (ix3 ⟨i.val / 64, by omega⟩ ⟨i.val % 64, by omega⟩ x_1) * v (ix2 ⟨i.val / 64 * 64 + x_1.val, by omega⟩ x)
      = oA I (n0 + i.val / 64) h (i.val % 64) x.val := by
    intro x
    unfold oA
    refine congrArg₂ (· + ·) (Finset.sum_congr rfl fun d _ => ?_) (Finset.sum_congr rfl fun d _ => ?_)
    · rw [H.hq, H.cum _ _ (by omega) (by omega), hst]
      unfold Qr; rw [e1]
    · rw [hA, H.hv]
      unfold Vr
      have e2 : 64 * n0 + (i.val / 64 * 64 + d.val) = 64 * (n0 + i.val / 64) + d.val := by omega
      simp only [e2]
  simp only [ho]
  rw [hr, hg, e1]
  rfl

end Cert.KernelIdeal.Val

end
-- ==== Proof.MixSwa.lean ====
/-
  The mixing call's window attention: what one tile's blocks are, of the layer's mathematics.
-/
module

public import proofs.«01_k».proof.Proof.MixBlk
public import proofs.«01_k».proof.Proof.MixSpec
public import Idealize.ShloMosaic.Lib.IdealHost

@[expose] public section

set_option maxRecDepth 16384
set_option maxHeartbeats 1000000

noncomputable section

namespace Cert.KernelIdeal.Val

open Cert.KernelIdeal Cert.KernelIdeal.Gen Idealize.ShloMosaic Idealize.ShloMosaic.TcCoe Cert.Mixm

variable (I : Inp)

theorem eighth_bf16 : Ideal.ofBits .bf16 0x3E00#16 = ((1 / 8 : ℝ) : EReal) := by
  simp [Ideal.ofBits, Ideal.ieee, -EReal.coe_mul]; norm_num

theorem ninf_f32 : Ideal.ofBits .f32 0xFF800000#32 = ⊥ := by
  simp [Ideal.ofBits, Ideal.ieee]

theorem mul_eighth (f : Fin 64 → EReal) (c : ℝ) (hc : 0 ≤ c) (s : Finset (Fin 64)) : (∑ x ∈ s, f x) * (c : EReal) = ∑ x ∈ s, f x * (c : EReal) := by
  classical
  induction s using Finset.induction_on with
  | empty => rw [Finset.sum_empty, Finset.sum_empty, zero_mul]
  | insert a s ha ih => rw [Finset.sum_insert ha, Finset.sum_insert ha, EReal.right_distrib_of_nonneg_of_ne_top (by exact_mod_cast hc) (EReal.coe_ne_top _), ih]

/-- The score of a pair from the dot of its key and its scaled query, the masked pairs falling to minus infinity. -/
theorem sc_of (n h i j : Nat) (keys q : Fin 64 → EReal) (b : EReal)
    (hk : (n % 16 ≠ 0 ∨ 128 ≤ j) → ∀ x : Fin 64, keys x = I.P (128 * n + j - 128) (8192 + (64 * (h / 4) + x.val)))
    (hq : ∀ x : Fin 64, q x = I.P (128 * n + i) (6144 + (64 * h + x.val)))
    (hb : b = if ok n i j then I.bias h i j else ⊥) :
    ∑ x, keys x * (q x * Ideal.ofBits FTy.bf16 0x3E00#16) + b = sc I n h i j := by
  subst hb
  unfold sc
  by_cases c : ok n i j
  · rw [if_pos c, if_pos c, mul_eighth _ _ (by norm_num), eighth_bf16]
    refine congrArg (· + _) (Finset.sum_congr rfl fun x _ => ?_)
    rw [hk c.2.2, hq, mul_assoc]
  · rw [if_neg c, if_neg c, EReal.add_bot]

theorem fVal_apply (n h : Nat) (o : Fin 2 → Nat) (ho : S256x256.Slices o S64x256) (vt : FVec Ideal S256x256 .bf16) (s : FVec Ideal S256x128 .f32) (sink : Elt Ideal .f32)
    (hs : ∀ (j : Fin 256) (i : Fin 128), s (ix2 j i) = sc I n h i.val j.val)
    (hv : ∀ (d : Fin 64) (j : Fin 256), (n % 16 ≠ 0 ∨ 128 ≤ j.val) → extractStridedSlice S64x256 o vt ho (ix2 d j) = I.P (128 * n + j.val - 128) (8448 + (64 * (h / 4) + d.val)))
    (hk : sink = I.sink h) (d : Fin 64) (i : Fin 128) :
    fVal o ho vt s sink (ix2 d i) = yB I n h i.val d.val := by
  unfold fVal
  generalize extractStridedSlice S64x256 o vt ho = vs at hv ⊢
  have hm : ∀ z : Fin 1, k0_pay180 s sink (ix2 z i) = mB I n h i.val := by
    intro z
    pointwise [k0_pay180]
    simp only [hs, hk]
    show max (Finset.fold max (Ideal.ofBits FTy.f32 0xFF800000#32) _ _) _ = _
    rw [ninf_f32]; rfl
  have hp : ∀ j : Fin 256, k0_pay181 s sink (ix2 j i) = Ideal.exp (sc I n h i.val j.val - mB I n h i.val) := by
    intro j
    unfold k0_pay181
    generalize k0_pay180 s sink = mm at hm
    pointwise []
    rw [hs, hm]
  unfold k0_pay183 k0_pay182
  generalize k0_pay180 s sink = mm at hm ⊢
  generalize k0_pay181 s sink = pp at hp ⊢
  pointwise []
  simp only [hp, hm, hk]
  unfold yB dB
  refine congrArg (· * _) (Finset.sum_congr rfl fun j _ => ?_)
  by_cases c : ok n i.val j.val
  · rw [hv _ _ c.2.2]
  · have : sc I n h i.val j.val = ⊥ := by unfold sc; rw [if_neg c]
    rw [this, EReal.bot_sub, Ideal.exp_bot, mul_zero, mul_zero]

/-- The operands of one window block: its queries, keys, values and penalties. -/
structure Win (n : Nat) (q : FVec Ideal S128x1024 .bf16) (keys : FVec Ideal S256x512 .bf16) (vt : FVec Ideal S256x256 .bf16) : Prop where
  hq : ∀ (i : Fin 128) (x : Fin 1024), q (ix2 i x) = I.P (128 * n + i.val) (6144 + x.val)
  hk : ∀ (j : Fin 256) (x : Fin 512), (n % 16 ≠ 0 ∨ 128 ≤ j.val) → keys (ix2 j x) = I.P (128 * n + j.val - 128) (8192 + x.val)
  hv : ∀ (x : Fin 256) (j : Fin 256), (n % 16 ≠ 0 ∨ 128 ≤ j.val) → vt (ix2 x j) = I.P (128 * n + j.val - 128) (8448 + x.val)

variable {I} {n : Nat} {q : FVec Ideal S128x1024 .bf16} {keys : FVec Ideal S256x512 .bf16} {vt : FVec Ideal S256x256 .bf16}

theorem score0 (W : Win I n q keys vt) (b : FVec Ideal S1x1x256x128 .f32)
    (hb : ∀ (j : Fin 256) (i : Fin 128), b (ix4 0 0 j i) = if ok n i.val j.val then I.bias 0 i.val j.val else ⊥) (j : Fin 256) (i : Fin 128) :
    fScoreE ![0, 0] slices_S1024x128_o0_0_S64x128 ![0, 0] slices_S256x512_o0_0_S256x128 q keys b (ix2 j i) = sc I n 0 i.val j.val := by
  have key := sc_of I n 0 i.val j.val (fun x => keys (ix2 j ⟨0 + x.val, by omega⟩)) (fun x => q (ix2 i ⟨0 + x.val, by omega⟩)) _ (fun c x => W.hk j _ c) (fun x => W.hq i _) (hb j i)
  refine Eq.trans ?_ key
  pointwise [fScoreE, k0_pay37, k0_pay38]
  simp only [mul_zero, Finset.sum_const_zero, add_zero, zero_add, Nat.reduceAdd, ← Nat.add_assoc]

theorem val0 (W : Win I n q keys vt) (s : FVec Ideal S256x128 .f32) (hs : ∀ (j : Fin 256) (i : Fin 128), s (ix2 j i) = sc I n 0 i.val j.val)
    (sink : Elt Ideal .f32) (hk : sink = I.sink 0) (d : Fin 64) (i : Fin 128) :
    fVal ![0, 0] slices_S256x256_o0_0_S64x256 vt s sink (ix2 d i) = yB I n 0 i.val d.val := by
  refine fVal_apply I n 0 _ _ _ _ _ hs (fun d j c => ?_) hk d i
  pointwise []
  rw [W.hv _ _ c]

theorem score1 (W : Win I n q keys vt) (b : FVec Ideal S1x1x256x128 .f32)
    (hb : ∀ (j : Fin 256) (i : Fin 128), b (ix4 0 0 j i) = if ok n i.val j.val then I.bias 1 i.val j.val else ⊥) (j : Fin 256) (i : Fin 128) :
    fScoreE ![64, 0] slices_S1024x128_o64_0_S64x128 ![0, 0] slices_S256x512_o0_0_S256x128 q keys b (ix2 j i) = sc I n 1 i.val j.val := by
  have key := sc_of I n 1 i.val j.val (fun x => keys (ix2 j ⟨0 + x.val, by omega⟩)) (fun x => q (ix2 i ⟨64 + x.val, by omega⟩)) _ (fun c x => W.hk j _ c) (fun x => W.hq i _) (hb j i)
  refine Eq.trans ?_ key
  pointwise [fScoreE, k0_pay37, k0_pay38]
  simp only [mul_zero, Finset.sum_const_zero, add_zero, zero_add, Nat.reduceAdd, ← Nat.add_assoc]

theorem val1 (W : Win I n q keys vt) (s : FVec Ideal S256x128 .f32) (hs : ∀ (j : Fin 256) (i : Fin 128), s (ix2 j i) = sc I n 1 i.val j.val)
    (sink : Elt Ideal .f32) (hk : sink = I.sink 1) (d : Fin 64) (i : Fin 128) :
    fVal ![0, 0] slices_S256x256_o0_0_S64x256 vt s sink (ix2 d i) = yB I n 1 i.val d.val := by
  refine fVal_apply I n 1 _ _ _ _ _ hs (fun d j c => ?_) hk d i
  pointwise []
  rw [W.hv _ _ c]

theorem score2 (W : Win I n q keys vt) (b : FVec Ideal S1x1x256x128 .f32)
    (hb : ∀ (j : Fin 256) (i : Fin 128), b (ix4 0 0 j i) = if ok n i.val j.val then I.bias 2 i.val j.val else ⊥) (j : Fin 256) (i : Fin 128) :
    fScoreE ![128, 0] slices_S1024x128_o128_0_S64x128 ![0, 0] slices_S256x512_o0_0_S256x128 q keys b (ix2 j i) = sc I n 2 i.val j.val := by
  have key := sc_of I n 2 i.val j.val (fun x => keys (ix2 j ⟨0 + x.val, by omega⟩)) (fun x => q (ix2 i ⟨128 + x.val, by omega⟩)) _ (fun c x => W.hk j _ c) (fun x => W.hq i _) (hb j i)
  refine Eq.trans ?_ key
  pointwise [fScoreE, k0_pay37, k0_pay38]
  simp only [mul_zero, Finset.sum_const_zero, add_zero, zero_add, Nat.reduceAdd, ← Nat.add_assoc]

theorem val2 (W : Win I n q keys vt) (s : FVec Ideal S256x128 .f32) (hs : ∀ (j : Fin 256) (i : Fin 128), s (ix2 j i) = sc I n 2 i.val j.val)
    (sink : Elt Ideal .f32) (hk : sink = I.sink 2) (d : Fin 64) (i : Fin 128) :
    fVal ![0, 0] slices_S256x256_o0_0_S64x256 vt s sink (ix2 d i) = yB I n 2 i.val d.val := by
  refine fVal_apply I n 2 _ _ _ _ _ hs (fun d j c => ?_) hk d i
  pointwise []
  rw [W.hv _ _ c]

theorem score3 (W : Win I n q keys vt) (b : FVec Ideal S1x1x256x128 .f32)
    (hb : ∀ (j : Fin 256) (i : Fin 128), b (ix4 0 0 j i) = if ok n i.val j.val then I.bias 3 i.val j.val else ⊥) (j : Fin 256) (i : Fin 128) :
    fScoreE ![192, 0] slices_S1024x128_o192_0_S64x128 ![0, 0] slices_S256x512_o0_0_S256x128 q keys b (ix2 j i) = sc I n 3 i.val j.val := by
  have key := sc_of I n 3 i.val j.val (fun x => keys (ix2 j ⟨0 + x.val, by omega⟩)) (fun x => q (ix2 i ⟨192 + x.val, by omega⟩)) _ (fun c x => W.hk j _ c) (fun x => W.hq i _) (hb j i)
  refine Eq.trans ?_ key
  pointwise [fScoreE, k0_pay37, k0_pay38]
  simp only [mul_zero, Finset.sum_const_zero, add_zero, zero_add, Nat.reduceAdd, ← Nat.add_assoc]

theorem val3 (W : Win I n q keys vt) (s : FVec Ideal S256x128 .f32) (hs : ∀ (j : Fin 256) (i : Fin 128), s (ix2 j i) = sc I n 3 i.val j.val)
    (sink : Elt Ideal .f32) (hk : sink = I.sink 3) (d : Fin 64) (i : Fin 128) :
    fVal ![0, 0] slices_S256x256_o0_0_S64x256 vt s sink (ix2 d i) = yB I n 3 i.val d.val := by
  refine fVal_apply I n 3 _ _ _ _ _ hs (fun d j c => ?_) hk d i
  pointwise []
  rw [W.hv _ _ c]

theorem score4 (W : Win I n q keys vt) (b : FVec Ideal S1x1x256x128 .f32)
    (hb : ∀ (j : Fin 256) (i : Fin 128), b (ix4 0 0 j i) = if ok n i.val j.val then I.bias 4 i.val j.val else ⊥) (j : Fin 256) (i : Fin 128) :
    fScoreO ![256, 0] slices_S1024x128_o256_0_S64x128 ![0, 0] slices_S256x512_o0_0_S256x128 q keys b (ix2 j i) = sc I n 4 i.val j.val := by
  have key := sc_of I n 4 i.val j.val (fun x => keys (ix2 j ⟨64 + x.val, by omega⟩)) (fun x => q (ix2 i ⟨256 + x.val, by omega⟩)) _ (fun c x => W.hk j _ c) (fun x => W.hq i _) (hb j i)
  refine Eq.trans ?_ key
  pointwise [fScoreO, k0_pay37, k0_pay38]
  simp only [mul_zero, Finset.sum_const_zero, add_zero, zero_add, Nat.reduceAdd, ← Nat.add_assoc]

theorem val4 (W : Win I n q keys vt) (s : FVec Ideal S256x128 .f32) (hs : ∀ (j : Fin 256) (i : Fin 128), s (ix2 j i) = sc I n 4 i.val j.val)
    (sink : Elt Ideal .f32) (hk : sink = I.sink 4) (d : Fin 64) (i : Fin 128) :
    fVal ![64, 0] slices_S256x256_o64_0_S64x256 vt s sink (ix2 d i) = yB I n 4 i.val d.val := by
  refine fVal_apply I n 4 _ _ _ _ _ hs (fun d j c => ?_) hk d i
  pointwise []
  rw [W.hv _ _ c]

theorem score5 (W : Win I n q keys vt) (b : FVec Ideal S1x1x256x128 .f32)
    (hb : ∀ (j : Fin 256) (i : Fin 128), b (ix4 0 0 j i) = if ok n i.val j.val then I.bias 5 i.val j.val else ⊥) (j : Fin 256) (i : Fin 128) :
    fScoreO ![320, 0] slices_S1024x128_o320_0_S64x128 ![0, 0] slices_S256x512_o0_0_S256x128 q keys b (ix2 j i) = sc I n 5 i.val j.val := by
  have key := sc_of I n 5 i.val j.val (fun x => keys (ix2 j ⟨64 + x.val, by omega⟩)) (fun x => q (ix2 i ⟨320 + x.val, by omega⟩)) _ (fun c x => W.hk j _ c) (fun x => W.hq i _) (hb j i)
  refine Eq.trans ?_ key
  pointwise [fScoreO, k0_pay37, k0_pay38]
  simp only [mul_zero, Finset.sum_const_zero, add_zero, zero_add, Nat.reduceAdd, ← Nat.add_assoc]

theorem val5 (W : Win I n q keys vt) (s : FVec Ideal S256x128 .f32) (hs : ∀ (j : Fin 256) (i : Fin 128), s (ix2 j i) = sc I n 5 i.val j.val)
    (sink : Elt Ideal .f32) (hk : sink = I.sink 5) (d : Fin 64) (i : Fin 128) :
    fVal ![64, 0] slices_S256x256_o64_0_S64x256 vt s sink (ix2 d i) = yB I n 5 i.val d.val := by
  refine fVal_apply I n 5 _ _ _ _ _ hs (fun d j c => ?_) hk d i
  pointwise []
  rw [W.hv _ _ c]

theorem score6 (W : Win I n q keys vt) (b : FVec Ideal S1x1x256x128 .f32)
    (hb : ∀ (j : Fin 256) (i : Fin 128), b (ix4 0 0 j i) = if ok n i.val j.val then I.bias 6 i.val j.val else ⊥) (j : Fin 256) (i : Fin 128) :
    fScoreO ![384, 0] slices_S1024x128_o384_0_S64x128 ![0, 0] slices_S256x512_o0_0_S256x128 q keys b (ix2 j i) = sc I n 6 i.val j.val := by
  have key := sc_of I n 6 i.val j.val (fun x => keys (ix2 j ⟨64 + x.val, by omega⟩)) (fun x => q (ix2 i ⟨384 + x.val, by omega⟩)) _ (fun c x => W.hk j _ c) (fun x => W.hq i _) (hb j i)
  refine Eq.trans ?_ key
  pointwise [fScoreO, k0_pay37, k0_pay38]
  simp only [mul_zero, Finset.sum_const_zero, add_zero, zero_add, Nat.reduceAdd, ← Nat.add_assoc]

theorem val6 (W : Win I n q keys vt) (s : FVec Ideal S256x128 .f32) (hs : ∀ (j : Fin 256) (i : Fin 128), s (ix2 j i) = sc I n 6 i.val j.val)
    (sink : Elt Ideal .f32) (hk : sink = I.sink 6) (d : Fin 64) (i : Fin 128) :
    fVal ![64, 0] slices_S256x256_o64_0_S64x256 vt s sink (ix2 d i) = yB I n 6 i.val d.val := by
  refine fVal_apply I n 6 _ _ _ _ _ hs (fun d j c => ?_) hk d i
  pointwise []
  rw [W.hv _ _ c]

theorem score7 (W : Win I n q keys vt) (b : FVec Ideal S1x1x256x128 .f32)
    (hb : ∀ (j : Fin 256) (i : Fin 128), b (ix4 0 0 j i) = if ok n i.val j.val then I.bias 7 i.val j.val else ⊥) (j : Fin 256) (i : Fin 128) :
    fScoreO ![448, 0] slices_S1024x128_o448_0_S64x128 ![0, 0] slices_S256x512_o0_0_S256x128 q keys b (ix2 j i) = sc I n 7 i.val j.val := by
  have key := sc_of I n 7 i.val j.val (fun x => keys (ix2 j ⟨64 + x.val, by omega⟩)) (fun x => q (ix2 i ⟨448 + x.val, by omega⟩)) _ (fun c x => W.hk j _ c) (fun x => W.hq i _) (hb j i)
  refine Eq.trans ?_ key
  pointwise [fScoreO, k0_pay37, k0_pay38]
  simp only [mul_zero, Finset.sum_const_zero, add_zero, zero_add, Nat.reduceAdd, ← Nat.add_assoc]

theorem val7 (W : Win I n q keys vt) (s : FVec Ideal S256x128 .f32) (hs : ∀ (j : Fin 256) (i : Fin 128), s (ix2 j i) = sc I n 7 i.val j.val)
    (sink : Elt Ideal .f32) (hk : sink = I.sink 7) (d : Fin 64) (i : Fin 128) :
    fVal ![64, 0] slices_S256x256_o64_0_S64x256 vt s sink (ix2 d i) = yB I n 7 i.val d.val := by
  refine fVal_apply I n 7 _ _ _ _ _ hs (fun d j c => ?_) hk d i
  pointwise []
  rw [W.hv _ _ c]

theorem score8 (W : Win I n q keys vt) (b : FVec Ideal S1x1x256x128 .f32)
    (hb : ∀ (j : Fin 256) (i : Fin 128), b (ix4 0 0 j i) = if ok n i.val j.val then I.bias 8 i.val j.val else ⊥) (j : Fin 256) (i : Fin 128) :
    fScoreE ![512, 0] slices_S1024x128_o512_0_S64x128 ![0, 128] slices_S256x512_o0_128_S256x128 q keys b (ix2 j i) = sc I n 8 i.val j.val := by
  have key := sc_of I n 8 i.val j.val (fun x => keys (ix2 j ⟨128 + x.val, by omega⟩)) (fun x => q (ix2 i ⟨512 + x.val, by omega⟩)) _ (fun c x => W.hk j _ c) (fun x => W.hq i _) (hb j i)
  refine Eq.trans ?_ key
  pointwise [fScoreE, k0_pay37, k0_pay38]
  simp only [mul_zero, Finset.sum_const_zero, add_zero, zero_add, Nat.reduceAdd, ← Nat.add_assoc]

theorem val8 (W : Win I n q keys vt) (s : FVec Ideal S256x128 .f32) (hs : ∀ (j : Fin 256) (i : Fin 128), s (ix2 j i) = sc I n 8 i.val j.val)
    (sink : Elt Ideal .f32) (hk : sink = I.sink 8) (d : Fin 64) (i : Fin 128) :
    fVal ![128, 0] slices_S256x256_o128_0_S64x256 vt s sink (ix2 d i) = yB I n 8 i.val d.val := by
  refine fVal_apply I n 8 _ _ _ _ _ hs (fun d j c => ?_) hk d i
  pointwise []
  rw [W.hv _ _ c]

theorem score9 (W : Win I n q keys vt) (b : FVec Ideal S1x1x256x128 .f32)
    (hb : ∀ (j : Fin 256) (i : Fin 128), b (ix4 0 0 j i) = if ok n i.val j.val then I.bias 9 i.val j.val else ⊥) (j : Fin 256) (i : Fin 128) :
    fScoreE ![576, 0] slices_S1024x128_o576_0_S64x128 ![0, 128] slices_S256x512_o0_128_S256x128 q keys b (ix2 j i) = sc I n 9 i.val j.val := by
  have key := sc_of I n 9 i.val j.val (fun x => keys (ix2 j ⟨128 + x.val, by omega⟩)) (fun x => q (ix2 i ⟨576 + x.val, by omega⟩)) _ (fun c x => W.hk j _ c) (fun x => W.hq i _) (hb j i)
  refine Eq.trans ?_ key
  pointwise [fScoreE, k0_pay37, k0_pay38]
  simp only [mul_zero, Finset.sum_const_zero, add_zero, zero_add, Nat.reduceAdd, ← Nat.add_assoc]

theorem val9 (W : Win I n q keys vt) (s : FVec Ideal S256x128 .f32) (hs : ∀ (j : Fin 256) (i : Fin 128), s (ix2 j i) = sc I n 9 i.val j.val)
    (sink : Elt Ideal .f32) (hk : sink = I.sink 9) (d : Fin 64) (i : Fin 128) :
    fVal ![128, 0] slices_S256x256_o128_0_S64x256 vt s sink (ix2 d i) = yB I n 9 i.val d.val := by
  refine fVal_apply I n 9 _ _ _ _ _ hs (fun d j c => ?_) hk d i
  pointwise []
  rw [W.hv _ _ c]

theorem score10 (W : Win I n q keys vt) (b : FVec Ideal S1x1x256x128 .f32)
    (hb : ∀ (j : Fin 256) (i : Fin 128), b (ix4 0 0 j i) = if ok n i.val j.val then I.bias 10 i.val j.val else ⊥) (j : Fin 256) (i : Fin 128) :
    fScoreE ![640, 0] slices_S1024x128_o640_0_S64x128 ![0, 128] slices_S256x512_o0_128_S256x128 q keys b (ix2 j i) = sc I n 10 i.val j.val := by
  have key := sc_of I n 10 i.val j.val (fun x => keys (ix2 j ⟨128 + x.val, by omega⟩)) (fun x => q (ix2 i ⟨640 + x.val, by omega⟩)) _ (fun c x => W.hk j _ c) (fun x => W.hq i _) (hb j i)
  refine Eq.trans ?_ key
  pointwise [fScoreE, k0_pay37, k0_pay38]
  simp only [mul_zero, Finset.sum_const_zero, add_zero, zero_add, Nat.reduceAdd, ← Nat.add_assoc]

theorem val10 (W : Win I n q keys vt) (s : FVec Ideal S256x128 .f32) (hs : ∀ (j : Fin 256) (i : Fin 128), s (ix2 j i) = sc I n 10 i.val j.val)
    (sink : Elt Ideal .f32) (hk : sink = I.sink 10) (d : Fin 64) (i : Fin 128) :
    fVal ![128, 0] slices_S256x256_o128_0_S64x256 vt s sink (ix2 d i) = yB I n 10 i.val d.val := by
  refine fVal_apply I n 10 _ _ _ _ _ hs (fun d j c => ?_) hk d i
  pointwise []
  rw [W.hv _ _ c]

theorem score11 (W : Win I n q keys vt) (b : FVec Ideal S1x1x256x128 .f32)
    (hb : ∀ (j : Fin 256) (i : Fin 128), b (ix4 0 0 j i) = if ok n i.val j.val then I.bias 11 i.val j.val else ⊥) (j : Fin 256) (i : Fin 128) :
    fScoreE ![704, 0] slices_S1024x128_o704_0_S64x128 ![0, 128] slices_S256x512_o0_128_S256x128 q keys b (ix2 j i) = sc I n 11 i.val j.val := by
  have key := sc_of I n 11 i.val j.val (fun x => keys (ix2 j ⟨128 + x.val, by omega⟩)) (fun x => q (ix2 i ⟨704 + x.val, by omega⟩)) _ (fun c x => W.hk j _ c) (fun x => W.hq i _) (hb j i)
  refine Eq.trans ?_ key
  pointwise [fScoreE, k0_pay37, k0_pay38]
  simp only [mul_zero, Finset.sum_const_zero, add_zero, zero_add, Nat.reduceAdd, ← Nat.add_assoc]

theorem val11 (W : Win I n q keys vt) (s : FVec Ideal S256x128 .f32) (hs : ∀ (j : Fin 256) (i : Fin 128), s (ix2 j i) = sc I n 11 i.val j.val)
    (sink : Elt Ideal .f32) (hk : sink = I.sink 11) (d : Fin 64) (i : Fin 128) :
    fVal ![128, 0] slices_S256x256_o128_0_S64x256 vt s sink (ix2 d i) = yB I n 11 i.val d.val := by
  refine fVal_apply I n 11 _ _ _ _ _ hs (fun d j c => ?_) hk d i
  pointwise []
  rw [W.hv _ _ c]

theorem score12 (W : Win I n q keys vt) (b : FVec Ideal S1x1x256x128 .f32)
    (hb : ∀ (j : Fin 256) (i : Fin 128), b (ix4 0 0 j i) = if ok n i.val j.val then I.bias 12 i.val j.val else ⊥) (j : Fin 256) (i : Fin 128) :
    fScoreO ![768, 0] slices_S1024x128_o768_0_S64x128 ![0, 128] slices_S256x512_o0_128_S256x128 q keys b (ix2 j i) = sc I n 12 i.val j.val := by
  have key := sc_of I n 12 i.val j.val (fun x => keys (ix2 j ⟨192 + x.val, by omega⟩)) (fun x => q (ix2 i ⟨768 + x.val, by omega⟩)) _ (fun c x => W.hk j _ c) (fun x => W.hq i _) (hb j i)
  refine Eq.trans ?_ key
  pointwise [fScoreO, k0_pay37, k0_pay38]
  simp only [mul_zero, Finset.sum_const_zero, add_zero, zero_add, Nat.reduceAdd, ← Nat.add_assoc]

theorem val12 (W : Win I n q keys vt) (s : FVec Ideal S256x128 .f32) (hs : ∀ (j : Fin 256) (i : Fin 128), s (ix2 j i) = sc I n 12 i.val j.val)
    (sink : Elt Ideal .f32) (hk : sink = I.sink 12) (d : Fin 64) (i : Fin 128) :
    fVal ![192, 0] slices_S256x256_o192_0_S64x256 vt s sink (ix2 d i) = yB I n 12 i.val d.val := by
  refine fVal_apply I n 12 _ _ _ _ _ hs (fun d j c => ?_) hk d i
  pointwise []
  rw [W.hv _ _ c]

theorem score13 (W : Win I n q keys vt) (b : FVec Ideal S1x1x256x128 .f32)
    (hb : ∀ (j : Fin 256) (i : Fin 128), b (ix4 0 0 j i) = if ok n i.val j.val then I.bias 13 i.val j.val else ⊥) (j : Fin 256) (i : Fin 128) :
    fScoreO ![832, 0] slices_S1024x128_o832_0_S64x128 ![0, 128] slices_S256x512_o0_128_S256x128 q keys b (ix2 j i) = sc I n 13 i.val j.val := by
  have key := sc_of I n 13 i.val j.val (fun x => keys (ix2 j ⟨192 + x.val, by omega⟩)) (fun x => q (ix2 i ⟨832 + x.val, by omega⟩)) _ (fun c x => W.hk j _ c) (fun x => W.hq i _) (hb j i)
  refine Eq.trans ?_ key
  pointwise [fScoreO, k0_pay37, k0_pay38]
  simp only [mul_zero, Finset.sum_const_zero, add_zero, zero_add, Nat.reduceAdd, ← Nat.add_assoc]

theorem val13 (W : Win I n q keys vt) (s : FVec Ideal S256x128 .f32) (hs : ∀ (j : Fin 256) (i : Fin 128), s (ix2 j i) = sc I n 13 i.val j.val)
    (sink : Elt Ideal .f32) (hk : sink = I.sink 13) (d : Fin 64) (i : Fin 128) :
    fVal ![192, 0] slices_S256x256_o192_0_S64x256 vt s sink (ix2 d i) = yB I n 13 i.val d.val := by
  refine fVal_apply I n 13 _ _ _ _ _ hs (fun d j c => ?_) hk d i
  pointwise []
  rw [W.hv _ _ c]

theorem score14 (W : Win I n q keys vt) (b : FVec Ideal S1x1x256x128 .f32)
    (hb : ∀ (j : Fin 256) (i : Fin 128), b (ix4 0 0 j i) = if ok n i.val j.val then I.bias 14 i.val j.val else ⊥) (j : Fin 256) (i : Fin 128) :
    fScoreO ![896, 0] slices_S1024x128_o896_0_S64x128 ![0, 128] slices_S256x512_o0_128_S256x128 q keys b (ix2 j i) = sc I n 14 i.val j.val := by
  have key := sc_of I n 14 i.val j.val (fun x => keys (ix2 j ⟨192 + x.val, by omega⟩)) (fun x => q (ix2 i ⟨896 + x.val, by omega⟩)) _ (fun c x => W.hk j _ c) (fun x => W.hq i _) (hb j i)
  refine Eq.trans ?_ key
  pointwise [fScoreO, k0_pay37, k0_pay38]
  simp only [mul_zero, Finset.sum_const_zero, add_zero, zero_add, Nat.reduceAdd, ← Nat.add_assoc]

theorem val14 (W : Win I n q keys vt) (s : FVec Ideal S256x128 .f32) (hs : ∀ (j : Fin 256) (i : Fin 128), s (ix2 j i) = sc I n 14 i.val j.val)
    (sink : Elt Ideal .f32) (hk : sink = I.sink 14) (d : Fin 64) (i : Fin 128) :
    fVal ![192, 0] slices_S256x256_o192_0_S64x256 vt s sink (ix2 d i) = yB I n 14 i.val d.val := by
  refine fVal_apply I n 14 _ _ _ _ _ hs (fun d j c => ?_) hk d i
  pointwise []
  rw [W.hv _ _ c]

theorem score15 (W : Win I n q keys vt) (b : FVec Ideal S1x1x256x128 .f32)
    (hb : ∀ (j : Fin 256) (i : Fin 128), b (ix4 0 0 j i) = if ok n i.val j.val then I.bias 15 i.val j.val else ⊥) (j : Fin 256) (i : Fin 128) :
    fScoreO ![960, 0] slices_S1024x128_o960_0_S64x128 ![0, 128] slices_S256x512_o0_128_S256x128 q keys b (ix2 j i) = sc I n 15 i.val j.val := by
  have key := sc_of I n 15 i.val j.val (fun x => keys (ix2 j ⟨192 + x.val, by omega⟩)) (fun x => q (ix2 i ⟨960 + x.val, by omega⟩)) _ (fun c x => W.hk j _ c) (fun x => W.hq i _) (hb j i)
  refine Eq.trans ?_ key
  pointwise [fScoreO, k0_pay37, k0_pay38]
  simp only [mul_zero, Finset.sum_const_zero, add_zero, zero_add, Nat.reduceAdd, ← Nat.add_assoc]

theorem val15 (W : Win I n q keys vt) (s : FVec Ideal S256x128 .f32) (hs : ∀ (j : Fin 256) (i : Fin 128), s (ix2 j i) = sc I n 15 i.val j.val)
    (sink : Elt Ideal .f32) (hk : sink = I.sink 15) (d : Fin 64) (i : Fin 128) :
    fVal ![192, 0] slices_S256x256_o192_0_S64x256 vt s sink (ix2 d i) = yB I n 15 i.val d.val := by
  refine fVal_apply I n 15 _ _ _ _ _ hs (fun d j c => ?_) hk d i
  pointwise []
  rw [W.hv _ _ c]

theorem tile_apply (a b : FVec Ideal S64x128 .f32) (h : Nat) (ha : ∀ (d : Fin 64) (i : Fin 128), a (ix2 d i) = yB I n (2 * h) i.val d.val)
    (hb : ∀ (d : Fin 64) (i : Fin 128), b (ix2 d i) = yB I n (2 * h + 1) i.val d.val) (z : Fin 1) (i c : Fin 128) :
    k0_pay364 (k0_pay255 a b) (ix3 z i c) = yB I n ((128 * h + c.val) / 64) i.val ((128 * h + c.val) % 64) := by
  pointwise [k0_pay364, k0_pay255]
  by_cases hc : c.val < 64
  · rw [dif_pos hc, ha]
    congr 1
    · show 2 * h = _; omega
    · show c.val = _; omega
  · rw [dif_neg hc, hb]
    congr 1
    · show 2 * h + 1 = _; omega
    · show c.val - 64 = _; omega

end Cert.KernelIdeal.Val

end
-- ==== Proof.MixTile.lean ====
/-
  The mixing call's tile: what its loads are, and the operands of each head, of the layer's mathematics.
-/
module

public import proofs.«01_k».proof.Proof.Gen.KernelIdeal.Frame
public import Idealize.ShloMosaic.Lib.Pipeline.ReadBack
public import Idealize.ShloMosaic.Lib.Pipeline.Value
public import Idealize.ShloMosaic.Lib.Claim
public import Idealize.ShloMosaic.Lib.WritesUnit
public import proofs.«01_k».proof.Proof.MixGla
public import proofs.«01_k».proof.Proof.MixSwa

@[expose] public section

set_option maxRecDepth 16384

noncomputable section

namespace Cert.KernelIdeal.Val

open Cert.KernelIdeal Cert.KernelIdeal.Gen Idealize.ShloMosaic Idealize.ShloMosaic.TcCoe Cert.Mixm

theorem rd2 {a b n1 n2 : Nat} {sp : Space} {e : EltTy} (arg : Memref sig .tc sp ⟨2, ![a, b]⟩ e) (h : arg.IsWhole) (x : Vec Ideal ⟨2, ![a, b]⟩ e)
    (off : Fin 2 → Nat) (inb : ∀ k, off k + (![n1, n2] : Fin 2 → Nat) k ≤ (⟨2, ![a, b]⟩ : Shape).size k) (o1 o2 : Nat) (ho : off = ![o1, o2])
    (r : Fin n1) (c : Fin n2) (hr : o1 + r.val < a) (hc : o2 + c.val < b) :
    View.readAt (Elt Ideal) arg.view (Rect.unit (s := ⟨2, ![a, b]⟩) off ![n1, n2] inb).toLoadRect (h.unread x) (ix2 r c) = x (ix2 ⟨o1 + r.val, hr⟩ ⟨o2 + c.val, hc⟩) := by
  subst ho
  rw [View.readAt_eq_ld, h.read_unread]
  refine congrArg x (funext fun k => Fin.ext ?_)
  match k with
  | 0 => show o1 + 1 * r.val = o1 + r.val; omega
  | 1 => show o2 + 1 * c.val = o2 + c.val; omega

theorem rd3 {a b d n1 n2 n3 : Nat} {sp : Space} {e : EltTy} (arg : Memref sig .tc sp ⟨3, ![a, b, d]⟩ e) (h : arg.IsWhole) (x : Vec Ideal ⟨3, ![a, b, d]⟩ e)
    (off : Fin 3 → Nat) (inb : ∀ k, off k + (![n1, n2, n3] : Fin 3 → Nat) k ≤ (⟨3, ![a, b, d]⟩ : Shape).size k) (o1 o2 o3 : Nat) (ho : off = ![o1, o2, o3])
    (z : Fin n1) (r : Fin n2) (c : Fin n3) (hz : o1 + z.val < a) (hr : o2 + r.val < b) (hc : o3 + c.val < d) :
    View.readAt (Elt Ideal) arg.view (Rect.unit (s := ⟨3, ![a, b, d]⟩) off ![n1, n2, n3] inb).toLoadRect (h.unread x) (ix3 z r c) = x (ix3 ⟨o1 + z.val, hz⟩ ⟨o2 + r.val, hr⟩ ⟨o3 + c.val, hc⟩) := by
  subst ho
  rw [View.readAt_eq_ld, h.read_unread]
  refine congrArg x (funext fun k => Fin.ext ?_)
  match k with
  | 0 => show o1 + 1 * z.val = o1 + z.val; omega
  | 1 => show o2 + 1 * r.val = o2 + r.val; omega
  | 2 => show o3 + 1 * c.val = o3 + c.val; omega

theorem rd4 {a b d f n1 n2 n3 n4 : Nat} {sp : Space} {e : EltTy} (arg : Memref sig .tc sp ⟨4, ![a, b, d, f]⟩ e) (h : arg.IsWhole) (x : Vec Ideal ⟨4, ![a, b, d, f]⟩ e)
    (off : Fin 4 → Nat) (inb : ∀ k, off k + (![n1, n2, n3, n4] : Fin 4 → Nat) k ≤ (⟨4, ![a, b, d, f]⟩ : Shape).size k) (o1 o2 o3 o4 : Nat) (ho : off = ![o1, o2, o3, o4])
    (z : Fin n1) (w : Fin n2) (r : Fin n3) (c : Fin n4) (hz : o1 + z.val < a) (hw : o2 + w.val < b) (hr : o3 + r.val < d) (hc : o4 + c.val < f) :
    View.readAt (Elt Ideal) arg.view (Rect.unit (s := ⟨4, ![a, b, d, f]⟩) off ![n1, n2, n3, n4] inb).toLoadRect (h.unread x) (ix4 z w r c)
      = x (ix4 ⟨o1 + z.val, hz⟩ ⟨o2 + w.val, hw⟩ ⟨o3 + r.val, hr⟩ ⟨o4 + c.val, hc⟩) := by
  subst ho
  rw [View.readAt_eq_ld, h.read_unread]
  refine congrArg x (funext fun k => Fin.ext ?_)
  match k with
  | 0 => show o1 + 1 * z.val = o1 + z.val; omega
  | 1 => show o2 + 1 * w.val = o2 + w.val; omega
  | 2 => show o3 + 1 * r.val = o3 + r.val; omega
  | 3 => show o4 + 1 * c.val = o4 + c.val; omega

/-- The newest store's payload where it reaches, the rest of the stores elsewhere. -/
theorem put3 {a b d n2 n3 : Nat} {sp : Space} {e : EltTy} (v : View sig .tc sp ⟨3, ![a, b, d]⟩ e) (f : v.ty.Contents (Elt Ideal))
    (off : Fin 3 → Nat) (inb : ∀ k, off k + (![1, n2, n3] : Fin 3 → Nat) k ≤ (⟨3, ![a, b, d]⟩ : Shape).size k) (o1 o2 o3 : Nat) (ho : off = ![o1, o2, o3])
    (w : (⟨3, ![1, n2, n3]⟩ : Shape).Idx → Elt Ideal e) (L : List (View.Piece (Elt Ideal) ⟨3, ![a, b, d]⟩ e)) (z : Fin a) (r : Fin b) (c : Fin d) (val : Elt Ideal e)
    (hp : z.val = o1 → ∀ (r' : Fin n2) (c' : Fin n3), r.val = o2 + r'.val → c.val = o3 + c'.val → w (ix3 0 r' c') = val)
    (hn : ¬ (z.val = o1 ∧ o2 ≤ r.val ∧ r.val < o2 + n2 ∧ o3 ≤ c.val ∧ c.val < o3 + n3) → v.read (Elt Ideal) (v.writes (Elt Ideal) f L) (ix3 z r c) = val) :
    v.read (Elt Ideal) (v.writes (Elt Ideal) f ((⟨Rect.unit (s := ⟨3, ![a, b, d]⟩) off ![1, n2, n3] inb, w⟩ : View.Piece (Elt Ideal) ⟨3, ![a, b, d]⟩ e) :: L)) (ix3 z r c) = val := by
  by_cases h : z.val = o1 ∧ o2 ≤ r.val ∧ r.val < o2 + n2 ∧ o3 ≤ c.val ∧ c.val < o3 + n3
  · obtain ⟨h1, h2, h3, h4, h5⟩ := h
    rw [View.read_writes_cons_unit_of_mem v f inb w L (ix3 z r c) (ix3 (0 : Fin 1) (⟨r.val - o2, by omega⟩ : Fin n2) (⟨c.val - o3, by omega⟩ : Fin n3)) ho
      (fun k => by
        match k with
        | 0 => show z.val = o1 + 0; omega
        | 1 => show r.val = o2 + (r.val - o2); omega
        | 2 => show c.val = o3 + (c.val - o3); omega)]
    exact hp h1 _ _ (by show r.val = o2 + (r.val - o2); omega) (by show c.val = o3 + (c.val - o3); omega)
  · refine Eq.trans ?_ (hn h)
    by_cases h1 : z.val = o1
    · by_cases h2 : o2 ≤ r.val ∧ r.val < o2 + n2
      · exact View.read_writes_cons_unit_of_not_mem v f inb w L (ix3 z r c) ho 2 (show c.val < o3 ∨ o3 + n3 ≤ c.val by omega)
      · exact View.read_writes_cons_unit_of_not_mem v f inb w L (ix3 z r c) ho 1 (show r.val < o2 ∨ o2 + n2 ≤ r.val by omega)
    · exact View.read_writes_cons_unit_of_not_mem v f inb w L (ix3 z r c) ho 0 (show z.val < o1 ∨ o1 + 1 ≤ z.val by omega)

@[inherit_doc put3] theorem put2 {a b n1 n2 : Nat} {sp : Space} {e : EltTy} (v : View sig .tc sp ⟨2, ![a, b]⟩ e) (f : v.ty.Contents (Elt Ideal))
    (off : Fin 2 → Nat) (inb : ∀ k, off k + (![n1, n2] : Fin 2 → Nat) k ≤ (⟨2, ![a, b]⟩ : Shape).size k) (o1 o2 : Nat) (ho : off = ![o1, o2])
    (w : (⟨2, ![n1, n2]⟩ : Shape).Idx → Elt Ideal e) (L : List (View.Piece (Elt Ideal) ⟨2, ![a, b]⟩ e)) (r : Fin a) (c : Fin b) (val : Elt Ideal e)
    (hp : ∀ (r' : Fin n1) (c' : Fin n2), r.val = o1 + r'.val → c.val = o2 + c'.val → w (ix2 r' c') = val)
    (hn : ¬ (o1 ≤ r.val ∧ r.val < o1 + n1 ∧ o2 ≤ c.val ∧ c.val < o2 + n2) → v.read (Elt Ideal) (v.writes (Elt Ideal) f L) (ix2 r c) = val) :
    v.read (Elt Ideal) (v.writes (Elt Ideal) f ((⟨Rect.unit (s := ⟨2, ![a, b]⟩) off ![n1, n2] inb, w⟩ : View.Piece (Elt Ideal) ⟨2, ![a, b]⟩ e) :: L)) (ix2 r c) = val := by
  by_cases h : o1 ≤ r.val ∧ r.val < o1 + n1 ∧ o2 ≤ c.val ∧ c.val < o2 + n2
  · obtain ⟨h2, h3, h4, h5⟩ := h
    rw [View.read_writes_cons_unit_of_mem v f inb w L (ix2 r c) (ix2 (⟨r.val - o1, by omega⟩ : Fin n1) (⟨c.val - o2, by omega⟩ : Fin n2)) ho
      (fun k => by
        match k with
        | 0 => show r.val = o1 + (r.val - o1); omega
        | 1 => show c.val = o2 + (c.val - o2); omega)]
    exact hp _ _ (by show r.val = o1 + (r.val - o1); omega) (by show c.val = o2 + (c.val - o2); omega)
  · refine Eq.trans ?_ (hn h)
    by_cases h2 : o1 ≤ r.val ∧ r.val < o1 + n1
    · exact View.read_writes_cons_unit_of_not_mem v f inb w L (ix2 r c) ho 1 (show c.val < o2 ∨ o2 + n2 ≤ c.val by omega)
    · exact View.read_writes_cons_unit_of_not_mem v f inb w L (ix2 r c) ho 0 (show r.val < o1 ∨ o1 + n1 ≤ r.val by omega)

/-- A tile's staged operands, of the layer's mathematics. -/
structure Tile (I : Inp) (t : Nat) (x0 : Vec Ideal S16 .f32) (x1 : Vec Ideal S256x4096 .bf16) (x2 : Vec Ideal S256x512 .bf16) (x3 : Vec Ideal S256x128 .f32)
    (x6 : Vec Ideal S128x512 .bf16) (x7 : Vec Ideal S1x512 .f32) (x8 : Vec Ideal S1x256 .f32) (x9 : Vec Ideal S512x128 .bf16) (x10 : Vec Ideal S7x64x64 .f32)
    (x11 : Vec Ideal S2x16x256x128 .f32) : Prop where
  h0 : ∀ h : Fin 16, x0 (ix1 h) = I.sink h.val
  h1 : ∀ (r : Fin 256) (c : Fin 4096), x1 (ix2 r c) = I.P (256 * t + r.val) (4096 + c.val)
  h2 : ∀ (r : Fin 256) (c : Fin 512), x2 (ix2 r c) = I.P (256 * t + r.val) (8192 + c.val)
  hla : ∀ (r : Fin 256) (d : Fin 512), k0_pay7 x3 x6 x7 (ix2 r d) = ((I.A (256 * t + r.val) d.val * (Real.log 2)⁻¹ : ℝ) : EReal)
  h8 : ∀ x : Fin 256, x8 (ix2 0 x) = I.gain x.val
  h9 : ∀ (i : Fin 512) (s : Fin 64), x9 (ix2 i ⟨s.val, by omega⟩) = if wt i.val s.val then 1 else 0
  h10 : ∀ (l : Fin 7) (i j : Fin 64), x10 (ix3 l i j) = if pmk l i j then 1 else 0
  h11 : ∀ (b : Fin 2) (h : Fin 16) (j : Fin 256) (i : Fin 128), x11 (ix4 b h j i) = if i.val < j.val ∧ j.val ≤ i.val + 128 ∧ (b.val = 1 ∨ 128 ≤ j.val) then I.bias h.val i.val j.val else ⊥

variable {I : Inp} {t : Nat} {x0 : Vec Ideal S16 .f32} {x1 : Vec Ideal S256x4096 .bf16} {x2 : Vec Ideal S256x512 .bf16} {x3 : Vec Ideal S256x128 .f32}
    {x6 : Vec Ideal S128x512 .bf16} {x7 : Vec Ideal S1x512 .f32} {x8 : Vec Ideal S1x256 .f32} {x9 : Vec Ideal S512x128 .bf16} {x10 : Vec Ideal S7x64x64 .f32}
    {x11 : Vec Ideal S2x16x256x128 .f32}

/-- What the tile's first incoming state is, of the state the previous tile left. -/
theorem st0_apply (h : Nat) (b : BitVec 1) (hb : b = if t % 8 = 0 then 1#1 else 0#1) (X : Vec Ideal S1x256x128 .f32)
    (hX : t % 8 ≠ 0 → ∀ (a : Fin 256) (d : Fin 128), X (ix3 0 a d) = Sn I (4 * t - 1) h a.val d.val) (a : Fin 256) (d : Fin 128) :
    k0_pay60 b X (ix2 a d) = S I (4 * t) h a.val d.val := by
  pointwise [k0_pay60]
  by_cases c : t % 8 = 0
  · rw [if_pos c] at hb
    subst hb
    rw [S_zero I _ _ _ _ (by omega)]
    first | rfl | simp
  · rw [if_neg c] at hb
    subst hb
    have e : 4 * t = (4 * t - 1) + 1 := by omega
    rw [e, S_succ I _ _ _ _ (by omega), ← hX c]
    first | rfl | simp

section
variable (arg1 : Memref sig .tc .smem S16 .f32) (harg1 : arg1.IsWhole) (arg2 : Memref sig .tc .vmem S256x4096 .bf16) (harg2 : arg2.IsWhole) (arg3 : Memref sig .tc .vmem S256x512 .bf16) (harg3 : arg3.IsWhole) (arg4 : Memref sig .tc .vmem S256x128 .f32) (harg4 : arg4.IsWhole)
  (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x128 .bf16) (harg10 : arg10.IsWhole) (arg11 : Memref sig .tc .vmem S7x64x64 .f32) (harg11 : arg11.IsWhole)
  (arg12 : Memref sig .tc .vmem S2x16x256x128 .f32) (harg12 : arg12.IsWhole)

theorem rd_gz : (View.readAt (Elt Ideal) arg4.view (Rect.unit (s := S256x128) ![0, 0] S256x128.size inb_S256x128_S256x128_0_0).toLoadRect (harg4.unread x3)) = x3 := by
  rw [View.readAt_eq_ld, harg4.read_unread]; exact View.ld_unit_zero (by decide) _ _
theorem rd_wd : (View.readAt (Elt Ideal) arg7.view (Rect.unit (s := S128x512) ![0, 0] S128x512.size inb_S128x512_S128x512_0_0).toLoadRect (harg7.unread x6)) = x6 := by
  rw [View.readAt_eq_ld, harg7.read_unread]; exact View.ld_unit_zero (by decide) _ _
theorem rd_bd : (View.readAt (Elt Ideal) arg8.view (Rect.unit (s := S1x512) ![0, 0] S1x512.size inb_S1x512_S1x512_0_0).toLoadRect (harg8.unread x7)) = x7 := by
  rw [View.readAt_eq_ld, harg8.read_unread]; exact View.ld_unit_zero (by decide) _ _
theorem rd_gain : (View.readAt (Elt Ideal) arg9.view (Rect.unit (s := S1x256) ![0, 0] S1x256.size inb_S1x256_S1x256_0_0).toLoadRect (harg9.unread x8)) = x8 := by
  rw [View.readAt_eq_ld, harg9.read_unread]; exact View.ld_unit_zero (by decide) _ _
theorem rd_wall : (View.readAt (Elt Ideal) arg10.view (Rect.unit (s := S512x128) ![0, 0] S512x128.size inb_S512x128_S512x128_0_0).toLoadRect (harg10.unread x9)) = x9 := by
  rw [View.readAt_eq_ld, harg10.read_unread]; exact View.ld_unit_zero (by decide) _ _
theorem rd_pm : (View.readAt (Elt Ideal) arg11.view (Rect.unit (s := S7x64x64) ![0, 0, 0] S7x64x64.size inb_S7x64x64_S7x64x64_0_0_0).toLoadRect (harg11.unread x10)) = x10 := by
  rw [View.readAt_eq_ld, harg11.read_unread]; exact View.ld_unit_zero (by decide) _ _

theorem head0 (T : Tile I t x0 x1 x2 x3 x6 x7 x8 x9 x10 x11) :
    Head I (4 * t) 0 (fDec (extractStridedSlice S256x128 ![0, 0] (k0_pay7 (View.readAt (Elt Ideal) arg4.view (Rect.unit (s := S256x128) ![0, 0] S256x128.size inb_S256x128_S256x128_0_0).toLoadRect (harg4.unread x3)) (View.readAt (Elt Ideal) arg7.view (Rect.unit (s := S128x512) ![0, 0] S128x512.size inb_S128x512_S128x512_0_0).toLoadRect (harg7.unread x6)) (View.readAt (Elt Ideal) arg8.view (Rect.unit (s := S1x512) ![0, 0] S1x512.size inb_S1x512_S1x512_0_0).toLoadRect (harg8.unread x7))) slices_S256x512_o0_0_S256x128) (View.readAt (Elt Ideal) arg10.view (Rect.unit (s := S512x128) ![0, 0] S512x128.size inb_S512x128_S512x128_0_0).toLoadRect (harg10.unread x9))) (View.readAt (Elt Ideal) arg2.view (Rect.unit (s := S256x4096) ![0, 3072] S256x128.size inb_S256x4096_S256x128_0_3072).toLoadRect (harg2.unread x1)) (View.readAt (Elt Ideal) arg2.view (Rect.unit (s := S256x4096) ![0, 3584] S256x128.size inb_S256x4096_S256x128_0_3584).toLoadRect (harg2.unread x1)) (View.readAt (Elt Ideal) arg2.view (Rect.unit (s := S256x4096) ![0, 0] S256x256.size inb_S256x4096_S256x256_0_0).toLoadRect (harg2.unread x1)) := by
  refine ⟨?_, fun r d => ?_, fun r d => ?_, fun r d => ?_⟩
  · rw [rd_gz arg4 harg4, rd_wd arg7 harg7, rd_bd arg8 harg8, rd_wall arg10 harg10]
    refine fDec_apply I (4 * t) 0 _ _ (fun r d => ?_) T.h9
    have e := T.hla r ⟨0 + d.val, by omega⟩
    generalize k0_pay7 x3 x6 x7 = la at e ⊢
    have e2 : extractStridedSlice S256x128 ![0, 0] la slices_S256x512_o0_0_S256x128 (ix2 r d) = la (ix2 r ⟨0 + d.val, by omega⟩) := by
      pointwise []
      try (simp only [Nat.zero_add]; done)
    rw [e2, e, show 256 * t = 64 * (4 * t) by omega]
  · refine (rd2 arg2 harg2 x1 _ inb_S256x4096_S256x128_0_3072 0 3072 rfl r d (by omega) (by omega)).trans ((T.h1 _ _).trans ?_)
    exact congrArg₂ I.P (by show 256 * t + (0 + r.val) = _; omega) (by show 4096 + (3072 + d.val) = _; omega)
  · refine (rd2 arg2 harg2 x1 _ inb_S256x4096_S256x128_0_3584 0 3584 rfl r d (by omega) (by omega)).trans ((T.h1 _ _).trans ?_)
    exact congrArg₂ I.P (by show 256 * t + (0 + r.val) = _; omega) (by show 4096 + (3584 + d.val) = _; omega)
  · refine (rd2 arg2 harg2 x1 _ inb_S256x4096_S256x256_0_0 0 0 rfl r d (by omega) (by omega)).trans ((T.h1 _ _).trans ?_)
    exact congrArg₂ I.P (by show 256 * t + (0 + r.val) = _; omega) (by show 4096 + (0 + d.val) = _; omega)

theorem rgate0 (T : Tile I t x0 x1 x2 x3 x6 x7 x8 x9 x10 x11) (r d : Fin 256) :
    (View.readAt (Elt Ideal) arg2.view (Rect.unit (s := S256x4096) ![0, 1024] S256x256.size inb_S256x4096_S256x256_0_1024).toLoadRect (harg2.unread x1)) (ix2 r d) = I.P (64 * (4 * t) + r.val) (5120 + (256 * 0 + d.val)) := by
  refine (rd2 arg2 harg2 x1 _ inb_S256x4096_S256x256_0_1024 0 1024 rfl r d (by omega) (by omega)).trans ((T.h1 _ _).trans ?_)
  exact congrArg₂ I.P (by show 256 * t + (0 + r.val) = _; omega) (by show 4096 + (1024 + d.val) = _; omega)

theorem head1 (T : Tile I t x0 x1 x2 x3 x6 x7 x8 x9 x10 x11) :
    Head I (4 * t) 1 (fDec (extractStridedSlice S256x128 ![0, 128] (k0_pay7 (View.readAt (Elt Ideal) arg4.view (Rect.unit (s := S256x128) ![0, 0] S256x128.size inb_S256x128_S256x128_0_0).toLoadRect (harg4.unread x3)) (View.readAt (Elt Ideal) arg7.view (Rect.unit (s := S128x512) ![0, 0] S128x512.size inb_S128x512_S128x512_0_0).toLoadRect (harg7.unread x6)) (View.readAt (Elt Ideal) arg8.view (Rect.unit (s := S1x512) ![0, 0] S1x512.size inb_S1x512_S1x512_0_0).toLoadRect (harg8.unread x7))) slices_S256x512_o0_128_S256x128) (View.readAt (Elt Ideal) arg10.view (Rect.unit (s := S512x128) ![0, 0] S512x128.size inb_S512x128_S512x128_0_0).toLoadRect (harg10.unread x9))) (View.readAt (Elt Ideal) arg2.view (Rect.unit (s := S256x4096) ![0, 3200] S256x128.size inb_S256x4096_S256x128_0_3200).toLoadRect (harg2.unread x1)) (View.readAt (Elt Ideal) arg2.view (Rect.unit (s := S256x4096) ![0, 3712] S256x128.size inb_S256x4096_S256x128_0_3712).toLoadRect (harg2.unread x1)) (View.readAt (Elt Ideal) arg2.view (Rect.unit (s := S256x4096) ![0, 256] S256x256.size inb_S256x4096_S256x256_0_256).toLoadRect (harg2.unread x1)) := by
  refine ⟨?_, fun r d => ?_, fun r d => ?_, fun r d => ?_⟩
  · rw [rd_gz arg4 harg4, rd_wd arg7 harg7, rd_bd arg8 harg8, rd_wall arg10 harg10]
    refine fDec_apply I (4 * t) 1 _ _ (fun r d => ?_) T.h9
    have e := T.hla r ⟨128 + d.val, by omega⟩
    generalize k0_pay7 x3 x6 x7 = la at e ⊢
    have e2 : extractStridedSlice S256x128 ![0, 128] la slices_S256x512_o0_128_S256x128 (ix2 r d) = la (ix2 r ⟨128 + d.val, by omega⟩) := by
      pointwise []
      try (simp only [Nat.zero_add]; done)
    rw [e2, e, show 256 * t = 64 * (4 * t) by omega]
  · refine (rd2 arg2 harg2 x1 _ inb_S256x4096_S256x128_0_3200 0 3200 rfl r d (by omega) (by omega)).trans ((T.h1 _ _).trans ?_)
    exact congrArg₂ I.P (by show 256 * t + (0 + r.val) = _; omega) (by show 4096 + (3200 + d.val) = _; omega)
  · refine (rd2 arg2 harg2 x1 _ inb_S256x4096_S256x128_0_3712 0 3712 rfl r d (by omega) (by omega)).trans ((T.h1 _ _).trans ?_)
    exact congrArg₂ I.P (by show 256 * t + (0 + r.val) = _; omega) (by show 4096 + (3712 + d.val) = _; omega)
  · refine (rd2 arg2 harg2 x1 _ inb_S256x4096_S256x256_0_256 0 256 rfl r d (by omega) (by omega)).trans ((T.h1 _ _).trans ?_)
    exact congrArg₂ I.P (by show 256 * t + (0 + r.val) = _; omega) (by show 4096 + (256 + d.val) = _; omega)

theorem rgate1 (T : Tile I t x0 x1 x2 x3 x6 x7 x8 x9 x10 x11) (r d : Fin 256) :
    (View.readAt (Elt Ideal) arg2.view (Rect.unit (s := S256x4096) ![0, 1280] S256x256.size inb_S256x4096_S256x256_0_1280).toLoadRect (harg2.unread x1)) (ix2 r d) = I.P (64 * (4 * t) + r.val) (5120 + (256 * 1 + d.val)) := by
  refine (rd2 arg2 harg2 x1 _ inb_S256x4096_S256x256_0_1280 0 1280 rfl r d (by omega) (by omega)).trans ((T.h1 _ _).trans ?_)
  exact congrArg₂ I.P (by show 256 * t + (0 + r.val) = _; omega) (by show 4096 + (1280 + d.val) = _; omega)

theorem head2 (T : Tile I t x0 x1 x2 x3 x6 x7 x8 x9 x10 x11) :
    Head I (4 * t) 2 (fDec (extractStridedSlice S256x128 ![0, 256] (k0_pay7 (View.readAt (Elt Ideal) arg4.view (Rect.unit (s := S256x128) ![0, 0] S256x128.size inb_S256x128_S256x128_0_0).toLoadRect (harg4.unread x3)) (View.readAt (Elt Ideal) arg7.view (Rect.unit (s := S128x512) ![0, 0] S128x512.size inb_S128x512_S128x512_0_0).toLoadRect (harg7.unread x6)) (View.readAt (Elt Ideal) arg8.view (Rect.unit (s := S1x512) ![0, 0] S1x512.size inb_S1x512_S1x512_0_0).toLoadRect (harg8.unread x7))) slices_S256x512_o0_256_S256x128) (View.readAt (Elt Ideal) arg10.view (Rect.unit (s := S512x128) ![0, 0] S512x128.size inb_S512x128_S512x128_0_0).toLoadRect (harg10.unread x9))) (View.readAt (Elt Ideal) arg2.view (Rect.unit (s := S256x4096) ![0, 3328] S256x128.size inb_S256x4096_S256x128_0_3328).toLoadRect (harg2.unread x1)) (View.readAt (Elt Ideal) arg2.view (Rect.unit (s := S256x4096) ![0, 3840] S256x128.size inb_S256x4096_S256x128_0_3840).toLoadRect (harg2.unread x1)) (View.readAt (Elt Ideal) arg2.view (Rect.unit (s := S256x4096) ![0, 512] S256x256.size inb_S256x4096_S256x256_0_512).toLoadRect (harg2.unread x1)) := by
  refine ⟨?_, fun r d => ?_, fun r d => ?_, fun r d => ?_⟩
  · rw [rd_gz arg4 harg4, rd_wd arg7 harg7, rd_bd arg8 harg8, rd_wall arg10 harg10]
    refine fDec_apply I (4 * t) 2 _ _ (fun r d => ?_) T.h9
    have e := T.hla r ⟨256 + d.val, by omega⟩
    generalize k0_pay7 x3 x6 x7 = la at e ⊢
    have e2 : extractStridedSlice S256x128 ![0, 256] la slices_S256x512_o0_256_S256x128 (ix2 r d) = la (ix2 r ⟨256 + d.val, by omega⟩) := by
      pointwise []
      try (simp only [Nat.zero_add]; done)
    rw [e2, e, show 256 * t = 64 * (4 * t) by omega]
  · refine (rd2 arg2 harg2 x1 _ inb_S256x4096_S256x128_0_3328 0 3328 rfl r d (by omega) (by omega)).trans ((T.h1 _ _).trans ?_)
    exact congrArg₂ I.P (by show 256 * t + (0 + r.val) = _; omega) (by show 4096 + (3328 + d.val) = _; omega)
  · refine (rd2 arg2 harg2 x1 _ inb_S256x4096_S256x128_0_3840 0 3840 rfl r d (by omega) (by omega)).trans ((T.h1 _ _).trans ?_)
    exact congrArg₂ I.P (by show 256 * t + (0 + r.val) = _; omega) (by show 4096 + (3840 + d.val) = _; omega)
  · refine (rd2 arg2 harg2 x1 _ inb_S256x4096_S256x256_0_512 0 512 rfl r d (by omega) (by omega)).trans ((T.h1 _ _).trans ?_)
    exact congrArg₂ I.P (by show 256 * t + (0 + r.val) = _; omega) (by show 4096 + (512 + d.val) = _; omega)

theorem rgate2 (T : Tile I t x0 x1 x2 x3 x6 x7 x8 x9 x10 x11) (r d : Fin 256) :
    (View.readAt (Elt Ideal) arg2.view (Rect.unit (s := S256x4096) ![0, 1536] S256x256.size inb_S256x4096_S256x256_0_1536).toLoadRect (harg2.unread x1)) (ix2 r d) = I.P (64 * (4 * t) + r.val) (5120 + (256 * 2 + d.val)) := by
  refine (rd2 arg2 harg2 x1 _ inb_S256x4096_S256x256_0_1536 0 1536 rfl r d (by omega) (by omega)).trans ((T.h1 _ _).trans ?_)
  exact congrArg₂ I.P (by show 256 * t + (0 + r.val) = _; omega) (by show 4096 + (1536 + d.val) = _; omega)

theorem head3 (T : Tile I t x0 x1 x2 x3 x6 x7 x8 x9 x10 x11) :
    Head I (4 * t) 3 (fDec (extractStridedSlice S256x128 ![0, 384] (k0_pay7 (View.readAt (Elt Ideal) arg4.view (Rect.unit (s := S256x128) ![0, 0] S256x128.size inb_S256x128_S256x128_0_0).toLoadRect (harg4.unread x3)) (View.readAt (Elt Ideal) arg7.view (Rect.unit (s := S128x512) ![0, 0] S128x512.size inb_S128x512_S128x512_0_0).toLoadRect (harg7.unread x6)) (View.readAt (Elt Ideal) arg8.view (Rect.unit (s := S1x512) ![0, 0] S1x512.size inb_S1x512_S1x512_0_0).toLoadRect (harg8.unread x7))) slices_S256x512_o0_384_S256x128) (View.readAt (Elt Ideal) arg10.view (Rect.unit (s := S512x128) ![0, 0] S512x128.size inb_S512x128_S512x128_0_0).toLoadRect (harg10.unread x9))) (View.readAt (Elt Ideal) arg2.view (Rect.unit (s := S256x4096) ![0, 3456] S256x128.size inb_S256x4096_S256x128_0_3456).toLoadRect (harg2.unread x1)) (View.readAt (Elt Ideal) arg2.view (Rect.unit (s := S256x4096) ![0, 3968] S256x128.size inb_S256x4096_S256x128_0_3968).toLoadRect (harg2.unread x1)) (View.readAt (Elt Ideal) arg2.view (Rect.unit (s := S256x4096) ![0, 768] S256x256.size inb_S256x4096_S256x256_0_768).toLoadRect (harg2.unread x1)) := by
  refine ⟨?_, fun r d => ?_, fun r d => ?_, fun r d => ?_⟩
  · rw [rd_gz arg4 harg4, rd_wd arg7 harg7, rd_bd arg8 harg8, rd_wall arg10 harg10]
    refine fDec_apply I (4 * t) 3 _ _ (fun r d => ?_) T.h9
    have e := T.hla r ⟨384 + d.val, by omega⟩
    generalize k0_pay7 x3 x6 x7 = la at e ⊢
    have e2 : extractStridedSlice S256x128 ![0, 384] la slices_S256x512_o0_384_S256x128 (ix2 r d) = la (ix2 r ⟨384 + d.val, by omega⟩) := by
      pointwise []
      try (simp only [Nat.zero_add]; done)
    rw [e2, e, show 256 * t = 64 * (4 * t) by omega]
  · refine (rd2 arg2 harg2 x1 _ inb_S256x4096_S256x128_0_3456 0 3456 rfl r d (by omega) (by omega)).trans ((T.h1 _ _).trans ?_)
    exact congrArg₂ I.P (by show 256 * t + (0 + r.val) = _; omega) (by show 4096 + (3456 + d.val) = _; omega)
  · refine (rd2 arg2 harg2 x1 _ inb_S256x4096_S256x128_0_3968 0 3968 rfl r d (by omega) (by omega)).trans ((T.h1 _ _).trans ?_)
    exact congrArg₂ I.P (by show 256 * t + (0 + r.val) = _; omega) (by show 4096 + (3968 + d.val) = _; omega)
  · refine (rd2 arg2 harg2 x1 _ inb_S256x4096_S256x256_0_768 0 768 rfl r d (by omega) (by omega)).trans ((T.h1 _ _).trans ?_)
    exact congrArg₂ I.P (by show 256 * t + (0 + r.val) = _; omega) (by show 4096 + (768 + d.val) = _; omega)

theorem rgate3 (T : Tile I t x0 x1 x2 x3 x6 x7 x8 x9 x10 x11) (r d : Fin 256) :
    (View.readAt (Elt Ideal) arg2.view (Rect.unit (s := S256x4096) ![0, 1792] S256x256.size inb_S256x4096_S256x256_0_1792).toLoadRect (harg2.unread x1)) (ix2 r d) = I.P (64 * (4 * t) + r.val) (5120 + (256 * 3 + d.val)) := by
  refine (rd2 arg2 harg2 x1 _ inb_S256x4096_S256x256_0_1792 0 1792 rfl r d (by omega) (by omega)).trans ((T.h1 _ _).trans ?_)
  exact congrArg₂ I.P (by show 256 * t + (0 + r.val) = _; omega) (by show 4096 + (1792 + d.val) = _; omega)

theorem win0 (T : Tile I t x0 x1 x2 x3 x6 x7 x8 x9 x10 x11) (pv : Vec Ideal S128x512 .bf16) (hpv : t % 8 ≠ 0 → ∀ (j : Fin 128) (x : Fin 512), pv (ix2 j x) = I.P (256 * t + j.val - 128) (8192 + x.val)) :
    Win I (2 * t + 0) (View.readAt (Elt Ideal) arg2.view (Rect.unit (s := S256x4096) ![0, 2048] S128x1024.size inb_S256x4096_S128x1024_0_2048).toLoadRect (harg2.unread x1)) (k0_pay36 (k0_pay8 pv (View.readAt (Elt Ideal) arg3.view (Rect.unit (s := S256x512) ![0, 0] S256x512.size inb_S256x512_S256x512_0_0).toLoadRect (harg3.unread x2)))) (concatenate S256x256 1 [⟨S256x128, k0_pay10 pv (View.readAt (Elt Ideal) arg3.view (Rect.unit (s := S256x512) ![0, 0] S256x512.size inb_S256x512_S256x512_0_0).toLoadRect (harg3.unread x2))⟩, ⟨S256x128, k0_pay11 pv (View.readAt (Elt Ideal) arg3.view (Rect.unit (s := S256x512) ![0, 0] S256x512.size inb_S256x512_S256x512_0_0).toLoadRect (harg3.unread x2))⟩] concatenates_S256x128_S256x128_S256x256_d1) := by
  have ekv : (View.readAt (Elt Ideal) arg3.view (Rect.unit (s := S256x512) ![0, 0] S256x512.size inb_S256x512_S256x512_0_0).toLoadRect (harg3.unread x2)) = x2 := by
    rw [View.readAt_eq_ld, harg3.read_unread]; exact View.ld_unit_zero (by decide) _ _
  rw [ekv]
  have h2 := T.h2
  refine ⟨fun r d => ?_, fun j x c => ?_, fun x j c => ?_⟩
  · refine (rd2 arg2 harg2 x1 _ inb_S256x4096_S128x1024_0_2048 0 2048 rfl r d (by omega) (by omega)).trans ((T.h1 _ _).trans ?_)
    exact congrArg₂ I.P (by show 256 * t + (0 + r.val) = _; omega) (by show 4096 + (2048 + d.val) = _; omega)
  · pointwise [k0_pay36, k0_pay8]
    by_cases hj : j.val < 128
    · simp only [dif_pos hj]
      refine (hpv (by omega) _ _).trans (congrArg₂ I.P ?_ ?_)
      · show 256 * t + j.val - 128 = _; omega
      · rfl
    · simp only [dif_neg hj]
      refine (h2 _ _).trans (congrArg₂ I.P ?_ ?_)
      · show 256 * t + (j.val - 128) = _; omega
      · rfl
  · pointwise [k0_pay10, k0_pay11, k0_pay8]
    by_cases hj : j.val < 128
    · simp only [dif_pos hj]
      refine (hpv (by omega) _ _).trans (congrArg₂ I.P ?_ ?_)
      · show 256 * t + j.val - 128 = _; omega
      · show 8192 + (256 + x.val) = _; omega
    · simp only [dif_neg hj]
      try rw [dif_neg (by omega)]
      refine (h2 _ _).trans (congrArg₂ I.P ?_ ?_)
      · show 256 * t + _ = 128 * (2 * t + 0) + j.val - 128
        simp only [Fin.val_mk]; omega
      · show 8192 + (256 + x.val) = _; omega

theorem win1 (T : Tile I t x0 x1 x2 x3 x6 x7 x8 x9 x10 x11) (pv : Vec Ideal S128x512 .bf16) (hpv : t % 8 ≠ 0 → ∀ (j : Fin 128) (x : Fin 512), pv (ix2 j x) = I.P (256 * t + j.val - 128) (8192 + x.val)) :
    Win I (2 * t + 1) (View.readAt (Elt Ideal) arg2.view (Rect.unit (s := S256x4096) ![128, 2048] S128x1024.size inb_S256x4096_S128x1024_128_2048).toLoadRect (harg2.unread x1)) (k0_pay149 (k0_pay8 pv (View.readAt (Elt Ideal) arg3.view (Rect.unit (s := S256x512) ![0, 0] S256x512.size inb_S256x512_S256x512_0_0).toLoadRect (harg3.unread x2)))) (concatenate S256x256 1 [⟨S256x128, k0_pay11 pv (View.readAt (Elt Ideal) arg3.view (Rect.unit (s := S256x512) ![0, 0] S256x512.size inb_S256x512_S256x512_0_0).toLoadRect (harg3.unread x2))⟩, ⟨S256x128, k0_pay12 pv (View.readAt (Elt Ideal) arg3.view (Rect.unit (s := S256x512) ![0, 0] S256x512.size inb_S256x512_S256x512_0_0).toLoadRect (harg3.unread x2))⟩] concatenates_S256x128_S256x128_S256x256_d1) := by
  have ekv : (View.readAt (Elt Ideal) arg3.view (Rect.unit (s := S256x512) ![0, 0] S256x512.size inb_S256x512_S256x512_0_0).toLoadRect (harg3.unread x2)) = x2 := by
    rw [View.readAt_eq_ld, harg3.read_unread]; exact View.ld_unit_zero (by decide) _ _
  rw [ekv]
  have h2 := T.h2
  refine ⟨fun r d => ?_, fun j x c => ?_, fun x j c => ?_⟩
  · refine (rd2 arg2 harg2 x1 _ inb_S256x4096_S128x1024_128_2048 128 2048 rfl r d (by omega) (by omega)).trans ((T.h1 _ _).trans ?_)
    exact congrArg₂ I.P (by show 256 * t + (128 + r.val) = _; omega) (by show 4096 + (2048 + d.val) = _; omega)
  · pointwise [k0_pay149, k0_pay8]
    refine (h2 _ _).trans (congrArg₂ I.P ?_ ?_)
    · show 256 * t + j.val = _; omega
    · rfl
  · pointwise [k0_pay11, k0_pay12, k0_pay8]
    by_cases hj : j.val < 128
    · simp only [dif_pos hj]
      refine (h2 _ _).trans (congrArg₂ I.P ?_ ?_)
      · show 256 * t + j.val = _; omega
      · show 8192 + (256 + x.val) = _; omega
    · simp only [dif_neg hj]
      try rw [dif_neg (by omega)]
      refine (h2 _ _).trans (congrArg₂ I.P ?_ ?_)
      · show 256 * t + _ = 128 * (2 * t + 1) + j.val - 128
        simp only [Fin.val_mk]; omega
      · show 8192 + (256 + x.val) = _; omega

end

end Cert.KernelIdeal.Val

end
-- ==== Proof.MixTab0.lean ====
/-
  The mixing call's tables of zeros and ones, entry by entry (part 1).
-/
module

public import proofs.«01_k».proof.KernelIdeal

@[expose] public section

set_option maxRecDepth 100000

namespace Cert.KernelIdeal.Val

open Cert.KernelIdeal Idealize.ShloMosaic

theorem tabW0 : ∀ i t : Fin 64, lit0 ⟨(0 + i.val) * 128 + t.val, by have := i.isLt; have := t.isLt; show _ < 65536; omega⟩
    = if t.val ≤ i.val then 0x3F80#16 else 0x0000#16 := by decide +kernel

theorem tabP0 : ∀ i j : Fin 64, lit1 ⟨(0 + i.val) * 64 + j.val, by have := i.isLt; have := j.isLt; show _ < 28672; omega⟩
    = if i.val / 64 = j.val / 64 ∧ 32 ≤ i.val % 64 ∧ j.val % 64 < 32 then 0x3F800000#32 else 0x00000000#32 := by decide +kernel

end Cert.KernelIdeal.Val
-- ==== Proof.MixTab1.lean ====
/-
  The mixing call's tables of zeros and ones, entry by entry (part 2).
-/
module

public import proofs.«01_k».proof.KernelIdeal

@[expose] public section

set_option maxRecDepth 100000

namespace Cert.KernelIdeal.Val

open Cert.KernelIdeal Idealize.ShloMosaic

theorem tabW1 : ∀ i t : Fin 64, lit0 ⟨(64 + i.val) * 128 + t.val, by have := i.isLt; have := t.isLt; show _ < 65536; omega⟩
    = if i.val < t.val then 0x3F80#16 else 0x0000#16 := by decide +kernel

theorem tabP1 : ∀ i j : Fin 64, lit1 ⟨(64 + i.val) * 64 + j.val, by have := i.isLt; have := j.isLt; show _ < 28672; omega⟩
    = if i.val / 32 = j.val / 32 ∧ 16 ≤ i.val % 32 ∧ j.val % 32 < 16 then 0x3F800000#32 else 0x00000000#32 := by decide +kernel

end Cert.KernelIdeal.Val
-- ==== Proof.MixTab2.lean ====
/-
  The mixing call's tables of zeros and ones, entry by entry (part 3).
-/
module

public import proofs.«01_k».proof.KernelIdeal

@[expose] public section

set_option maxRecDepth 100000

namespace Cert.KernelIdeal.Val

open Cert.KernelIdeal Idealize.ShloMosaic

theorem tabW2 : ∀ i t : Fin 64, lit0 ⟨(128 + i.val) * 128 + t.val, by have := i.isLt; have := t.isLt; show _ < 65536; omega⟩
    = if (if 32 ≤ i.val % 64 then i.val / 64 * 64 + 31 < t.val ∧ t.val ≤ i.val else i.val < t.val ∧ t.val ≤ i.val / 64 * 64 + 31) then 0x3F80#16 else 0x0000#16 := by decide +kernel

theorem tabP2 : ∀ i j : Fin 64, lit1 ⟨(128 + i.val) * 64 + j.val, by have := i.isLt; have := j.isLt; show _ < 28672; omega⟩
    = if i.val / 16 = j.val / 16 ∧ 8 ≤ i.val % 16 ∧ j.val % 16 < 8 then 0x3F800000#32 else 0x00000000#32 := by decide +kernel

end Cert.KernelIdeal.Val
-- ==== Proof.MixTab3.lean ====
/-
  The mixing call's tables of zeros and ones, entry by entry (part 4).
-/
module

public import proofs.«01_k».proof.KernelIdeal

@[expose] public section

set_option maxRecDepth 100000

namespace Cert.KernelIdeal.Val

open Cert.KernelIdeal Idealize.ShloMosaic

theorem tabW3 : ∀ i t : Fin 64, lit0 ⟨(192 + i.val) * 128 + t.val, by have := i.isLt; have := t.isLt; show _ < 65536; omega⟩
    = if (if 16 ≤ i.val % 32 then i.val / 32 * 32 + 15 < t.val ∧ t.val ≤ i.val else i.val < t.val ∧ t.val ≤ i.val / 32 * 32 + 15) then 0x3F80#16 else 0x0000#16 := by decide +kernel

theorem tabP3 : ∀ i j : Fin 64, lit1 ⟨(192 + i.val) * 64 + j.val, by have := i.isLt; have := j.isLt; show _ < 28672; omega⟩
    = if i.val / 8 = j.val / 8 ∧ 4 ≤ i.val % 8 ∧ j.val % 8 < 4 then 0x3F800000#32 else 0x00000000#32 := by decide +kernel

end Cert.KernelIdeal.Val
-- ==== Proof.MixTab4.lean ====
/-
  The mixing call's tables of zeros and ones, entry by entry (part 5).
-/
module

public import proofs.«01_k».proof.KernelIdeal

@[expose] public section

set_option maxRecDepth 100000

namespace Cert.KernelIdeal.Val

open Cert.KernelIdeal Idealize.ShloMosaic

theorem tabW4 : ∀ i t : Fin 64, lit0 ⟨(256 + i.val) * 128 + t.val, by have := i.isLt; have := t.isLt; show _ < 65536; omega⟩
    = if (if 8 ≤ i.val % 16 then i.val / 16 * 16 + 7 < t.val ∧ t.val ≤ i.val else i.val < t.val ∧ t.val ≤ i.val / 16 * 16 + 7) then 0x3F80#16 else 0x0000#16 := by decide +kernel

theorem tabP4 : ∀ i j : Fin 64, lit1 ⟨(256 + i.val) * 64 + j.val, by have := i.isLt; have := j.isLt; show _ < 28672; omega⟩
    = if i.val / 4 = j.val / 4 ∧ 2 ≤ i.val % 4 ∧ j.val % 4 < 2 then 0x3F800000#32 else 0x00000000#32 := by decide +kernel

end Cert.KernelIdeal.Val
-- ==== Proof.MixTab5.lean ====
/-
  The mixing call's tables of zeros and ones, entry by entry (part 6).
-/
module

public import proofs.«01_k».proof.KernelIdeal

@[expose] public section

set_option maxRecDepth 100000

namespace Cert.KernelIdeal.Val

open Cert.KernelIdeal Idealize.ShloMosaic

theorem tabW5 : ∀ i t : Fin 64, lit0 ⟨(320 + i.val) * 128 + t.val, by have := i.isLt; have := t.isLt; show _ < 65536; omega⟩
    = if (if 4 ≤ i.val % 8 then i.val / 8 * 8 + 3 < t.val ∧ t.val ≤ i.val else i.val < t.val ∧ t.val ≤ i.val / 8 * 8 + 3) then 0x3F80#16 else 0x0000#16 := by decide +kernel

theorem tabP5 : ∀ i j : Fin 64, lit1 ⟨(320 + i.val) * 64 + j.val, by have := i.isLt; have := j.isLt; show _ < 28672; omega⟩
    = if i.val / 2 = j.val / 2 ∧ 1 ≤ i.val % 2 ∧ j.val % 2 < 1 then 0x3F800000#32 else 0x00000000#32 := by decide +kernel

end Cert.KernelIdeal.Val
-- ==== Proof.MixTab6.lean ====
/-
  The mixing call's tables of zeros and ones, entry by entry (part 7).
-/
module

public import proofs.«01_k».proof.KernelIdeal

@[expose] public section

set_option maxRecDepth 100000

namespace Cert.KernelIdeal.Val

open Cert.KernelIdeal Idealize.ShloMosaic

theorem tabW6 : ∀ i t : Fin 64, lit0 ⟨(384 + i.val) * 128 + t.val, by have := i.isLt; have := t.isLt; show _ < 65536; omega⟩
    = if (if 2 ≤ i.val % 4 then i.val / 4 * 4 + 1 < t.val ∧ t.val ≤ i.val else i.val < t.val ∧ t.val ≤ i.val / 4 * 4 + 1) then 0x3F80#16 else 0x0000#16 := by decide +kernel

theorem tabP6 : ∀ i j : Fin 64, lit1 ⟨(384 + i.val) * 64 + j.val, by have := i.isLt; have := j.isLt; show _ < 28672; omega⟩
    = if i.val = j.val then 0x3F800000#32 else 0x00000000#32 := by decide +kernel

end Cert.KernelIdeal.Val
-- ==== Proof.MixTab7.lean ====
/-
  The mixing call's tables of zeros and ones, entry by entry (part 8).
-/
module

public import proofs.«01_k».proof.KernelIdeal

@[expose] public section

set_option maxRecDepth 100000

namespace Cert.KernelIdeal.Val

open Cert.KernelIdeal Idealize.ShloMosaic

theorem tabW7 : ∀ i t : Fin 64, lit0 ⟨(448 + i.val) * 128 + t.val, by have := i.isLt; have := t.isLt; show _ < 65536; omega⟩
    = if (if 1 ≤ i.val % 2 then i.val / 2 * 2 + 0 < t.val ∧ t.val ≤ i.val else i.val < t.val ∧ t.val ≤ i.val / 2 * 2 + 0) then 0x3F80#16 else 0x0000#16 := by decide +kernel

end Cert.KernelIdeal.Val
-- ==== Proof.MixWin.lean ====
/-
  What the mixing call's points read: the windows' blocks of the argument arrays, the host's tables and mask.
-/
module

public import proofs.«01_k».proof.Proof.Gen.KernelIdeal.Value
public import Idealize.ShloMosaic.Lib.Claim
public import proofs.«01_k».proof.Proof.MixLs
public import proofs.«01_k».proof.Proof.MixBias
public import proofs.«01_k».proof.Proof.MixTile
public import proofs.«01_k».proof.Proof.MixTab0
public import proofs.«01_k».proof.Proof.MixTab1
public import proofs.«01_k».proof.Proof.MixTab2
public import proofs.«01_k».proof.Proof.MixTab3
public import proofs.«01_k».proof.Proof.MixTab4
public import proofs.«01_k».proof.Proof.MixTab5
public import proofs.«01_k».proof.Proof.MixTab6
public import proofs.«01_k».proof.Proof.MixTab7

@[expose] public section

set_option maxRecDepth 16384

noncomputable section

namespace Cert.Mixm

open Idealize.ShloMosaic Idealize.ShloMosaic.TcCoe

/-- A matrix as a function of two naturals, zero outside. -/
def arr2 {a b : Nat} (f : Fin a → Fin b → EReal) (r c : Nat) : EReal := if h : r < a ∧ c < b then f ⟨r, h.1⟩ ⟨c, h.2⟩ else 0
theorem arr2_at {a b : Nat} (f : Fin a → Fin b → EReal) (r : Fin a) (c : Fin b) : arr2 f r.val c.val = f r c := dif_pos ⟨r.isLt, c.isLt⟩
/-- A vector as a function of a natural, zero outside. -/
def arr1 {a : Nat} (f : Fin a → EReal) (r : Nat) : EReal := if h : r < a then f ⟨r, h⟩ else 0
theorem arr1_at {a : Nat} (f : Fin a → EReal) (r : Fin a) : arr1 f r.val = f r := dif_pos r.isLt

/-- The decay logits. -/
def logit (gz : FVec Ideal ⟨2, ![32768, 128]⟩ .f32) (wd : FVec Ideal ⟨2, ![128, 512]⟩ .bf16) (bd : FVec Ideal ⟨2, ![1, 512]⟩ .f32) (r d : Nat) : EReal :=
  arr2 (fun r d => (∑ x : Fin 128, (gz (ix2 r x) : EReal) * wd (ix2 x d)) + bd (ix2 0 d)) r d

/-- The layer's inputs, of the call's arguments. -/
def inpOf (p : FVec Ideal ⟨2, ![32768, 8704]⟩ .bf16) (gz : FVec Ideal ⟨2, ![32768, 128]⟩ .f32) (x : FVec Ideal ⟨2, ![32768, 2048]⟩ .f32)
    (wd : FVec Ideal ⟨2, ![128, 512]⟩ .bf16) (bd : FVec Ideal ⟨2, ![1, 512]⟩ .f32) (g : FVec Ideal ⟨2, ![1, 256]⟩ .f32) (sk : FVec Ideal ⟨1, ![16]⟩ .f32)
    (wa wb : FVec Ideal ⟨2, ![1024, 2048]⟩ .bf16) (wo : FVec Ideal ⟨2, ![2048, 2048]⟩ .bf16) : Inp where
  P := arr2 fun r c => p (ix2 r c)
  A r d := ls (logit gz wd bd r d) / 16
  gain := arr1 fun e => g (ix2 0 e)
  X := arr2 fun r c => x (ix2 r c)
  wa := arr2 fun r c => wa (ix2 r c)
  wb := arr2 fun r c => wb (ix2 r c)
  wo := arr2 fun r c => wo (ix2 r c)
  sink := arr1 fun h => sk (ix1 h)
  bias := biasOf

end Cert.Mixm

namespace Cert.KernelIdeal.Val

open Cert.KernelIdeal Cert.KernelIdeal.Gen Idealize.ShloMosaic Idealize.ShloMosaic.TcCoe Cert.Mixm Idealize.SL.Sem
open Cert.KernelIdeal.Value

theorem idx0 : ∀ t : Fin cfg0.N, win0_0.index t (0 : Fin 1) = 0 := (by decide +kernel : ∀ t : Fin grid0.N, _)
theorem idx1 : ∀ t : Fin cfg0.N, win0_1.index t (0 : Fin 2) = min t.val 127 ∧ win0_1.index t (1 : Fin 2) = 1 := (by decide +kernel : ∀ t : Fin grid0.N, _)
theorem idx2 : ∀ t : Fin cfg0.N, win0_2.index t (0 : Fin 2) = min t.val 127 ∧ win0_2.index t (1 : Fin 2) = 16 := (by decide +kernel : ∀ t : Fin grid0.N, _)
theorem idx3 : ∀ t : Fin cfg0.N, win0_3.index t (0 : Fin 2) = min t.val 127 ∧ win0_3.index t (1 : Fin 2) = 0 := (by decide +kernel : ∀ t : Fin grid0.N, _)
theorem idx4 : ∀ t : Fin cfg0.N, win0_4.index t (0 : Fin 2) = t.val - 1 ∧ win0_4.index t (1 : Fin 2) = 0 := (by decide +kernel : ∀ t : Fin grid0.N, _)
theorem idx5 : ∀ t : Fin cfg0.N, win0_5.index t (0 : Fin 2) = t.val - 1 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx14 : ∀ t : Fin cfg0.N, win0_14.index t (0 : Fin 2) = 0 ∧ win0_14.index t (1 : Fin 2) = 0 := (by decide +kernel : ∀ t : Fin grid0.N, _)
theorem idx15 : ∀ t : Fin cfg0.N, win0_15.index t (0 : Fin 2) = t.val - 1 ∧ win0_15.index t (1 : Fin 2) = 0 := (by decide +kernel : ∀ t : Fin grid0.N, _)
theorem idx10 : ∀ t : Fin cfg0.N, win0_10.index t (0 : Fin 3) = 0 ∧ win0_10.index t (1 : Fin 3) = 0 ∧ win0_10.index t (2 : Fin 3) = 0 := (by decide +kernel : ∀ t : Fin grid0.N, _)
theorem idx11 : ∀ t : Fin cfg0.N, win0_11.index t (0 : Fin 4) = 0 ∧ win0_11.index t (1 : Fin 4) = 0 ∧ win0_11.index t (2 : Fin 4) = 0 ∧ win0_11.index t (3 : Fin 4) = 0 := (by decide +kernel : ∀ t : Fin grid0.N, _)
theorem flush15 : ∀ t : Fin cfg0.N, (cfg0.win 15).flush t = true ↔ t.val ≠ 0 := (by decide +kernel : ∀ t : Fin grid0.N, win0_15.flush t = true ↔ t.val ≠ 0)

variable (m : (ℓ : Loc nD τ sig) → Buf (Elt Ideal) ℓ)

/-- The arguments' arrays, by name. -/
abbrev A0 (c : Dev nD) : FVec Ideal S32768x8704 .bf16 := m ((c : Thread nD τ).loc main_arg0)
abbrev A1 (c : Dev nD) : FVec Ideal S32768x128 .f32 := m ((c : Thread nD τ).loc main_arg1)
abbrev A2 (c : Dev nD) : FVec Ideal S32768x2048 .f32 := m ((c : Thread nD τ).loc main_arg2)
abbrev A3 (c : Dev nD) : FVec Ideal S128x512 .bf16 := m ((c : Thread nD τ).loc main_arg3)
abbrev A4 (c : Dev nD) : FVec Ideal S1x512 .f32 := m ((c : Thread nD τ).loc main_arg4)
abbrev A5 (c : Dev nD) : FVec Ideal S1x256 .f32 := m ((c : Thread nD τ).loc main_arg5)
abbrev A6 (c : Dev nD) : FVec Ideal S16 .f32 := m ((c : Thread nD τ).loc main_arg6)
abbrev A7 (c : Dev nD) : FVec Ideal S1024x2048 .bf16 := m ((c : Thread nD τ).loc main_arg7)
abbrev A8 (c : Dev nD) : FVec Ideal S1024x2048 .bf16 := m ((c : Thread nD τ).loc main_arg8)
abbrev A9 (c : Dev nD) : FVec Ideal S2048x2048 .bf16 := m ((c : Thread nD τ).loc main_arg9)

/-- The layer's inputs, of the launched arguments. -/
def inp (c : Dev nD) : Inp := inpOf (A0 m c) (A1 m c) (A2 m c) (A3 m c) (A4 m c) (A5 m c) (A6 m c) (A7 m c) (A8 m c) (A9 m c)
/-- The decay logits of the launched arguments. -/
def lg (c : Dev nD) : Nat → Nat → EReal := logit (A1 m c) (A3 m c) (A4 m c)

theorem lt129 (t : Fin cfg0.N) : t.val < 129 := lt_of_lt_of_eq t.isLt (show cfg0.N = 129 from N_0)

theorem iblk0_at (c : Dev nD) (t : Fin cfg0.N) (h : Fin 16) : iblk m c 0 t (ix1 h) = (inp m c).sink h.val := by
  have e0 := idx0 t
  refine Eq.trans ?_ (arr1_at (fun h => A6 m c (ix1 h)) h).symm
  show V m c main_arg6 (((cfg0.win 0).blk t).view.emb (ix1 h)) = _
  rw [V_main_arg6]
  refine congrArg (A6 m c) (funext fun a => Fin.ext ?_)
  match a with
  | ⟨0, _⟩ => show win0_0.index t (0 : Fin 1) * 16 + 1 * h.val = h.val; omega

theorem X1_at (c : Dev nD) (t : Fin cfg0.N) (ht : t.val < 128) (r : Fin 256) (k : Fin 4096) : X0_1 m c t (ix2 r k) = (inp m c).P (256 * t.val + r.val) (4096 + k.val) := by
  obtain ⟨e0, e1⟩ := idx1 t
  have hN := lt129 t
  refine Eq.trans ?_ (arr2_at (fun r c' => A0 m c (ix2 r c')) ⟨256 * t.val + r.val, by omega⟩ ⟨4096 + k.val, by omega⟩).symm
  unfold X0_1 Pipeline.Window.fill
  rw [dif_pos (moved0_1 t _)]
  show V m c main_arg0 (((cfg0.win 1).blk t).view.emb _) = _
  rw [V_main_arg0]
  refine congrArg (A0 m c) (funext fun a => Fin.ext ?_)
  match a with
  | ⟨0, _⟩ => show win0_1.index t (0 : Fin 2) * 256 + 1 * r.val = 256 * t.val + r.val; omega
  | ⟨1, _⟩ => show win0_1.index t (1 : Fin 2) * 4096 + 1 * k.val = 4096 + k.val; omega

theorem iblk2_at (c : Dev nD) (t : Fin cfg0.N) (ht : t.val < 128) (r : Fin 256) (k : Fin 512) : iblk m c 2 t (ix2 r k) = (inp m c).P (256 * t.val + r.val) (8192 + k.val) := by
  obtain ⟨e0, e1⟩ := idx2 t
  have hN := lt129 t
  refine Eq.trans ?_ (arr2_at (fun r c' => A0 m c (ix2 r c')) ⟨256 * t.val + r.val, by omega⟩ ⟨8192 + k.val, by omega⟩).symm
  show V m c main_arg0 (((cfg0.win 2).blk t).view.emb (ix2 r k)) = _
  rw [V_main_arg0]
  refine congrArg (A0 m c) (funext fun a => Fin.ext ?_)
  match a with
  | ⟨0, _⟩ => show win0_2.index t (0 : Fin 2) * 256 + 1 * r.val = 256 * t.val + r.val; omega
  | ⟨1, _⟩ => show win0_2.index t (1 : Fin 2) * 512 + 1 * k.val = 8192 + k.val; omega

theorem X4_at (c : Dev nD) (t : Fin cfg0.N) (ht : 1 ≤ t.val) (r : Fin 256) (k : Fin 4096) : X0_4 m c t (ix2 r k) = (inp m c).P (256 * (t.val - 1) + r.val) k.val := by
  obtain ⟨e0, e1⟩ := idx4 t
  have hN := lt129 t
  refine Eq.trans ?_ (arr2_at (fun r c' => A0 m c (ix2 r c')) ⟨256 * (t.val - 1) + r.val, by omega⟩ ⟨k.val, by omega⟩).symm
  unfold X0_4 Pipeline.Window.fill
  rw [dif_pos (moved0_4 t _)]
  show V m c main_arg0 (((cfg0.win 4).blk t).view.emb _) = _
  rw [V_main_arg0]
  refine congrArg (A0 m c) (funext fun a => Fin.ext ?_)
  match a with
  | ⟨0, _⟩ => show win0_4.index t (0 : Fin 2) * 256 + 1 * r.val = 256 * (t.val - 1) + r.val; omega
  | ⟨1, _⟩ => show win0_4.index t (1 : Fin 2) * 4096 + 1 * k.val = k.val; omega

theorem iblk5_at (c : Dev nD) (t : Fin cfg0.N) (ht : 1 ≤ t.val) (r : Fin 256) (k : Fin 2048) : iblk m c 5 t (ix2 r k) = (inp m c).X (256 * (t.val - 1) + r.val) k.val := by
  obtain ⟨e0, e1⟩ := idx5 t
  have hN := lt129 t
  refine Eq.trans ?_ (arr2_at (fun r c' => A2 m c (ix2 r c')) ⟨256 * (t.val - 1) + r.val, by omega⟩ ⟨k.val, by omega⟩).symm
  show V m c main_arg2 (((cfg0.win 5).blk t).view.emb (ix2 r k)) = _
  rw [V_main_arg2]
  refine congrArg (A2 m c) (funext fun a => Fin.ext ?_)
  match a with
  | ⟨0, _⟩ => show win0_5.index t (0 : Fin 2) * 256 + 1 * r.val = 256 * (t.val - 1) + r.val; omega
  | ⟨1, _⟩ => show win0_5.index t (1 : Fin 2) * 2048 + 1 * k.val = k.val; omega

theorem iblk12_at (c : Dev nD) (t : Fin cfg0.N) (r : Fin 1024) (k : Fin 2048) : iblk m c 12 t (ix2 r k) = (inp m c).wa r.val k.val := by
  obtain ⟨e0, e1⟩ := idx12 t
  have hN := lt129 t
  refine Eq.trans ?_ (arr2_at (fun r c' => A7 m c (ix2 r c')) ⟨r.val, by omega⟩ ⟨k.val, by omega⟩).symm
  show V m c main_arg7 (((cfg0.win 12).blk t).view.emb (ix2 r k)) = _
  rw [V_main_arg7]
  refine congrArg (A7 m c) (funext fun a => Fin.ext ?_)
  match a with
  | ⟨0, _⟩ => show win0_12.index t (0 : Fin 2) * 1024 + 1 * r.val = r.val; omega
  | ⟨1, _⟩ => show win0_12.index t (1 : Fin 2) * 2048 + 1 * k.val = k.val; omega

theorem iblk13_at (c : Dev nD) (t : Fin cfg0.N) (r : Fin 1024) (k : Fin 2048) : iblk m c 13 t (ix2 r k) = (inp m c).wb r.val k.val := by
  obtain ⟨e0, e1⟩ := idx13 t
  have hN := lt129 t
  refine Eq.trans ?_ (arr2_at (fun r c' => A8 m c (ix2 r c')) ⟨r.val, by omega⟩ ⟨k.val, by omega⟩).symm
  show V m c main_arg8 (((cfg0.win 13).blk t).view.emb (ix2 r k)) = _
  rw [V_main_arg8]
  refine congrArg (A8 m c) (funext fun a => Fin.ext ?_)
  match a with
  | ⟨0, _⟩ => show win0_13.index t (0 : Fin 2) * 1024 + 1 * r.val = r.val; omega
  | ⟨1, _⟩ => show win0_13.index t (1 : Fin 2) * 2048 + 1 * k.val = k.val; omega

theorem iblk14_at (c : Dev nD) (t : Fin cfg0.N) (r : Fin 2048) (k : Fin 2048) : iblk m c 14 t (ix2 r k) = (inp m c).wo r.val k.val := by
  obtain ⟨e0, e1⟩ := idx14 t
  have hN := lt129 t
  refine Eq.trans ?_ (arr2_at (fun r c' => A9 m c (ix2 r c')) ⟨r.val, by omega⟩ ⟨k.val, by omega⟩).symm
  show V m c main_arg9 (((cfg0.win 14).blk t).view.emb (ix2 r k)) = _
  rw [V_main_arg9]
  refine congrArg (A9 m c) (funext fun a => Fin.ext ?_)
  match a with
  | ⟨0, _⟩ => show win0_14.index t (0 : Fin 2) * 2048 + 1 * r.val = r.val; omega
  | ⟨1, _⟩ => show win0_14.index t (1 : Fin 2) * 2048 + 1 * k.val = k.val; omega

theorem iblk3_at (c : Dev nD) (t : Fin cfg0.N) (ht : t.val < 128) (r : Fin 256) (k : Fin 128) : iblk m c 3 t (ix2 r k) = A1 m c (ix2 ⟨256 * t.val + r.val, by omega⟩ k) := by
  obtain ⟨e0, e1⟩ := idx3 t
  have hN := lt129 t
  show V m c main_arg1 (((cfg0.win 3).blk t).view.emb (ix2 r k)) = _
  rw [V_main_arg1]
  refine congrArg (A1 m c) (funext fun a => Fin.ext ?_)
  match a with
  | ⟨0, _⟩ => show win0_3.index t (0 : Fin 2) * 256 + 1 * r.val = 256 * t.val + r.val; omega
  | ⟨1, _⟩ => show win0_3.index t (1 : Fin 2) * 128 + 1 * k.val = k.val; omega

theorem iblk6_at (c : Dev nD) (t : Fin cfg0.N) (r : Fin 128) (k : Fin 512) : iblk m c 6 t (ix2 r k) = A3 m c (ix2 r k) := by
  obtain ⟨e0, e1⟩ := idx6 t
  have hN := lt129 t
  show V m c main_arg3 (((cfg0.win 6).blk t).view.emb (ix2 r k)) = _
  rw [V_main_arg3]
  refine congrArg (A3 m c) (funext fun a => Fin.ext ?_)
  match a with
  | ⟨0, _⟩ => show win0_6.index t (0 : Fin 2) * 128 + 1 * r.val = r.val; omega
  | ⟨1, _⟩ => show win0_6.index t (1 : Fin 2) * 512 + 1 * k.val = k.val; omega

theorem iblk7_at (c : Dev nD) (t : Fin cfg0.N) (r : Fin 1) (k : Fin 512) : iblk m c 7 t (ix2 r k) = A4 m c (ix2 r k) := by
  obtain ⟨e0, e1⟩ := idx7 t
  have hN := lt129 t
  show V m c main_arg4 (((cfg0.win 7).blk t).view.emb (ix2 r k)) = _
  rw [V_main_arg4]
  refine congrArg (A4 m c) (funext fun a => Fin.ext ?_)
  match a with
  | ⟨0, _⟩ => show win0_7.index t (0 : Fin 2) * 1 + 1 * r.val = r.val; omega
  | ⟨1, _⟩ => show win0_7.index t (1 : Fin 2) * 512 + 1 * k.val = k.val; omega

theorem iblk8_at (c : Dev nD) (t : Fin cfg0.N) (r : Fin 1) (k : Fin 256) : iblk m c 8 t (ix2 r k) = A5 m c (ix2 r k) := by
  obtain ⟨e0, e1⟩ := idx8 t
  have hN := lt129 t
  show V m c main_arg5 (((cfg0.win 8).blk t).view.emb (ix2 r k)) = _
  rw [V_main_arg5]
  refine congrArg (A5 m c) (funext fun a => Fin.ext ?_)
  match a with
  | ⟨0, _⟩ => show win0_8.index t (0 : Fin 2) * 1 + 1 * r.val = r.val; omega
  | ⟨1, _⟩ => show win0_8.index t (1 : Fin 2) * 256 + 1 * k.val = k.val; omega

theorem bf1 : (FloatOps.ofBits (F := Ideal) FTy.bf16 0x3F80#16 : EReal) = 1 := by
  show Ideal.ofBits FTy.bf16 0x3F80#16 = 1
  simp [Ideal.ofBits, Ideal.ieee, -EReal.coe_mul]; norm_num
theorem bf0 : (FloatOps.ofBits (F := Ideal) FTy.bf16 0x0000#16 : EReal) = 0 := by
  show Ideal.ofBits FTy.bf16 0x0000#16 = 0
  simp [Ideal.ofBits, Ideal.ieee, -EReal.coe_mul]
theorem fl1 : (FloatOps.ofBits (F := Ideal) FTy.f32 0x3F800000#32 : EReal) = 1 := by
  show Ideal.ofBits FTy.f32 0x3F800000#32 = 1
  simp [Ideal.ofBits, Ideal.ieee, -EReal.coe_mul]; norm_num
theorem fl0 : (FloatOps.ofBits (F := Ideal) FTy.f32 0x00000000#32 : EReal) = 0 := Ideal.ofBits_zero_f32

theorem bf_if (p : Prop) [Decidable p] (x : BitVec 16) (h : x = if p then 0x3F80#16 else 0x0000#16) : (FloatOps.ofBits (F := Ideal) FTy.bf16 x : EReal) = if p then 1 else 0 := by
  subst h; split_ifs <;> first | exact bf1 | exact bf0
theorem fl_if (p : Prop) [Decidable p] (x : BitVec 32) (h : x = if p then 0x3F800000#32 else 0x00000000#32) : (FloatOps.ofBits (F := Ideal) FTy.f32 x : EReal) = if p then 1 else 0 := by
  subst h; split_ifs <;> first | exact fl1 | exact fl0

theorem lit0_congr (a b : Nat) (ha : a < 65536) (hb : b < 65536) (h : a = b) : lit0 ⟨a, ha⟩ = lit0 ⟨b, hb⟩ := by subst h; rfl
theorem lit1_congr (a b : Nat) (ha : a < 28672) (hb : b < 28672) (h : a = b) : lit1 ⟨a, ha⟩ = lit1 ⟨b, hb⟩ := by subst h; rfl

theorem wt_0 : ∀ i s : Fin 64, s.val ≤ i.val ↔ wt (0 + i.val) s.val := by unfold wt; decide +kernel
theorem wt_1 : ∀ i s : Fin 64, i.val < s.val ↔ wt (64 + i.val) s.val := by unfold wt; decide +kernel
theorem wt_2 : ∀ i s : Fin 64, (if 32 ≤ i.val % 64 then i.val / 64 * 64 + 31 < s.val ∧ s.val ≤ i.val else i.val < s.val ∧ s.val ≤ i.val / 64 * 64 + 31) ↔ wt (128 + i.val) s.val := by unfold wt; decide +kernel
theorem wt_3 : ∀ i s : Fin 64, (if 16 ≤ i.val % 32 then i.val / 32 * 32 + 15 < s.val ∧ s.val ≤ i.val else i.val < s.val ∧ s.val ≤ i.val / 32 * 32 + 15) ↔ wt (192 + i.val) s.val := by unfold wt; decide +kernel
theorem wt_4 : ∀ i s : Fin 64, (if 8 ≤ i.val % 16 then i.val / 16 * 16 + 7 < s.val ∧ s.val ≤ i.val else i.val < s.val ∧ s.val ≤ i.val / 16 * 16 + 7) ↔ wt (256 + i.val) s.val := by unfold wt; decide +kernel
theorem wt_5 : ∀ i s : Fin 64, (if 4 ≤ i.val % 8 then i.val / 8 * 8 + 3 < s.val ∧ s.val ≤ i.val else i.val < s.val ∧ s.val ≤ i.val / 8 * 8 + 3) ↔ wt (320 + i.val) s.val := by unfold wt; decide +kernel
theorem wt_6 : ∀ i s : Fin 64, (if 2 ≤ i.val % 4 then i.val / 4 * 4 + 1 < s.val ∧ s.val ≤ i.val else i.val < s.val ∧ s.val ≤ i.val / 4 * 4 + 1) ↔ wt (384 + i.val) s.val := by unfold wt; decide +kernel
theorem wt_7 : ∀ i s : Fin 64, (if 1 ≤ i.val % 2 then i.val / 2 * 2 + 0 < s.val ∧ s.val ≤ i.val else i.val < s.val ∧ s.val ≤ i.val / 2 * 2 + 0) ↔ wt (448 + i.val) s.val := by unfold wt; decide +kernel
/-- The prefix table. -/
theorem tabW (i : Fin 512) (s : Fin 64) : lit0 ⟨i.val * 128 + s.val, by have := i.isLt; have := s.isLt; show _ < 65536; omega⟩ = if wt i.val s.val then 0x3F80#16 else 0x0000#16 := by
  have hi := i.isLt
  have hs := s.isLt
  obtain ⟨q, hq⟩ : ∃ q, q = i.val / 64 := ⟨_, rfl⟩
  have hq8 : q < 8 := by omega
  interval_cases q
  · refine (lit0_congr _ ((0 + (i.val - 0)) * 128 + s.val) _ (by omega) (by omega)).trans ((tabW0 ⟨i.val - 0, by omega⟩ s).trans ?_)
    refine if_congr ?_ rfl rfl
    refine (wt_0 ⟨i.val - 0, by omega⟩ s).trans (iff_of_eq (congrArg (wt · s.val) ?_))
    show 0 + (i.val - 0) = i.val
    omega
  · refine (lit0_congr _ ((64 + (i.val - 64)) * 128 + s.val) _ (by omega) (by omega)).trans ((tabW1 ⟨i.val - 64, by omega⟩ s).trans ?_)
    refine if_congr ?_ rfl rfl
    refine (wt_1 ⟨i.val - 64, by omega⟩ s).trans (iff_of_eq (congrArg (wt · s.val) ?_))
    show 64 + (i.val - 64) = i.val
    omega
  · refine (lit0_congr _ ((128 + (i.val - 128)) * 128 + s.val) _ (by omega) (by omega)).trans ((tabW2 ⟨i.val - 128, by omega⟩ s).trans ?_)
    refine if_congr ?_ rfl rfl
    refine (wt_2 ⟨i.val - 128, by omega⟩ s).trans (iff_of_eq (congrArg (wt · s.val) ?_))
    show 128 + (i.val - 128) = i.val
    omega
  · refine (lit0_congr _ ((192 + (i.val - 192)) * 128 + s.val) _ (by omega) (by omega)).trans ((tabW3 ⟨i.val - 192, by omega⟩ s).trans ?_)
    refine if_congr ?_ rfl rfl
    refine (wt_3 ⟨i.val - 192, by omega⟩ s).trans (iff_of_eq (congrArg (wt · s.val) ?_))
    show 192 + (i.val - 192) = i.val
    omega
  · refine (lit0_congr _ ((256 + (i.val - 256)) * 128 + s.val) _ (by omega) (by omega)).trans ((tabW4 ⟨i.val - 256, by omega⟩ s).trans ?_)
    refine if_congr ?_ rfl rfl
    refine (wt_4 ⟨i.val - 256, by omega⟩ s).trans (iff_of_eq (congrArg (wt · s.val) ?_))
    show 256 + (i.val - 256) = i.val
    omega
  · refine (lit0_congr _ ((320 + (i.val - 320)) * 128 + s.val) _ (by omega) (by omega)).trans ((tabW5 ⟨i.val - 320, by omega⟩ s).trans ?_)
    refine if_congr ?_ rfl rfl
    refine (wt_5 ⟨i.val - 320, by omega⟩ s).trans (iff_of_eq (congrArg (wt · s.val) ?_))
    show 320 + (i.val - 320) = i.val
    omega
  · refine (lit0_congr _ ((384 + (i.val - 384)) * 128 + s.val) _ (by omega) (by omega)).trans ((tabW6 ⟨i.val - 384, by omega⟩ s).trans ?_)
    refine if_congr ?_ rfl rfl
    refine (wt_6 ⟨i.val - 384, by omega⟩ s).trans (iff_of_eq (congrArg (wt · s.val) ?_))
    show 384 + (i.val - 384) = i.val
    omega
  · refine (lit0_congr _ ((448 + (i.val - 448)) * 128 + s.val) _ (by omega) (by omega)).trans ((tabW7 ⟨i.val - 448, by omega⟩ s).trans ?_)
    refine if_congr ?_ rfl rfl
    refine (wt_7 ⟨i.val - 448, by omega⟩ s).trans (iff_of_eq (congrArg (wt · s.val) ?_))
    show 448 + (i.val - 448) = i.val
    omega

/-- The pair table. -/
theorem tabP (l : Fin 7) (i j : Fin 64) : lit1 ⟨(64 * l.val + i.val) * 64 + j.val, by have := l.isLt; have := i.isLt; have := j.isLt; show _ < 28672; omega⟩ = if pmk l.val i.val j.val then 0x3F800000#32 else 0x00000000#32 := by
  have hi := i.isLt
  have hj := j.isLt
  match l with
  | ⟨0, _⟩ =>
    refine (lit1_congr _ ((0 + i.val) * 64 + j.val) _ (by omega) (by dsimp only)).trans ((tabP0 i j).trans ?_)
    exact if_congr (by unfold pmk; norm_num) rfl rfl
  | ⟨1, _⟩ =>
    refine (lit1_congr _ ((64 + i.val) * 64 + j.val) _ (by omega) (by dsimp only)).trans ((tabP1 i j).trans ?_)
    exact if_congr (by unfold pmk; norm_num) rfl rfl
  | ⟨2, _⟩ =>
    refine (lit1_congr _ ((128 + i.val) * 64 + j.val) _ (by omega) (by dsimp only)).trans ((tabP2 i j).trans ?_)
    exact if_congr (by unfold pmk; norm_num) rfl rfl
  | ⟨3, _⟩ =>
    refine (lit1_congr _ ((192 + i.val) * 64 + j.val) _ (by omega) (by dsimp only)).trans ((tabP3 i j).trans ?_)
    exact if_congr (by unfold pmk; norm_num) rfl rfl
  | ⟨4, _⟩ =>
    refine (lit1_congr _ ((256 + i.val) * 64 + j.val) _ (by omega) (by dsimp only)).trans ((tabP4 i j).trans ?_)
    exact if_congr (by unfold pmk; norm_num) rfl rfl
  | ⟨5, _⟩ =>
    refine (lit1_congr _ ((320 + i.val) * 64 + j.val) _ (by omega) (by dsimp only)).trans ((tabP5 i j).trans ?_)
    exact if_congr (by unfold pmk; norm_num) rfl rfl
  | ⟨6, _⟩ =>
    refine (lit1_congr _ ((384 + i.val) * 64 + j.val) _ (by omega) (by dsimp only)).trans ((tabP6 i j).trans ?_)
    exact if_congr (by unfold pmk; norm_num) rfl rfl

theorem V_cst (c : Dev nD) : V m c main_cst = (fun i => FloatOps.ofBits .bf16 (lit0 (S512x128.rowMajor i)) : FVec Ideal S512x128 .bf16) := by
  show StableHlo.after ([hostOps0, hostOps0_1, hostOps0_2, hostOps0_3, hostOps0_4].flatten) (fun b => m (c, b)) (Proc.tc.devRef main_cst) = _
  simp only [hostOps0, hostOps0_1, hostOps0_2, hostOps0_3, hostOps0_4, List.flatten_cons, List.flatten_nil, List.append_nil, List.cons_append, List.nil_append, StableHlo.TRef.binary, StableHlo.TRef.unary, StableHlo.TRef.ternary, StableHlo.TRef.toBuf, StableHlo.TRef.ofBuf, cast_eq]
  after_results_simp
  rfl
theorem V_cst_0 (c : Dev nD) : V m c main_cst_0 = (fun i => FloatOps.ofBits .f32 (lit1 (S7x64x64.rowMajor i)) : FVec Ideal S7x64x64 .f32) := by
  show StableHlo.after ([hostOps0, hostOps0_1, hostOps0_2, hostOps0_3, hostOps0_4].flatten) (fun b => m (c, b)) (Proc.tc.devRef main_cst_0) = _
  simp only [hostOps0, hostOps0_1, hostOps0_2, hostOps0_3, hostOps0_4, List.flatten_cons, List.flatten_nil, List.append_nil, List.cons_append, List.nil_append, StableHlo.TRef.binary, StableHlo.TRef.unary, StableHlo.TRef.ternary, StableHlo.TRef.toBuf, StableHlo.TRef.ofBuf, cast_eq]
  after_results_simp
  rfl

theorem iblk9_at (c : Dev nD) (t : Fin cfg0.N) (i : Fin 512) (s : Fin 64) : iblk m c 9 t (ix2 (n1 := 128) i ⟨s.val, by omega⟩) = if wt i.val s.val then (1 : EReal) else 0 := by
  obtain ⟨e0, e1⟩ := idx9 t
  show V m c main_cst (((cfg0.win 9).blk t).view.emb (ix2 (n1 := 128) i ⟨s.val, by omega⟩)) = _
  have he : ((cfg0.win 9).blk t).view.emb (ix2 (n1 := 128) i ⟨s.val, by omega⟩) = (ix2 i ⟨s.val, by omega⟩ : S512x128.Idx) := by
    funext a; apply Fin.ext
    match a with
    | ⟨0, _⟩ => show win0_9.index t (0 : Fin 2) * 512 + 1 * i.val = i.val; omega
    | ⟨1, _⟩ => show win0_9.index t (1 : Fin 2) * 128 + 1 * s.val = s.val; omega
  rw [he, V_cst]
  refine bf_if _ _ (Eq.trans ?_ (tabW i s))
  refine lit0_congr _ _ (Fin.isLt _) _ ?_
  exact Shape.rowMajor_val_two (d := ![512, 128]) _

theorem iblk10_at (c : Dev nD) (t : Fin cfg0.N) (l : Fin 7) (i j : Fin 64) : iblk m c 10 t (ix3 l i j) = if pmk l.val i.val j.val then (1 : EReal) else 0 := by
  obtain ⟨e0, e1, e2⟩ := idx10 t
  show V m c main_cst_0 (((cfg0.win 10).blk t).view.emb (ix3 l i j)) = _
  have he : ((cfg0.win 10).blk t).view.emb (ix3 l i j) = (ix3 l i j : S7x64x64.Idx) := by
    funext a; apply Fin.ext
    match a with
    | ⟨0, _⟩ => show win0_10.index t (0 : Fin 3) * 7 + 1 * l.val = l.val; omega
    | ⟨1, _⟩ => show win0_10.index t (1 : Fin 3) * 64 + 1 * i.val = i.val; omega
    | ⟨2, _⟩ => show win0_10.index t (2 : Fin 3) * 64 + 1 * j.val = j.val; omega
  rw [he, V_cst_0]
  refine fl_if _ _ (Eq.trans ?_ (tabP l i j))
  refine lit1_congr _ _ (Fin.isLt _) _ ?_
  refine (Shape.rowMajor_val_three (d := ![7, 64, 64]) _).trans ?_
  show (l.val * 64 + i.val) * 64 + j.val = (64 * l.val + i.val) * 64 + j.val
  ring

theorem maskK : ∀ j : Fin 256, IntOp.cmpi CmpIPredicate.sge (BitVec.ofNat 32 j.val) 128#32 = if 128 ≤ j.val then 1#1 else 0#1 := by decide +kernel

theorem bias_at (c : Dev nD) (b : Fin 2) (h : Fin 16) (j : Fin 256) (i : Fin 128) : V m c main_v35 (ix4 b h j i) = if i.val < j.val ∧ j.val ≤ i.val + 128 ∧ (b.val = 1 ∨ 128 ≤ j.val) then biasOf h.val i.val j.val else (⊥ : EReal) := by
  have hn : (FloatOps.ofBits (F := Ideal) FTy.f32 0xFF800000#32 : EReal) = ⊥ := ninf_f32
  show StableHlo.after ([hostOps0, hostOps0_1, hostOps0_2, hostOps0_3, hostOps0_4].flatten) (fun b => m (c, b)) (Proc.tc.devRef main_v35) (ix4 b h j i) = _
  simp only [hostOps0, hostOps0_1, hostOps0_2, hostOps0_3, hostOps0_4, List.flatten_cons, List.flatten_nil, List.append_nil, List.cons_append, List.nil_append, StableHlo.TRef.binary, StableHlo.TRef.unary, StableHlo.TRef.ternary, StableHlo.TRef.toBuf, StableHlo.TRef.ofBuf, cast_eq]
  after_results_simp
  try simp only [id_eq]
  pointwise []
  simp only [mask0, maskK]
  show (if _ : b.val < 1 then Scalar.select _ (biasOf h.val i.val j.val) _ else Scalar.select _ (biasOf h.val i.val j.val) _) = _
  rw [show Ideal.ofBits FTy.f32 4286578688#32 = ⊥ from hn]
  have hb := b.isLt
  by_cases c : i.val < j.val ∧ j.val ≤ i.val + 128 <;> by_cases c1 : b.val < 1 <;> by_cases c2 : 128 ≤ j.val
  all_goals first | rw [dif_pos c1] | rw [dif_neg c1]
  · rw [if_pos c, if_pos c2, if_pos ⟨c.1, c.2, Or.inr c2⟩]; rfl
  · rw [if_pos c, if_neg c2, if_neg (by omega)]; rfl
  · rw [if_pos c, if_pos (by omega)]; rfl
  · rw [if_pos c, if_pos (by omega)]; rfl
  · rw [if_neg c, if_pos c2, if_neg (by omega)]; rfl
  · rw [if_neg c, if_neg c2, if_neg (by omega)]; rfl
  · rw [if_neg c, if_neg (by omega)]; rfl
  · rw [if_neg c, if_neg (by omega)]; rfl

theorem iblk11_at (c : Dev nD) (t : Fin cfg0.N) (b : Fin 2) (h : Fin 16) (j : Fin 256) (i : Fin 128) : iblk m c 11 t (ix4 b h j i) = if i.val < j.val ∧ j.val ≤ i.val + 128 ∧ (b.val = 1 ∨ 128 ≤ j.val) then biasOf h.val i.val j.val else (⊥ : EReal) := by
  obtain ⟨e0, e1, e2, e3⟩ := idx11 t
  refine Eq.trans ?_ (bias_at m c b h j i)
  show V m c main_v35 (((cfg0.win 11).blk t).view.emb (ix4 b h j i)) = _
  refine congrArg (V m c main_v35) (funext fun a => Fin.ext ?_)
  match a with
  | ⟨0, _⟩ => show win0_11.index t (0 : Fin 4) * 2 + 1 * b.val = b.val; omega
  | ⟨1, _⟩ => show win0_11.index t (1 : Fin 4) * 16 + 1 * h.val = h.val; omega
  | ⟨2, _⟩ => show win0_11.index t (2 : Fin 4) * 256 + 1 * j.val = j.val; omega
  | ⟨3, _⟩ => show win0_11.index t (3 : Fin 4) * 128 + 1 * i.val = i.val; omega

/-- The tile a point is handed, of the layer's inputs. -/
theorem tile_at (c : Dev nD) (hz : ∀ r d, r < 32768 → d < 512 → lg m c r d ≠ ⊥) (t : Fin cfg0.N) (ht : t.val < 128) :
    Tile (inp m c) t.val (iblk m c 0 t) (X0_1 m c t) (iblk m c 2 t) (iblk m c 3 t) (iblk m c 6 t) (iblk m c 7 t) (iblk m c 8 t) (iblk m c 9 t) (iblk m c 10 t) (iblk m c 11 t) where
  h0 := iblk0_at m c t
  h1 := X1_at m c t ht
  h2 := iblk2_at m c t ht
  hla r d := by
    have hr := r.isLt
    have hd := d.isLt
    refine decay_apply (iblk m c 3 t) (iblk m c 6 t) (iblk m c 7 t) r d (lg m c (256 * t.val + r.val) d.val) ?_ (hz _ _ (by omega) hd)
    refine Eq.trans ?_ (arr2_at (fun r d => (∑ x : Fin 128, (A1 m c (ix2 r x) : EReal) * A3 m c (ix2 x d)) + A4 m c (ix2 0 d)) ⟨256 * t.val + r.val, by omega⟩ d).symm
    simp only [iblk3_at m c t ht, iblk6_at, iblk7_at]
  h8 x := (iblk8_at m c t 0 x).trans (arr1_at (fun e => A5 m c (ix2 0 e)) x).symm
  h9 := iblk9_at m c t
  h10 := iblk10_at m c t
  h11 := iblk11_at m c t

end Cert.KernelIdeal.Val

end
-- ==== Proof.MixPieB.lean ====
/-
  The mixing call's body at a point other than the first: what it leaves in the scratch buffers, of the layer's mathematics.
-/
module

public import proofs.«01_k».proof.Proof.Gen.KernelIdeal.Frame
public import Idealize.ShloMosaic.Lib.Pipeline.ReadBack
public import Idealize.ShloMosaic.Lib.Pipeline.Value
public import Idealize.ShloMosaic.Lib.Claim
public import proofs.«01_k».proof.Proof.MixTile

@[expose] public section

set_option maxRecDepth 16384

noncomputable section

namespace Cert.KernelIdeal.Val

open Cert.KernelIdeal Cert.KernelIdeal.Gen Idealize.ShloMosaic Idealize.ShloMosaic.TcCoe Cert.Mixm

variable (c : Dev nD) (i : grid0.Coords) (arg1 : Memref sig .tc .smem S16 .f32) (harg1 : arg1.IsWhole) (arg2 : Memref sig .tc .vmem S256x4096 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S256x4096 .bf16) (harg5 : arg5.IsWhole) (arg6 : Memref sig .tc .vmem S256x2048 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x128 .bf16) (harg10 : arg10.IsWhole) (arg11 : Memref sig .tc .vmem S7x64x64 .f32) (harg11 : arg11.IsWhole) (arg12 : Memref sig .tc .vmem S2x16x256x128 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S2048x2048 .bf16) (harg15 : arg15.IsWhole) (arg16 : Memref sig .tc .vmem S256x2048 .f32) (harg16 : arg16.IsWhole) (arg17 : Memref sig .tc .vmem S2x256x2048 .bf16) (harg17 : arg17.IsWhole) (arg18 : Memref sig .tc .vmem S4x256x128 .f32) (harg18 : arg18.IsWhole) (arg19 : Memref sig .tc .vmem S128x512 .bf16) (harg19 : arg19.IsWhole)
    (x0 : Vec Ideal S16 .f32) (x1 : Vec Ideal S256x4096 .bf16) (x2 : Vec Ideal S256x512 .bf16) (x3 : Vec Ideal S256x128 .f32) (x4 : Vec Ideal S256x4096 .bf16) (x5 : Vec Ideal S256x2048 .f32) (x6 : Vec Ideal S128x512 .bf16) (x7 : Vec Ideal S1x512 .f32) (x8 : Vec Ideal S1x256 .f32) (x9 : Vec Ideal S512x128 .bf16) (x10 : Vec Ideal S7x64x64 .f32) (x11 : Vec Ideal S2x16x256x128 .f32) (x12 : Vec Ideal S1024x2048 .bf16) (x13 : Vec Ideal S1024x2048 .bf16) (x14 : Vec Ideal S2048x2048 .bf16) (xs0 : Vec Ideal S2x256x2048 .bf16) (xs1 : Vec Ideal S4x256x128 .f32) (xs2 : Vec Ideal S128x512 .bf16)
   {I : Inp} {t : Nat}

theorem v2_eq (i : grid0.Coords) (t : Nat) (hi : (i 0).val = t) (ht : t < 128) : kernelRun0_B.sl.v2 i = if t % 8 = 0 then 1#1 else 0#1 := by
  have h : ∀ a : Fin 129, kernelRun0_B.sl.v2 (fun k => match k with | ⟨0, _⟩ => a) = if min a.val 127 % 8 = 0 then 1#1 else 0#1 := by decide +kernel
  have e : i = (fun k => match k with | ⟨0, _⟩ => i 0) := by
    funext k
    match k with
    | ⟨0, _⟩ => rfl
  rw [e]
  refine (h (i 0)).trans ?_
  rw [hi, Nat.min_eq_left (by omega)]

theorem bias_iff (n b i j i' j' : Nat) (hi : i' = i) (hj : j' = j) (hb : b = 1 ↔ n % 16 ≠ 0) :
    (i' < j' ∧ j' ≤ i' + 128 ∧ (b = 1 ∨ 128 ≤ j')) ↔ ok n i j := by
  subst hi hj
  unfold ok
  rw [hb]

theorem rd_sink (h : Nat) (hh : h < 16) (inb : ∀ k, (![h] : Fin 1 → Nat) k + S1.size k ≤ S16.size k) (j : S1.Idx) (hs : ∀ h : Fin 16, x0 (ix1 h) = I.sink h.val) :
    View.readAt (Elt Ideal) arg1.view (Rect.unit (s := S16) ![h] S1.size inb).toLoadRect (harg1.unread x0) j = I.sink h := by
  rw [View.readAt_eq_ld, harg1.read_unread]
  refine Eq.trans (congrArg x0 (funext fun k => Fin.ext ?_)) (hs ⟨h, hh⟩)
  match k with
  | 0 =>
    have hj : (j 0).val < 1 := (j 0).isLt
    show h + 1 * (j 0).val = h; omega

theorem bA0 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off2 i) S1x1x256x128.size (k0_off2_inb i)).toLoadRect (harg12.unread x11)) (ix4 0 0 j k) = if ok (2 * t + 0) k.val j.val then I.bias 0 k.val j.val else ⊥ := by
  have e1 : min (i 0).val 127 % 8 = t % 8 := by rw [hi, Nat.min_eq_left (by omega)]
  refine (rd4 arg12 harg12 x11 _ _ _ 0 0 0 (k0_off2_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB0 {t} (T : Tile I t x0 x1 x2 x3 x6 x7 x8 x9 x10 x11) (j : Fin 256) (k : Fin 128) :
    (View.readAt (Elt Ideal) arg12.view (Rect.unit (s := S2x16x256x128) ![1, 0, 0, 0] S1x1x256x128.size inb_S2x16x256x128_S1x1x256x128_1_0_0_0).toLoadRect (harg12.unread x11)) (ix4 0 0 j k) = if ok (2 * t + 1) k.val j.val then I.bias 0 k.val j.val else ⊥ := by
  refine (rd4 arg12 harg12 x11 _ inb_S2x16x256x128_S1x1x256x128_1_0_0_0 1 0 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA1 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off3 i) S1x1x256x128.size (k0_off3_inb i)).toLoadRect (harg12.unread x11)) (ix4 0 0 j k) = if ok (2 * t + 0) k.val j.val then I.bias 1 k.val j.val else ⊥ := by
  have e1 : min (i 0).val 127 % 8 = t % 8 := by rw [hi, Nat.min_eq_left (by omega)]
  refine (rd4 arg12 harg12 x11 _ _ _ 1 0 0 (k0_off3_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB1 {t} (T : Tile I t x0 x1 x2 x3 x6 x7 x8 x9 x10 x11) (j : Fin 256) (k : Fin 128) :
    (View.readAt (Elt Ideal) arg12.view (Rect.unit (s := S2x16x256x128) ![1, 1, 0, 0] S1x1x256x128.size inb_S2x16x256x128_S1x1x256x128_1_1_0_0).toLoadRect (harg12.unread x11)) (ix4 0 0 j k) = if ok (2 * t + 1) k.val j.val then I.bias 1 k.val j.val else ⊥ := by
  refine (rd4 arg12 harg12 x11 _ inb_S2x16x256x128_S1x1x256x128_1_1_0_0 1 1 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA2 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off4 i) S1x1x256x128.size (k0_off4_inb i)).toLoadRect (harg12.unread x11)) (ix4 0 0 j k) = if ok (2 * t + 0) k.val j.val then I.bias 2 k.val j.val else ⊥ := by
  have e1 : min (i 0).val 127 % 8 = t % 8 := by rw [hi, Nat.min_eq_left (by omega)]
  refine (rd4 arg12 harg12 x11 _ _ _ 2 0 0 (k0_off4_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB2 {t} (T : Tile I t x0 x1 x2 x3 x6 x7 x8 x9 x10 x11) (j : Fin 256) (k : Fin 128) :
    (View.readAt (Elt Ideal) arg12.view (Rect.unit (s := S2x16x256x128) ![1, 2, 0, 0] S1x1x256x128.size inb_S2x16x256x128_S1x1x256x128_1_2_0_0).toLoadRect (harg12.unread x11)) (ix4 0 0 j k) = if ok (2 * t + 1) k.val j.val then I.bias 2 k.val j.val else ⊥ := by
  refine (rd4 arg12 harg12 x11 _ inb_S2x16x256x128_S1x1x256x128_1_2_0_0 1 2 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA3 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off5 i) S1x1x256x128.size (k0_off5_inb i)).toLoadRect (harg12.unread x11)) (ix4 0 0 j k) = if ok (2 * t + 0) k.val j.val then I.bias 3 k.val j.val else ⊥ := by
  have e1 : min (i 0).val 127 % 8 = t % 8 := by rw [hi, Nat.min_eq_left (by omega)]
  refine (rd4 arg12 harg12 x11 _ _ _ 3 0 0 (k0_off5_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB3 {t} (T : Tile I t x0 x1 x2 x3 x6 x7 x8 x9 x10 x11) (j : Fin 256) (k : Fin 128) :
    (View.readAt (Elt Ideal) arg12.view (Rect.unit (s := S2x16x256x128) ![1, 3, 0, 0] S1x1x256x128.size inb_S2x16x256x128_S1x1x256x128_1_3_0_0).toLoadRect (harg12.unread x11)) (ix4 0 0 j k) = if ok (2 * t + 1) k.val j.val then I.bias 3 k.val j.val else ⊥ := by
  refine (rd4 arg12 harg12 x11 _ inb_S2x16x256x128_S1x1x256x128_1_3_0_0 1 3 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA4 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off6 i) S1x1x256x128.size (k0_off6_inb i)).toLoadRect (harg12.unread x11)) (ix4 0 0 j k) = if ok (2 * t + 0) k.val j.val then I.bias 4 k.val j.val else ⊥ := by
  have e1 : min (i 0).val 127 % 8 = t % 8 := by rw [hi, Nat.min_eq_left (by omega)]
  refine (rd4 arg12 harg12 x11 _ _ _ 4 0 0 (k0_off6_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB4 {t} (T : Tile I t x0 x1 x2 x3 x6 x7 x8 x9 x10 x11) (j : Fin 256) (k : Fin 128) :
    (View.readAt (Elt Ideal) arg12.view (Rect.unit (s := S2x16x256x128) ![1, 4, 0, 0] S1x1x256x128.size inb_S2x16x256x128_S1x1x256x128_1_4_0_0).toLoadRect (harg12.unread x11)) (ix4 0 0 j k) = if ok (2 * t + 1) k.val j.val then I.bias 4 k.val j.val else ⊥ := by
  refine (rd4 arg12 harg12 x11 _ inb_S2x16x256x128_S1x1x256x128_1_4_0_0 1 4 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA5 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off7 i) S1x1x256x128.size (k0_off7_inb i)).toLoadRect (harg12.unread x11)) (ix4 0 0 j k) = if ok (2 * t + 0) k.val j.val then I.bias 5 k.val j.val else ⊥ := by
  have e1 : min (i 0).val 127 % 8 = t % 8 := by rw [hi, Nat.min_eq_left (by omega)]
  refine (rd4 arg12 harg12 x11 _ _ _ 5 0 0 (k0_off7_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB5 {t} (T : Tile I t x0 x1 x2 x3 x6 x7 x8 x9 x10 x11) (j : Fin 256) (k : Fin 128) :
    (View.readAt (Elt Ideal) arg12.view (Rect.unit (s := S2x16x256x128) ![1, 5, 0, 0] S1x1x256x128.size inb_S2x16x256x128_S1x1x256x128_1_5_0_0).toLoadRect (harg12.unread x11)) (ix4 0 0 j k) = if ok (2 * t + 1) k.val j.val then I.bias 5 k.val j.val else ⊥ := by
  refine (rd4 arg12 harg12 x11 _ inb_S2x16x256x128_S1x1x256x128_1_5_0_0 1 5 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA6 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off8 i) S1x1x256x128.size (k0_off8_inb i)).toLoadRect (harg12.unread x11)) (ix4 0 0 j k) = if ok (2 * t + 0) k.val j.val then I.bias 6 k.val j.val else ⊥ := by
  have e1 : min (i 0).val 127 % 8 = t % 8 := by rw [hi, Nat.min_eq_left (by omega)]
  refine (rd4 arg12 harg12 x11 _ _ _ 6 0 0 (k0_off8_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB6 {t} (T : Tile I t x0 x1 x2 x3 x6 x7 x8 x9 x10 x11) (j : Fin 256) (k : Fin 128) :
    (View.readAt (Elt Ideal) arg12.view (Rect.unit (s := S2x16x256x128) ![1, 6, 0, 0] S1x1x256x128.size inb_S2x16x256x128_S1x1x256x128_1_6_0_0).toLoadRect (harg12.unread x11)) (ix4 0 0 j k) = if ok (2 * t + 1) k.val j.val then I.bias 6 k.val j.val else ⊥ := by
  refine (rd4 arg12 harg12 x11 _ inb_S2x16x256x128_S1x1x256x128_1_6_0_0 1 6 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA7 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off9 i) S1x1x256x128.size (k0_off9_inb i)).toLoadRect (harg12.unread x11)) (ix4 0 0 j k) = if ok (2 * t + 0) k.val j.val then I.bias 7 k.val j.val else ⊥ := by
  have e1 : min (i 0).val 127 % 8 = t % 8 := by rw [hi, Nat.min_eq_left (by omega)]
  refine (rd4 arg12 harg12 x11 _ _ _ 7 0 0 (k0_off9_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB7 {t} (T : Tile I t x0 x1 x2 x3 x6 x7 x8 x9 x10 x11) (j : Fin 256) (k : Fin 128) :
    (View.readAt (Elt Ideal) arg12.view (Rect.unit (s := S2x16x256x128) ![1, 7, 0, 0] S1x1x256x128.size inb_S2x16x256x128_S1x1x256x128_1_7_0_0).toLoadRect (harg12.unread x11)) (ix4 0 0 j k) = if ok (2 * t + 1) k.val j.val then I.bias 7 k.val j.val else ⊥ := by
  refine (rd4 arg12 harg12 x11 _ inb_S2x16x256x128_S1x1x256x128_1_7_0_0 1 7 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA8 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off10 i) S1x1x256x128.size (k0_off10_inb i)).toLoadRect (harg12.unread x11)) (ix4 0 0 j k) = if ok (2 * t + 0) k.val j.val then I.bias 8 k.val j.val else ⊥ := by
  have e1 : min (i 0).val 127 % 8 = t % 8 := by rw [hi, Nat.min_eq_left (by omega)]
  refine (rd4 arg12 harg12 x11 _ _ _ 8 0 0 (k0_off10_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB8 {t} (T : Tile I t x0 x1 x2 x3 x6 x7 x8 x9 x10 x11) (j : Fin 256) (k : Fin 128) :
    (View.readAt (Elt Ideal) arg12.view (Rect.unit (s := S2x16x256x128) ![1, 8, 0, 0] S1x1x256x128.size inb_S2x16x256x128_S1x1x256x128_1_8_0_0).toLoadRect (harg12.unread x11)) (ix4 0 0 j k) = if ok (2 * t + 1) k.val j.val then I.bias 8 k.val j.val else ⊥ := by
  refine (rd4 arg12 harg12 x11 _ inb_S2x16x256x128_S1x1x256x128_1_8_0_0 1 8 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA9 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off11 i) S1x1x256x128.size (k0_off11_inb i)).toLoadRect (harg12.unread x11)) (ix4 0 0 j k) = if ok (2 * t + 0) k.val j.val then I.bias 9 k.val j.val else ⊥ := by
  have e1 : min (i 0).val 127 % 8 = t % 8 := by rw [hi, Nat.min_eq_left (by omega)]
  refine (rd4 arg12 harg12 x11 _ _ _ 9 0 0 (k0_off11_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB9 {t} (T : Tile I t x0 x1 x2 x3 x6 x7 x8 x9 x10 x11) (j : Fin 256) (k : Fin 128) :
    (View.readAt (Elt Ideal) arg12.view (Rect.unit (s := S2x16x256x128) ![1, 9, 0, 0] S1x1x256x128.size inb_S2x16x256x128_S1x1x256x128_1_9_0_0).toLoadRect (harg12.unread x11)) (ix4 0 0 j k) = if ok (2 * t + 1) k.val j.val then I.bias 9 k.val j.val else ⊥ := by
  refine (rd4 arg12 harg12 x11 _ inb_S2x16x256x128_S1x1x256x128_1_9_0_0 1 9 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA10 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off12 i) S1x1x256x128.size (k0_off12_inb i)).toLoadRect (harg12.unread x11)) (ix4 0 0 j k) = if ok (2 * t + 0) k.val j.val then I.bias 10 k.val j.val else ⊥ := by
  have e1 : min (i 0).val 127 % 8 = t % 8 := by rw [hi, Nat.min_eq_left (by omega)]
  refine (rd4 arg12 harg12 x11 _ _ _ 10 0 0 (k0_off12_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB10 {t} (T : Tile I t x0 x1 x2 x3 x6 x7 x8 x9 x10 x11) (j : Fin 256) (k : Fin 128) :
    (View.readAt (Elt Ideal) arg12.view (Rect.unit (s := S2x16x256x128) ![1, 10, 0, 0] S1x1x256x128.size inb_S2x16x256x128_S1x1x256x128_1_10_0_0).toLoadRect (harg12.unread x11)) (ix4 0 0 j k) = if ok (2 * t + 1) k.val j.val then I.bias 10 k.val j.val else ⊥ := by
  refine (rd4 arg12 harg12 x11 _ inb_S2x16x256x128_S1x1x256x128_1_10_0_0 1 10 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA11 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off13 i) S1x1x256x128.size (k0_off13_inb i)).toLoadRect (harg12.unread x11)) (ix4 0 0 j k) = if ok (2 * t + 0) k.val j.val then I.bias 11 k.val j.val else ⊥ := by
  have e1 : min (i 0).val 127 % 8 = t % 8 := by rw [hi, Nat.min_eq_left (by omega)]
  refine (rd4 arg12 harg12 x11 _ _ _ 11 0 0 (k0_off13_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB11 {t} (T : Tile I t x0 x1 x2 x3 x6 x7 x8 x9 x10 x11) (j : Fin 256) (k : Fin 128) :
    (View.readAt (Elt Ideal) arg12.view (Rect.unit (s := S2x16x256x128) ![1, 11, 0, 0] S1x1x256x128.size inb_S2x16x256x128_S1x1x256x128_1_11_0_0).toLoadRect (harg12.unread x11)) (ix4 0 0 j k) = if ok (2 * t + 1) k.val j.val then I.bias 11 k.val j.val else ⊥ := by
  refine (rd4 arg12 harg12 x11 _ inb_S2x16x256x128_S1x1x256x128_1_11_0_0 1 11 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA12 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off14 i) S1x1x256x128.size (k0_off14_inb i)).toLoadRect (harg12.unread x11)) (ix4 0 0 j k) = if ok (2 * t + 0) k.val j.val then I.bias 12 k.val j.val else ⊥ := by
  have e1 : min (i 0).val 127 % 8 = t % 8 := by rw [hi, Nat.min_eq_left (by omega)]
  refine (rd4 arg12 harg12 x11 _ _ _ 12 0 0 (k0_off14_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB12 {t} (T : Tile I t x0 x1 x2 x3 x6 x7 x8 x9 x10 x11) (j : Fin 256) (k : Fin 128) :
    (View.readAt (Elt Ideal) arg12.view (Rect.unit (s := S2x16x256x128) ![1, 12, 0, 0] S1x1x256x128.size inb_S2x16x256x128_S1x1x256x128_1_12_0_0).toLoadRect (harg12.unread x11)) (ix4 0 0 j k) = if ok (2 * t + 1) k.val j.val then I.bias 12 k.val j.val else ⊥ := by
  refine (rd4 arg12 harg12 x11 _ inb_S2x16x256x128_S1x1x256x128_1_12_0_0 1 12 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA13 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off15 i) S1x1x256x128.size (k0_off15_inb i)).toLoadRect (harg12.unread x11)) (ix4 0 0 j k) = if ok (2 * t + 0) k.val j.val then I.bias 13 k.val j.val else ⊥ := by
  have e1 : min (i 0).val 127 % 8 = t % 8 := by rw [hi, Nat.min_eq_left (by omega)]
  refine (rd4 arg12 harg12 x11 _ _ _ 13 0 0 (k0_off15_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB13 {t} (T : Tile I t x0 x1 x2 x3 x6 x7 x8 x9 x10 x11) (j : Fin 256) (k : Fin 128) :
    (View.readAt (Elt Ideal) arg12.view (Rect.unit (s := S2x16x256x128) ![1, 13, 0, 0] S1x1x256x128.size inb_S2x16x256x128_S1x1x256x128_1_13_0_0).toLoadRect (harg12.unread x11)) (ix4 0 0 j k) = if ok (2 * t + 1) k.val j.val then I.bias 13 k.val j.val else ⊥ := by
  refine (rd4 arg12 harg12 x11 _ inb_S2x16x256x128_S1x1x256x128_1_13_0_0 1 13 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA14 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off16 i) S1x1x256x128.size (k0_off16_inb i)).toLoadRect (harg12.unread x11)) (ix4 0 0 j k) = if ok (2 * t + 0) k.val j.val then I.bias 14 k.val j.val else ⊥ := by
  have e1 : min (i 0).val 127 % 8 = t % 8 := by rw [hi, Nat.min_eq_left (by omega)]
  refine (rd4 arg12 harg12 x11 _ _ _ 14 0 0 (k0_off16_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB14 {t} (T : Tile I t x0 x1 x2 x3 x6 x7 x8 x9 x10 x11) (j : Fin 256) (k : Fin 128) :
    (View.readAt (Elt Ideal) arg12.view (Rect.unit (s := S2x16x256x128) ![1, 14, 0, 0] S1x1x256x128.size inb_S2x16x256x128_S1x1x256x128_1_14_0_0).toLoadRect (harg12.unread x11)) (ix4 0 0 j k) = if ok (2 * t + 1) k.val j.val then I.bias 14 k.val j.val else ⊥ := by
  refine (rd4 arg12 harg12 x11 _ inb_S2x16x256x128_S1x1x256x128_1_14_0_0 1 14 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

theorem bA15 {t} (hi : (i 0).val = t) (ht : t < 128) (T : Tile I t x0 x1 x2 x3 x6 x7 x8 x9 x10 x11) (j : Fin 256) (k : Fin 128) :
    (View.readAt (Elt Ideal) arg12.view (Rect.unit (s := S2x16x256x128) (k0_off17 i) S1x1x256x128.size (k0_off17_inb i)).toLoadRect (harg12.unread x11)) (ix4 0 0 j k) = if ok (2 * t + 0) k.val j.val then I.bias 15 k.val j.val else ⊥ := by
  have e1 : min (i 0).val 127 % 8 = t % 8 := by rw [hi, Nat.min_eq_left (by omega)]
  refine (rd4 arg12 harg12 x11 _ _ _ 15 0 0 (k0_off17_eq i) 0 0 j k (by split_ifs <;> (simp only [Fin.val_zero]; omega)) (by simp only [Fin.val_zero]; omega) (by omega) (by omega)).trans ((T.h11 _ _ _ _).trans ?_)
  refine if_congr (bias_iff _ _ _ _ _ _ (Nat.zero_add _) (Nat.zero_add _) ?_) ?_ rfl
  · show (if min (i 0).val 127 % 8 = 0 then 0 else 1) + 0 = 1 ↔ _
    rw [e1]
    split_ifs <;> omega
  · simp only [Nat.zero_add, Fin.val_zero, Nat.add_zero]

theorem bB15 {t} (T : Tile I t x0 x1 x2 x3 x6 x7 x8 x9 x10 x11) (j : Fin 256) (k : Fin 128) :
    (View.readAt (Elt Ideal) arg12.view (Rect.unit (s := S2x16x256x128) ![1, 15, 0, 0] S1x1x256x128.size inb_S2x16x256x128_S1x1x256x128_1_15_0_0).toLoadRect (harg12.unread x11)) (ix4 0 0 j k) = if ok (2 * t + 1) k.val j.val then I.bias 15 k.val j.val else ⊥ := by
  refine (rd4 arg12 harg12 x11 _ inb_S2x16x256x128_S1x1x256x128_1_15_0_0 1 15 0 0 rfl 0 0 j k (by decide) (by decide) (by omega) (by omega)).trans ((T.h11 _ _ _ _).trans ?_)
  refine if_congr (bias_iff _ _ _ _ _ _ (Nat.zero_add _) (Nat.zero_add _) ?_) ?_ rfl
  · show 1 + 0 = 1 ↔ _
    omega
  · simp only [Nat.zero_add, Fin.val_zero, Nat.add_zero]

set_option maxHeartbeats 4000000 in
theorem y_B (hc0 : ¬cond0_0 i) (T : Tile I t x0 x1 x2 x3 x6 x7 x8 x9 x10 x11) (hi : (i 0).val = t) (ht : t < 128)
  (h1 : t % 8 ≠ 0 → ∀ (h : Fin 4) (a : Fin 256) (d : Fin 128), xs1 (ix3 h a d) = Sn I (4 * t - 1) h.val a.val d.val)
  (h2 : t % 8 ≠ 0 → ∀ (j : Fin 128) (x : Fin 512), xs2 (ix2 j x) = I.P (256 * t + j.val - 128) (8192 + x.val))
  (z : Fin 2) (hz : z.val = t % 2) (r : Fin 256) (c2 : Fin 2048) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 xs2 (ix3 z r c2) = yRow I (256 * t + r.val) c2.val := by
  unfold sout0_B_0 kernelRun0_B
  dsimp only
  have hz' : z.val = (i 0).val % 2 := by rw [hi, hz]
  subst hi
  have hpm : ∀ (l : Fin 7) (a b : Fin 64), (View.readAt (Elt Ideal) arg11.view (Rect.unit (s := S7x64x64) ![0, 0, 0] S7x64x64.size inb_S7x64x64_S7x64x64_0_0_0).toLoadRect (harg11.unread x10)) (ix3 l a b) = if pmk l a b then 1 else 0 := by rw [rd_pm arg11 harg11]; exact T.h10
  have hg : ∀ x : Fin 256, (View.readAt (Elt Ideal) arg9.view (Rect.unit (s := S1x256) ![0, 0] S1x256.size inb_S1x256_S1x256_0_0).toLoadRect (harg9.unread x8)) (ix2 0 x) = I.gain x.val := by rw [rd_gain arg9 harg9]; exact T.h8
  refine put3 _ _ _ _ _ 128 1920 (k0_off37_eq i) _ _ z r c2 _ (fun _ r1 c1 hr hc => ?_) (fun n0 => ?_)
  · refine Eq.trans (congrFun ?_ _) ((tile_apply _ _ 7 (fun d i1 => val14 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score14 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB14 arg12 harg12 x0 x1 x2 x3 x6 x7 x8 x9 x10 x11 T)) (View.readAt (Elt Ideal) arg1.view (Rect.unit (s := S16) ![14] S1.size inb_S16_S1_14).toLoadRect (harg1.unread x0) (Shape.Idx.first (numel1_S1.symm ▸ Nat.one_pos))) (rd_sink arg1 harg1 x0 14 (by decide) _ _ T.h0) d i1) (fun d i1 => val15 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score15 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB15 arg12 harg12 x0 x1 x2 x3 x6 x7 x8 x9 x10 x11 T)) (View.readAt (Elt Ideal) arg1.view (Rect.unit (s := S16) ![15] S1.size inb_S16_S1_15).toLoadRect (harg1.unread x0) (Shape.Idx.first (numel1_S1.symm ▸ Nat.one_pos))) (rd_sink arg1 harg1 x0 15 (by decide) _ _ T.h0) d i1) 0 r1 c1).trans ?_)
    · rfl
    rw [yRow, if_neg (by omega), hr, hc]
    have a1 : (256 * (i 0).val + (128 + r1.val)) / 128 = 2 * (i 0).val + 1 := by omega
    have a2 : 1920 + c1.val - 1024 = 128 * 7 + c1.val := by omega
    have a3 : (256 * (i 0).val + (128 + r1.val)) % 128 = r1.val := by omega
    rw [a1, a2, a3]
  refine put3 _ _ _ _ _ 128 1792 (k0_off36_eq i) _ _ z r c2 _ (fun _ r1 c1 hr hc => ?_) (fun n1 => ?_)
  · refine Eq.trans (congrFun ?_ _) ((tile_apply _ _ 6 (fun d i1 => val12 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score12 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB12 arg12 harg12 x0 x1 x2 x3 x6 x7 x8 x9 x10 x11 T)) (View.readAt (Elt Ideal) arg1.view (Rect.unit (s := S16) ![12] S1.size inb_S16_S1_12).toLoadRect (harg1.unread x0) (Shape.Idx.first (numel1_S1.symm ▸ Nat.one_pos))) (rd_sink arg1 harg1 x0 12 (by decide) _ _ T.h0) d i1) (fun d i1 => val13 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score13 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB13 arg12 harg12 x0 x1 x2 x3 x6 x7 x8 x9 x10 x11 T)) (View.readAt (Elt Ideal) arg1.view (Rect.unit (s := S16) ![13] S1.size inb_S16_S1_13).toLoadRect (harg1.unread x0) (Shape.Idx.first (numel1_S1.symm ▸ Nat.one_pos))) (rd_sink arg1 harg1 x0 13 (by decide) _ _ T.h0) d i1) 0 r1 c1).trans ?_)
    · rfl
    rw [yRow, if_neg (by omega), hr, hc]
    have a1 : (256 * (i 0).val + (128 + r1.val)) / 128 = 2 * (i 0).val + 1 := by omega
    have a2 : 1792 + c1.val - 1024 = 128 * 6 + c1.val := by omega
    have a3 : (256 * (i 0).val + (128 + r1.val)) % 128 = r1.val := by omega
    rw [a1, a2, a3]
  refine put3 _ _ _ _ _ 128 1664 (k0_off35_eq i) _ _ z r c2 _ (fun _ r1 c1 hr hc => ?_) (fun n2 => ?_)
  · refine Eq.trans (congrFun ?_ _) ((tile_apply _ _ 5 (fun d i1 => val10 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score10 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB10 arg12 harg12 x0 x1 x2 x3 x6 x7 x8 x9 x10 x11 T)) (View.readAt (Elt Ideal) arg1.view (Rect.unit (s := S16) ![10] S1.size inb_S16_S1_10).toLoadRect (harg1.unread x0) (Shape.Idx.first (numel1_S1.symm ▸ Nat.one_pos))) (rd_sink arg1 harg1 x0 10 (by decide) _ _ T.h0) d i1) (fun d i1 => val11 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score11 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB11 arg12 harg12 x0 x1 x2 x3 x6 x7 x8 x9 x10 x11 T)) (View.readAt (Elt Ideal) arg1.view (Rect.unit (s := S16) ![11] S1.size inb_S16_S1_11).toLoadRect (harg1.unread x0) (Shape.Idx.first (numel1_S1.symm ▸ Nat.one_pos))) (rd_sink arg1 harg1 x0 11 (by decide) _ _ T.h0) d i1) 0 r1 c1).trans ?_)
    · rfl
    rw [yRow, if_neg (by omega), hr, hc]
    have a1 : (256 * (i 0).val + (128 + r1.val)) / 128 = 2 * (i 0).val + 1 := by omega
    have a2 : 1664 + c1.val - 1024 = 128 * 5 + c1.val := by omega
    have a3 : (256 * (i 0).val + (128 + r1.val)) % 128 = r1.val := by omega
    rw [a1, a2, a3]
  refine put3 _ _ _ _ _ 128 1536 (k0_off34_eq i) _ _ z r c2 _ (fun _ r1 c1 hr hc => ?_) (fun n3 => ?_)
  · refine Eq.trans (congrFun ?_ _) ((tile_apply _ _ 4 (fun d i1 => val8 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score8 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB8 arg12 harg12 x0 x1 x2 x3 x6 x7 x8 x9 x10 x11 T)) (View.readAt (Elt Ideal) arg1.view (Rect.unit (s := S16) ![8] S1.size inb_S16_S1_8).toLoadRect (harg1.unread x0) (Shape.Idx.first (numel1_S1.symm ▸ Nat.one_pos))) (rd_sink arg1 harg1 x0 8 (by decide) _ _ T.h0) d i1) (fun d i1 => val9 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score9 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB9 arg12 harg12 x0 x1 x2 x3 x6 x7 x8 x9 x10 x11 T)) (View.readAt (Elt Ideal) arg1.view (Rect.unit (s := S16) ![9] S1.size inb_S16_S1_9).toLoadRect (harg1.unread x0) (Shape.Idx.first (numel1_S1.symm ▸ Nat.one_pos))) (rd_sink arg1 harg1 x0 9 (by decide) _ _ T.h0) d i1) 0 r1 c1).trans ?_)
    · rfl
    rw [yRow, if_neg (by omega), hr, hc]
    have a1 : (256 * (i 0).val + (128 + r1.val)) / 128 = 2 * (i 0).val + 1 := by omega
    have a2 : 1536 + c1.val - 1024 = 128 * 4 + c1.val := by omega
    have a3 : (256 * (i 0).val + (128 + r1.val)) % 128 = r1.val := by omega
    rw [a1, a2, a3]
  refine put3 _ _ _ _ _ 128 1408 (k0_off33_eq i) _ _ z r c2 _ (fun _ r1 c1 hr hc => ?_) (fun n4 => ?_)
  · refine Eq.trans (congrFun ?_ _) ((tile_apply _ _ 3 (fun d i1 => val6 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score6 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB6 arg12 harg12 x0 x1 x2 x3 x6 x7 x8 x9 x10 x11 T)) (View.readAt (Elt Ideal) arg1.view (Rect.unit (s := S16) ![6] S1.size inb_S16_S1_6).toLoadRect (harg1.unread x0) (Shape.Idx.first (numel1_S1.symm ▸ Nat.one_pos))) (rd_sink arg1 harg1 x0 6 (by decide) _ _ T.h0) d i1) (fun d i1 => val7 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score7 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB7 arg12 harg12 x0 x1 x2 x3 x6 x7 x8 x9 x10 x11 T)) (View.readAt (Elt Ideal) arg1.view (Rect.unit (s := S16) ![7] S1.size inb_S16_S1_7).toLoadRect (harg1.unread x0) (Shape.Idx.first (numel1_S1.symm ▸ Nat.one_pos))) (rd_sink arg1 harg1 x0 7 (by decide) _ _ T.h0) d i1) 0 r1 c1).trans ?_)
    · rfl
    rw [yRow, if_neg (by omega), hr, hc]
    have a1 : (256 * (i 0).val + (128 + r1.val)) / 128 = 2 * (i 0).val + 1 := by omega
    have a2 : 1408 + c1.val - 1024 = 128 * 3 + c1.val := by omega
    have a3 : (256 * (i 0).val + (128 + r1.val)) % 128 = r1.val := by omega
    rw [a1, a2, a3]
  refine put3 _ _ _ _ _ 128 1280 (k0_off32_eq i) _ _ z r c2 _ (fun _ r1 c1 hr hc => ?_) (fun n5 => ?_)
  · refine Eq.trans (congrFun ?_ _) ((tile_apply _ _ 2 (fun d i1 => val4 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score4 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB4 arg12 harg12 x0 x1 x2 x3 x6 x7 x8 x9 x10 x11 T)) (View.readAt (Elt Ideal) arg1.view (Rect.unit (s := S16) ![4] S1.size inb_S16_S1_4).toLoadRect (harg1.unread x0) (Shape.Idx.first (numel1_S1.symm ▸ Nat.one_pos))) (rd_sink arg1 harg1 x0 4 (by decide) _ _ T.h0) d i1) (fun d i1 => val5 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score5 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB5 arg12 harg12 x0 x1 x2 x3 x6 x7 x8 x9 x10 x11 T)) (View.readAt (Elt Ideal) arg1.view (Rect.unit (s := S16) ![5] S1.size inb_S16_S1_5).toLoadRect (harg1.unread x0) (Shape.Idx.first (numel1_S1.symm ▸ Nat.one_pos))) (rd_sink arg1 harg1 x0 5 (by decide) _ _ T.h0) d i1) 0 r1 c1).trans ?_)
    · rfl
    rw [yRow, if_neg (by omega), hr, hc]
    have a1 : (256 * (i 0).val + (128 + r1.val)) / 128 = 2 * (i 0).val + 1 := by omega
    have a2 : 1280 + c1.val - 1024 = 128 * 2 + c1.val := by omega
    have a3 : (256 * (i 0).val + (128 + r1.val)) % 128 = r1.val := by omega
    rw [a1, a2, a3]
  refine put3 _ _ _ _ _ 128 1152 (k0_off31_eq i) _ _ z r c2 _ (fun _ r1 c1 hr hc => ?_) (fun n6 => ?_)
  · refine Eq.trans (congrFun ?_ _) ((tile_apply _ _ 1 (fun d i1 => val2 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score2 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB2 arg12 harg12 x0 x1 x2 x3 x6 x7 x8 x9 x10 x11 T)) (View.readAt (Elt Ideal) arg1.view (Rect.unit (s := S16) ![2] S1.size inb_S16_S1_2).toLoadRect (harg1.unread x0) (Shape.Idx.first (numel1_S1.symm ▸ Nat.one_pos))) (rd_sink arg1 harg1 x0 2 (by decide) _ _ T.h0) d i1) (fun d i1 => val3 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score3 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB3 arg12 harg12 x0 x1 x2 x3 x6 x7 x8 x9 x10 x11 T)) (View.readAt (Elt Ideal) arg1.view (Rect.unit (s := S16) ![3] S1.size inb_S16_S1_3).toLoadRect (harg1.unread x0) (Shape.Idx.first (numel1_S1.symm ▸ Nat.one_pos))) (rd_sink arg1 harg1 x0 3 (by decide) _ _ T.h0) d i1) 0 r1 c1).trans ?_)
    · rfl
    rw [yRow, if_neg (by omega), hr, hc]
    have a1 : (256 * (i 0).val + (128 + r1.val)) / 128 = 2 * (i 0).val + 1 := by omega
    have a2 : 1152 + c1.val - 1024 = 128 * 1 + c1.val := by omega
    have a3 : (256 * (i 0).val + (128 + r1.val)) % 128 = r1.val := by omega
    rw [a1, a2, a3]
  refine put3 _ _ _ _ _ 128 1024 (k0_off30_eq i) _ _ z r c2 _ (fun _ r1 c1 hr hc => ?_) (fun n7 => ?_)
  · refine Eq.trans (congrFun ?_ _) ((tile_apply _ _ 0 (fun d i1 => val0 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score0 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB0 arg12 harg12 x0 x1 x2 x3 x6 x7 x8 x9 x10 x11 T)) (View.readAt (Elt Ideal) arg1.view (Rect.unit (s := S16) ![0] S1.size inb_S16_S1_0).toLoadRect (harg1.unread x0) (Shape.Idx.first (numel1_S1.symm ▸ Nat.one_pos))) (rd_sink arg1 harg1 x0 0 (by decide) _ _ T.h0) d i1) (fun d i1 => val1 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score1 (win1 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bB1 arg12 harg12 x0 x1 x2 x3 x6 x7 x8 x9 x10 x11 T)) (View.readAt (Elt Ideal) arg1.view (Rect.unit (s := S16) ![1] S1.size inb_S16_S1_1).toLoadRect (harg1.unread x0) (Shape.Idx.first (numel1_S1.symm ▸ Nat.one_pos))) (rd_sink arg1 harg1 x0 1 (by decide) _ _ T.h0) d i1) 0 r1 c1).trans ?_)
    · rfl
    rw [yRow, if_neg (by omega), hr, hc]
    have a1 : (256 * (i 0).val + (128 + r1.val)) / 128 = 2 * (i 0).val + 1 := by omega
    have a2 : 1024 + c1.val - 1024 = 128 * 0 + c1.val := by omega
    have a3 : (256 * (i 0).val + (128 + r1.val)) % 128 = r1.val := by omega
    rw [a1, a2, a3]
  refine put3 _ _ _ _ _ 0 1920 (k0_off29_eq i) _ _ z r c2 _ (fun _ r1 c1 hr hc => ?_) (fun n8 => ?_)
  · refine Eq.trans (congrFun ?_ _) ((tile_apply _ _ 7 (fun d i1 => val14 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score14 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA14 i arg12 harg12 x0 x1 x2 x3 x6 x7 x8 x9 x10 x11 rfl ht T)) (View.readAt (Elt Ideal) arg1.view (Rect.unit (s := S16) ![14] S1.size inb_S16_S1_14).toLoadRect (harg1.unread x0) (Shape.Idx.first (numel1_S1.symm ▸ Nat.one_pos))) (rd_sink arg1 harg1 x0 14 (by decide) _ _ T.h0) d i1) (fun d i1 => val15 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score15 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA15 i arg12 harg12 x0 x1 x2 x3 x6 x7 x8 x9 x10 x11 rfl ht T)) (View.readAt (Elt Ideal) arg1.view (Rect.unit (s := S16) ![15] S1.size inb_S16_S1_15).toLoadRect (harg1.unread x0) (Shape.Idx.first (numel1_S1.symm ▸ Nat.one_pos))) (rd_sink arg1 harg1 x0 15 (by decide) _ _ T.h0) d i1) 0 r1 c1).trans ?_)
    · rfl
    rw [yRow, if_neg (by omega), hr, hc]
    have a1 : (256 * (i 0).val + (0 + r1.val)) / 128 = 2 * (i 0).val + 0 := by omega
    have a2 : 1920 + c1.val - 1024 = 128 * 7 + c1.val := by omega
    have a3 : (256 * (i 0).val + (0 + r1.val)) % 128 = r1.val := by omega
    rw [a1, a2, a3]
  refine put3 _ _ _ _ _ 0 1792 (k0_off28_eq i) _ _ z r c2 _ (fun _ r1 c1 hr hc => ?_) (fun n9 => ?_)
  · refine Eq.trans (congrFun ?_ _) ((tile_apply _ _ 6 (fun d i1 => val12 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score12 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA12 i arg12 harg12 x0 x1 x2 x3 x6 x7 x8 x9 x10 x11 rfl ht T)) (View.readAt (Elt Ideal) arg1.view (Rect.unit (s := S16) ![12] S1.size inb_S16_S1_12).toLoadRect (harg1.unread x0) (Shape.Idx.first (numel1_S1.symm ▸ Nat.one_pos))) (rd_sink arg1 harg1 x0 12 (by decide) _ _ T.h0) d i1) (fun d i1 => val13 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score13 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA13 i arg12 harg12 x0 x1 x2 x3 x6 x7 x8 x9 x10 x11 rfl ht T)) (View.readAt (Elt Ideal) arg1.view (Rect.unit (s := S16) ![13] S1.size inb_S16_S1_13).toLoadRect (harg1.unread x0) (Shape.Idx.first (numel1_S1.symm ▸ Nat.one_pos))) (rd_sink arg1 harg1 x0 13 (by decide) _ _ T.h0) d i1) 0 r1 c1).trans ?_)
    · rfl
    rw [yRow, if_neg (by omega), hr, hc]
    have a1 : (256 * (i 0).val + (0 + r1.val)) / 128 = 2 * (i 0).val + 0 := by omega
    have a2 : 1792 + c1.val - 1024 = 128 * 6 + c1.val := by omega
    have a3 : (256 * (i 0).val + (0 + r1.val)) % 128 = r1.val := by omega
    rw [a1, a2, a3]
  refine put3 _ _ _ _ _ 0 1664 (k0_off27_eq i) _ _ z r c2 _ (fun _ r1 c1 hr hc => ?_) (fun n10 => ?_)
  · refine Eq.trans (congrFun ?_ _) ((tile_apply _ _ 5 (fun d i1 => val10 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score10 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA10 i arg12 harg12 x0 x1 x2 x3 x6 x7 x8 x9 x10 x11 rfl ht T)) (View.readAt (Elt Ideal) arg1.view (Rect.unit (s := S16) ![10] S1.size inb_S16_S1_10).toLoadRect (harg1.unread x0) (Shape.Idx.first (numel1_S1.symm ▸ Nat.one_pos))) (rd_sink arg1 harg1 x0 10 (by decide) _ _ T.h0) d i1) (fun d i1 => val11 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score11 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA11 i arg12 harg12 x0 x1 x2 x3 x6 x7 x8 x9 x10 x11 rfl ht T)) (View.readAt (Elt Ideal) arg1.view (Rect.unit (s := S16) ![11] S1.size inb_S16_S1_11).toLoadRect (harg1.unread x0) (Shape.Idx.first (numel1_S1.symm ▸ Nat.one_pos))) (rd_sink arg1 harg1 x0 11 (by decide) _ _ T.h0) d i1) 0 r1 c1).trans ?_)
    · rfl
    rw [yRow, if_neg (by omega), hr, hc]
    have a1 : (256 * (i 0).val + (0 + r1.val)) / 128 = 2 * (i 0).val + 0 := by omega
    have a2 : 1664 + c1.val - 1024 = 128 * 5 + c1.val := by omega
    have a3 : (256 * (i 0).val + (0 + r1.val)) % 128 = r1.val := by omega
    rw [a1, a2, a3]
  refine put3 _ _ _ _ _ 0 1536 (k0_off26_eq i) _ _ z r c2 _ (fun _ r1 c1 hr hc => ?_) (fun n11 => ?_)
  · refine Eq.trans (congrFun ?_ _) ((tile_apply _ _ 4 (fun d i1 => val8 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score8 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA8 i arg12 harg12 x0 x1 x2 x3 x6 x7 x8 x9 x10 x11 rfl ht T)) (View.readAt (Elt Ideal) arg1.view (Rect.unit (s := S16) ![8] S1.size inb_S16_S1_8).toLoadRect (harg1.unread x0) (Shape.Idx.first (numel1_S1.symm ▸ Nat.one_pos))) (rd_sink arg1 harg1 x0 8 (by decide) _ _ T.h0) d i1) (fun d i1 => val9 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score9 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA9 i arg12 harg12 x0 x1 x2 x3 x6 x7 x8 x9 x10 x11 rfl ht T)) (View.readAt (Elt Ideal) arg1.view (Rect.unit (s := S16) ![9] S1.size inb_S16_S1_9).toLoadRect (harg1.unread x0) (Shape.Idx.first (numel1_S1.symm ▸ Nat.one_pos))) (rd_sink arg1 harg1 x0 9 (by decide) _ _ T.h0) d i1) 0 r1 c1).trans ?_)
    · rfl
    rw [yRow, if_neg (by omega), hr, hc]
    have a1 : (256 * (i 0).val + (0 + r1.val)) / 128 = 2 * (i 0).val + 0 := by omega
    have a2 : 1536 + c1.val - 1024 = 128 * 4 + c1.val := by omega
    have a3 : (256 * (i 0).val + (0 + r1.val)) % 128 = r1.val := by omega
    rw [a1, a2, a3]
  refine put3 _ _ _ _ _ 0 1408 (k0_off25_eq i) _ _ z r c2 _ (fun _ r1 c1 hr hc => ?_) (fun n12 => ?_)
  · refine Eq.trans (congrFun ?_ _) ((tile_apply _ _ 3 (fun d i1 => val6 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score6 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA6 i arg12 harg12 x0 x1 x2 x3 x6 x7 x8 x9 x10 x11 rfl ht T)) (View.readAt (Elt Ideal) arg1.view (Rect.unit (s := S16) ![6] S1.size inb_S16_S1_6).toLoadRect (harg1.unread x0) (Shape.Idx.first (numel1_S1.symm ▸ Nat.one_pos))) (rd_sink arg1 harg1 x0 6 (by decide) _ _ T.h0) d i1) (fun d i1 => val7 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score7 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA7 i arg12 harg12 x0 x1 x2 x3 x6 x7 x8 x9 x10 x11 rfl ht T)) (View.readAt (Elt Ideal) arg1.view (Rect.unit (s := S16) ![7] S1.size inb_S16_S1_7).toLoadRect (harg1.unread x0) (Shape.Idx.first (numel1_S1.symm ▸ Nat.one_pos))) (rd_sink arg1 harg1 x0 7 (by decide) _ _ T.h0) d i1) 0 r1 c1).trans ?_)
    · rfl
    rw [yRow, if_neg (by omega), hr, hc]
    have a1 : (256 * (i 0).val + (0 + r1.val)) / 128 = 2 * (i 0).val + 0 := by omega
    have a2 : 1408 + c1.val - 1024 = 128 * 3 + c1.val := by omega
    have a3 : (256 * (i 0).val + (0 + r1.val)) % 128 = r1.val := by omega
    rw [a1, a2, a3]
  refine put3 _ _ _ _ _ 0 1280 (k0_off24_eq i) _ _ z r c2 _ (fun _ r1 c1 hr hc => ?_) (fun n13 => ?_)
  · refine Eq.trans (congrFun ?_ _) ((tile_apply _ _ 2 (fun d i1 => val4 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score4 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA4 i arg12 harg12 x0 x1 x2 x3 x6 x7 x8 x9 x10 x11 rfl ht T)) (View.readAt (Elt Ideal) arg1.view (Rect.unit (s := S16) ![4] S1.size inb_S16_S1_4).toLoadRect (harg1.unread x0) (Shape.Idx.first (numel1_S1.symm ▸ Nat.one_pos))) (rd_sink arg1 harg1 x0 4 (by decide) _ _ T.h0) d i1) (fun d i1 => val5 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score5 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA5 i arg12 harg12 x0 x1 x2 x3 x6 x7 x8 x9 x10 x11 rfl ht T)) (View.readAt (Elt Ideal) arg1.view (Rect.unit (s := S16) ![5] S1.size inb_S16_S1_5).toLoadRect (harg1.unread x0) (Shape.Idx.first (numel1_S1.symm ▸ Nat.one_pos))) (rd_sink arg1 harg1 x0 5 (by decide) _ _ T.h0) d i1) 0 r1 c1).trans ?_)
    · rfl
    rw [yRow, if_neg (by omega), hr, hc]
    have a1 : (256 * (i 0).val + (0 + r1.val)) / 128 = 2 * (i 0).val + 0 := by omega
    have a2 : 1280 + c1.val - 1024 = 128 * 2 + c1.val := by omega
    have a3 : (256 * (i 0).val + (0 + r1.val)) % 128 = r1.val := by omega
    rw [a1, a2, a3]
  refine put3 _ _ _ _ _ 0 1152 (k0_off23_eq i) _ _ z r c2 _ (fun _ r1 c1 hr hc => ?_) (fun n14 => ?_)
  · refine Eq.trans (congrFun ?_ _) ((tile_apply _ _ 1 (fun d i1 => val2 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score2 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA2 i arg12 harg12 x0 x1 x2 x3 x6 x7 x8 x9 x10 x11 rfl ht T)) (View.readAt (Elt Ideal) arg1.view (Rect.unit (s := S16) ![2] S1.size inb_S16_S1_2).toLoadRect (harg1.unread x0) (Shape.Idx.first (numel1_S1.symm ▸ Nat.one_pos))) (rd_sink arg1 harg1 x0 2 (by decide) _ _ T.h0) d i1) (fun d i1 => val3 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score3 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA3 i arg12 harg12 x0 x1 x2 x3 x6 x7 x8 x9 x10 x11 rfl ht T)) (View.readAt (Elt Ideal) arg1.view (Rect.unit (s := S16) ![3] S1.size inb_S16_S1_3).toLoadRect (harg1.unread x0) (Shape.Idx.first (numel1_S1.symm ▸ Nat.one_pos))) (rd_sink arg1 harg1 x0 3 (by decide) _ _ T.h0) d i1) 0 r1 c1).trans ?_)
    · rfl
    rw [yRow, if_neg (by omega), hr, hc]
    have a1 : (256 * (i 0).val + (0 + r1.val)) / 128 = 2 * (i 0).val + 0 := by omega
    have a2 : 1152 + c1.val - 1024 = 128 * 1 + c1.val := by omega
    have a3 : (256 * (i 0).val + (0 + r1.val)) % 128 = r1.val := by omega
    rw [a1, a2, a3]
  refine put3 _ _ _ _ _ 0 1024 (k0_off22_eq i) _ _ z r c2 _ (fun _ r1 c1 hr hc => ?_) (fun n15 => ?_)
  · refine Eq.trans (congrFun ?_ _) ((tile_apply _ _ 0 (fun d i1 => val0 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score0 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA0 i arg12 harg12 x0 x1 x2 x3 x6 x7 x8 x9 x10 x11 rfl ht T)) (View.readAt (Elt Ideal) arg1.view (Rect.unit (s := S16) ![0] S1.size inb_S16_S1_0).toLoadRect (harg1.unread x0) (Shape.Idx.first (numel1_S1.symm ▸ Nat.one_pos))) (rd_sink arg1 harg1 x0 0 (by decide) _ _ T.h0) d i1) (fun d i1 => val1 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (score1 (win0 arg2 harg2 arg3 harg3 T (View.readAt (Elt Ideal) arg19.view (Rect.unit (s := S128x512) ![0, 0] S128x512.size inb_S128x512_S128x512_0_0).toLoadRect (harg19.unread xs2)) (fun c j x => (rd2 arg19 harg19 xs2 _ inb_S128x512_S128x512_0_0 0 0 rfl j x (by omega) (by omega)).trans ((h2 c _ _).trans (by simp only [Nat.zero_add])))) _ (bA1 i arg12 harg12 x0 x1 x2 x3 x6 x7 x8 x9 x10 x11 rfl ht T)) (View.readAt (Elt Ideal) arg1.view (Rect.unit (s := S16) ![1] S1.size inb_S16_S1_1).toLoadRect (harg1.unread x0) (Shape.Idx.first (numel1_S1.symm ▸ Nat.one_pos))) (rd_sink arg1 harg1 x0 1 (by decide) _ _ T.h0) d i1) 0 r1 c1).trans ?_)
    · rfl
    rw [yRow, if_neg (by omega), hr, hc]
    have a1 : (256 * (i 0).val + (0 + r1.val)) / 128 = 2 * (i 0).val + 0 := by omega
    have a2 : 1024 + c1.val - 1024 = 128 * 0 + c1.val := by omega
    have a3 : (256 * (i 0).val + (0 + r1.val)) % 128 = r1.val := by omega
    rw [a1, a2, a3]
  refine put3 _ _ _ _ _ 0 768 (k0_off21_eq i) _ _ z r c2 _ (fun _ r1 c1 hr hc => ?_) (fun n16 => ?_)
  · refine Eq.trans (congrFun ?_ _) ((fY_apply (head3 arg2 harg2 arg4 harg4 arg7 harg7 arg8 harg8 arg10 harg10 T) _ (fStack_apply (head3 arg2 harg2 arg4 harg4 arg7 harg7 arg8 harg8 arg10 harg10 T) (by omega) _ (st0_apply 3 _ (v2_eq i _ rfl ht) (View.readAt (Elt Ideal) arg18.view (Rect.unit (s := S4x256x128) ![3, 0, 0] S1x256x128.size inb_S4x256x128_S1x256x128_3_0_0).toLoadRect (harg18.unread xs1)) (fun c a d => (rd3 arg18 harg18 xs1 _ inb_S4x256x128_S1x256x128_3_0_0 3 0 0 rfl 0 a d (by decide) (by omega) (by omega)).trans ((h1 c _ _ _).trans (by simp only [Fin.val_zero, Nat.zero_add, Nat.add_zero]))))) _ (fA_apply (head3 arg2 harg2 arg4 harg4 arg7 harg7 arg8 harg8 arg10 harg10 T) _ hpm) (View.readAt (Elt Ideal) arg2.view (Rect.unit (s := S256x4096) ![0, 1792] S256x256.size inb_S256x4096_S256x256_0_1792).toLoadRect (harg2.unread x1)) (rgate3 arg2 harg2 T) (View.readAt (Elt Ideal) arg9.view (Rect.unit (s := S1x256) ![0, 0] S1x256.size inb_S1x256_S1x256_0_0).toLoadRect (harg9.unread x8)) hg 0 r1 c1).trans ?_)
    · rfl
    rw [yRow, if_pos (by omega), hr, hc]
    have a1 : (256 * (i 0).val + (0 + r1.val)) / 64 = 4 * (i 0).val + r1.val / 64 := by omega
    have a2 : (768 + c1.val) / 256 = 3 := by omega
    have a3 : (256 * (i 0).val + (0 + r1.val)) % 64 = r1.val % 64 := by omega
    have a4 : (768 + c1.val) % 256 = c1.val := by omega
    rw [a1, a2, a3, a4]
  refine put3 _ _ _ _ _ 0 512 (k0_off20_eq i) _ _ z r c2 _ (fun _ r1 c1 hr hc => ?_) (fun n17 => ?_)
  · refine Eq.trans (congrFun ?_ _) ((fY_apply (head2 arg2 harg2 arg4 harg4 arg7 harg7 arg8 harg8 arg10 harg10 T) _ (fStack_apply (head2 arg2 harg2 arg4 harg4 arg7 harg7 arg8 harg8 arg10 harg10 T) (by omega) _ (st0_apply 2 _ (v2_eq i _ rfl ht) (View.readAt (Elt Ideal) arg18.view (Rect.unit (s := S4x256x128) ![2, 0, 0] S1x256x128.size inb_S4x256x128_S1x256x128_2_0_0).toLoadRect (harg18.unread xs1)) (fun c a d => (rd3 arg18 harg18 xs1 _ inb_S4x256x128_S1x256x128_2_0_0 2 0 0 rfl 0 a d (by decide) (by omega) (by omega)).trans ((h1 c _ _ _).trans (by simp only [Fin.val_zero, Nat.zero_add, Nat.add_zero]))))) _ (fA_apply (head2 arg2 harg2 arg4 harg4 arg7 harg7 arg8 harg8 arg10 harg10 T) _ hpm) (View.readAt (Elt Ideal) arg2.view (Rect.unit (s := S256x4096) ![0, 1536] S256x256.size inb_S256x4096_S256x256_0_1536).toLoadRect (harg2.unread x1)) (rgate2 arg2 harg2 T) (View.readAt (Elt Ideal) arg9.view (Rect.unit (s := S1x256) ![0, 0] S1x256.size inb_S1x256_S1x256_0_0).toLoadRect (harg9.unread x8)) hg 0 r1 c1).trans ?_)
    · rfl
    rw [yRow, if_pos (by omega), hr, hc]
    have a1 : (256 * (i 0).val + (0 + r1.val)) / 64 = 4 * (i 0).val + r1.val / 64 := by omega
    have a2 : (512 + c1.val) / 256 = 2 := by omega
    have a3 : (256 * (i 0).val + (0 + r1.val)) % 64 = r1.val % 64 := by omega
    have a4 : (512 + c1.val) % 256 = c1.val := by omega
    rw [a1, a2, a3, a4]
  refine put3 _ _ _ _ _ 0 256 (k0_off19_eq i) _ _ z r c2 _ (fun _ r1 c1 hr hc => ?_) (fun n18 => ?_)
  · refine Eq.trans (congrFun ?_ _) ((fY_apply (head1 arg2 harg2 arg4 harg4 arg7 harg7 arg8 harg8 arg10 harg10 T) _ (fStack_apply (head1 arg2 harg2 arg4 harg4 arg7 harg7 arg8 harg8 arg10 harg10 T) (by omega) _ (st0_apply 1 _ (v2_eq i _ rfl ht) (View.readAt (Elt Ideal) arg18.view (Rect.unit (s := S4x256x128) ![1, 0, 0] S1x256x128.size inb_S4x256x128_S1x256x128_1_0_0).toLoadRect (harg18.unread xs1)) (fun c a d => (rd3 arg18 harg18 xs1 _ inb_S4x256x128_S1x256x128_1_0_0 1 0 0 rfl 0 a d (by decide) (by omega) (by omega)).trans ((h1 c _ _ _).trans (by simp only [Fin.val_zero, Nat.zero_add, Nat.add_zero]))))) _ (fA_apply (head1 arg2 harg2 arg4 harg4 arg7 harg7 arg8 harg8 arg10 harg10 T) _ hpm) (View.readAt (Elt Ideal) arg2.view (Rect.unit (s := S256x4096) ![0, 1280] S256x256.size inb_S256x4096_S256x256_0_1280).toLoadRect (harg2.unread x1)) (rgate1 arg2 harg2 T) (View.readAt (Elt Ideal) arg9.view (Rect.unit (s := S1x256) ![0, 0] S1x256.size inb_S1x256_S1x256_0_0).toLoadRect (harg9.unread x8)) hg 0 r1 c1).trans ?_)
    · rfl
    rw [yRow, if_pos (by omega), hr, hc]
    have a1 : (256 * (i 0).val + (0 + r1.val)) / 64 = 4 * (i 0).val + r1.val / 64 := by omega
    have a2 : (256 + c1.val) / 256 = 1 := by omega
    have a3 : (256 * (i 0).val + (0 + r1.val)) % 64 = r1.val % 64 := by omega
    have a4 : (256 + c1.val) % 256 = c1.val := by omega
    rw [a1, a2, a3, a4]
  refine put3 _ _ _ _ _ 0 0 (k0_off18_eq i) _ _ z r c2 _ (fun _ r1 c1 hr hc => ?_) (fun n19 => ?_)
  · refine Eq.trans (congrFun ?_ _) ((fY_apply (head0 arg2 harg2 arg4 harg4 arg7 harg7 arg8 harg8 arg10 harg10 T) _ (fStack_apply (head0 arg2 harg2 arg4 harg4 arg7 harg7 arg8 harg8 arg10 harg10 T) (by omega) _ (st0_apply 0 _ (v2_eq i _ rfl ht) (View.readAt (Elt Ideal) arg18.view (Rect.unit (s := S4x256x128) ![0, 0, 0] S1x256x128.size inb_S4x256x128_S1x256x128_0_0_0).toLoadRect (harg18.unread xs1)) (fun c a d => (rd3 arg18 harg18 xs1 _ inb_S4x256x128_S1x256x128_0_0_0 0 0 0 rfl 0 a d (by decide) (by omega) (by omega)).trans ((h1 c _ _ _).trans (by simp only [Fin.val_zero, Nat.zero_add, Nat.add_zero]))))) _ (fA_apply (head0 arg2 harg2 arg4 harg4 arg7 harg7 arg8 harg8 arg10 harg10 T) _ hpm) (View.readAt (Elt Ideal) arg2.view (Rect.unit (s := S256x4096) ![0, 1024] S256x256.size inb_S256x4096_S256x256_0_1024).toLoadRect (harg2.unread x1)) (rgate0 arg2 harg2 T) (View.readAt (Elt Ideal) arg9.view (Rect.unit (s := S1x256) ![0, 0] S1x256.size inb_S1x256_S1x256_0_0).toLoadRect (harg9.unread x8)) hg 0 r1 c1).trans ?_)
    · rfl
    rw [yRow, if_pos (by omega), hr, hc]
    have a1 : (256 * (i 0).val + (0 + r1.val)) / 64 = 4 * (i 0).val + r1.val / 64 := by omega
    have a2 : (0 + c1.val) / 256 = 0 := by omega
    have a3 : (256 * (i 0).val + (0 + r1.val)) % 64 = r1.val % 64 := by omega
    have a4 : (0 + c1.val) % 256 = c1.val := by omega
    rw [a1, a2, a3, a4]
  exfalso
  omega

set_option maxHeartbeats 4000000 in
theorem st_B (hc0 : ¬cond0_0 i) (T : Tile I t x0 x1 x2 x3 x6 x7 x8 x9 x10 x11) (hi : (i 0).val = t) (ht : t < 128)
  (h1 : t % 8 ≠ 0 → ∀ (h : Fin 4) (a : Fin 256) (d : Fin 128), xs1 (ix3 h a d) = Sn I (4 * t - 1) h.val a.val d.val)
  (h2 : t % 8 ≠ 0 → ∀ (j : Fin 128) (x : Fin 512), xs2 (ix2 j x) = I.P (256 * t + j.val - 128) (8192 + x.val))
  (h : Fin 4) (a : Fin 256) (d : Fin 128) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 xs2 (ix3 h a d) = Sn I (4 * t + 3) h.val a.val d.val := by
  unfold sout0_B_1 kernelRun0_B
  dsimp only
  subst hi
  refine put3 _ _ _ _ 3 0 0 rfl _ _ h a d _ (fun hh r1 c1 hr hc => ?_) (fun n0 => ?_)
  · refine Eq.trans (congrFun ?_ _) ((fSt4_apply (head3 arg2 harg2 arg4 harg4 arg7 harg7 arg8 harg8 arg10 harg10 T) (by omega) _ (st0_apply 3 _ (v2_eq i _ rfl ht) (View.readAt (Elt Ideal) arg18.view (Rect.unit (s := S4x256x128) ![3, 0, 0] S1x256x128.size inb_S4x256x128_S1x256x128_3_0_0).toLoadRect (harg18.unread xs1)) (fun c a d => (rd3 arg18 harg18 xs1 _ inb_S4x256x128_S1x256x128_3_0_0 3 0 0 rfl 0 a d (by decide) (by omega) (by omega)).trans ((h1 c _ _ _).trans (by simp only [Fin.val_zero, Nat.zero_add, Nat.add_zero])))) 0 r1 c1).trans ?_)
    · rfl
    rw [hh, hr, hc, Nat.zero_add, Nat.zero_add]
  refine put3 _ _ _ _ 2 0 0 rfl _ _ h a d _ (fun hh r1 c1 hr hc => ?_) (fun n1 => ?_)
  · refine Eq.trans (congrFun ?_ _) ((fSt4_apply (head2 arg2 harg2 arg4 harg4 arg7 harg7 arg8 harg8 arg10 harg10 T) (by omega) _ (st0_apply 2 _ (v2_eq i _ rfl ht) (View.readAt (Elt Ideal) arg18.view (Rect.unit (s := S4x256x128) ![2, 0, 0] S1x256x128.size inb_S4x256x128_S1x256x128_2_0_0).toLoadRect (harg18.unread xs1)) (fun c a d => (rd3 arg18 harg18 xs1 _ inb_S4x256x128_S1x256x128_2_0_0 2 0 0 rfl 0 a d (by decide) (by omega) (by omega)).trans ((h1 c _ _ _).trans (by simp only [Fin.val_zero, Nat.zero_add, Nat.add_zero])))) 0 r1 c1).trans ?_)
    · rfl
    rw [hh, hr, hc, Nat.zero_add, Nat.zero_add]
  refine put3 _ _ _ _ 1 0 0 rfl _ _ h a d _ (fun hh r1 c1 hr hc => ?_) (fun n2 => ?_)
  · refine Eq.trans (congrFun ?_ _) ((fSt4_apply (head1 arg2 harg2 arg4 harg4 arg7 harg7 arg8 harg8 arg10 harg10 T) (by omega) _ (st0_apply 1 _ (v2_eq i _ rfl ht) (View.readAt (Elt Ideal) arg18.view (Rect.unit (s := S4x256x128) ![1, 0, 0] S1x256x128.size inb_S4x256x128_S1x256x128_1_0_0).toLoadRect (harg18.unread xs1)) (fun c a d => (rd3 arg18 harg18 xs1 _ inb_S4x256x128_S1x256x128_1_0_0 1 0 0 rfl 0 a d (by decide) (by omega) (by omega)).trans ((h1 c _ _ _).trans (by simp only [Fin.val_zero, Nat.zero_add, Nat.add_zero])))) 0 r1 c1).trans ?_)
    · rfl
    rw [hh, hr, hc, Nat.zero_add, Nat.zero_add]
  refine put3 _ _ _ _ 0 0 0 rfl _ _ h a d _ (fun hh r1 c1 hr hc => ?_) (fun n3 => ?_)
  · refine Eq.trans (congrFun ?_ _) ((fSt4_apply (head0 arg2 harg2 arg4 harg4 arg7 harg7 arg8 harg8 arg10 harg10 T) (by omega) _ (st0_apply 0 _ (v2_eq i _ rfl ht) (View.readAt (Elt Ideal) arg18.view (Rect.unit (s := S4x256x128) ![0, 0, 0] S1x256x128.size inb_S4x256x128_S1x256x128_0_0_0).toLoadRect (harg18.unread xs1)) (fun c a d => (rd3 arg18 harg18 xs1 _ inb_S4x256x128_S1x256x128_0_0_0 0 0 0 rfl 0 a d (by decide) (by omega) (by omega)).trans ((h1 c _ _ _).trans (by simp only [Fin.val_zero, Nat.zero_add, Nat.add_zero])))) 0 r1 c1).trans ?_)
    · rfl
    rw [hh, hr, hc, Nat.zero_add, Nat.zero_add]
  exfalso
  omega

theorem kvp_B (hc0 : ¬cond0_0 i) (T : Tile I t x0 x1 x2 x3 x6 x7 x8 x9 x10 x11) (hi : (i 0).val = t) (ht : t < 128)
  (h1 : t % 8 ≠ 0 → ∀ (h : Fin 4) (a : Fin 256) (d : Fin 128), xs1 (ix3 h a d) = Sn I (4 * t - 1) h.val a.val d.val)
  (h2 : t % 8 ≠ 0 → ∀ (j : Fin 128) (x : Fin 512), xs2 (ix2 j x) = I.P (256 * t + j.val - 128) (8192 + x.val))
  (j : Fin 128) (x : Fin 512) : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 xs2 (ix2 j x) = I.P (256 * t + 128 + j.val) (8192 + x.val) := by
  unfold sout0_B_2 kernelRun0_B
  dsimp only
  refine put2 _ _ _ _ 0 0 rfl _ _ j x _ (fun r1 c1 hr hc => ?_) (fun n0 => ?_)
  · have e : k0_pay9 (View.readAt (Elt Ideal) arg3.view (Rect.unit (s := S256x512) ![128, 0] S128x512.size inb_S256x512_S128x512_128_0).toLoadRect (harg3.unread x2)) (ix2 r1 c1) = I.P (256 * t + 128 + j.val) (8192 + x.val) := by
      pointwise [k0_pay9]
      refine (rd2 arg3 harg3 x2 _ inb_S256x512_S128x512_128_0 128 0 rfl r1 c1 (by omega) (by omega)).trans ((T.h2 _ _).trans ?_)
      exact congrArg₂ I.P (by show 256 * t + (128 + r1.val) = _; omega) (by show 8192 + (0 + c1.val) = _; omega)
    refine Eq.trans (congrFun ?_ _) e
    rfl
  exfalso
  omega

end Cert.KernelIdeal.Val

end
-- ==== Proof.MixPieA.lean ====
/-
  The mixing call's body at a point (the first): what it leaves in the scratch buffers, of the layer's mathematics.
-/
module

public import proofs.«01_k».proof.Proof.Gen.KernelIdeal.Frame
public import Idealize.ShloMosaic.Lib.Pipeline.ReadBack
public import Idealize.ShloMosaic.Lib.Pipeline.Value
public import Idealize.ShloMosaic.Lib.Claim
public import proofs.«01_k».proof.Proof.MixPieB

@[expose] public section

set_option maxRecDepth 16384

noncomputable section

namespace Cert.KernelIdeal.Val

open Cert.KernelIdeal Cert.KernelIdeal.Gen Idealize.ShloMosaic Idealize.ShloMosaic.TcCoe Cert.Mixm

variable (c : Dev nD) (i : grid0.Coords) (arg1 : Memref sig .tc .smem S16 .f32) (harg1 : arg1.IsWhole) (arg2 : Memref sig .tc .vmem S256x4096 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S256x4096 .bf16) (harg5 : arg5.IsWhole) (arg6 : Memref sig .tc .vmem S256x2048 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x128 .bf16) (harg10 : arg10.IsWhole) (arg11 : Memref sig .tc .vmem S7x64x64 .f32) (harg11 : arg11.IsWhole) (arg12 : Memref sig .tc .vmem S2x16x256x128 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S2048x2048 .bf16) (harg15 : arg15.IsWhole) (arg16 : Memref sig .tc .vmem S256x2048 .f32) (harg16 : arg16.IsWhole) (arg17 : Memref sig .tc .vmem S2x256x2048 .bf16) (harg17 : arg17.IsWhole) (arg18 : Memref sig .tc .vmem S4x256x128 .f32) (harg18 : arg18.IsWhole) (arg19 : Memref sig .tc .vmem S128x512 .bf16) (harg19 : arg19.IsWhole)
    (x0 : Vec Ideal S16 .f32) (x1 : Vec Ideal S256x4096 .bf16) (x2 : Vec Ideal S256x512 .bf16) (x3 : Vec Ideal S256x128 .f32) (x4 : Vec Ideal S256x4096 .bf16) (x5 : Vec Ideal S256x2048 .f32) (x6 : Vec Ideal S128x512 .bf16) (x7 : Vec Ideal S1x512 .f32) (x8 : Vec Ideal S1x256 .f32) (x9 : Vec Ideal S512x128 .bf16) (x10 : Vec Ideal S7x64x64 .f32) (x11 : Vec Ideal S2x16x256x128 .f32) (x12 : Vec Ideal S1024x2048 .bf16) (x13 : Vec Ideal S1024x2048 .bf16) (x14 : Vec Ideal S2048x2048 .bf16) (xs0 : Vec Ideal S2x256x2048 .bf16) (xs1 : Vec Ideal S4x256x128 .f32) (xs2 : Vec Ideal S128x512 .bf16)
   {I : Inp} {t : Nat}

set_option maxHeartbeats 4000000 in
theorem y_A (hc0 : cond0_0 i) (T : Tile I t x0 x1 x2 x3 x6 x7 x8 x9 x10 x11) (hi : (i 0).val = t) (ht : t < 128)
  (h8 : t % 8 = 0)
  (z : Fin 2) (hz : z.val = t % 2) (r : Fin 256) (c2 : Fin 2048) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 (ix3 z r c2) = yRow I (256 * t + r.val) c2.val := by
  unfold sout0_A_0 kernelRun0_A
  dsimp only
  have hz' : z.val = (i 0).val % 2 := by rw [hi, hz]
  subst hi
  have hpm : ∀ (l : Fin 7) (a b : Fin 64), (View.readAt (Elt Ideal) arg11.view (Rect.unit (s := S7x64x64) ![0, 0, 0] S7x64x64.size inb_S7x64x64_S7x64x64_0_0_0).toLoadRect (harg11.unread x10)) (ix3 l a b) = if pmk l a b then 1 else 0 := by rw [rd_pm arg11 harg11]; exact T.h10
  have hg : ∀ x : Fin 256, (View.readAt (Elt Ideal) arg9.view (Rect.unit (s := S1x256) ![0, 0] S1x256.size inb_S1x256_S1x256_0_0).toLoadRect (harg9.unread x8)) (ix2 0 x) = I.gain x.val := by rw [rd_gain arg9 harg9]; exact T.h8
  refine put3 _ _ _ _ _ 128 1920 (k0_off37_eq i) _ _ z r c2 _ (fun _ r1 c1 hr hc => ?_) (fun n0 => ?_)
  · refine Eq.trans (congrFun ?_ _) ((tile_apply _ _ 7 (fun d i1 => val14 (win1 arg2 harg2 arg3 harg3 T (kernelRun0_A.sl.v33 (F := Ideal) c arg19) (fun c => absurd h8 c)) _ (score14 (win1 arg2 harg2 arg3 harg3 T (kernelRun0_A.sl.v33 (F := Ideal) c arg19) (fun c => absurd h8 c)) _ (bB14 arg12 harg12 x0 x1 x2 x3 x6 x7 x8 x9 x10 x11 T)) (View.readAt (Elt Ideal) arg1.view (Rect.unit (s := S16) ![14] S1.size inb_S16_S1_14).toLoadRect (harg1.unread x0) (Shape.Idx.first (numel1_S1.symm ▸ Nat.one_pos))) (rd_sink arg1 harg1 x0 14 (by decide) _ _ T.h0) d i1) (fun d i1 => val15 (win1 arg2 harg2 arg3 harg3 T (kernelRun0_A.sl.v33 (F := Ideal) c arg19) (fun c => absurd h8 c)) _ (score15 (win1 arg2 harg2 arg3 harg3 T (kernelRun0_A.sl.v33 (F := Ideal) c arg19) (fun c => absurd h8 c)) _ (bB15 arg12 harg12 x0 x1 x2 x3 x6 x7 x8 x9 x10 x11 T)) (View.readAt (Elt Ideal) arg1.view (Rect.unit (s := S16) ![15] S1.size inb_S16_S1_15).toLoadRect (harg1.unread x0) (Shape.Idx.first (numel1_S1.symm ▸ Nat.one_pos))) (rd_sink arg1 harg1 x0 15 (by decide) _ _ T.h0) d i1) 0 r1 c1).trans ?_)
    · rfl
    rw [yRow, if_neg (by omega), hr, hc]
    have a1 : (256 * (i 0).val + (128 + r1.val)) / 128 = 2 * (i 0).val + 1 := by omega
    have a2 : 1920 + c1.val - 1024 = 128 * 7 + c1.val := by omega
    have a3 : (256 * (i 0).val + (128 + r1.val)) % 128 = r1.val := by omega
    rw [a1, a2, a3]
  refine put3 _ _ _ _ _ 128 1792 (k0_off36_eq i) _ _ z r c2 _ (fun _ r1 c1 hr hc => ?_) (fun n1 => ?_)
  · refine Eq.trans (congrFun ?_ _) ((tile_apply _ _ 6 (fun d i1 => val12 (win1 arg2 harg2 arg3 harg3 T (kernelRun0_A.sl.v33 (F := Ideal) c arg19) (fun c => absurd h8 c)) _ (score12 (win1 arg2 harg2 arg3 harg3 T (kernelRun0_A.sl.v33 (F := Ideal) c arg19) (fun c => absurd h8 c)) _ (bB12 arg12 harg12 x0 x1 x2 x3 x6 x7 x8 x9 x10 x11 T)) (View.readAt (Elt Ideal) arg1.view (Rect.unit (s := S16) ![12] S1.size inb_S16_S1_12).toLoadRect (harg1.unread x0) (Shape.Idx.first (numel1_S1.symm ▸ Nat.one_pos))) (rd_sink arg1 harg1 x0 12 (by decide) _ _ T.h0) d i1) (fun d i1 => val13 (win1 arg2 harg2 arg3 harg3 T (kernelRun0_A.sl.v33 (F := Ideal) c arg19) (fun c => absurd h8 c)) _ (score13 (win1 arg2 harg2 arg3 harg3 T (kernelRun0_A.sl.v33 (F := Ideal) c arg19) (fun c => absurd h8 c)) _ (bB13 arg12 harg12 x0 x1 x2 x3 x6 x7 x8 x9 x10 x11 T)) (View.readAt (Elt Ideal) arg1.view (Rect.unit (s := S16) ![13] S1.size inb_S16_S1_13).toLoadRect (harg1.unread x0) (Shape.Idx.first (numel1_S1.symm ▸ Nat.one_pos))) (rd_sink arg1 harg1 x0 13 (by decide) _ _ T.h0) d i1) 0 r1 c1).trans ?_)
    · rfl
    rw [yRow, if_neg (by omega), hr, hc]
    have a1 : (256 * (i 0).val + (128 + r1.val)) / 128 = 2 * (i 0).val + 1 := by omega
    have a2 : 1792 + c1.val - 1024 = 128 * 6 + c1.val := by omega
    have a3 : (256 * (i 0).val + (128 + r1.val)) % 128 = r1.val := by omega
    rw [a1, a2, a3]
  refine put3 _ _ _ _ _ 128 1664 (k0_off35_eq i) _ _ z r c2 _ (fun _ r1 c1 hr hc => ?_) (fun n2 => ?_)
  · refine Eq.trans (congrFun ?_ _) ((tile_apply _ _ 5 (fun d i1 => val10 (win1 arg2 harg2 arg3 harg3 T (kernelRun0_A.sl.v33 (F := Ideal) c arg19) (fun c => absurd h8 c)) _ (score10 (win1 arg2 harg2 arg3 harg3 T (kernelRun0_A.sl.v33 (F := Ideal) c arg19) (fun c => absurd h8 c)) _ (bB10 arg12 harg12 x0 x1 x2 x3 x6 x7 x8 x9 x10 x11 T)) (View.readAt (Elt Ideal) arg1.view (Rect.unit (s := S16) ![10] S1.size inb_S16_S1_10).toLoadRect (harg1.unread x0) (Shape.Idx.first (numel1_S1.symm ▸ Nat.one_pos))) (rd_sink arg1 harg1 x0 10 (by decide) _ _ T.h0) d i1) (fun d i1 => val11 (win1 arg2 harg2 arg3 harg3 T (kernelRun0_A.sl.v33 (F := Ideal) c arg19) (fun c => absurd h8 c)) _ (score11 (win1 arg2 harg2 arg3 harg3 T (kernelRun0_A.sl.v33 (F := Ideal) c arg19) (fun c => absurd h8 c)) _ (bB11 arg12 harg12 x0 x1 x2 x3 x6 x7 x8 x9 x10 x11 T)) (View.readAt (Elt Ideal) arg1.view (Rect.unit (s := S16) ![11] S1.size inb_S16_S1_11).toLoadRect (harg1.unread x0) (Shape.Idx.first (numel1_S1.symm ▸ Nat.one_pos))) (rd_sink arg1 harg1 x0 11 (by decide) _ _ T.h0) d i1) 0 r1 c1).trans ?_)
    · rfl
    rw [yRow, if_neg (by omega), hr, hc]
    have a1 : (256 * (i 0).val + (128 + r1.val)) / 128 = 2 * (i 0).val + 1 := by omega
    have a2 : 1664 + c1.val - 1024 = 128 * 5 + c1.val := by omega
    have a3 : (256 * (i 0).val + (128 + r1.val)) % 128 = r1.val := by omega
    rw [a1, a2, a3]
  refine put3 _ _ _ _ _ 128 1536 (k0_off34_eq i) _ _ z r c2 _ (fun _ r1 c1 hr hc => ?_) (fun n3 => ?_)
  · refine Eq.trans (congrFun ?_ _) ((tile_apply _ _ 4 (fun d i1 => val8 (win1 arg2 harg2 arg3 harg3 T (kernelRun0_A.sl.v33 (F := Ideal) c arg19) (fun c => absurd h8 c)) _ (score8 (win1 arg2 harg2 arg3 harg3 T (kernelRun0_A.sl.v33 (F := Ideal) c arg19) (fun c => absurd h8 c)) _ (bB8 arg12 harg12 x0 x1 x2 x3 x6 x7 x8 x9 x10 x11 T)) (View.readAt (Elt Ideal) arg1.view (Rect.unit (s := S16) ![8] S1.size inb_S16_S1_8).toLoadRect (harg1.unread x0) (Shape.Idx.first (numel1_S1.symm ▸ Nat.one_pos))) (rd_sink arg1 harg1 x0 8 (by decide) _ _ T.h0) d i1) (fun d i1 => val9 (win1 arg2 harg2 arg3 harg3 T (kernelRun0_A.sl.v33 (F := Ideal) c arg19) (fun c => absurd h8 c)) _ (score9 (win1 arg2 harg2 arg3 harg3 T (kernelRun0_A.sl.v33 (F := Ideal) c arg19) (fun c => absurd h8 c)) _ (bB9 arg12 harg12 x0 x1 x2 x3 x6 x7 x8 x9 x10 x11 T)) (View.readAt (Elt Ideal) arg1.view (Rect.unit (s := S16) ![9] S1.size inb_S16_S1_9).toLoadRect (harg1.unread x0) (Shape.Idx.first (numel1_S1.symm ▸ Nat.one_pos))) (rd_sink arg1 harg1 x0 9 (by decide) _ _ T.h0) d i1) 0 r1 c1).trans ?_)
    · rfl
    rw [yRow, if_neg (by omega), hr, hc]
    have a1 : (256 * (i 0).val + (128 + r1.val)) / 128 = 2 * (i 0).val + 1 := by omega
    have a2 : 1536 + c1.val - 1024 = 128 * 4 + c1.val := by omega
    have a3 : (256 * (i 0).val + (128 + r1.val)) % 128 = r1.val := by omega
    rw [a1, a2, a3]
  refine put3 _ _ _ _ _ 128 1408 (k0_off33_eq i) _ _ z r c2 _ (fun _ r1 c1 hr hc => ?_) (fun n4 => ?_)
  · refine Eq.trans (congrFun ?_ _) ((tile_apply _ _ 3 (fun d i1 => val6 (win1 arg2 harg2 arg3 harg3 T (kernelRun0_A.sl.v33 (F := Ideal) c arg19) (fun c => absurd h8 c)) _ (score6 (win1 arg2 harg2 arg3 harg3 T (kernelRun0_A.sl.v33 (F := Ideal) c arg19) (fun c => absurd h8 c)) _ (bB6 arg12 harg12 x0 x1 x2 x3 x6 x7 x8 x9 x10 x11 T)) (View.readAt (Elt Ideal) arg1.view (Rect.unit (s := S16) ![6] S1.size inb_S16_S1_6).toLoadRect (harg1.unread x0) (Shape.Idx.first (numel1_S1.symm ▸ Nat.one_pos))) (rd_sink arg1 harg1 x0 6 (by decide) _ _ T.h0) d i1) (fun d i1 => val7 (win1 arg2 harg2 arg3 harg3 T (kernelRun0_A.sl.v33 (F := Ideal) c arg19) (fun c => absurd h8 c)) _ (score7 (win1 arg2 harg2 arg3 harg3 T (kernelRun0_A.sl.v33 (F := Ideal) c arg19) (fun c => absurd h8 c)) _ (bB7 arg12 harg12 x0 x1 x2 x3 x6 x7 x8 x9 x10 x11 T)) (View.readAt (Elt Ideal) arg1.view (Rect.unit (s := S16) ![7] S1.size inb_S16_S1_7).toLoadRect (harg1.unread x0) (Shape.Idx.first (numel1_S1.symm ▸ Nat.one_pos))) (rd_sink arg1 harg1 x0 7 (by decide) _ _ T.h0) d i1) 0 r1 c1).trans ?_)
    · rfl
    rw [yRow, if_neg (by omega), hr, hc]
    have a1 : (256 * (i 0).val + (128 + r1.val)) / 128 = 2 * (i 0).val + 1 := by omega
    have a2 : 1408 + c1.val - 1024 = 128 * 3 + c1.val := by omega
    have a3 : (256 * (i 0).val + (128 + r1.val)) % 128 = r1.val := by omega
    rw [a1, a2, a3]
  refine put3 _ _ _ _ _ 128 1280 (k0_off32_eq i) _ _ z r c2 _ (fun _ r1 c1 hr hc => ?_) (fun n5 => ?_)
  · refine Eq.trans (congrFun ?_ _) ((tile_apply _ _ 2 (fun d i1 => val4 (win1 arg2 harg2 arg3 harg3 T (kernelRun0_A.sl.v33 (F := Ideal) c arg19) (fun c => absurd h8 c)) _ (score4 (win1 arg2 harg2 arg3 harg3 T (kernelRun0_A.sl.v33 (F := Ideal) c arg19) (fun c => absurd h8 c)) _ (bB4 arg12 harg12 x0 x1 x2 x3 x6 x7 x8 x9 x10 x11 T)) (View.readAt (Elt Ideal) arg1.view (Rect.unit (s := S16) ![4] S1.size inb_S16_S1_4).toLoadRect (harg1.unread x0) (Shape.Idx.first (numel1_S1.symm ▸ Nat.one_pos))) (rd_sink arg1 harg1 x0 4 (by decide) _ _ T.h0) d i1) (fun d i1 => val5 (win1 arg2 harg2 arg3 harg3 T (kernelRun0_A.sl.v33 (F := Ideal) c arg19) (fun c => absurd h8 c)) _ (score5 (win1 arg2 harg2 arg3 harg3 T (kernelRun0_A.sl.v33 (F := Ideal) c arg19) (fun c => absurd h8 c)) _ (bB5 arg12 harg12 x0 x1 x2 x3 x6 x7 x8 x9 x10 x11 T)) (View.readAt (Elt Ideal) arg1.view (Rect.unit (s := S16) ![5] S1.size inb_S16_S1_5).toLoadRect (harg1.unread x0) (Shape.Idx.first (numel1_S1.symm ▸ Nat.one_pos))) (rd_sink arg1 harg1 x0 5 (by decide) _ _ T.h0) d i1) 0 r1 c1).trans ?_)
    · rfl
    rw [yRow, if_neg (by omega), hr, hc]
    have a1 : (256 * (i 0).val + (128 + r1.val)) / 128 = 2 * (i 0).val + 1 := by omega
    have a2 : 1280 + c1.val - 1024 = 128 * 2 + c1.val := by omega
    have a3 : (256 * (i 0).val + (128 + r1.val)) % 128 = r1.val := by omega
    rw [a1, a2, a3]
  refine put3 _ _ _ _ _ 128 1152 (k0_off31_eq i) _ _ z r c2 _ (fun _ r1 c1 hr hc => ?_) (fun n6 => ?_)
  · refine Eq.trans (congrFun ?_ _) ((tile_apply _ _ 1 (fun d i1 => val2 (win1 arg2 harg2 arg3 harg3 T (kernelRun0_A.sl.v33 (F := Ideal) c arg19) (fun c => absurd h8 c)) _ (score2 (win1 arg2 harg2 arg3 harg3 T (kernelRun0_A.sl.v33 (F := Ideal) c arg19) (fun c => absurd h8 c)) _ (bB2 arg12 harg12 x0 x1 x2 x3 x6 x7 x8 x9 x10 x11 T)) (View.readAt (Elt Ideal) arg1.view (Rect.unit (s := S16) ![2] S1.size inb_S16_S1_2).toLoadRect (harg1.unread x0) (Shape.Idx.first (numel1_S1.symm ▸ Nat.one_pos))) (rd_sink arg1 harg1 x0 2 (by decide) _ _ T.h0) d i1) (fun d i1 => val3 (win1 arg2 harg2 arg3 harg3 T (kernelRun0_A.sl.v33 (F := Ideal) c arg19) (fun c => absurd h8 c)) _ (score3 (win1 arg2 harg2 arg3 harg3 T (kernelRun0_A.sl.v33 (F := Ideal) c arg19) (fun c => absurd h8 c)) _ (bB3 arg12 harg12 x0 x1 x2 x3 x6 x7 x8 x9 x10 x11 T)) (View.readAt (Elt Ideal) arg1.view (Rect.unit (s := S16) ![3] S1.size inb_S16_S1_3).toLoadRect (harg1.unread x0) (Shape.Idx.first (numel1_S1.symm ▸ Nat.one_pos))) (rd_sink arg1 harg1 x0 3 (by decide) _ _ T.h0) d i1) 0 r1 c1).trans ?_)
    · rfl
    rw [yRow, if_neg (by omega), hr, hc]
    have a1 : (256 * (i 0).val + (128 + r1.val)) / 128 = 2 * (i 0).val + 1 := by omega
    have a2 : 1152 + c1.val - 1024 = 128 * 1 + c1.val := by omega
    have a3 : (256 * (i 0).val + (128 + r1.val)) % 128 = r1.val := by omega
    rw [a1, a2, a3]
  refine put3 _ _ _ _ _ 128 1024 (k0_off30_eq i) _ _ z r c2 _ (fun _ r1 c1 hr hc => ?_) (fun n7 => ?_)
  · refine Eq.trans (congrFun ?_ _) ((tile_apply _ _ 0 (fun d i1 => val0 (win1 arg2 harg2 arg3 harg3 T (kernelRun0_A.sl.v33 (F := Ideal) c arg19) (fun c => absurd h8 c)) _ (score0 (win1 arg2 harg2 arg3 harg3 T (kernelRun0_A.sl.v33 (F := Ideal) c arg19) (fun c => absurd h8 c)) _ (bB0 arg12 harg12 x0 x1 x2 x3 x6 x7 x8 x9 x10 x11 T)) (View.readAt (Elt Ideal) arg1.view (Rect.unit (s := S16) ![0] S1.size inb_S16_S1_0).toLoadRect (harg1.unread x0) (Shape.Idx.first (numel1_S1.symm ▸ Nat.one_pos))) (rd_sink arg1 harg1 x0 0 (by decide) _ _ T.h0) d i1) (fun d i1 => val1 (win1 arg2 harg2 arg3 harg3 T (kernelRun0_A.sl.v33 (F := Ideal) c arg19) (fun c => absurd h8 c)) _ (score1 (win1 arg2 harg2 arg3 harg3 T (kernelRun0_A.sl.v33 (F := Ideal) c arg19) (fun c => absurd h8 c)) _ (bB1 arg12 harg12 x0 x1 x2 x3 x6 x7 x8 x9 x10 x11 T)) (View.readAt (Elt Ideal) arg1.view (Rect.unit (s := S16) ![1] S1.size inb_S16_S1_1).toLoadRect (harg1.unread x0) (Shape.Idx.first (numel1_S1.symm ▸ Nat.one_pos))) (rd_sink arg1 harg1 x0 1 (by decide) _ _ T.h0) d i1) 0 r1 c1).trans ?_)
    · rfl
    rw [yRow, if_neg (by omega), hr, hc]
    have a1 : (256 * (i 0).val + (128 + r1.val)) / 128 = 2 * (i 0).val + 1 := by omega
    have a2 : 1024 + c1.val - 1024 = 128 * 0 + c1.val := by omega
    have a3 : (256 * (i 0).val + (128 + r1.val)) % 128 = r1.val := by omega
    rw [a1, a2, a3]
  refine put3 _ _ _ _ _ 0 1920 (k0_off29_eq i) _ _ z r c2 _ (fun _ r1 c1 hr hc => ?_) (fun n8 => ?_)
  · refine Eq.trans (congrFun ?_ _) ((tile_apply _ _ 7 (fun d i1 => val14 (win0 arg2 harg2 arg3 harg3 T (kernelRun0_A.sl.v33 (F := Ideal) c arg19) (fun c => absurd h8 c)) _ (score14 (win0 arg2 harg2 arg3 harg3 T (kernelRun0_A.sl.v33 (F := Ideal) c arg19) (fun c => absurd h8 c)) _ (bA14 i arg12 harg12 x0 x1 x2 x3 x6 x7 x8 x9 x10 x11 rfl ht T)) (View.readAt (Elt Ideal) arg1.view (Rect.unit (s := S16) ![14] S1.size inb_S16_S1_14).toLoadRect (harg1.unread x0) (Shape.Idx.first (numel1_S1.symm ▸ Nat.one_pos))) (rd_sink arg1 harg1 x0 14 (by decide) _ _ T.h0) d i1) (fun d i1 => val15 (win0 arg2 harg2 arg3 harg3 T (kernelRun0_A.sl.v33 (F := Ideal) c arg19) (fun c => absurd h8 c)) _ (score15 (win0 arg2 harg2 arg3 harg3 T (kernelRun0_A.sl.v33 (F := Ideal) c arg19) (fun c => absurd h8 c)) _ (bA15 i arg12 harg12 x0 x1 x2 x3 x6 x7 x8 x9 x10 x11 rfl ht T)) (View.readAt (Elt Ideal) arg1.view (Rect.unit (s := S16) ![15] S1.size inb_S16_S1_15).toLoadRect (harg1.unread x0) (Shape.Idx.first (numel1_S1.symm ▸ Nat.one_pos))) (rd_sink arg1 harg1 x0 15 (by decide) _ _ T.h0) d i1) 0 r1 c1).trans ?_)
    · rfl
    rw [yRow, if_neg (by omega), hr, hc]
    have a1 : (256 * (i 0).val + (0 + r1.val)) / 128 = 2 * (i 0).val + 0 := by omega
    have a2 : 1920 + c1.val - 1024 = 128 * 7 + c1.val := by omega
    have a3 : (256 * (i 0).val + (0 + r1.val)) % 128 = r1.val := by omega
    rw [a1, a2, a3]
  refine put3 _ _ _ _ _ 0 1792 (k0_off28_eq i) _ _ z r c2 _ (fun _ r1 c1 hr hc => ?_) (fun n9 => ?_)
  · refine Eq.trans (congrFun ?_ _) ((tile_apply _ _ 6 (fun d i1 => val12 (win0 arg2 harg2 arg3 harg3 T (kernelRun0_A.sl.v33 (F := Ideal) c arg19) (fun c => absurd h8 c)) _ (score12 (win0 arg2 harg2 arg3 harg3 T (kernelRun0_A.sl.v33 (F := Ideal) c arg19) (fun c => absurd h8 c)) _ (bA12 i arg12 harg12 x0 x1 x2 x3 x6 x7 x8 x9 x10 x11 rfl ht T)) (View.readAt (Elt Ideal) arg1.view (Rect.unit (s := S16) ![12] S1.size inb_S16_S1_12).toLoadRect (harg1.unread x0) (Shape.Idx.first (numel1_S1.symm ▸ Nat.one_pos))) (rd_sink arg1 harg1 x0 12 (by decide) _ _ T.h0) d i1) (fun d i1 => val13 (win0 arg2 harg2 arg3 harg3 T (kernelRun0_A.sl.v33 (F := Ideal) c arg19) (fun c => absurd h8 c)) _ (score13 (win0 arg2 harg2 arg3 harg3 T (kernelRun0_A.sl.v33 (F := Ideal) c arg19) (fun c => absurd h8 c)) _ (bA13 i arg12 harg12 x0 x1 x2 x3 x6 x7 x8 x9 x10 x11 rfl ht T)) (View.readAt (Elt Ideal) arg1.view (Rect.unit (s := S16) ![13] S1.size inb_S16_S1_13).toLoadRect (harg1.unread x0) (Shape.Idx.first (numel1_S1.symm ▸ Nat.one_pos))) (rd_sink arg1 harg1 x0 13 (by decide) _ _ T.h0) d i1) 0 r1 c1).trans ?_)
    · rfl
    rw [yRow, if_neg (by omega), hr, hc]
    have a1 : (256 * (i 0).val + (0 + r1.val)) / 128 = 2 * (i 0).val + 0 := by omega
    have a2 : 1792 + c1.val - 1024 = 128 * 6 + c1.val := by omega
    have a3 : (256 * (i 0).val + (0 + r1.val)) % 128 = r1.val := by omega
    rw [a1, a2, a3]
  refine put3 _ _ _ _ _ 0 1664 (k0_off27_eq i) _ _ z r c2 _ (fun _ r1 c1 hr hc => ?_) (fun n10 => ?_)
  · refine Eq.trans (congrFun ?_ _) ((tile_apply _ _ 5 (fun d i1 => val10 (win0 arg2 harg2 arg3 harg3 T (kernelRun0_A.sl.v33 (F := Ideal) c arg19) (fun c => absurd h8 c)) _ (score10 (win0 arg2 harg2 arg3 harg3 T (kernelRun0_A.sl.v33 (F := Ideal) c arg19) (fun c => absurd h8 c)) _ (bA10 i arg12 harg12 x0 x1 x2 x3 x6 x7 x8 x9 x10 x11 rfl ht T)) (View.readAt (Elt Ideal) arg1.view (Rect.unit (s := S16) ![10] S1.size inb_S16_S1_10).toLoadRect (harg1.unread x0) (Shape.Idx.first (numel1_S1.symm ▸ Nat.one_pos))) (rd_sink arg1 harg1 x0 10 (by decide) _ _ T.h0) d i1) (fun d i1 => val11 (win0 arg2 harg2 arg3 harg3 T (kernelRun0_A.sl.v33 (F := Ideal) c arg19) (fun c => absurd h8 c)) _ (score11 (win0 arg2 harg2 arg3 harg3 T (kernelRun0_A.sl.v33 (F := Ideal) c arg19) (fun c => absurd h8 c)) _ (bA11 i arg12 harg12 x0 x1 x2 x3 x6 x7 x8 x9 x10 x11 rfl ht T)) (View.readAt (Elt Ideal) arg1.view (Rect.unit (s := S16) ![11] S1.size inb_S16_S1_11).toLoadRect (harg1.unread x0) (Shape.Idx.first (numel1_S1.symm ▸ Nat.one_pos))) (rd_sink arg1 harg1 x0 11 (by decide) _ _ T.h0) d i1) 0 r1 c1).trans ?_)
    · rfl
    rw [yRow, if_neg (by omega), hr, hc]
    have a1 : (256 * (i 0).val + (0 + r1.val)) / 128 = 2 * (i 0).val + 0 := by omega
    have a2 : 1664 + c1.val - 1024 = 128 * 5 + c1.val := by omega
    have a3 : (256 * (i 0).val + (0 + r1.val)) % 128 = r1.val := by omega
    rw [a1, a2, a3]
  refine put3 _ _ _ _ _ 0 1536 (k0_off26_eq i) _ _ z r c2 _ (fun _ r1 c1 hr hc => ?_) (fun n11 => ?_)
  · refine Eq.trans (congrFun ?_ _) ((tile_apply _ _ 4 (fun d i1 => val8 (win0 arg2 harg2 arg3 harg3 T (kernelRun0_A.sl.v33 (F := Ideal) c arg19) (fun c => absurd h8 c)) _ (score8 (win0 arg2 harg2 arg3 harg3 T (kernelRun0_A.sl.v33 (F := Ideal) c arg19) (fun c => absurd h8 c)) _ (bA8 i arg12 harg12 x0 x1 x2 x3 x6 x7 x8 x9 x10 x11 rfl ht T)) (View.readAt (Elt Ideal) arg1.view (Rect.unit (s := S16) ![8] S1.size inb_S16_S1_8).toLoadRect (harg1.unread x0) (Shape.Idx.first (numel1_S1.symm ▸ Nat.one_pos))) (rd_sink arg1 harg1 x0 8 (by decide) _ _ T.h0) d i1) (fun d i1 => val9 (win0 arg2 harg2 arg3 harg3 T (kernelRun0_A.sl.v33 (F := Ideal) c arg19) (fun c => absurd h8 c)) _ (score9 (win0 arg2 harg2 arg3 harg3 T (kernelRun0_A.sl.v33 (F := Ideal) c arg19) (fun c => absurd h8 c)) _ (bA9 i arg12 harg12 x0 x1 x2 x3 x6 x7 x8 x9 x10 x11 rfl ht T)) (View.readAt (Elt Ideal) arg1.view (Rect.unit (s := S16) ![9] S1.size inb_S16_S1_9).toLoadRect (harg1.unread x0) (Shape.Idx.first (numel1_S1.symm ▸ Nat.one_pos))) (rd_sink arg1 harg1 x0 9 (by decide) _ _ T.h0) d i1) 0 r1 c1).trans ?_)
    · rfl
    rw [yRow, if_neg (by omega), hr, hc]
    have a1 : (256 * (i 0).val + (0 + r1.val)) / 128 = 2 * (i 0).val + 0 := by omega
    have a2 : 1536 + c1.val - 1024 = 128 * 4 + c1.val := by omega
    have a3 : (256 * (i 0).val + (0 + r1.val)) % 128 = r1.val := by omega
    rw [a1, a2, a3]
  refine put3 _ _ _ _ _ 0 1408 (k0_off25_eq i) _ _ z r c2 _ (fun _ r1 c1 hr hc => ?_) (fun n12 => ?_)
  · refine Eq.trans (congrFun ?_ _) ((tile_apply _ _ 3 (fun d i1 => val6 (win0 arg2 harg2 arg3 harg3 T (kernelRun0_A.sl.v33 (F := Ideal) c arg19) (fun c => absurd h8 c)) _ (score6 (win0 arg2 harg2 arg3 harg3 T (kernelRun0_A.sl.v33 (F := Ideal) c arg19) (fun c => absurd h8 c)) _ (bA6 i arg12 harg12 x0 x1 x2 x3 x6 x7 x8 x9 x10 x11 rfl ht T)) (View.readAt (Elt Ideal) arg1.view (Rect.unit (s := S16) ![6] S1.size inb_S16_S1_6).toLoadRect (harg1.unread x0) (Shape.Idx.first (numel1_S1.symm ▸ Nat.one_pos))) (rd_sink arg1 harg1 x0 6 (by decide) _ _ T.h0) d i1) (fun d i1 => val7 (win0 arg2 harg2 arg3 harg3 T (kernelRun0_A.sl.v33 (F := Ideal) c arg19) (fun c => absurd h8 c)) _ (score7 (win0 arg2 harg2 arg3 harg3 T (kernelRun0_A.sl.v33 (F := Ideal) c arg19) (fun c => absurd h8 c)) _ (bA7 i arg12 harg12 x0 x1 x2 x3 x6 x7 x8 x9 x10 x11 rfl ht T)) (View.readAt (Elt Ideal) arg1.view (Rect.unit (s := S16) ![7] S1.size inb_S16_S1_7).toLoadRect (harg1.unread x0) (Shape.Idx.first (numel1_S1.symm ▸ Nat.one_pos))) (rd_sink arg1 harg1 x0 7 (by decide) _ _ T.h0) d i1) 0 r1 c1).trans ?_)
    · rfl
    rw [yRow, if_neg (by omega), hr, hc]
    have a1 : (256 * (i 0).val + (0 + r1.val)) / 128 = 2 * (i 0).val + 0 := by omega
    have a2 : 1408 + c1.val - 1024 = 128 * 3 + c1.val := by omega
    have a3 : (256 * (i 0).val + (0 + r1.val)) % 128 = r1.val := by omega
    rw [a1, a2, a3]
  refine put3 _ _ _ _ _ 0 1280 (k0_off24_eq i) _ _ z r c2 _ (fun _ r1 c1 hr hc => ?_) (fun n13 => ?_)
  · refine Eq.trans (congrFun ?_ _) ((tile_apply _ _ 2 (fun d i1 => val4 (win0 arg2 harg2 arg3 harg3 T (kernelRun0_A.sl.v33 (F := Ideal) c arg19) (fun c => absurd h8 c)) _ (score4 (win0 arg2 harg2 arg3 harg3 T (kernelRun0_A.sl.v33 (F := Ideal) c arg19) (fun c => absurd h8 c)) _ (bA4 i arg12 harg12 x0 x1 x2 x3 x6 x7 x8 x9 x10 x11 rfl ht T)) (View.readAt (Elt Ideal) arg1.view (Rect.unit (s := S16) ![4] S1.size inb_S16_S1_4).toLoadRect (harg1.unread x0) (Shape.Idx.first (numel1_S1.symm ▸ Nat.one_pos))) (rd_sink arg1 harg1 x0 4 (by decide) _ _ T.h0) d i1) (fun d i1 => val5 (win0 arg2 harg2 arg3 harg3 T (kernelRun0_A.sl.v33 (F := Ideal) c arg19) (fun c => absurd h8 c)) _ (score5 (win0 arg2 harg2 arg3 harg3 T (kernelRun0_A.sl.v33 (F := Ideal) c arg19) (fun c => absurd h8 c)) _ (bA5 i arg12 harg12 x0 x1 x2 x3 x6 x7 x8 x9 x10 x11 rfl ht T)) (View.readAt (Elt Ideal) arg1.view (Rect.unit (s := S16) ![5] S1.size inb_S16_S1_5).toLoadRect (harg1.unread x0) (Shape.Idx.first (numel1_S1.symm ▸ Nat.one_pos))) (rd_sink arg1 harg1 x0 5 (by decide) _ _ T.h0) d i1) 0 r1 c1).trans ?_)
    · rfl
    rw [yRow, if_neg (by omega), hr, hc]
    have a1 : (256 * (i 0).val + (0 + r1.val)) / 128 = 2 * (i 0).val + 0 := by omega
    have a2 : 1280 + c1.val - 1024 = 128 * 2 + c1.val := by omega
    have a3 : (256 * (i 0).val + (0 + r1.val)) % 128 = r1.val := by omega
    rw [a1, a2, a3]
  refine put3 _ _ _ _ _ 0 1152 (k0_off23_eq i) _ _ z r c2 _ (fun _ r1 c1 hr hc => ?_) (fun n14 => ?_)
  · refine Eq.trans (congrFun ?_ _) ((tile_apply _ _ 1 (fun d i1 => val2 (win0 arg2 harg2 arg3 harg3 T (kernelRun0_A.sl.v33 (F := Ideal) c arg19) (fun c => absurd h8 c)) _ (score2 (win0 arg2 harg2 arg3 harg3 T (kernelRun0_A.sl.v33 (F := Ideal) c arg19) (fun c => absurd h8 c)) _ (bA2 i arg12 harg12 x0 x1 x2 x3 x6 x7 x8 x9 x10 x11 rfl ht T)) (View.readAt (Elt Ideal) arg1.view (Rect.unit (s := S16) ![2] S1.size inb_S16_S1_2).toLoadRect (harg1.unread x0) (Shape.Idx.first (numel1_S1.symm ▸ Nat.one_pos))) (rd_sink arg1 harg1 x0 2 (by decide) _ _ T.h0) d i1) (fun d i1 => val3 (win0 arg2 harg2 arg3 harg3 T (kernelRun0_A.sl.v33 (F := Ideal) c arg19) (fun c => absurd h8 c)) _ (score3 (win0 arg2 harg2 arg3 harg3 T (kernelRun0_A.sl.v33 (F := Ideal) c arg19) (fun c => absurd h8 c)) _ (bA3 i arg12 harg12 x0 x1 x2 x3 x6 x7 x8 x9 x10 x11 rfl ht T)) (View.readAt (Elt Ideal) arg1.view (Rect.unit (s := S16) ![3] S1.size inb_S16_S1_3).toLoadRect (harg1.unread x0) (Shape.Idx.first (numel1_S1.symm ▸ Nat.one_pos))) (rd_sink arg1 harg1 x0 3 (by decide) _ _ T.h0) d i1) 0 r1 c1).trans ?_)
    · rfl
    rw [yRow, if_neg (by omega), hr, hc]
    have a1 : (256 * (i 0).val + (0 + r1.val)) / 128 = 2 * (i 0).val + 0 := by omega
    have a2 : 1152 + c1.val - 1024 = 128 * 1 + c1.val := by omega
    have a3 : (256 * (i 0).val + (0 + r1.val)) % 128 = r1.val := by omega
    rw [a1, a2, a3]
  refine put3 _ _ _ _ _ 0 1024 (k0_off22_eq i) _ _ z r c2 _ (fun _ r1 c1 hr hc => ?_) (fun n15 => ?_)
  · refine Eq.trans (congrFun ?_ _) ((tile_apply _ _ 0 (fun d i1 => val0 (win0 arg2 harg2 arg3 harg3 T (kernelRun0_A.sl.v33 (F := Ideal) c arg19) (fun c => absurd h8 c)) _ (score0 (win0 arg2 harg2 arg3 harg3 T (kernelRun0_A.sl.v33 (F := Ideal) c arg19) (fun c => absurd h8 c)) _ (bA0 i arg12 harg12 x0 x1 x2 x3 x6 x7 x8 x9 x10 x11 rfl ht T)) (View.readAt (Elt Ideal) arg1.view (Rect.unit (s := S16) ![0] S1.size inb_S16_S1_0).toLoadRect (harg1.unread x0) (Shape.Idx.first (numel1_S1.symm ▸ Nat.one_pos))) (rd_sink arg1 harg1 x0 0 (by decide) _ _ T.h0) d i1) (fun d i1 => val1 (win0 arg2 harg2 arg3 harg3 T (kernelRun0_A.sl.v33 (F := Ideal) c arg19) (fun c => absurd h8 c)) _ (score1 (win0 arg2 harg2 arg3 harg3 T (kernelRun0_A.sl.v33 (F := Ideal) c arg19) (fun c => absurd h8 c)) _ (bA1 i arg12 harg12 x0 x1 x2 x3 x6 x7 x8 x9 x10 x11 rfl ht T)) (View.readAt (Elt Ideal) arg1.view (Rect.unit (s := S16) ![1] S1.size inb_S16_S1_1).toLoadRect (harg1.unread x0) (Shape.Idx.first (numel1_S1.symm ▸ Nat.one_pos))) (rd_sink arg1 harg1 x0 1 (by decide) _ _ T.h0) d i1) 0 r1 c1).trans ?_)
    · rfl
    rw [yRow, if_neg (by omega), hr, hc]
    have a1 : (256 * (i 0).val + (0 + r1.val)) / 128 = 2 * (i 0).val + 0 := by omega
    have a2 : 1024 + c1.val - 1024 = 128 * 0 + c1.val := by omega
    have a3 : (256 * (i 0).val + (0 + r1.val)) % 128 = r1.val := by omega
    rw [a1, a2, a3]
  refine put3 _ _ _ _ _ 0 768 (k0_off21_eq i) _ _ z r c2 _ (fun _ r1 c1 hr hc => ?_) (fun n16 => ?_)
  · refine Eq.trans (congrFun ?_ _) ((fY_apply (head3 arg2 harg2 arg4 harg4 arg7 harg7 arg8 harg8 arg10 harg10 T) _ (fStack_apply (head3 arg2 harg2 arg4 harg4 arg7 harg7 arg8 harg8 arg10 harg10 T) (by omega) _ (st0_apply 3 _ (v2_eq i _ rfl ht) (kernelRun0_A.sl.v698 (F := Ideal) c i arg2 harg2 arg4 harg4 arg7 harg7 arg8 harg8 arg10 harg10 arg18 x1 x3 x6 x7 x9) (fun c => absurd h8 c))) _ (fA_apply (head3 arg2 harg2 arg4 harg4 arg7 harg7 arg8 harg8 arg10 harg10 T) _ hpm) (View.readAt (Elt Ideal) arg2.view (Rect.unit (s := S256x4096) ![0, 1792] S256x256.size inb_S256x4096_S256x256_0_1792).toLoadRect (harg2.unread x1)) (rgate3 arg2 harg2 T) (View.readAt (Elt Ideal) arg9.view (Rect.unit (s := S1x256) ![0, 0] S1x256.size inb_S1x256_S1x256_0_0).toLoadRect (harg9.unread x8)) hg 0 r1 c1).trans ?_)
    · rfl
    rw [yRow, if_pos (by omega), hr, hc]
    have a1 : (256 * (i 0).val + (0 + r1.val)) / 64 = 4 * (i 0).val + r1.val / 64 := by omega
    have a2 : (768 + c1.val) / 256 = 3 := by omega
    have a3 : (256 * (i 0).val + (0 + r1.val)) % 64 = r1.val % 64 := by omega
    have a4 : (768 + c1.val) % 256 = c1.val := by omega
    rw [a1, a2, a3, a4]
  refine put3 _ _ _ _ _ 0 512 (k0_off20_eq i) _ _ z r c2 _ (fun _ r1 c1 hr hc => ?_) (fun n17 => ?_)
  · refine Eq.trans (congrFun ?_ _) ((fY_apply (head2 arg2 harg2 arg4 harg4 arg7 harg7 arg8 harg8 arg10 harg10 T) _ (fStack_apply (head2 arg2 harg2 arg4 harg4 arg7 harg7 arg8 harg8 arg10 harg10 T) (by omega) _ (st0_apply 2 _ (v2_eq i _ rfl ht) (kernelRun0_A.sl.v578 (F := Ideal) c i arg2 harg2 arg4 harg4 arg7 harg7 arg8 harg8 arg10 harg10 arg18 x1 x3 x6 x7 x9) (fun c => absurd h8 c))) _ (fA_apply (head2 arg2 harg2 arg4 harg4 arg7 harg7 arg8 harg8 arg10 harg10 T) _ hpm) (View.readAt (Elt Ideal) arg2.view (Rect.unit (s := S256x4096) ![0, 1536] S256x256.size inb_S256x4096_S256x256_0_1536).toLoadRect (harg2.unread x1)) (rgate2 arg2 harg2 T) (View.readAt (Elt Ideal) arg9.view (Rect.unit (s := S1x256) ![0, 0] S1x256.size inb_S1x256_S1x256_0_0).toLoadRect (harg9.unread x8)) hg 0 r1 c1).trans ?_)
    · rfl
    rw [yRow, if_pos (by omega), hr, hc]
    have a1 : (256 * (i 0).val + (0 + r1.val)) / 64 = 4 * (i 0).val + r1.val / 64 := by omega
    have a2 : (512 + c1.val) / 256 = 2 := by omega
    have a3 : (256 * (i 0).val + (0 + r1.val)) % 64 = r1.val % 64 := by omega
    have a4 : (512 + c1.val) % 256 = c1.val := by omega
    rw [a1, a2, a3, a4]
  refine put3 _ _ _ _ _ 0 256 (k0_off19_eq i) _ _ z r c2 _ (fun _ r1 c1 hr hc => ?_) (fun n18 => ?_)
  · refine Eq.trans (congrFun ?_ _) ((fY_apply (head1 arg2 harg2 arg4 harg4 arg7 harg7 arg8 harg8 arg10 harg10 T) _ (fStack_apply (head1 arg2 harg2 arg4 harg4 arg7 harg7 arg8 harg8 arg10 harg10 T) (by omega) _ (st0_apply 1 _ (v2_eq i _ rfl ht) (kernelRun0_A.sl.v458 (F := Ideal) c i arg2 harg2 arg4 harg4 arg7 harg7 arg8 harg8 arg10 harg10 arg18 x1 x3 x6 x7 x9) (fun c => absurd h8 c))) _ (fA_apply (head1 arg2 harg2 arg4 harg4 arg7 harg7 arg8 harg8 arg10 harg10 T) _ hpm) (View.readAt (Elt Ideal) arg2.view (Rect.unit (s := S256x4096) ![0, 1280] S256x256.size inb_S256x4096_S256x256_0_1280).toLoadRect (harg2.unread x1)) (rgate1 arg2 harg2 T) (View.readAt (Elt Ideal) arg9.view (Rect.unit (s := S1x256) ![0, 0] S1x256.size inb_S1x256_S1x256_0_0).toLoadRect (harg9.unread x8)) hg 0 r1 c1).trans ?_)
    · rfl
    rw [yRow, if_pos (by omega), hr, hc]
    have a1 : (256 * (i 0).val + (0 + r1.val)) / 64 = 4 * (i 0).val + r1.val / 64 := by omega
    have a2 : (256 + c1.val) / 256 = 1 := by omega
    have a3 : (256 * (i 0).val + (0 + r1.val)) % 64 = r1.val % 64 := by omega
    have a4 : (256 + c1.val) % 256 = c1.val := by omega
    rw [a1, a2, a3, a4]
  refine put3 _ _ _ _ _ 0 0 (k0_off18_eq i) _ _ z r c2 _ (fun _ r1 c1 hr hc => ?_) (fun n19 => ?_)
  · refine Eq.trans (congrFun ?_ _) ((fY_apply (head0 arg2 harg2 arg4 harg4 arg7 harg7 arg8 harg8 arg10 harg10 T) _ (fStack_apply (head0 arg2 harg2 arg4 harg4 arg7 harg7 arg8 harg8 arg10 harg10 T) (by omega) _ (st0_apply 0 _ (v2_eq i _ rfl ht) (kernelRun0_A.sl.v338 (F := Ideal) c arg18) (fun c => absurd h8 c))) _ (fA_apply (head0 arg2 harg2 arg4 harg4 arg7 harg7 arg8 harg8 arg10 harg10 T) _ hpm) (View.readAt (Elt Ideal) arg2.view (Rect.unit (s := S256x4096) ![0, 1024] S256x256.size inb_S256x4096_S256x256_0_1024).toLoadRect (harg2.unread x1)) (rgate0 arg2 harg2 T) (View.readAt (Elt Ideal) arg9.view (Rect.unit (s := S1x256) ![0, 0] S1x256.size inb_S1x256_S1x256_0_0).toLoadRect (harg9.unread x8)) hg 0 r1 c1).trans ?_)
    · rfl
    rw [yRow, if_pos (by omega), hr, hc]
    have a1 : (256 * (i 0).val + (0 + r1.val)) / 64 = 4 * (i 0).val + r1.val / 64 := by omega
    have a2 : (0 + c1.val) / 256 = 0 := by omega
    have a3 : (256 * (i 0).val + (0 + r1.val)) % 64 = r1.val % 64 := by omega
    have a4 : (0 + c1.val) % 256 = c1.val := by omega
    rw [a1, a2, a3, a4]
  exfalso
  omega

set_option maxHeartbeats 4000000 in
theorem st_A (hc0 : cond0_0 i) (T : Tile I t x0 x1 x2 x3 x6 x7 x8 x9 x10 x11) (hi : (i 0).val = t) (ht : t < 128)
  (h8 : t % 8 = 0)
  (h : Fin 4) (a : Fin 256) (d : Fin 128) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 (ix3 h a d) = Sn I (4 * t + 3) h.val a.val d.val := by
  unfold sout0_A_1 kernelRun0_A
  dsimp only
  subst hi
  refine put3 _ _ _ _ 3 0 0 rfl _ _ h a d _ (fun hh r1 c1 hr hc => ?_) (fun n0 => ?_)
  · refine Eq.trans (congrFun ?_ _) ((fSt4_apply (head3 arg2 harg2 arg4 harg4 arg7 harg7 arg8 harg8 arg10 harg10 T) (by omega) _ (st0_apply 3 _ (v2_eq i _ rfl ht) (kernelRun0_A.sl.v698 (F := Ideal) c i arg2 harg2 arg4 harg4 arg7 harg7 arg8 harg8 arg10 harg10 arg18 x1 x3 x6 x7 x9) (fun c => absurd h8 c)) 0 r1 c1).trans ?_)
    · rfl
    rw [hh, hr, hc, Nat.zero_add, Nat.zero_add]
  refine put3 _ _ _ _ 2 0 0 rfl _ _ h a d _ (fun hh r1 c1 hr hc => ?_) (fun n1 => ?_)
  · refine Eq.trans (congrFun ?_ _) ((fSt4_apply (head2 arg2 harg2 arg4 harg4 arg7 harg7 arg8 harg8 arg10 harg10 T) (by omega) _ (st0_apply 2 _ (v2_eq i _ rfl ht) (kernelRun0_A.sl.v578 (F := Ideal) c i arg2 harg2 arg4 harg4 arg7 harg7 arg8 harg8 arg10 harg10 arg18 x1 x3 x6 x7 x9) (fun c => absurd h8 c)) 0 r1 c1).trans ?_)
    · rfl
    rw [hh, hr, hc, Nat.zero_add, Nat.zero_add]
  refine put3 _ _ _ _ 1 0 0 rfl _ _ h a d _ (fun hh r1 c1 hr hc => ?_) (fun n2 => ?_)
  · refine Eq.trans (congrFun ?_ _) ((fSt4_apply (head1 arg2 harg2 arg4 harg4 arg7 harg7 arg8 harg8 arg10 harg10 T) (by omega) _ (st0_apply 1 _ (v2_eq i _ rfl ht) (kernelRun0_A.sl.v458 (F := Ideal) c i arg2 harg2 arg4 harg4 arg7 harg7 arg8 harg8 arg10 harg10 arg18 x1 x3 x6 x7 x9) (fun c => absurd h8 c)) 0 r1 c1).trans ?_)
    · rfl
    rw [hh, hr, hc, Nat.zero_add, Nat.zero_add]
  refine put3 _ _ _ _ 0 0 0 rfl _ _ h a d _ (fun hh r1 c1 hr hc => ?_) (fun n3 => ?_)
  · refine Eq.trans (congrFun ?_ _) ((fSt4_apply (head0 arg2 harg2 arg4 harg4 arg7 harg7 arg8 harg8 arg10 harg10 T) (by omega) _ (st0_apply 0 _ (v2_eq i _ rfl ht) (kernelRun0_A.sl.v338 (F := Ideal) c arg18) (fun c => absurd h8 c)) 0 r1 c1).trans ?_)
    · rfl
    rw [hh, hr, hc, Nat.zero_add, Nat.zero_add]
  exfalso
  omega

theorem kvp_A (hc0 : cond0_0 i) (T : Tile I t x0 x1 x2 x3 x6 x7 x8 x9 x10 x11) (hi : (i 0).val = t) (ht : t < 128)
  (h8 : t % 8 = 0)
  (j : Fin 128) (x : Fin 512) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 (ix2 j x) = I.P (256 * t + 128 + j.val) (8192 + x.val) := by
  unfold sout0_A_2 kernelRun0_A
  dsimp only
  refine put2 _ _ _ _ 0 0 rfl _ _ j x _ (fun r1 c1 hr hc => ?_) (fun n0 => ?_)
  · have e : k0_pay9 (View.readAt (Elt Ideal) arg3.view (Rect.unit (s := S256x512) ![128, 0] S128x512.size inb_S256x512_S128x512_128_0).toLoadRect (harg3.unread x2)) (ix2 r1 c1) = I.P (256 * t + 128 + j.val) (8192 + x.val) := by
      pointwise [k0_pay9]
      refine (rd2 arg3 harg3 x2 _ inb_S256x512_S128x512_128_0 128 0 rfl r1 c1 (by omega) (by omega)).trans ((T.h2 _ _).trans ?_)
      exact congrArg₂ I.P (by show 256 * t + (128 + r1.val) = _; omega) (by show 8192 + (0 + c1.val) = _; omega)
    refine Eq.trans (congrFun ?_ _) e
    rfl
  exfalso
  omega

end Cert.KernelIdeal.Val

end
-- ==== Proof.MixOut.lean ====
/-
  The mixing call's merge: the output block of the previous tile.
-/
module

public import proofs.«01_k».proof.Proof.Gen.KernelIdeal.Frame
public import Idealize.ShloMosaic.Lib.Pipeline.ReadBack
public import Idealize.ShloMosaic.Lib.Pipeline.Value
public import Idealize.ShloMosaic.Lib.Claim
public import proofs.«01_k».proof.Proof.MixTile

@[expose] public section

set_option maxRecDepth 16384

noncomputable section

namespace Cert.KernelIdeal.Val

open Cert.KernelIdeal Cert.KernelIdeal.Gen Idealize.ShloMosaic Idealize.ShloMosaic.TcCoe Cert.Mixm

variable (c : Dev nD) (i : grid0.Coords) (arg1 : Memref sig .tc .smem S16 .f32) (harg1 : arg1.IsWhole) (arg2 : Memref sig .tc .vmem S256x4096 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S256x4096 .bf16) (harg5 : arg5.IsWhole) (arg6 : Memref sig .tc .vmem S256x2048 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x128 .bf16) (harg10 : arg10.IsWhole) (arg11 : Memref sig .tc .vmem S7x64x64 .f32) (harg11 : arg11.IsWhole) (arg12 : Memref sig .tc .vmem S2x16x256x128 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S2048x2048 .bf16) (harg15 : arg15.IsWhole) (arg16 : Memref sig .tc .vmem S256x2048 .f32) (harg16 : arg16.IsWhole) (arg17 : Memref sig .tc .vmem S2x256x2048 .bf16) (harg17 : arg17.IsWhole) (arg18 : Memref sig .tc .vmem S4x256x128 .f32) (harg18 : arg18.IsWhole) (arg19 : Memref sig .tc .vmem S128x512 .bf16) (harg19 : arg19.IsWhole)
    (x0 : Vec Ideal S16 .f32) (x1 : Vec Ideal S256x4096 .bf16) (x2 : Vec Ideal S256x512 .bf16) (x3 : Vec Ideal S256x128 .f32) (x4 : Vec Ideal S256x4096 .bf16) (x5 : Vec Ideal S256x2048 .f32) (x6 : Vec Ideal S128x512 .bf16) (x7 : Vec Ideal S1x512 .f32) (x8 : Vec Ideal S1x256 .f32) (x9 : Vec Ideal S512x128 .bf16) (x10 : Vec Ideal S7x64x64 .f32) (x11 : Vec Ideal S2x16x256x128 .f32) (x12 : Vec Ideal S1024x2048 .bf16) (x13 : Vec Ideal S1024x2048 .bf16) (x14 : Vec Ideal S2048x2048 .bf16) (xs0 : Vec Ideal S2x256x2048 .bf16) (xs1 : Vec Ideal S4x256x128 .f32) (xs2 : Vec Ideal S128x512 .bf16)
  {I : Inp} {t : Nat}

theorem mj_apply (R : Nat) (j : Nat) (y : FVec Ideal S256x2048 .bf16) (hy : ∀ (r : Fin 256) (c : Fin 2048), y (ix2 r c) = yRow I (R + r.val) c.val)
    (wa wb : Vec Ideal S1024x256 .bf16) (ga gb : Vec Ideal S256x256 .bf16) (hwa : ∀ (x : Fin 1024) (k : Fin 256), wa (ix2 x k) = I.wa x.val (256 * j + k.val))
    (hwb : ∀ (x : Fin 1024) (k : Fin 256), wb (ix2 x k) = I.wb x.val (256 * j + k.val)) (hga : ∀ r k : Fin 256, ga (ix2 r k) = I.P (R + r.val) (256 * j + k.val))
    (hgb : ∀ r k : Fin 256, gb (ix2 r k) = I.P (R + r.val) (2048 + (256 * j + k.val))) (r k : Fin 256) :
    k0_pay67 y (k0_pay13 y wa) wb ga gb (ix2 r k) = merged I (R + r.val) (256 * j + k.val) := by
  pointwise [k0_pay67, k0_pay13]
  rw [hga, hgb]
  unfold merged
  congr 1
  · congr 1
    refine Finset.sum_congr rfl fun x _ => ?_
    rw [hwa, hy]
  · congr 1
    refine Finset.sum_congr rfl fun x _ => ?_
    rw [hwb, hy]

theorem cat_apply (R : Nat) (m0 m1 m2 m3 m4 m5 m6 m7 : FVec Ideal S256x256 .bf16)
    (h0 : ∀ r k : Fin 256, m0 (ix2 r k) = merged I (R + r.val) (256 * 0 + k.val))
    (h1 : ∀ r k : Fin 256, m1 (ix2 r k) = merged I (R + r.val) (256 * 1 + k.val))
    (h2 : ∀ r k : Fin 256, m2 (ix2 r k) = merged I (R + r.val) (256 * 2 + k.val))
    (h3 : ∀ r k : Fin 256, m3 (ix2 r k) = merged I (R + r.val) (256 * 3 + k.val))
    (h4 : ∀ r k : Fin 256, m4 (ix2 r k) = merged I (R + r.val) (256 * 4 + k.val))
    (h5 : ∀ r k : Fin 256, m5 (ix2 r k) = merged I (R + r.val) (256 * 5 + k.val))
    (h6 : ∀ r k : Fin 256, m6 (ix2 r k) = merged I (R + r.val) (256 * 6 + k.val))
    (h7 : ∀ r k : Fin 256, m7 (ix2 r k) = merged I (R + r.val) (256 * 7 + k.val)) (r : Fin 256) (k : Fin 2048) :
    (concatenate S256x2048 1 [⟨S256x256, m0⟩, ⟨S256x256, m1⟩, ⟨S256x256, m2⟩, ⟨S256x256, m3⟩, ⟨S256x256, m4⟩, ⟨S256x256, m5⟩, ⟨S256x256, m6⟩, ⟨S256x256, m7⟩] concatenates_S256x256_S256x256_S256x256_S256x256_S256x256_S256x256_S256x256_S256x256_S256x2048_d1) (ix2 r k) = merged I (R + r.val) k.val := by
  pointwise []
  by_cases c0 : k.val < 256
  · first | rw [dif_pos c0] | rw [dif_pos (by omega)]
    rw [h0]
    congr 1
    show 256 * 0 + (k.val) = k.val
    omega
  rw [dif_neg (by omega)]
  by_cases c1 : k.val < 512
  · (try simp only [dif_neg c0])
    first | rw [dif_pos c1] | rw [dif_pos (by omega)]
    rw [h1]
    congr 1
    show 256 * 1 + (k.val - 256) = k.val
    omega
  rw [dif_neg (by omega)]
  by_cases c2 : k.val < 768
  · (try simp only [dif_neg c1])
    first | rw [dif_pos c2] | rw [dif_pos (by omega)]
    rw [h2]
    congr 1
    show 256 * 2 + (k.val - 256 - 256) = k.val
    omega
  rw [dif_neg (by omega)]
  by_cases c3 : k.val < 1024
  · (try simp only [dif_neg c2])
    first | rw [dif_pos c3] | rw [dif_pos (by omega)]
    rw [h3]
    congr 1
    show 256 * 3 + (k.val - 256 - 256 - 256) = k.val
    omega
  rw [dif_neg (by omega)]
  by_cases c4 : k.val < 1280
  · (try simp only [dif_neg c3])
    first | rw [dif_pos c4] | rw [dif_pos (by omega)]
    rw [h4]
    congr 1
    show 256 * 4 + (k.val - 256 - 256 - 256 - 256) = k.val
    omega
  rw [dif_neg (by omega)]
  by_cases c5 : k.val < 1536
  · (try simp only [dif_neg c4])
    first | rw [dif_pos c5] | rw [dif_pos (by omega)]
    rw [h5]
    congr 1
    show 256 * 5 + (k.val - 256 - 256 - 256 - 256 - 256) = k.val
    omega
  rw [dif_neg (by omega)]
  by_cases c6 : k.val < 1792
  · (try simp only [dif_neg c5])
    first | rw [dif_pos c6] | rw [dif_pos (by omega)]
    rw [h6]
    congr 1
    show 256 * 6 + (k.val - 256 - 256 - 256 - 256 - 256 - 256) = k.val
    omega
  rw [dif_neg (by omega)]
  rw [h7]
  congr 1
  show 256 * 7 + (k.val - 256 - 256 - 256 - 256 - 256 - 256 - 256) = k.val
  omega

theorem chunk_apply (R : Nat) (j : Nat) (C : FVec Ideal S256x2048 .bf16) (hC : ∀ (r : Fin 256) (k : Fin 2048), C (ix2 r k) = merged I (R + r.val) k.val) (xl : Vec Ideal S256x256 .f32)
    (hx : ∀ r k : Fin 256, xl (ix2 r k) = I.X (R + r.val) (256 * j + k.val)) (wo : Vec Ideal S2048x256 .bf16) (hwo : ∀ (k : Fin 2048) (c : Fin 256), wo (ix2 k c) = I.wo k.val (256 * j + c.val)) (r c : Fin 256) :
    k0_pay1 C xl wo (ix2 r c) = out I (R + r.val) (256 * j + c.val) := by
  pointwise [k0_pay1]
  rw [hx]
  unfold out
  congr 1
  refine Finset.sum_congr rfl fun x _ => ?_
  rw [hwo, hC]

set_option maxHeartbeats 4000000 in
theorem out_B (hc0 : ¬cond0_0 i) (hi : (i 0).val = t) (ht : 1 ≤ t) (hy : ∀ (z : Fin 2), z.val = 1 - t % 2 → ∀ (r : Fin 256) (c : Fin 2048), xs0 (ix3 z r c) = yRow I (256 * (t - 1) + r.val) c.val)
  (h4 : ∀ (r : Fin 256) (c : Fin 4096), x4 (ix2 r c) = I.P (256 * (t - 1) + r.val) c.val) (h5 : ∀ (r : Fin 256) (c : Fin 2048), x5 (ix2 r c) = I.X (256 * (t - 1) + r.val) c.val)
  (h12 : ∀ (x : Fin 1024) (k : Fin 2048), x12 (ix2 x k) = I.wa x.val k.val) (h13 : ∀ (x : Fin 1024) (k : Fin 2048), x13 (ix2 x k) = I.wb x.val k.val)
  (h14 : ∀ (x : Fin 2048) (k : Fin 2048), x14 (ix2 x k) = I.wo x.val k.val) (r : Fin 256) (c2 : Fin 2048) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 xs2 (ix2 r c2) = out I (256 * (t - 1) + r.val) c2.val := by
  unfold out0_B_15 kernelRun0_B
  dsimp only
  subst hi
  have hv : ∀ (r : Fin 256) (c : Fin 2048), (k0_pay5 (View.readAt (Elt Ideal) arg17.view (Rect.unit (s := S2x256x2048) (k0_off1 i) S1x256x2048.size (k0_off1_inb i)).toLoadRect (harg17.unread xs0))) (ix2 r c) = yRow I (256 * ((i 0).val - 1) + r.val) c.val := fun r c => by
    pointwise [k0_pay5]
    refine (rd3 arg17 harg17 xs0 _ _ (1 - (i 0).val % 2) 0 0 (k0_off1_eq i) 0 r c (by simp only [Fin.val_zero]; omega) (by omega) (by omega)).trans ((hy _ rfl _ _).trans ?_)
    simp only [Nat.zero_add]
  have m0 := mj_apply (I := I) (256 * ((i 0).val - 1)) 0 (k0_pay5 (View.readAt (Elt Ideal) arg17.view (Rect.unit (s := S2x256x2048) (k0_off1 i) S1x256x2048.size (k0_off1_inb i)).toLoadRect (harg17.unread xs0))) hv (View.readAt (Elt Ideal) arg13.view (Rect.unit (s := S1024x2048) ![0, 0] S1024x256.size inb_S1024x2048_S1024x256_0_0).toLoadRect (harg13.unread x12)) (View.readAt (Elt Ideal) arg14.view (Rect.unit (s := S1024x2048) ![0, 0] S1024x256.size inb_S1024x2048_S1024x256_0_0).toLoadRect (harg14.unread x13)) (View.readAt (Elt Ideal) arg5.view (Rect.unit (s := S256x4096) ![0, 0] S256x256.size inb_S256x4096_S256x256_0_0).toLoadRect (harg5.unread x4)) (View.readAt (Elt Ideal) arg5.view (Rect.unit (s := S256x4096) ![0, 2048] S256x256.size inb_S256x4096_S256x256_0_2048).toLoadRect (harg5.unread x4))
    (fun x k => (rd2 arg13 harg13 x12 _ inb_S1024x2048_S1024x256_0_0 0 0 rfl x k (by omega) (by omega)).trans ((h12 _ _).trans (by simp only [Nat.zero_add, Nat.mul_zero])))
    (fun x k => (rd2 arg14 harg14 x13 _ inb_S1024x2048_S1024x256_0_0 0 0 rfl x k (by omega) (by omega)).trans ((h13 _ _).trans (by simp only [Nat.zero_add, Nat.mul_zero])))
    (fun x k => (rd2 arg5 harg5 x4 _ inb_S256x4096_S256x256_0_0 0 0 rfl x k (by omega) (by omega)).trans ((h4 _ _).trans (by simp only [Nat.zero_add, Nat.mul_zero])))
    (fun x k => (rd2 arg5 harg5 x4 _ inb_S256x4096_S256x256_0_2048 0 2048 rfl x k (by omega) (by omega)).trans ((h4 _ _).trans (congrArg₂ I.P (by show _ + (0 + x.val) = _; omega) (by show 2048 + k.val = _; omega))))
  have m1 := mj_apply (I := I) (256 * ((i 0).val - 1)) 1 (k0_pay5 (View.readAt (Elt Ideal) arg17.view (Rect.unit (s := S2x256x2048) (k0_off1 i) S1x256x2048.size (k0_off1_inb i)).toLoadRect (harg17.unread xs0))) hv (View.readAt (Elt Ideal) arg13.view (Rect.unit (s := S1024x2048) ![0, 256] S1024x256.size inb_S1024x2048_S1024x256_0_256).toLoadRect (harg13.unread x12)) (View.readAt (Elt Ideal) arg14.view (Rect.unit (s := S1024x2048) ![0, 256] S1024x256.size inb_S1024x2048_S1024x256_0_256).toLoadRect (harg14.unread x13)) (View.readAt (Elt Ideal) arg5.view (Rect.unit (s := S256x4096) ![0, 256] S256x256.size inb_S256x4096_S256x256_0_256).toLoadRect (harg5.unread x4)) (View.readAt (Elt Ideal) arg5.view (Rect.unit (s := S256x4096) ![0, 2304] S256x256.size inb_S256x4096_S256x256_0_2304).toLoadRect (harg5.unread x4))
    (fun x k => (rd2 arg13 harg13 x12 _ inb_S1024x2048_S1024x256_0_256 0 256 rfl x k (by omega) (by omega)).trans ((h12 _ _).trans (by simp only [Nat.zero_add, Nat.mul_zero])))
    (fun x k => (rd2 arg14 harg14 x13 _ inb_S1024x2048_S1024x256_0_256 0 256 rfl x k (by omega) (by omega)).trans ((h13 _ _).trans (by simp only [Nat.zero_add, Nat.mul_zero])))
    (fun x k => (rd2 arg5 harg5 x4 _ inb_S256x4096_S256x256_0_256 0 256 rfl x k (by omega) (by omega)).trans ((h4 _ _).trans (by simp only [Nat.zero_add, Nat.mul_zero])))
    (fun x k => (rd2 arg5 harg5 x4 _ inb_S256x4096_S256x256_0_2304 0 2304 rfl x k (by omega) (by omega)).trans ((h4 _ _).trans (congrArg₂ I.P (by show _ + (0 + x.val) = _; omega) (by show 2304 + k.val = _; omega))))
  have m2 := mj_apply (I := I) (256 * ((i 0).val - 1)) 2 (k0_pay5 (View.readAt (Elt Ideal) arg17.view (Rect.unit (s := S2x256x2048) (k0_off1 i) S1x256x2048.size (k0_off1_inb i)).toLoadRect (harg17.unread xs0))) hv (View.readAt (Elt Ideal) arg13.view (Rect.unit (s := S1024x2048) ![0, 512] S1024x256.size inb_S1024x2048_S1024x256_0_512).toLoadRect (harg13.unread x12)) (View.readAt (Elt Ideal) arg14.view (Rect.unit (s := S1024x2048) ![0, 512] S1024x256.size inb_S1024x2048_S1024x256_0_512).toLoadRect (harg14.unread x13)) (View.readAt (Elt Ideal) arg5.view (Rect.unit (s := S256x4096) ![0, 512] S256x256.size inb_S256x4096_S256x256_0_512).toLoadRect (harg5.unread x4)) (View.readAt (Elt Ideal) arg5.view (Rect.unit (s := S256x4096) ![0, 2560] S256x256.size inb_S256x4096_S256x256_0_2560).toLoadRect (harg5.unread x4))
    (fun x k => (rd2 arg13 harg13 x12 _ inb_S1024x2048_S1024x256_0_512 0 512 rfl x k (by omega) (by omega)).trans ((h12 _ _).trans (by simp only [Nat.zero_add, Nat.mul_zero])))
    (fun x k => (rd2 arg14 harg14 x13 _ inb_S1024x2048_S1024x256_0_512 0 512 rfl x k (by omega) (by omega)).trans ((h13 _ _).trans (by simp only [Nat.zero_add, Nat.mul_zero])))
    (fun x k => (rd2 arg5 harg5 x4 _ inb_S256x4096_S256x256_0_512 0 512 rfl x k (by omega) (by omega)).trans ((h4 _ _).trans (by simp only [Nat.zero_add, Nat.mul_zero])))
    (fun x k => (rd2 arg5 harg5 x4 _ inb_S256x4096_S256x256_0_2560 0 2560 rfl x k (by omega) (by omega)).trans ((h4 _ _).trans (congrArg₂ I.P (by show _ + (0 + x.val) = _; omega) (by show 2560 + k.val = _; omega))))
  have m3 := mj_apply (I := I) (256 * ((i 0).val - 1)) 3 (k0_pay5 (View.readAt (Elt Ideal) arg17.view (Rect.unit (s := S2x256x2048) (k0_off1 i) S1x256x2048.size (k0_off1_inb i)).toLoadRect (harg17.unread xs0))) hv (View.readAt (Elt Ideal) arg13.view (Rect.unit (s := S1024x2048) ![0, 768] S1024x256.size inb_S1024x2048_S1024x256_0_768).toLoadRect (harg13.unread x12)) (View.readAt (Elt Ideal) arg14.view (Rect.unit (s := S1024x2048) ![0, 768] S1024x256.size inb_S1024x2048_S1024x256_0_768).toLoadRect (harg14.unread x13)) (View.readAt (Elt Ideal) arg5.view (Rect.unit (s := S256x4096) ![0, 768] S256x256.size inb_S256x4096_S256x256_0_768).toLoadRect (harg5.unread x4)) (View.readAt (Elt Ideal) arg5.view (Rect.unit (s := S256x4096) ![0, 2816] S256x256.size inb_S256x4096_S256x256_0_2816).toLoadRect (harg5.unread x4))
    (fun x k => (rd2 arg13 harg13 x12 _ inb_S1024x2048_S1024x256_0_768 0 768 rfl x k (by omega) (by omega)).trans ((h12 _ _).trans (by simp only [Nat.zero_add, Nat.mul_zero])))
    (fun x k => (rd2 arg14 harg14 x13 _ inb_S1024x2048_S1024x256_0_768 0 768 rfl x k (by omega) (by omega)).trans ((h13 _ _).trans (by simp only [Nat.zero_add, Nat.mul_zero])))
    (fun x k => (rd2 arg5 harg5 x4 _ inb_S256x4096_S256x256_0_768 0 768 rfl x k (by omega) (by omega)).trans ((h4 _ _).trans (by simp only [Nat.zero_add, Nat.mul_zero])))
    (fun x k => (rd2 arg5 harg5 x4 _ inb_S256x4096_S256x256_0_2816 0 2816 rfl x k (by omega) (by omega)).trans ((h4 _ _).trans (congrArg₂ I.P (by show _ + (0 + x.val) = _; omega) (by show 2816 + k.val = _; omega))))
  have m4 := mj_apply (I := I) (256 * ((i 0).val - 1)) 4 (k0_pay5 (View.readAt (Elt Ideal) arg17.view (Rect.unit (s := S2x256x2048) (k0_off1 i) S1x256x2048.size (k0_off1_inb i)).toLoadRect (harg17.unread xs0))) hv (View.readAt (Elt Ideal) arg13.view (Rect.unit (s := S1024x2048) ![0, 1024] S1024x256.size inb_S1024x2048_S1024x256_0_1024).toLoadRect (harg13.unread x12)) (View.readAt (Elt Ideal) arg14.view (Rect.unit (s := S1024x2048) ![0, 1024] S1024x256.size inb_S1024x2048_S1024x256_0_1024).toLoadRect (harg14.unread x13)) (View.readAt (Elt Ideal) arg5.view (Rect.unit (s := S256x4096) ![0, 1024] S256x256.size inb_S256x4096_S256x256_0_1024).toLoadRect (harg5.unread x4)) (View.readAt (Elt Ideal) arg5.view (Rect.unit (s := S256x4096) ![0, 3072] S256x256.size inb_S256x4096_S256x256_0_3072).toLoadRect (harg5.unread x4))
    (fun x k => (rd2 arg13 harg13 x12 _ inb_S1024x2048_S1024x256_0_1024 0 1024 rfl x k (by omega) (by omega)).trans ((h12 _ _).trans (by simp only [Nat.zero_add, Nat.mul_zero])))
    (fun x k => (rd2 arg14 harg14 x13 _ inb_S1024x2048_S1024x256_0_1024 0 1024 rfl x k (by omega) (by omega)).trans ((h13 _ _).trans (by simp only [Nat.zero_add, Nat.mul_zero])))
    (fun x k => (rd2 arg5 harg5 x4 _ inb_S256x4096_S256x256_0_1024 0 1024 rfl x k (by omega) (by omega)).trans ((h4 _ _).trans (by simp only [Nat.zero_add, Nat.mul_zero])))
    (fun x k => (rd2 arg5 harg5 x4 _ inb_S256x4096_S256x256_0_3072 0 3072 rfl x k (by omega) (by omega)).trans ((h4 _ _).trans (congrArg₂ I.P (by show _ + (0 + x.val) = _; omega) (by show 3072 + k.val = _; omega))))
  have m5 := mj_apply (I := I) (256 * ((i 0).val - 1)) 5 (k0_pay5 (View.readAt (Elt Ideal) arg17.view (Rect.unit (s := S2x256x2048) (k0_off1 i) S1x256x2048.size (k0_off1_inb i)).toLoadRect (harg17.unread xs0))) hv (View.readAt (Elt Ideal) arg13.view (Rect.unit (s := S1024x2048) ![0, 1280] S1024x256.size inb_S1024x2048_S1024x256_0_1280).toLoadRect (harg13.unread x12)) (View.readAt (Elt Ideal) arg14.view (Rect.unit (s := S1024x2048) ![0, 1280] S1024x256.size inb_S1024x2048_S1024x256_0_1280).toLoadRect (harg14.unread x13)) (View.readAt (Elt Ideal) arg5.view (Rect.unit (s := S256x4096) ![0, 1280] S256x256.size inb_S256x4096_S256x256_0_1280).toLoadRect (harg5.unread x4)) (View.readAt (Elt Ideal) arg5.view (Rect.unit (s := S256x4096) ![0, 3328] S256x256.size inb_S256x4096_S256x256_0_3328).toLoadRect (harg5.unread x4))
    (fun x k => (rd2 arg13 harg13 x12 _ inb_S1024x2048_S1024x256_0_1280 0 1280 rfl x k (by omega) (by omega)).trans ((h12 _ _).trans (by simp only [Nat.zero_add, Nat.mul_zero])))
    (fun x k => (rd2 arg14 harg14 x13 _ inb_S1024x2048_S1024x256_0_1280 0 1280 rfl x k (by omega) (by omega)).trans ((h13 _ _).trans (by simp only [Nat.zero_add, Nat.mul_zero])))
    (fun x k => (rd2 arg5 harg5 x4 _ inb_S256x4096_S256x256_0_1280 0 1280 rfl x k (by omega) (by omega)).trans ((h4 _ _).trans (by simp only [Nat.zero_add, Nat.mul_zero])))
    (fun x k => (rd2 arg5 harg5 x4 _ inb_S256x4096_S256x256_0_3328 0 3328 rfl x k (by omega) (by omega)).trans ((h4 _ _).trans (congrArg₂ I.P (by show _ + (0 + x.val) = _; omega) (by show 3328 + k.val = _; omega))))
  have m6 := mj_apply (I := I) (256 * ((i 0).val - 1)) 6 (k0_pay5 (View.readAt (Elt Ideal) arg17.view (Rect.unit (s := S2x256x2048) (k0_off1 i) S1x256x2048.size (k0_off1_inb i)).toLoadRect (harg17.unread xs0))) hv (View.readAt (Elt Ideal) arg13.view (Rect.unit (s := S1024x2048) ![0, 1536] S1024x256.size inb_S1024x2048_S1024x256_0_1536).toLoadRect (harg13.unread x12)) (View.readAt (Elt Ideal) arg14.view (Rect.unit (s := S1024x2048) ![0, 1536] S1024x256.size inb_S1024x2048_S1024x256_0_1536).toLoadRect (harg14.unread x13)) (View.readAt (Elt Ideal) arg5.view (Rect.unit (s := S256x4096) ![0, 1536] S256x256.size inb_S256x4096_S256x256_0_1536).toLoadRect (harg5.unread x4)) (View.readAt (Elt Ideal) arg5.view (Rect.unit (s := S256x4096) ![0, 3584] S256x256.size inb_S256x4096_S256x256_0_3584).toLoadRect (harg5.unread x4))
    (fun x k => (rd2 arg13 harg13 x12 _ inb_S1024x2048_S1024x256_0_1536 0 1536 rfl x k (by omega) (by omega)).trans ((h12 _ _).trans (by simp only [Nat.zero_add, Nat.mul_zero])))
    (fun x k => (rd2 arg14 harg14 x13 _ inb_S1024x2048_S1024x256_0_1536 0 1536 rfl x k (by omega) (by omega)).trans ((h13 _ _).trans (by simp only [Nat.zero_add, Nat.mul_zero])))
    (fun x k => (rd2 arg5 harg5 x4 _ inb_S256x4096_S256x256_0_1536 0 1536 rfl x k (by omega) (by omega)).trans ((h4 _ _).trans (by simp only [Nat.zero_add, Nat.mul_zero])))
    (fun x k => (rd2 arg5 harg5 x4 _ inb_S256x4096_S256x256_0_3584 0 3584 rfl x k (by omega) (by omega)).trans ((h4 _ _).trans (congrArg₂ I.P (by show _ + (0 + x.val) = _; omega) (by show 3584 + k.val = _; omega))))
  have m7 := mj_apply (I := I) (256 * ((i 0).val - 1)) 7 (k0_pay5 (View.readAt (Elt Ideal) arg17.view (Rect.unit (s := S2x256x2048) (k0_off1 i) S1x256x2048.size (k0_off1_inb i)).toLoadRect (harg17.unread xs0))) hv (View.readAt (Elt Ideal) arg13.view (Rect.unit (s := S1024x2048) ![0, 1792] S1024x256.size inb_S1024x2048_S1024x256_0_1792).toLoadRect (harg13.unread x12)) (View.readAt (Elt Ideal) arg14.view (Rect.unit (s := S1024x2048) ![0, 1792] S1024x256.size inb_S1024x2048_S1024x256_0_1792).toLoadRect (harg14.unread x13)) (View.readAt (Elt Ideal) arg5.view (Rect.unit (s := S256x4096) ![0, 1792] S256x256.size inb_S256x4096_S256x256_0_1792).toLoadRect (harg5.unread x4)) (View.readAt (Elt Ideal) arg5.view (Rect.unit (s := S256x4096) ![0, 3840] S256x256.size inb_S256x4096_S256x256_0_3840).toLoadRect (harg5.unread x4))
    (fun x k => (rd2 arg13 harg13 x12 _ inb_S1024x2048_S1024x256_0_1792 0 1792 rfl x k (by omega) (by omega)).trans ((h12 _ _).trans (by simp only [Nat.zero_add, Nat.mul_zero])))
    (fun x k => (rd2 arg14 harg14 x13 _ inb_S1024x2048_S1024x256_0_1792 0 1792 rfl x k (by omega) (by omega)).trans ((h13 _ _).trans (by simp only [Nat.zero_add, Nat.mul_zero])))
    (fun x k => (rd2 arg5 harg5 x4 _ inb_S256x4096_S256x256_0_1792 0 1792 rfl x k (by omega) (by omega)).trans ((h4 _ _).trans (by simp only [Nat.zero_add, Nat.mul_zero])))
    (fun x k => (rd2 arg5 harg5 x4 _ inb_S256x4096_S256x256_0_3840 0 3840 rfl x k (by omega) (by omega)).trans ((h4 _ _).trans (congrArg₂ I.P (by show _ + (0 + x.val) = _; omega) (by show 3840 + k.val = _; omega))))
  have hC := cat_apply (I := I) (256 * ((i 0).val - 1)) _ _ _ _ _ _ _ _ m0 m1 m2 m3 m4 m5 m6 m7
  refine put2 _ _ _ _ 0 1792 rfl _ _ r c2 _ (fun r1 c1 hr hc => ?_) (fun n7 => ?_)
  · refine Eq.trans (congrFun ?_ _) ((chunk_apply (I := I) (256 * ((i 0).val - 1)) 7 _ hC (View.readAt (Elt Ideal) arg6.view (Rect.unit (s := S256x2048) ![0, 1792] S256x256.size inb_S256x2048_S256x256_0_1792).toLoadRect (harg6.unread x5))
      (fun x k => (rd2 arg6 harg6 x5 _ inb_S256x2048_S256x256_0_1792 0 1792 rfl x k (by omega) (by omega)).trans ((h5 _ _).trans (by simp only [Nat.zero_add, Nat.mul_zero]))) (View.readAt (Elt Ideal) arg15.view (Rect.unit (s := S2048x2048) ![0, 1792] S2048x256.size inb_S2048x2048_S2048x256_0_1792).toLoadRect (harg15.unread x14))
      (fun x k => (rd2 arg15 harg15 x14 _ inb_S2048x2048_S2048x256_0_1792 0 1792 rfl x k (by omega) (by omega)).trans ((h14 _ _).trans (by simp only [Nat.zero_add, Nat.mul_zero]))) r1 c1).trans ?_)
    · rfl
    rw [hr, hc]
    simp only [Nat.zero_add, Nat.mul_zero]
  refine put2 _ _ _ _ 0 1536 rfl _ _ r c2 _ (fun r1 c1 hr hc => ?_) (fun n6 => ?_)
  · refine Eq.trans (congrFun ?_ _) ((chunk_apply (I := I) (256 * ((i 0).val - 1)) 6 _ hC (View.readAt (Elt Ideal) arg6.view (Rect.unit (s := S256x2048) ![0, 1536] S256x256.size inb_S256x2048_S256x256_0_1536).toLoadRect (harg6.unread x5))
      (fun x k => (rd2 arg6 harg6 x5 _ inb_S256x2048_S256x256_0_1536 0 1536 rfl x k (by omega) (by omega)).trans ((h5 _ _).trans (by simp only [Nat.zero_add, Nat.mul_zero]))) (View.readAt (Elt Ideal) arg15.view (Rect.unit (s := S2048x2048) ![0, 1536] S2048x256.size inb_S2048x2048_S2048x256_0_1536).toLoadRect (harg15.unread x14))
      (fun x k => (rd2 arg15 harg15 x14 _ inb_S2048x2048_S2048x256_0_1536 0 1536 rfl x k (by omega) (by omega)).trans ((h14 _ _).trans (by simp only [Nat.zero_add, Nat.mul_zero]))) r1 c1).trans ?_)
    · rfl
    rw [hr, hc]
    simp only [Nat.zero_add, Nat.mul_zero]
  refine put2 _ _ _ _ 0 1280 rfl _ _ r c2 _ (fun r1 c1 hr hc => ?_) (fun n5 => ?_)
  · refine Eq.trans (congrFun ?_ _) ((chunk_apply (I := I) (256 * ((i 0).val - 1)) 5 _ hC (View.readAt (Elt Ideal) arg6.view (Rect.unit (s := S256x2048) ![0, 1280] S256x256.size inb_S256x2048_S256x256_0_1280).toLoadRect (harg6.unread x5))
      (fun x k => (rd2 arg6 harg6 x5 _ inb_S256x2048_S256x256_0_1280 0 1280 rfl x k (by omega) (by omega)).trans ((h5 _ _).trans (by simp only [Nat.zero_add, Nat.mul_zero]))) (View.readAt (Elt Ideal) arg15.view (Rect.unit (s := S2048x2048) ![0, 1280] S2048x256.size inb_S2048x2048_S2048x256_0_1280).toLoadRect (harg15.unread x14))
      (fun x k => (rd2 arg15 harg15 x14 _ inb_S2048x2048_S2048x256_0_1280 0 1280 rfl x k (by omega) (by omega)).trans ((h14 _ _).trans (by simp only [Nat.zero_add, Nat.mul_zero]))) r1 c1).trans ?_)
    · rfl
    rw [hr, hc]
    simp only [Nat.zero_add, Nat.mul_zero]
  refine put2 _ _ _ _ 0 1024 rfl _ _ r c2 _ (fun r1 c1 hr hc => ?_) (fun n4 => ?_)
  · refine Eq.trans (congrFun ?_ _) ((chunk_apply (I := I) (256 * ((i 0).val - 1)) 4 _ hC (View.readAt (Elt Ideal) arg6.view (Rect.unit (s := S256x2048) ![0, 1024] S256x256.size inb_S256x2048_S256x256_0_1024).toLoadRect (harg6.unread x5))
      (fun x k => (rd2 arg6 harg6 x5 _ inb_S256x2048_S256x256_0_1024 0 1024 rfl x k (by omega) (by omega)).trans ((h5 _ _).trans (by simp only [Nat.zero_add, Nat.mul_zero]))) (View.readAt (Elt Ideal) arg15.view (Rect.unit (s := S2048x2048) ![0, 1024] S2048x256.size inb_S2048x2048_S2048x256_0_1024).toLoadRect (harg15.unread x14))
      (fun x k => (rd2 arg15 harg15 x14 _ inb_S2048x2048_S2048x256_0_1024 0 1024 rfl x k (by omega) (by omega)).trans ((h14 _ _).trans (by simp only [Nat.zero_add, Nat.mul_zero]))) r1 c1).trans ?_)
    · rfl
    rw [hr, hc]
    simp only [Nat.zero_add, Nat.mul_zero]
  refine put2 _ _ _ _ 0 768 rfl _ _ r c2 _ (fun r1 c1 hr hc => ?_) (fun n3 => ?_)
  · refine Eq.trans (congrFun ?_ _) ((chunk_apply (I := I) (256 * ((i 0).val - 1)) 3 _ hC (View.readAt (Elt Ideal) arg6.view (Rect.unit (s := S256x2048) ![0, 768] S256x256.size inb_S256x2048_S256x256_0_768).toLoadRect (harg6.unread x5))
      (fun x k => (rd2 arg6 harg6 x5 _ inb_S256x2048_S256x256_0_768 0 768 rfl x k (by omega) (by omega)).trans ((h5 _ _).trans (by simp only [Nat.zero_add, Nat.mul_zero]))) (View.readAt (Elt Ideal) arg15.view (Rect.unit (s := S2048x2048) ![0, 768] S2048x256.size inb_S2048x2048_S2048x256_0_768).toLoadRect (harg15.unread x14))
      (fun x k => (rd2 arg15 harg15 x14 _ inb_S2048x2048_S2048x256_0_768 0 768 rfl x k (by omega) (by omega)).trans ((h14 _ _).trans (by simp only [Nat.zero_add, Nat.mul_zero]))) r1 c1).trans ?_)
    · rfl
    rw [hr, hc]
    simp only [Nat.zero_add, Nat.mul_zero]
  refine put2 _ _ _ _ 0 512 rfl _ _ r c2 _ (fun r1 c1 hr hc => ?_) (fun n2 => ?_)
  · refine Eq.trans (congrFun ?_ _) ((chunk_apply (I := I) (256 * ((i 0).val - 1)) 2 _ hC (View.readAt (Elt Ideal) arg6.view (Rect.unit (s := S256x2048) ![0, 512] S256x256.size inb_S256x2048_S256x256_0_512).toLoadRect (harg6.unread x5))
      (fun x k => (rd2 arg6 harg6 x5 _ inb_S256x2048_S256x256_0_512 0 512 rfl x k (by omega) (by omega)).trans ((h5 _ _).trans (by simp only [Nat.zero_add, Nat.mul_zero]))) (View.readAt (Elt Ideal) arg15.view (Rect.unit (s := S2048x2048) ![0, 512] S2048x256.size inb_S2048x2048_S2048x256_0_512).toLoadRect (harg15.unread x14))
      (fun x k => (rd2 arg15 harg15 x14 _ inb_S2048x2048_S2048x256_0_512 0 512 rfl x k (by omega) (by omega)).trans ((h14 _ _).trans (by simp only [Nat.zero_add, Nat.mul_zero]))) r1 c1).trans ?_)
    · rfl
    rw [hr, hc]
    simp only [Nat.zero_add, Nat.mul_zero]
  refine put2 _ _ _ _ 0 256 rfl _ _ r c2 _ (fun r1 c1 hr hc => ?_) (fun n1 => ?_)
  · refine Eq.trans (congrFun ?_ _) ((chunk_apply (I := I) (256 * ((i 0).val - 1)) 1 _ hC (View.readAt (Elt Ideal) arg6.view (Rect.unit (s := S256x2048) ![0, 256] S256x256.size inb_S256x2048_S256x256_0_256).toLoadRect (harg6.unread x5))
      (fun x k => (rd2 arg6 harg6 x5 _ inb_S256x2048_S256x256_0_256 0 256 rfl x k (by omega) (by omega)).trans ((h5 _ _).trans (by simp only [Nat.zero_add, Nat.mul_zero]))) (View.readAt (Elt Ideal) arg15.view (Rect.unit (s := S2048x2048) ![0, 256] S2048x256.size inb_S2048x2048_S2048x256_0_256).toLoadRect (harg15.unread x14))
      (fun x k => (rd2 arg15 harg15 x14 _ inb_S2048x2048_S2048x256_0_256 0 256 rfl x k (by omega) (by omega)).trans ((h14 _ _).trans (by simp only [Nat.zero_add, Nat.mul_zero]))) r1 c1).trans ?_)
    · rfl
    rw [hr, hc]
    simp only [Nat.zero_add, Nat.mul_zero]
  refine put2 _ _ _ _ 0 0 rfl _ _ r c2 _ (fun r1 c1 hr hc => ?_) (fun n0 => ?_)
  · refine Eq.trans (congrFun ?_ _) ((chunk_apply (I := I) (256 * ((i 0).val - 1)) 0 _ hC (View.readAt (Elt Ideal) arg6.view (Rect.unit (s := S256x2048) ![0, 0] S256x256.size inb_S256x2048_S256x256_0_0).toLoadRect (harg6.unread x5))
      (fun x k => (rd2 arg6 harg6 x5 _ inb_S256x2048_S256x256_0_0 0 0 rfl x k (by omega) (by omega)).trans ((h5 _ _).trans (by simp only [Nat.zero_add, Nat.mul_zero]))) (View.readAt (Elt Ideal) arg15.view (Rect.unit (s := S2048x2048) ![0, 0] S2048x256.size inb_S2048x2048_S2048x256_0_0).toLoadRect (harg15.unread x14))
      (fun x k => (rd2 arg15 harg15 x14 _ inb_S2048x2048_S2048x256_0_0 0 0 rfl x k (by omega) (by omega)).trans ((h14 _ _).trans (by simp only [Nat.zero_add, Nat.mul_zero]))) r1 c1).trans ?_)
    · rfl
    rw [hr, hc]
    simp only [Nat.zero_add, Nat.mul_zero]
  exfalso
  omega

end Cert.KernelIdeal.Val

end
-- ==== Proof.MixFold.lean ====
/-
  The mixing call's points in order, what each leaves for the next, and the result array.
-/
module

public import proofs.«01_k».proof.Proof.MixWin
public import proofs.«01_k».proof.Proof.MixPieA
public import proofs.«01_k».proof.Proof.MixPieB
public import proofs.«01_k».proof.Proof.MixOut

@[expose] public section

set_option maxRecDepth 16384

noncomputable section

namespace Cert.KernelIdeal.Val

open Cert.KernelIdeal Cert.KernelIdeal.Gen Idealize.ShloMosaic Idealize.ShloMosaic.TcCoe Cert.Mixm Idealize.SL.Sem
open Cert.KernelIdeal.Value

/-- What a point leaves for the next: its merged rows in the slot of its parity, the recurrence's state, the last keys and values. -/
structure Left (I : Inp) (n : Nat) (s0 : Vec Ideal S2x256x2048 .bf16) (s1 : Vec Ideal S4x256x128 .f32) (s2 : Vec Ideal S128x512 .bf16) : Prop where
  y : ∀ z : Fin 2, z.val = n % 2 → ∀ (r : Fin 256) (c : Fin 2048), s0 (ix3 z r c) = yRow I (256 * n + r.val) c.val
  st : ∀ (h : Fin 4) (a : Fin 256) (d : Fin 128), s1 (ix3 h a d) = Sn I (4 * n + 3) h.val a.val d.val
  kv : ∀ (j : Fin 128) (x : Fin 512), s2 (ix2 j x) = I.P (256 * n + 128 + j.val) (8192 + x.val)

/-- A point's values read out of the whole of what it leaves. -/
theorem left_mk {α : Type} {I : Inp} {n : Nat} {o : α × Vec Ideal S2x256x2048 .bf16 × Vec Ideal S4x256x128 .f32 × Vec Ideal S128x512 .bf16} {z s0 s1 s2} (e : o = (z, s0, s1, s2)) (L : Left I n s0 s1 s2) :
    Left I n o.2.1 o.2.2.1 o.2.2.2 := by
  subst e
  exact L

section
variable (c : Dev nD) (i : grid0.Coords) (arg1 : Memref sig .tc .smem S16 .f32) (harg1 : arg1.IsWhole) (arg2 : Memref sig .tc .vmem S256x4096 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S256x4096 .bf16) (harg5 : arg5.IsWhole) (arg6 : Memref sig .tc .vmem S256x2048 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x128 .bf16) (harg10 : arg10.IsWhole) (arg11 : Memref sig .tc .vmem S7x64x64 .f32) (harg11 : arg11.IsWhole) (arg12 : Memref sig .tc .vmem S2x16x256x128 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S2048x2048 .bf16) (harg15 : arg15.IsWhole) (arg16 : Memref sig .tc .vmem S256x2048 .f32) (harg16 : arg16.IsWhole) (arg17 : Memref sig .tc .vmem S2x256x2048 .bf16) (harg17 : arg17.IsWhole) (arg18 : Memref sig .tc .vmem S4x256x128 .f32) (harg18 : arg18.IsWhole) (arg19 : Memref sig .tc .vmem S128x512 .bf16) (harg19 : arg19.IsWhole)
    (x0 : Vec Ideal S16 .f32) (x1 : Vec Ideal S256x4096 .bf16) (x2 : Vec Ideal S256x512 .bf16) (x3 : Vec Ideal S256x128 .f32) (x4 : Vec Ideal S256x4096 .bf16) (x5 : Vec Ideal S256x2048 .f32) (x6 : Vec Ideal S128x512 .bf16) (x7 : Vec Ideal S1x512 .f32) (x8 : Vec Ideal S1x256 .f32) (x9 : Vec Ideal S512x128 .bf16) (x10 : Vec Ideal S7x64x64 .f32) (x11 : Vec Ideal S2x16x256x128 .f32) (x12 : Vec Ideal S1024x2048 .bf16) (x13 : Vec Ideal S1024x2048 .bf16) (x14 : Vec Ideal S2048x2048 .bf16) (xs0 : Vec Ideal S2x256x2048 .bf16) (xs1 : Vec Ideal S4x256x128 .f32) (xs2 : Vec Ideal S128x512 .bf16)
   {I : Inp} {t : Nat}

theorem left_A (hc0 : cond0_0 i) (T : Tile I t x0 x1 x2 x3 x6 x7 x8 x9 x10 x11) (hi : (i 0).val = t) (ht : t < 128) (h8 : t % 8 = 0) :
    Left I t (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14) :=
  ⟨fun z hz r c2 => y_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 hc0 T hi ht h8 z hz r c2,
   fun h a d => st_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 hc0 T hi ht h8 h a d,
   fun j x => kvp_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 hc0 T hi ht h8 j x⟩

theorem left_B (hc0 : ¬cond0_0 i) (T : Tile I t x0 x1 x2 x3 x6 x7 x8 x9 x10 x11) (hi : (i 0).val = t) (ht : t < 128)
    (h1 : t % 8 ≠ 0 → ∀ (h : Fin 4) (a : Fin 256) (d : Fin 128), xs1 (ix3 h a d) = Sn I (4 * t - 1) h.val a.val d.val)
    (h2 : t % 8 ≠ 0 → ∀ (j : Fin 128) (x : Fin 512), xs2 (ix2 j x) = I.P (256 * t + j.val - 128) (8192 + x.val)) :
    Left I t (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 xs2) (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 xs2) (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs0 xs1 xs2) :=
  ⟨fun z hz r c2 => y_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 xs0 xs1 xs2 hc0 T hi ht h1 h2 z hz r c2,
   fun h a d => st_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 xs0 xs1 xs2 hc0 T hi ht h1 h2 h a d,
   fun j x => kvp_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 xs0 xs1 xs2 hc0 T hi ht h1 h2 j x⟩

end

variable (m : (ℓ : Loc nD τ sig) → Buf (Elt Ideal) ℓ)

theorem coord_at (t : Fin cfg0.N) : (grid0.coords t 0).val = t.val := by
  have e0 : (grid0.coords t 0).val = t.val / 1 % 129 := Pipeline.Grid.coords_val t 0 (by decide) rfl
  have := lt129 t
  omega

theorem left_zero (c : Dev nD) (hz : ∀ r d, r < 32768 → d < 512 → lg m c r d ≠ ⊥) (t : Fin cfg0.N) (h0 : t.val % 129 = 0) (ht : t.val < 128) :
    Left (inp m c) t.val (outsAt0 m c t.val t.isLt).2.1 (outsAt0 m c t.val t.isLt).2.2.1 (outsAt0 m c t.val t.isLt).2.2.2 :=
  left_mk (outsAt0_A m c t h0) (left_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (X0_1 m c t) (iblk m c 2 t) (iblk m c 3 t) (X0_4 m c t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) (tile_at m c hz t ht) (coord_at t) ht (by omega))

theorem left_succ (c : Dev nD) (hz : ∀ r d, r < 32768 → d < 512 → lg m c r d ≠ ⊥) (t : Fin cfg0.N) (h0 : ¬t.val % 129 = 0) (ht : t.val < 128)
    (L : Left (inp m c) (t.val - 1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) :
    Left (inp m c) t.val (outsAt0 m c t.val t.isLt).2.1 (outsAt0 m c t.val t.isLt).2.2.1 (outsAt0 m c t.val t.isLt).2.2.2 :=
  left_mk (outsAt0_B m c t h0) (left_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (X0_1 m c t) (iblk m c 2 t) (iblk m c 3 t) (X0_4 m c t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (tile_at m c hz t ht) (coord_at t) ht
    (fun _ h a d => (L.st h a d).trans (congrArg (fun n => Sn (inp m c) n h.val a.val d.val) (by omega)))
    (fun _ j x => (L.kv j x).trans (congrArg (fun n => (inp m c).P n (8192 + x.val)) (by omega))))

theorem left_at (c : Dev nD) (hz : ∀ r d, r < 32768 → d < 512 → lg m c r d ≠ ⊥) (n : Nat) (hn : n < cfg0.N) (ht : n < 128) :
    Left (inp m c) n (outsAt0 m c n hn).2.1 (outsAt0 m c n hn).2.2.1 (outsAt0 m c n hn).2.2.2 := by
  induction n with
  | zero => exact left_zero m c hz ⟨0, hn⟩ rfl ht
  | succ n ih => exact left_succ m c hz ⟨n + 1, hn⟩ (by show ¬(n + 1) % 129 = 0; omega) ht (ih (Nat.lt_of_succ_lt hn) (by omega))

/-- The layer's result array. -/
def outArr (I : Inp) : FVec Ideal S32768x2048 .f32 := fun i => out I (i 0).val (i 1).val

theorem flushed15_eq (c : Dev nD) (hz : ∀ r d, r < 32768 → d < 512 → lg m c r d ≠ ⊥) (t : Fin cfg0.N) (ht : t.val ≠ 0) :
    (dats m 0 c).flushed 15 t = ((cfg0.win 15).blk t).view.read (Elt Ideal) (outArr (inp m c)) := by
  have hN := lt129 t
  obtain ⟨e0, e1⟩ := idx15 t
  have ht' : 1 ≤ t.val := by omega
  have L := left_at m c hz (t.val - 1) (Nat.lt_of_le_of_lt (Nat.sub_le _ _) t.isLt) (by omega)
  rw [flushed15_B m c t (by omega)]
  funext j
  obtain ⟨r, d, rfl⟩ : ∃ r d, j = ix2 (n0 := 256) (n1 := 2048) r d := ⟨j 0, j 1, (ix2_eta (n0 := 256) (n1 := 2048) j).symm⟩
  refine Eq.trans (b := out (inp m c) (256 * (t.val - 1) + r.val) d.val) ?_ ?_
  · refine out_B _ _ _ _ _ _ _ _ _ _ _ _ _ _ _ _ _ _ _ _ _ _ _ _ _ _ _ _ _ _ _ _ _ _ _ _ _ _ _ _ _ _ _ _ _ _ _ _ _ _ _ _ _ _ _ _ _ _ _ (coord_at t) ht' (fun z hz r c2 => L.y z (by omega) r c2) (X4_at m c t ht') (iblk5_at m c t ht') (iblk12_at m c t) (iblk13_at m c t) (iblk14_at m c t) r d
  · show _ = outArr (inp m c) (((cfg0.win 15).blk t).view.emb (ix2 r d))
    have he : ((cfg0.win 15).blk t).view.emb (ix2 r d) = (ix2 ⟨256 * (t.val - 1) + r.val, by omega⟩ d : S32768x2048.Idx) := by
      funext a; apply Fin.ext
      match a with
      | ⟨0, _⟩ => show win0_15.index t (0 : Fin 2) * 256 + 1 * r.val = 256 * (t.val - 1) + r.val; omega
      | ⟨1, _⟩ => show win0_15.index t (1 : Fin 2) * 2048 + 1 * d.val = d.val; omega
    rw [he]
    rfl

theorem covered15 (i : S32768x2048.Idx) : ∃ t : Fin cfg0.N, (cfg0.win 15).flush t = true ∧ i ∈ ((cfg0.win 15).blk t).view.set := by
  have hi : (i 0).val < 32768 := (i 0).isLt
  have ht : (i 0).val / 256 + 1 < cfg0.N := by rw [show cfg0.N = 129 from N_0]; omega
  obtain ⟨e0, e1⟩ := idx15 ⟨_, ht⟩
  refine ⟨⟨_, ht⟩, (flush15 _).mpr (Nat.succ_ne_zero _), ?_⟩
  have h := ((cfg0.win 15).blk ⟨_, ht⟩).view.emb_mem_set (ix2 (n0 := 256) (n1 := 2048) ⟨(i 0).val % 256, Nat.mod_lt _ (by decide)⟩ (i 1))
  have he : ((cfg0.win 15).blk ⟨_, ht⟩).view.emb (ix2 (n0 := 256) (n1 := 2048) ⟨(i 0).val % 256, Nat.mod_lt _ (by decide)⟩ (i 1)) = i := by
    funext a; apply Fin.ext
    match a with
    | ⟨0, _⟩ => show win0_15.index ⟨_, ht⟩ (0 : Fin 2) * 256 + 1 * ((i 0).val % 256) = (i 0).val; dsimp only at e0; omega
    | ⟨1, _⟩ => show win0_15.index ⟨_, ht⟩ (1 : Fin 2) * 2048 + 1 * (i 1).val = (i 1).val; omega
  rwa [he] at h

theorem final15 (c : Dev nD) (hz : ∀ r d, r < 32768 → d < 512 → lg m c r d ≠ ⊥) : (dats m 0 c).arrAt 15 cfg0.N = outArr (inp m c) :=
  (dats m 0 c).arrAt_eq_of_cover 15 (outArr (inp m c)) (fun t h => flushed15_eq m c hz t ((flush15 t).mp h)) covered15

end Cert.KernelIdeal.Val

end
-- ==== Proof.MixEntry.lean ====
/-
  What the mixing reference's operations before its loop leave in the carried buffers.
-/
module

public import proofs.«01_k».proof.Proof.Gen.ReferenceIdeal.Run
public import Idealize.ShloMosaic.Lib.Claim
public import proofs.«01_k».proof.Proof.MixLs
public import proofs.«01_k».proof.Proof.MixSwa

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Cert.Mixm

/-- The reference's logarithm of the logistic function, whole arrays at once. -/
def refLs (x : FVec Ideal S32768x512 .f32) : FVec Ideal S32768x512 .f32 :=
  Host.negf (select
    (cmpf .une (subf (Host.negf x) (broadcastInDim S32768x512 ![] bcast_S_S32768x512 (constant S_ .f32 0x00000000#32))) (subf (Host.negf x) (broadcastInDim S32768x512 ![] bcast_S_S32768x512 (constant S_ .f32 0x00000000#32))))
    (addf (Host.negf x) (broadcastInDim S32768x512 ![] bcast_S_S32768x512 (constant S_ .f32 0x00000000#32)))
    (addf (maximumf (Host.negf x) (broadcastInDim S32768x512 ![] bcast_S_S32768x512 (constant S_ .f32 0x00000000#32)))
      (Host.log1p (Host.exp (Host.negf (Host.absf (subf (Host.negf x) (broadcastInDim S32768x512 ![] bcast_S_S32768x512 (constant S_ .f32 0x00000000#32)))))))))

theorem une_self (x : EReal) : Ideal.cmp CmpFPredicate.une x x = 0#1 := by
  simp [Ideal.cmp]

theorem refLs_apply (x : FVec Ideal S32768x512 .f32) (r : Fin 32768) (d : Fin 512) (hz : x (ix2 r d) ≠ (⊥ : EReal)) :
    Ideal.div (refLs x (ix2 r d)) (Ideal.ofBits FTy.f32 1098907648#32) = ((ls (x (ix2 r d)) / 16 : ℝ) : EReal) := by
  rw [← ref_ls _ hz]
  congr 1
  unfold refLs
  pointwise []
  generalize x (ix2 r d) = z
  simp only [Ideal.log1p, ne_eq, not_true_eq_false, if_false, sub_zero]
  rfl

section
variable (m : (ℓ : Loc nD τ sig) → Buf (Elt Ideal) ℓ) (c : Dev nD) (I : Inp)
  (hP : ∀ (r : Fin 32768) (x : Fin 8704), launchContents m c (Proc.devRef .tc main_arg0) (ix2 r x) = I.P r.val x.val)

include hP in
/-- A projection, cut into the loop's chunks. -/
theorem entry_0 (n : Fin 32) (b : Fin 16) (h : Fin 4) (i : Fin 64) (d : Fin 128) : entryContents (F := Ideal) preI m c (Proc.devRef .tc main_v25_0) (ix5 n b h i d) = Qr I (64 * (32 * b.val + n.val) + i.val) (128 * h.val + d.val) := by
  simp only [entryContents, afterL_cons, afterL_nil]
  after_results_simp_entrywise
  try simp only [id_eq]
  generalize launchContents m c (Proc.devRef .tc main_arg0) = P at hP
  pointwise []
  unfold Qr
  refine congrArg (· * _) ((hP _ _).trans ?_)
  congr 1 <;> (dsimp only; omega)

include hP in
/-- A projection, cut into the loop's chunks. -/
theorem entry_1 (n : Fin 32) (b : Fin 16) (h : Fin 4) (i : Fin 64) (d : Fin 128) : entryContents (F := Ideal) preI m c (Proc.devRef .tc main_v25_1) (ix5 n b h i d) = Kr I (64 * (32 * b.val + n.val) + i.val) (128 * h.val + d.val) := by
  simp only [entryContents, afterL_cons, afterL_nil]
  after_results_simp_entrywise
  try simp only [id_eq]
  generalize launchContents m c (Proc.devRef .tc main_arg0) = P at hP
  pointwise []
  unfold Kr
  refine ((hP _ _).trans ?_)
  congr 1 <;> (dsimp only; omega)

include hP in
/-- A projection, cut into the loop's chunks. -/
theorem entry_2 (n : Fin 32) (b : Fin 16) (h : Fin 4) (i : Fin 64) (d : Fin 256) : entryContents (F := Ideal) preI m c (Proc.devRef .tc main_v25_2) (ix5 n b h i d) = Vr I (64 * (32 * b.val + n.val) + i.val) (256 * h.val + d.val) := by
  simp only [entryContents, afterL_cons, afterL_nil]
  after_results_simp_entrywise
  try simp only [id_eq]
  generalize launchContents m c (Proc.devRef .tc main_arg0) = P at hP
  pointwise []
  unfold Vr
  refine ((hP _ _).trans ?_)
  congr 1 <;> (dsimp only; omega)

theorem entry_5 (b : Fin 16) (h : Fin 4) (i : Fin 128) (d : Fin 256) : entryContents (F := Ideal) preI m c (Proc.devRef .tc main_v25_5) (ix4 b h i d) = (0 : EReal) := by
  simp only [entryContents, afterL_cons, afterL_nil]
  after_results_simp_entrywise
  try simp only [id_eq]
  pointwise []

theorem entry_3_eq : entryContents (F := Ideal) preI m c (Proc.devRef .tc main_v25_3) =
    transpose S32x16x4x64x128 [1, 0, 3, 2, 4] (shapeCast S16x32x64x4x128 (Host.divf (refLs (addf (Host.dotGeneral (F := Ideal) (φ₁ := .f32) (φ₂ := .f32) dot_S32768x128_S128x512_S32768x512_1_0_0_1_n_n none (launchContents m c (Proc.devRef .tc main_arg1)) (extf .f32 (launchContents m c (Proc.devRef .tc main_arg3)) bitsLt_bf16_f32)) (broadcastInDim S32768x512 ![0, 1] bcast_S1x512_S32768x512_0_1 (launchContents m c (Proc.devRef .tc main_arg4))))) (broadcastInDim S32768x512 ![] bcast_S_S32768x512 (constant S_ .f32 0x41800000#32))) shapeCasts_S32768x512_S16x32x64x4x128) transposes_S16x32x64x4x128_S32x16x4x64x128_1_0_3_2_4 := by
  simp only [entryContents, afterL_cons, afterL_nil]
  after_results_simp_entrywise
  simp only [StableHlo.TRef.ofBuf_toBuf]
  rfl

theorem entry_3 (Z : Nat → Nat → EReal) (hA : ∀ r d, I.A r d = ls (Z r d) / 16) (hz : ∀ r d, r < 32768 → d < 512 → Z r d ≠ ⊥)
    (a1 : FVec Ideal S32768x128 .f32) (a3 : FVec Ideal S128x512 .bf16) (a4 : FVec Ideal S1x512 .f32) (h1 : launchContents m c (Proc.devRef .tc main_arg1) = a1)
    (h3 : launchContents m c (Proc.devRef .tc main_arg3) = a3) (h4 : launchContents m c (Proc.devRef .tc main_arg4) = a4)
    (hZ : ∀ (r : Fin 32768) (d : Fin 512), ∑ x : Fin 128, a1 (ix2 r x) * a3 (ix2 x d) + a4 (ix2 0 d) = Z r.val d.val)
    (n : Fin 32) (b : Fin 16) (h : Fin 4) (i : Fin 64) (d : Fin 128) : entryContents (F := Ideal) preI m c (Proc.devRef .tc main_v25_3) (ix5 n b h i d) = ((I.A (64 * (32 * b.val + n.val) + i.val) (128 * h.val + d.val) : ℝ) : EReal) := by
  rw [entry_3_eq]
  rw [h1, h3, h4]
  generalize hx : addf (F := Ideal) (φ := .f32) (Host.dotGeneral _ _ _ _) _ = x
  have hxz : ∀ (r : Fin 32768) (d : Fin 512), x (ix2 r d) = Z r.val d.val := by
    intro r d
    rw [← hx]
    pointwise []
    exact hZ r d
  generalize hy : refLs x = y
  pointwise []
  have hn := n.isLt
  have hb := b.isLt
  have hh := h.isLt
  have hi := i.isLt
  have hd := d.isLt
  subst hy
  refine (refLs_apply x _ _ (by rw [hxz]; exact hz _ _ (by dsimp only; omega) (by dsimp only; omega))).trans ?_
  rw [hxz, hA]
  dsimp only
  rw [show b.val * 2048 + n.val * 64 + i.val = 64 * (32 * b.val + n.val) + i.val by omega, show h.val * 128 + d.val = 128 * h.val + d.val by omega]

end

end Cert.ReferenceIdeal.Value

end
-- ==== Proof.MixLoop.lean ====
/-
  The mixing reference's loop: what one trip makes of the carried buffers, and the loop, of the layer's mathematics.
-/
module

public import proofs.«01_k».proof.Proof.Gen.ReferenceIdeal.Run
public import Idealize.ShloMosaic.Lib.Claim
public import proofs.«01_k».proof.Proof.MixGla
public import proofs.«01_k».proof.Proof.MixSwa

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Cert.Mixm

/-- A sum folded left from zero over all of `Fin N`. -/
theorem foldl_sum {N : Nat} (g : Fin N → EReal) : (List.finRange N).foldl (fun r n => r + g n) 0 = ∑ n, g n := by
  have h : ∀ (l : List (Fin N)) (a : EReal), l.foldl (fun r n => r + g n) a = a + (l.map g).sum := by
    intro l
    induction l with
    | nil => intro a; simp
    | cons x l ih => intro a; rw [List.foldl_cons, ih, List.map_cons, List.sum_cons, add_assoc]
  rw [h, zero_add, ← List.ofFn_eq_map, List.sum_ofFn]

/-- The indices of the running sum's window. -/
def winEquiv : (⟨4, ![1, 1, 64, 1]⟩ : Shape).Idx ≃ Fin 64 where
  toFun w := w 2
  invFun t := ix4 (0 : Fin 1) (0 : Fin 1) t (0 : Fin 1)
  left_inv w := by
    funext a
    match a with
    | 0 => exact (Subsingleton.elim (α := Fin 1) _ _)
    | 1 => exact (Subsingleton.elim (α := Fin 1) _ _)
    | 2 => rfl
    | 3 => exact (Subsingleton.elim (α := Fin 1) _ _)
  right_inv t := rfl

/-- jnp's running sum along the chunk's rows. -/
theorem cumsum_apply (x : FVec Ideal S16x4x64x128 .f32) (init : FVec Ideal S_ .f32) (hi : init (Shape.Idx.first h_S_) = 0) (b : Fin 16) (h_ : Fin 4) (i : Fin 64) (d : Fin 128) :
    Host.reduceWindowAdd ![1, 1, 64, 1] ![1, 1, 1, 1] ![0, 0, 63, 0] ![0, 0, 0, 0] x init reduceWindows_S16x4x64x128_S16x4x64x128_w1s1p0_0_w1s1p0_0_w64s1p63_0_w1s1p0_0 h_S_ (ix4 b h_ i d)
      = ∑ t : Fin 64, if t.val ≤ i.val then x (ix4 b h_ t d) else 0 := by
  unfold Host.reduceWindowAdd
  rw [Ideal.hostReduceWindowAdd_def]
  unfold Ideal.hostReduceWindowAdd Host.reduceWindow
  dsimp only
  rw [hi]
  refine (foldl_sum _).trans ?_
  refine (Fintype.sum_equiv ((Shape.rowMajor ⟨4, ![1, 1, 64, 1]⟩).symm.trans winEquiv) _ (fun n : Fin 64 => if h : 63 ≤ i.val + n.val then x (ix4 b h_ ⟨i.val + n.val - 63, by omega⟩ d) else 0) (fun n => ?_)).trans ?_
  · obtain ⟨t, ht⟩ : ∃ t, winEquiv.symm t = (Shape.rowMajor ⟨4, ![1, 1, 64, 1]⟩).symm n := winEquiv.symm.surjective _
    have et : ((Shape.rowMajor ⟨4, ![1, 1, 64, 1]⟩).symm.trans winEquiv) n = t := by
      rw [Equiv.trans_apply, ← ht, Equiv.apply_symm_apply]
    refine Eq.trans ?_ (congrArg (fun n : Fin 64 => if h : 63 ≤ i.val + n.val then x (ix4 b h_ ⟨i.val + n.val - 63, by omega⟩ d) else 0) et.symm)
    have w0 : ((Shape.rowMajor ⟨4, ![1, 1, 64, 1]⟩).symm n 0).val = 0 := by rw [← ht]; rfl
    have w1 : ((Shape.rowMajor ⟨4, ![1, 1, 64, 1]⟩).symm n 1).val = 0 := by rw [← ht]; rfl
    have w2 : ((Shape.rowMajor ⟨4, ![1, 1, 64, 1]⟩).symm n 2).val = t.val := by rw [← ht]; rfl
    have w3 : ((Shape.rowMajor ⟨4, ![1, 1, 64, 1]⟩).symm n 3).val = 0 := by rw [← ht]; rfl
    by_cases c : 63 ≤ i.val + t.val
    · rw [dif_pos c]
      refine (dif_pos ?_).trans ?_
      · intro a
        match a with
        | 0 => show 0 ≤ b.val * 1 + ((Shape.rowMajor ⟨4, ![1, 1, 64, 1]⟩).symm n 0).val ∧ b.val * 1 + ((Shape.rowMajor ⟨4, ![1, 1, 64, 1]⟩).symm n 0).val - 0 < 16; rw [w0]; omega
        | 1 => show 0 ≤ h_.val * 1 + ((Shape.rowMajor ⟨4, ![1, 1, 64, 1]⟩).symm n 1).val ∧ h_.val * 1 + ((Shape.rowMajor ⟨4, ![1, 1, 64, 1]⟩).symm n 1).val - 0 < 4; rw [w1]; omega
        | 2 => show 63 ≤ i.val * 1 + ((Shape.rowMajor ⟨4, ![1, 1, 64, 1]⟩).symm n 2).val ∧ i.val * 1 + ((Shape.rowMajor ⟨4, ![1, 1, 64, 1]⟩).symm n 2).val - 63 < 64; rw [w2]; omega
        | 3 => show 0 ≤ d.val * 1 + ((Shape.rowMajor ⟨4, ![1, 1, 64, 1]⟩).symm n 3).val ∧ d.val * 1 + ((Shape.rowMajor ⟨4, ![1, 1, 64, 1]⟩).symm n 3).val - 0 < 128; rw [w3]; omega
      · refine congrArg x (funext fun a => Fin.ext ?_)
        match a with
        | 0 => show b.val * 1 + ((Shape.rowMajor ⟨4, ![1, 1, 64, 1]⟩).symm n 0).val - 0 = b.val; rw [w0]; omega
        | 1 => show h_.val * 1 + ((Shape.rowMajor ⟨4, ![1, 1, 64, 1]⟩).symm n 1).val - 0 = h_.val; rw [w1]; omega
        | 2 => show i.val * 1 + ((Shape.rowMajor ⟨4, ![1, 1, 64, 1]⟩).symm n 2).val - 63 = i.val + t.val - 63; rw [w2]; omega
        | 3 => show d.val * 1 + ((Shape.rowMajor ⟨4, ![1, 1, 64, 1]⟩).symm n 3).val - 0 = d.val; rw [w3]; omega
    · rw [dif_neg c]
      refine dif_neg ?_
      intro hin
      have h2 : 63 ≤ i.val * 1 + ((Shape.rowMajor ⟨4, ![1, 1, 64, 1]⟩).symm n 2).val ∧ i.val * 1 + ((Shape.rowMajor ⟨4, ![1, 1, 64, 1]⟩).symm n 2).val - 63 < 64 := hin 2
      rw [w2] at h2
      omega
  · refine Fintype.sum_equiv (Equiv.addRight (i + 1)) _ _ (fun n => ?_)
    have e : ((Equiv.addRight (i + 1)) n).val = (n.val + (i.val + 1) % 64) % 64 := by
      show (n + (i + 1)).val = _
      rw [Fin.val_add, Fin.val_add]
      rfl
    have hn := n.isLt
    have hi' := i.isLt
    by_cases c : 63 ≤ i.val + n.val
    · rw [dif_pos c, if_pos (by rw [e]; omega)]
      refine congrArg (fun t => x (ix4 b h_ t d)) (Fin.ext ?_)
      rw [e]
      show i.val + n.val - 63 = _
      omega
    · rw [dif_neg c, if_neg (by rw [e]; omega)]

/-- A chunk of a stacked operand. -/
theorem chunk5 {W : Nat} {α : Type} (x : (⟨5, ![32, 16, 4, 64, W]⟩ : Shape).Idx → α) (start : Fin 5 → Int) (k : Nat) (hk : k < 32) (h0 : start 0 = (k : Int))
    (h1 : start 1 = 0) (h2 : start 2 = 0) (h3 : start 3 = 0) (h4 : start 4 = 0) (hs : (⟨5, ![32, 16, 4, 64, W]⟩ : Shape).Slices (fun _ => 0) ⟨5, ![1, 16, 4, 64, W]⟩)
    (z : Fin 1) (b : Fin 16) (h : Fin 4) (i : Fin 64) (d : Fin W) : Host.dynamicSlice ⟨5, ![1, 16, 4, 64, W]⟩ x start hs (ix5 z b h i d) = x (ix5 (⟨k, hk⟩ : Fin 32) b h i d) := by
  have hz := z.isLt
  refine congrArg x (funext fun a => Fin.ext ?_)
  match a with
  | 0 => show Host.clampedStart (⟨5, ![32, 16, 4, 64, W]⟩ : Shape) ⟨5, ![1, 16, 4, 64, W]⟩ hs.1 start 0 + z.val = k
         have e : Host.clampedStart (⟨5, ![32, 16, 4, 64, W]⟩ : Shape) ⟨5, ![1, 16, 4, 64, W]⟩ hs.1 start 0 = k := by
           unfold Host.clampedStart
           rw [h0]
           show (min (max (k : Int) 0) ((32 - 1 : Nat) : Int)).toNat = k
           omega
         rw [e]; omega
  | 1 => show Host.clampedStart (⟨5, ![32, 16, 4, 64, W]⟩ : Shape) ⟨5, ![1, 16, 4, 64, W]⟩ hs.1 start 1 + b.val = b.val
         have e : Host.clampedStart (⟨5, ![32, 16, 4, 64, W]⟩ : Shape) ⟨5, ![1, 16, 4, 64, W]⟩ hs.1 start 1 = 0 := by
           unfold Host.clampedStart
           rw [h1]
           show (min (max (0 : Int) 0) ((16 - 16 : Nat) : Int)).toNat = 0
           omega
         rw [e]; omega
  | 2 => show Host.clampedStart (⟨5, ![32, 16, 4, 64, W]⟩ : Shape) ⟨5, ![1, 16, 4, 64, W]⟩ hs.1 start 2 + h.val = h.val
         have e : Host.clampedStart (⟨5, ![32, 16, 4, 64, W]⟩ : Shape) ⟨5, ![1, 16, 4, 64, W]⟩ hs.1 start 2 = 0 := by
           unfold Host.clampedStart
           rw [h2]
           show (min (max (0 : Int) 0) ((4 - 4 : Nat) : Int)).toNat = 0
           omega
         rw [e]; omega
  | 3 => show Host.clampedStart (⟨5, ![32, 16, 4, 64, W]⟩ : Shape) ⟨5, ![1, 16, 4, 64, W]⟩ hs.1 start 3 + i.val = i.val
         have e : Host.clampedStart (⟨5, ![32, 16, 4, 64, W]⟩ : Shape) ⟨5, ![1, 16, 4, 64, W]⟩ hs.1 start 3 = 0 := by
           unfold Host.clampedStart
           rw [h3]
           show (min (max (0 : Int) 0) ((64 - 64 : Nat) : Int)).toNat = 0
           omega
         rw [e]; omega
  | 4 => show Host.clampedStart (⟨5, ![32, 16, 4, 64, W]⟩ : Shape) ⟨5, ![1, 16, 4, 64, W]⟩ hs.1 start 4 + d.val = d.val
         have e : Host.clampedStart (⟨5, ![32, 16, 4, 64, W]⟩ : Shape) ⟨5, ![1, 16, 4, 64, W]⟩ hs.1 start 4 = 0 := by
           unfold Host.clampedStart
           rw [h4]
           show (min (max (0 : Int) 0) ((W - W : Nat) : Int)).toNat = 0
           simp
         rw [e]; omega

/-- The lower triangle. -/
theorem tri_eq : ∀ i j : Fin 64, Scalar.select (IntOp.cmpi CmpIPredicate.sge (IntOp.addi (BitVec.ofNat 32 i.val) 0#32) (BitVec.ofNat 32 j.val)) 1#1 0#1 = if j.val ≤ i.val then 1#1 else 0#1 := by decide +kernel

/-- A chunk written into a stacked operand. -/
theorem upd5 {α : Type} (x : (⟨5, ![32, 16, 4, 64, 256]⟩ : Shape).Idx → α) (u : (⟨5, ![1, 16, 4, 64, 256]⟩ : Shape).Idx → α) (start : Fin 5 → Int) (k : Nat) (hk : k < 32) (h0 : start 0 = (k : Int))
    (h1 : start 1 = 0) (h2 : start 2 = 0) (h3 : start 3 = 0) (h4 : start 4 = 0) (hs : (⟨5, ![32, 16, 4, 64, 256]⟩ : Shape).Slices (fun _ => 0) ⟨5, ![1, 16, 4, 64, 256]⟩)
    (n : Fin 32) (b : Fin 16) (h : Fin 4) (i : Fin 64) (d : Fin 256) : Host.dynamicUpdateSlice x u start hs (ix5 n b h i d) = if n.val = k then u (ix5 0 b h i d) else x (ix5 n b h i d) := by
  have e0 : Host.clampedStart (⟨5, ![32, 16, 4, 64, 256]⟩ : Shape) ⟨5, ![1, 16, 4, 64, 256]⟩ hs.1 start 0 = k := by
    unfold Host.clampedStart
    rw [h0]
    show (min (max (k : Int) 0) ((32 - 1 : Nat) : Int)).toNat = k
    omega
  have e1 : Host.clampedStart (⟨5, ![32, 16, 4, 64, 256]⟩ : Shape) ⟨5, ![1, 16, 4, 64, 256]⟩ hs.1 start 1 = 0 := by
    unfold Host.clampedStart
    rw [h1]
    show (min (max (0 : Int) 0) ((16 - 16 : Nat) : Int)).toNat = 0
    omega
  have e2 : Host.clampedStart (⟨5, ![32, 16, 4, 64, 256]⟩ : Shape) ⟨5, ![1, 16, 4, 64, 256]⟩ hs.1 start 2 = 0 := by
    unfold Host.clampedStart
    rw [h2]
    show (min (max (0 : Int) 0) ((4 - 4 : Nat) : Int)).toNat = 0
    omega
  have e3 : Host.clampedStart (⟨5, ![32, 16, 4, 64, 256]⟩ : Shape) ⟨5, ![1, 16, 4, 64, 256]⟩ hs.1 start 3 = 0 := by
    unfold Host.clampedStart
    rw [h3]
    show (min (max (0 : Int) 0) ((64 - 64 : Nat) : Int)).toNat = 0
    omega
  have e4 : Host.clampedStart (⟨5, ![32, 16, 4, 64, 256]⟩ : Shape) ⟨5, ![1, 16, 4, 64, 256]⟩ hs.1 start 4 = 0 := by
    unfold Host.clampedStart
    rw [h4]
    show (min (max (0 : Int) 0) ((256 - 256 : Nat) : Int)).toNat = 0
    omega
  rw [Host.dynamicUpdateSlice_apply]
  by_cases c : n.val = k
  · rw [if_pos c, dif_pos]
    · refine congrArg u (funext fun a => Fin.ext ?_)
      match a with
      | 0 => show n.val - Host.clampedStart (⟨5, ![32, 16, 4, 64, 256]⟩ : Shape) ⟨5, ![1, 16, 4, 64, 256]⟩ hs.1 start 0 = 0; rw [e0]; omega
      | 1 => show b.val - Host.clampedStart (⟨5, ![32, 16, 4, 64, 256]⟩ : Shape) ⟨5, ![1, 16, 4, 64, 256]⟩ hs.1 start 1 = b.val; rw [e1]; omega
      | 2 => show h.val - Host.clampedStart (⟨5, ![32, 16, 4, 64, 256]⟩ : Shape) ⟨5, ![1, 16, 4, 64, 256]⟩ hs.1 start 2 = h.val; rw [e2]; omega
      | 3 => show i.val - Host.clampedStart (⟨5, ![32, 16, 4, 64, 256]⟩ : Shape) ⟨5, ![1, 16, 4, 64, 256]⟩ hs.1 start 3 = i.val; rw [e3]; omega
      | 4 => show d.val - Host.clampedStart (⟨5, ![32, 16, 4, 64, 256]⟩ : Shape) ⟨5, ![1, 16, 4, 64, 256]⟩ hs.1 start 4 = d.val; rw [e4]; omega
    · intro a
      match a with
      | 0 => show Host.clampedStart (⟨5, ![32, 16, 4, 64, 256]⟩ : Shape) ⟨5, ![1, 16, 4, 64, 256]⟩ hs.1 start 0 ≤ n.val ∧ n.val < Host.clampedStart (⟨5, ![32, 16, 4, 64, 256]⟩ : Shape) ⟨5, ![1, 16, 4, 64, 256]⟩ hs.1 start 0 + 1; rw [e0]; omega
      | 1 => show Host.clampedStart (⟨5, ![32, 16, 4, 64, 256]⟩ : Shape) ⟨5, ![1, 16, 4, 64, 256]⟩ hs.1 start 1 ≤ b.val ∧ b.val < Host.clampedStart (⟨5, ![32, 16, 4, 64, 256]⟩ : Shape) ⟨5, ![1, 16, 4, 64, 256]⟩ hs.1 start 1 + 16; rw [e1]; omega
      | 2 => show Host.clampedStart (⟨5, ![32, 16, 4, 64, 256]⟩ : Shape) ⟨5, ![1, 16, 4, 64, 256]⟩ hs.1 start 2 ≤ h.val ∧ h.val < Host.clampedStart (⟨5, ![32, 16, 4, 64, 256]⟩ : Shape) ⟨5, ![1, 16, 4, 64, 256]⟩ hs.1 start 2 + 4; rw [e2]; omega
      | 3 => show Host.clampedStart (⟨5, ![32, 16, 4, 64, 256]⟩ : Shape) ⟨5, ![1, 16, 4, 64, 256]⟩ hs.1 start 3 ≤ i.val ∧ i.val < Host.clampedStart (⟨5, ![32, 16, 4, 64, 256]⟩ : Shape) ⟨5, ![1, 16, 4, 64, 256]⟩ hs.1 start 3 + 64; rw [e3]; omega
      | 4 => show Host.clampedStart (⟨5, ![32, 16, 4, 64, 256]⟩ : Shape) ⟨5, ![1, 16, 4, 64, 256]⟩ hs.1 start 4 ≤ d.val ∧ d.val < Host.clampedStart (⟨5, ![32, 16, 4, 64, 256]⟩ : Shape) ⟨5, ![1, 16, 4, 64, 256]⟩ hs.1 start 4 + 256; rw [e4]; omega
  · rw [if_neg c, dif_neg]
    intro hin
    have hh : Host.clampedStart (⟨5, ![32, 16, 4, 64, 256]⟩ : Shape) ⟨5, ![1, 16, 4, 64, 256]⟩ hs.1 start 0 ≤ n.val ∧ n.val < Host.clampedStart (⟨5, ![32, 16, 4, 64, 256]⟩ : Shape) ⟨5, ![1, 16, 4, 64, 256]⟩ hs.1 start 0 + 1 := hin 0
    rw [e0] at hh
    omega

section
variable (V0 : Valuation τ sig (Elt Ideal)) (k : Nat) (hk : k < 32) (hc : (V0 (Proc.devRef .tc main_v25_4) (Shape.Idx.first h_S_)).toInt = (k : Int))
include hk hc

/-- One trip's query, key and value chunks. -/
theorem rd158 (b : Fin 16) (h : Fin 4) (i : Fin 64) (d : Fin 128) : res_main_while0b_v158 V0 (ix4 b h i d) = V0 (Proc.devRef .tc main_v25_0) (ix5 (⟨k, hk⟩ : Fin 32) b h i d) := by
  unfold res_main_while0b_v158
  generalize hy : Host.dynamicSlice S1x16x4x64x128 _ _ _ = y
  pointwise []
  rw [← hy]
  exact chunk5 _ _ k hk hc rfl rfl rfl rfl _ 0 b h i d
@[inherit_doc rd158] theorem rd159 (b : Fin 16) (h : Fin 4) (i : Fin 64) (d : Fin 128) : res_main_while0b_v159 V0 (ix4 b h i d) = V0 (Proc.devRef .tc main_v25_1) (ix5 (⟨k, hk⟩ : Fin 32) b h i d) := by
  unfold res_main_while0b_v159
  generalize hy : Host.dynamicSlice S1x16x4x64x128 _ _ _ = y
  pointwise []
  rw [← hy]
  exact chunk5 _ _ k hk hc rfl rfl rfl rfl _ 0 b h i d
@[inherit_doc rd158] theorem rd160 (b : Fin 16) (h : Fin 4) (i : Fin 64) (d : Fin 256) : res_main_while0b_v160 V0 (ix4 b h i d) = V0 (Proc.devRef .tc main_v25_2) (ix5 (⟨k, hk⟩ : Fin 32) b h i d) := by
  unfold res_main_while0b_v160
  generalize hy : Host.dynamicSlice S1x16x4x64x256 _ _ _ = y
  pointwise []
  rw [← hy]
  exact chunk5 _ _ k hk hc rfl rfl rfl rfl _ 0 b h i d

/-- One trip's cumulated log-decay. -/
theorem rd162 (b : Fin 16) (h : Fin 4) (i : Fin 64) (d : Fin 128) : res_main_while0b_v162 V0 (ix4 b h i d)
    = ∑ t : Fin 64, (if t.val ≤ i.val then (V0 (Proc.devRef .tc main_v25_3) (ix5 (⟨k, hk⟩ : Fin 32) b h t d) : EReal) else 0 : EReal) := by
  unfold res_main_while0b_v162
  refine (cumsum_apply _ _ (by pointwise []) b h i d).trans (Finset.sum_congr rfl fun t _ => ?_)
  refine if_congr Iff.rfl ?_ rfl
  generalize hy : Host.dynamicSlice S1x16x4x64x128 _ _ _ = y
  pointwise []
  rw [← hy]
  exact chunk5 _ _ k hk hc rfl rfl rfl rfl _ 0 b h t d

variable (I : Inp)
  (hq : ∀ (n : Fin 32) (b : Fin 16) (h : Fin 4) (i : Fin 64) (d : Fin 128), V0 (Proc.devRef .tc main_v25_0) (ix5 n b h i d) = Qr I (64 * (32 * b.val + n.val) + i.val) (128 * h.val + d.val))
  (hkk : ∀ (n : Fin 32) (b : Fin 16) (h : Fin 4) (i : Fin 64) (d : Fin 128), V0 (Proc.devRef .tc main_v25_1) (ix5 n b h i d) = Kr I (64 * (32 * b.val + n.val) + i.val) (128 * h.val + d.val))
  (hv : ∀ (n : Fin 32) (b : Fin 16) (h : Fin 4) (i : Fin 64) (d : Fin 256), V0 (Proc.devRef .tc main_v25_2) (ix5 n b h i d) = Vr I (64 * (32 * b.val + n.val) + i.val) (256 * h.val + d.val))
  (ha : ∀ (n : Fin 32) (b : Fin 16) (h : Fin 4) (i : Fin 64) (d : Fin 128), V0 (Proc.devRef .tc main_v25_3) (ix5 n b h i d) = ((I.A (64 * (32 * b.val + n.val) + i.val) (128 * h.val + d.val) : ℝ) : EReal))
  (hs : ∀ (b : Fin 16) (h : Fin 4) (d : Fin 128) (e : Fin 256), V0 (Proc.devRef .tc main_v25_5) (ix4 b h d e) = S I (32 * b.val + k) h.val e.val d.val)

include ha in
theorem rd162' (b : Fin 16) (h : Fin 4) (i : Fin 64) (d : Fin 128) : res_main_while0b_v162 V0 (ix4 b h i d) = ((bc I (32 * b.val + k) (128 * h.val + d.val) i.val : ℝ) : EReal) := by
  have h2 : ((bc I (32 * b.val + k) (128 * h.val + d.val) i.val : ℝ) : EReal) = ∑ t : Fin 64, if t.val ≤ i.val then ((I.A (64 * (32 * b.val + k) + t.val) (128 * h.val + d.val) : ℝ) : EReal) else 0 := by
    unfold bc
    rw [Cert.KernelIdeal.Val.coe_sum]
    refine Finset.sum_congr rfl fun t _ => ?_
    split_ifs <;> rfl
  have h3 : ∀ t : Fin 64, (if t.val ≤ i.val then (V0 (Proc.devRef .tc main_v25_3) (ix5 (⟨k, hk⟩ : Fin 32) b h t d) : EReal) else 0 : EReal) = if t.val ≤ i.val then ((I.A (64 * (32 * b.val + k) + t.val) (128 * h.val + d.val) : ℝ) : EReal) else 0 :=
    fun t => if_congr Iff.rfl (ha _ _ _ _ _) rfl
  exact ((rd162 V0 k hk hc b h i d).trans (congrArg (fun f : Fin 64 → EReal => ∑ t, f t) (funext h3))).trans h2.symm

include ha in
theorem rd184 (b : Fin 16) (h : Fin 4) (z : Fin 1) (d : Fin 128) : res_main_while0b_v184 V0 (ix4 b h z d) = ((bc I (32 * b.val + k) (128 * h.val + d.val) 63 : ℝ) : EReal) := by
  have hz := z.isLt
  refine Eq.trans ?_ (rd162' V0 k hk hc I ha b h 63 d)
  unfold res_main_while0b_v184
  generalize res_main_while0b_v162 V0 = y
  pointwise []

include hkk hv ha hs in
theorem trip5 (b : Fin 16) (h : Fin 4) (d : Fin 128) (e : Fin 256) : step_main_v25_5 V0 (ix4 b h d e) = Sn I (32 * b.val + k) h.val e.val d.val := by
  have e1 := rd184 V0 k hk hc I ha
  have e2 := rd162' V0 k hk hc I ha
  have e3 := fun b h i d => (rd159 V0 k hk hc b h i d).trans (hkk _ _ _ _ _)
  have e4 := fun b h i d => (rd160 V0 k hk hc b h i d).trans (hv _ _ _ _ _)
  unfold step_main_v25_5
  simp only [id_eq]
  generalize res_main_while0b_v184 V0 = y1 at *
  generalize res_main_while0b_v162 V0 = y2 at *
  generalize res_main_while0b_v159 V0 = y3 at *
  generalize res_main_while0b_v160 V0 = y4 at *
  pointwise []
  simp only [e1, e2, e3, e4, hs]
  unfold Sn upd
  rw [Ideal.exp_coe, mul_comm]
  refine congrArg₂ (· + ·) rfl (Finset.sum_congr rfl fun x _ => ?_)
  rw [← EReal.coe_sub, Ideal.exp_coe, mul_comm]
  rfl

include hq hkk hv ha hs in
theorem trip6 (n : Fin 32) (b : Fin 16) (h : Fin 4) (i : Fin 64) (e : Fin 256) :
    step_main_v25_6 V0 (ix5 n b h i e) = if n.val = k then oA I (32 * b.val + k) h.val i.val e.val else V0 (Proc.devRef .tc main_v25_6) (ix5 n b h i e) := by
  have e2 := rd162' V0 k hk hc I ha
  have e3 := fun b h i d => (rd159 V0 k hk hc b h i d).trans (hkk _ _ _ _ _)
  have e4 := fun b h i d => (rd160 V0 k hk hc b h i d).trans (hv _ _ _ _ _)
  have e5 := fun b h i d => (rd158 V0 k hk hc b h i d).trans (hq _ _ _ _ _)
  unfold step_main_v25_6
  simp only [id_eq]
  rw [upd5 _ _ _ k hk hc rfl rfl rfl rfl _ n b h i e]
  refine if_congr Iff.rfl ?_ rfl
  generalize res_main_while0b_v158 V0 = y5 at *
  generalize res_main_while0b_v162 V0 = y2 at *
  generalize res_main_while0b_v159 V0 = y3 at *
  generalize res_main_while0b_v160 V0 = y4 at *
  pointwise []
  simp only [e2, e3, e4, e5, hs]
  unfold oA att
  refine congrArg₂ (· + ·) (Finset.sum_congr rfl fun x _ => ?_) (Finset.sum_congr rfl fun x _ => ?_)
  · rw [Ideal.exp_coe]
    rfl
  · refine congrArg₂ (· * ·) ?_ rfl
    rw [tri_eq]
    by_cases c : x.val ≤ i.val
    · rw [if_pos c, if_pos c]
      refine Finset.sum_congr rfl fun y _ => congrArg₂ (· * ·) rfl ?_
      rw [← EReal.coe_sub]
      exact Ideal.exp_coe _
    · rw [if_neg c, if_neg c]
      refine Finset.sum_eq_zero fun y _ => ?_
      show _ * Ideal.exp (Ideal.ofBits FTy.f32 4286578688#32) = 0
      rw [show Ideal.ofBits FTy.f32 4286578688#32 = ⊥ from Cert.KernelIdeal.Val.ninf_f32]
      exact by rw [Ideal.exp_bot, mul_zero]

end

end Cert.ReferenceIdeal.Value

end
-- ==== Proof.MixIter.lean ====
/-
  The mixing reference's loop run to its end, from what the operations before it leave.
-/
module

public import proofs.«01_k».proof.Proof.Gen.ReferenceIdeal.Run
public import Idealize.ShloMosaic.Lib.Claim
public import proofs.«01_k».proof.Proof.MixLoop
public import proofs.«01_k».proof.Proof.MixSwa

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Cert.Mixm

theorem sts : ∀ k : Fin 32, (BitVec.ofNat 32 k.val).toInt = (k.val : Int) := by decide

section
variable (V0 : Valuation τ sig (Elt Ideal)) (I : Inp)
  (hq : ∀ (n : Fin 32) (b : Fin 16) (h : Fin 4) (i : Fin 64) (d : Fin 128), V0 (Proc.devRef .tc main_v25_0) (ix5 n b h i d) = Qr I (64 * (32 * b.val + n.val) + i.val) (128 * h.val + d.val))
  (hkk : ∀ (n : Fin 32) (b : Fin 16) (h : Fin 4) (i : Fin 64) (d : Fin 128), V0 (Proc.devRef .tc main_v25_1) (ix5 n b h i d) = Kr I (64 * (32 * b.val + n.val) + i.val) (128 * h.val + d.val))
  (hv : ∀ (n : Fin 32) (b : Fin 16) (h : Fin 4) (i : Fin 64) (d : Fin 256), V0 (Proc.devRef .tc main_v25_2) (ix5 n b h i d) = Vr I (64 * (32 * b.val + n.val) + i.val) (256 * h.val + d.val))
  (ha : ∀ (n : Fin 32) (b : Fin 16) (h : Fin 4) (i : Fin 64) (d : Fin 128), V0 (Proc.devRef .tc main_v25_3) (ix5 n b h i d) = ((I.A (64 * (32 * b.val + n.val) + i.val) (128 * h.val + d.val) : ℝ) : EReal))
  (hc : V0 (Proc.devRef .tc main_v25_4) = fun _ => 0#32)
  (hs : ∀ (b : Fin 16) (h : Fin 4) (d : Fin 128) (e : Fin 256), V0 (Proc.devRef .tc main_v25_5) (ix4 b h d e) = (0 : EReal))

/-- What the carried buffers hold after `k` trips. -/
structure Inv (k : Nat) (V : Valuation τ sig (Elt Ideal)) : Prop where
  q : V (Proc.devRef .tc main_v25_0) = V0 (Proc.devRef .tc main_v25_0)
  kk : V (Proc.devRef .tc main_v25_1) = V0 (Proc.devRef .tc main_v25_1)
  v : V (Proc.devRef .tc main_v25_2) = V0 (Proc.devRef .tc main_v25_2)
  a : V (Proc.devRef .tc main_v25_3) = V0 (Proc.devRef .tc main_v25_3)
  c : V (Proc.devRef .tc main_v25_4) = fun _ => BitVec.ofNat 32 k
  s : k < 32 → ∀ (b : Fin 16) (h : Fin 4) (d : Fin 128) (e : Fin 256), V (Proc.devRef .tc main_v25_5) (ix4 b h d e) = S I (32 * b.val + k) h.val e.val d.val
  o : ∀ (n : Fin 32) (b : Fin 16) (h : Fin 4) (i : Fin 64) (e : Fin 256), n.val < k → V (Proc.devRef .tc main_v25_6) (ix5 n b h i e) = oA I (32 * b.val + n.val) h.val i.val e.val

include hq hkk hv ha hc hs in
theorem inv_iter (k : Nat) (hk : k ≤ 32) : Inv V0 I k (STEP^[k] V0) := by
  induction k with
  | zero =>
    rw [Function.iterate_zero, id_eq]
    refine ⟨rfl, rfl, rfl, rfl, hc, fun _ b h d e => ?_, fun n b h i e hn => absurd hn (by omega)⟩
    rw [hs, S_zero I _ _ _ _ (by omega)]
  | succ k ih =>
    have J := ih (by omega)
    rw [Function.iterate_succ_apply']
    generalize STEP^[k] V0 = V at J
    have hcc : (V (Proc.devRef .tc main_v25_4) (Shape.Idx.first h_S_)).toInt = (k : Int) := by
      rw [J.c]
      exact sts ⟨k, by omega⟩
    have q1 := fun n b h i d => (congrFun J.q (ix5 n b h i d)).trans (hq n b h i d)
    have k1 := fun n b h i d => (congrFun J.kk (ix5 n b h i d)).trans (hkk n b h i d)
    have v1 := fun n b h i d => (congrFun J.v (ix5 n b h i d)).trans (hv n b h i d)
    have a1 := fun n b h i d => (congrFun J.a (ix5 n b h i d)).trans (ha n b h i d)
    have s1 := J.s (by omega)
    refine ⟨(STEP_main_v25_0 V).trans J.q, (STEP_main_v25_1 V).trans J.kk, (STEP_main_v25_2 V).trans J.v, (STEP_main_v25_3 V).trans J.a, ?_, ?_, ?_⟩
    · rw [STEP_main_v25_4]
      unfold step_main_v25_4
      rw [J.c]
      funext j
      show BitVec.ofNat 32 k + 1#32 = BitVec.ofNat 32 (k + 1)
      rw [BitVec.ofNat_add]
    · intro h32 b h d e
      refine (congrFun (STEP_main_v25_5 V) (ix4 b h d e)).trans ?_
      rw [trip5 V k (by omega) hcc I k1 v1 a1 s1, ← Nat.add_assoc, S_succ I _ _ _ _ (by omega)]
    · intro n b h i e hn
      refine (congrFun (STEP_main_v25_6 V) (ix5 n b h i e)).trans ?_
      rw [trip6 V k (by omega) hcc I q1 k1 v1 a1 s1]
      by_cases c : n.val = k
      · rw [if_pos c, c]
      · rw [if_neg c]
        exact J.o n b h i e (by omega)

end

end Cert.ReferenceIdeal.Value

end
-- ==== Proof.MixDen.lean ====
/-
  The window attention's denominator is positive, so dividing each weight by it is dividing their weighted sum.
-/
module

public import proofs.«01_k».proof.Proof.MixGla
public import proofs.«01_k».proof.Proof.MixSwa

@[expose] public section

noncomputable section

namespace Cert.Mixm

open Idealize.ShloMosaic

/-- What the precondition says of the inputs: finite queries and keys, penalties and sinks that are not plus infinity. -/
structure Inp.Fine (I : Inp) : Prop where
  q : ∀ r c, r < 32768 → c < 1024 → ∃ x : ℝ, I.P r (6144 + c) = x
  k : ∀ r c, r < 32768 → c < 256 → ∃ x : ℝ, I.P r (8192 + c) = x
  bias : ∀ h i j, ∃ x : ℝ, I.bias h i j = x
  sink : ∀ h, h < 16 → I.sink h ≠ ⊤

theorem exp_nonneg (x : EReal) : 0 ≤ Ideal.exp x := by
  induction x with
  | bot => exact le_of_eq Ideal.exp_bot.symm
  | top => exact le_top
  | coe r => rw [Ideal.exp_coe]; exact_mod_cast (Real.exp_pos r).le

variable {I : Inp}

theorem sc_real (H : I.Fine) (n h i j : Nat) (hn : n < 256) (hh : h < 16) (hi : i < 128) (hj : j < 256) (c : ok n i j) : ∃ x : ℝ, sc I n h i j = x := by
  have hr : 128 * n + j - 128 < 32768 := by have := c.2.2; omega
  choose fk hk using fun d : Fin 64 => H.k (128 * n + j - 128) (64 * (h / 4) + d.val) hr (by have := d.isLt; omega)
  choose fq hq using fun d : Fin 64 => H.q (128 * n + i) (64 * h + d.val) (by omega) (by have := d.isLt; omega)
  obtain ⟨b, hb⟩ := H.bias h i j
  refine ⟨(∑ d : Fin 64, fk d * fq d) * (1 / 8) + b, ?_⟩
  unfold sc
  rw [if_pos c, EReal.coe_add, EReal.coe_mul, Cert.KernelIdeal.Val.coe_sum, hb]
  refine congrArg (· + _) (congrArg (· * _) (Finset.sum_congr rfl fun d _ => ?_))
  rw [hk, hq, EReal.coe_mul]

theorem sc_lt (H : I.Fine) (n h i j : Nat) (hn : n < 256) (hh : h < 16) (hi : i < 128) (hj : j < 256) : sc I n h i j < ⊤ := by
  by_cases c : ok n i j
  · obtain ⟨x, hx⟩ := sc_real H n h i j hn hh hi hj c
    rw [hx]; exact EReal.coe_lt_top x
  · unfold sc; rw [if_neg c]; exact bot_lt_top

theorem den_pos (H : I.Fine) (n h i : Nat) (hn : n < 256) (hh : h < 16) (hi : i < 128) : 0 < dB I n h i := by
  obtain ⟨x, hx⟩ := sc_real H n h i (i + 128) hn hh hi (by omega) (by unfold ok; omega)
  have hlt : mB I n h i < ⊤ := by
    unfold mB
    refine max_lt ?_ (lt_top_iff_ne_top.mpr (H.sink h hh))
    rw [Finset.fold_max_lt]
    exact ⟨bot_lt_top, fun j _ => sc_lt H n h i j.val hn hh hi j.isLt⟩
  have hgt : (x : EReal) ≤ mB I n h i := by
    unfold mB
    refine le_max_of_le_left ?_
    rw [Finset.le_fold_max]
    exact Or.inr ⟨⟨i + 128, by omega⟩, Finset.mem_univ _, le_of_eq hx.symm⟩
  obtain ⟨m, hm⟩ : ∃ m : ℝ, mB I n h i = m := by
    lift mB I n h i to ℝ using ⟨hlt.ne, (lt_of_lt_of_le (EReal.bot_lt_coe x) hgt).ne'⟩ with m
    exact ⟨m, rfl⟩
  unfold dB
  refine add_pos_of_pos_of_nonneg ?_ (exp_nonneg _)
  refine lt_of_lt_of_le ?_ (Finset.single_le_sum (f := fun j : Fin 256 => Ideal.exp (sc I n h i j.val - mB I n h i)) (fun j _ => exp_nonneg _) (Finset.mem_univ (⟨i + 128, by omega⟩ : Fin 256)))
  show 0 < Ideal.exp (sc I n h i (i + 128) - mB I n h i)
  rw [hx, hm, ← EReal.coe_sub, Ideal.exp_coe]
  exact_mod_cast Real.exp_pos _

theorem sum_mul_real (f : Fin 256 → EReal) (c : ℝ) (hc : 0 ≤ c) (s : Finset (Fin 256)) : (∑ x ∈ s, f x) * (c : EReal) = ∑ x ∈ s, f x * (c : EReal) := by
  classical
  induction s using Finset.induction_on with
  | empty => rw [Finset.sum_empty, Finset.sum_empty, zero_mul]
  | insert a s ha ih => rw [Finset.sum_insert ha, Finset.sum_insert ha, EReal.right_distrib_of_nonneg_of_ne_top (by exact_mod_cast hc) (EReal.coe_ne_top _), ih]

/-- Dividing each weight is dividing the weighted sum. -/
theorem div_sum (v e : Fin 256 → EReal) (d : EReal) (hd : 0 < d) : ∑ j, v j * Ideal.div (e j) d = (∑ j, v j * e j) * Ideal.div 1 d := by
  obtain ⟨c, hc, hcd⟩ : ∃ c : ℝ, 0 ≤ c ∧ d⁻¹ = (c : EReal) := by
    induction d with
    | bot => exact absurd hd (by simp)
    | top => exact ⟨0, le_refl _, by simp⟩
    | coe r => exact ⟨r⁻¹, inv_nonneg.mpr (by exact_mod_cast hd.le), (EReal.coe_inv r).symm⟩
  have hdiv : ∀ x : EReal, Ideal.div x d = x * (c : EReal) := by
    intro x
    unfold Ideal.div
    rw [if_neg hd.ne', hcd]
  rw [hdiv, one_mul, sum_mul_real _ c hc]
  refine Finset.sum_congr rfl fun j _ => ?_
  rw [hdiv, mul_assoc]

end Cert.Mixm

end

end
-- ==== Proof.MixPost.lean ====
/-
  The mixing reference after its loop: the normed and gated branch, the window attention, and the merge.
-/
module

public import proofs.«01_k».proof.Proof.Gen.ReferenceIdeal.Run
public import Idealize.ShloMosaic.Lib.Claim
public import proofs.«01_k».proof.Proof.MixLoop
public import proofs.«01_k».proof.Proof.MixDen
public import proofs.«01_k».proof.Proof.MixBias
public import proofs.«01_k».proof.Proof.MixSwa

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Cert.Mixm

set_option maxRecDepth 8192
/-- A piece of the reference's result. -/
def refVal (V0 : Valuation τ sig (Elt Ideal)) : FVec Ideal S16x16x256x4x64 .f32 :=
  concatenate S16x16x256x4x64 2 [⟨S16x16x128x4x64, (pad S16x16x128x4x64 ![0, 1, 0, 0, 0] ![0, 0, 0, 0, 0] ![0, 0, 0, 0, 0] (extractStridedSlice S16x15x128x4x64 ![0, 0, 0, 0, 0] (shapeCast _ (extf .f32 (extractStridedSlice S32768x256 ![0, 8448] (V0 (Proc.devRef .tc main_arg0)) slices_S32768x8704_S32768x256_0_8448) bitsLt_bf16_f32) shapeCasts_S32768x256_S16x16x128x4x64) slices_S16x16x128x4x64_S16x15x128x4x64_0_0_0_0_0) (sitofp .f32 (constantI S_ 32 0#32)) pads_S16x15x128x4x64_S16x16x128x4x64_000_100_000_000_000 h_S_)⟩, ⟨S16x16x128x4x64, (shapeCast _ (extf .f32 (extractStridedSlice S32768x256 ![0, 8448] (V0 (Proc.devRef .tc main_arg0)) slices_S32768x8704_S32768x256_0_8448) bitsLt_bf16_f32) shapeCasts_S32768x256_S16x16x128x4x64)⟩] concatenates_S16x16x128x4x64_S16x16x128x4x64_S16x16x256x4x64_d2
/-- A piece of the reference's result. -/
def refKey (V0 : Valuation τ sig (Elt Ideal)) : FVec Ideal S16x16x256x4x64 .f32 :=
  concatenate S16x16x256x4x64 2 [⟨S16x16x128x4x64, (pad S16x16x128x4x64 ![0, 1, 0, 0, 0] ![0, 0, 0, 0, 0] ![0, 0, 0, 0, 0] (extractStridedSlice S16x15x128x4x64 ![0, 0, 0, 0, 0] (shapeCast _ (extf .f32 (extractStridedSlice S32768x256 ![0, 8192] (V0 (Proc.devRef .tc main_arg0)) slices_S32768x8704_S32768x256_0_8192) bitsLt_bf16_f32) shapeCasts_S32768x256_S16x16x128x4x64) slices_S16x16x128x4x64_S16x15x128x4x64_0_0_0_0_0) (sitofp .f32 (constantI S_ 32 0#32)) pads_S16x15x128x4x64_S16x16x128x4x64_000_100_000_000_000 h_S_)⟩, ⟨S16x16x128x4x64, (shapeCast _ (extf .f32 (extractStridedSlice S32768x256 ![0, 8192] (V0 (Proc.devRef .tc main_arg0)) slices_S32768x8704_S32768x256_0_8192) bitsLt_bf16_f32) shapeCasts_S32768x256_S16x16x128x4x64)⟩] concatenates_S16x16x128x4x64_S16x16x128x4x64_S16x16x256x4x64_d2
/-- A piece of the reference's result. -/
def refBias (V0 : Valuation τ sig (Elt Ideal)) : FVec Ideal S4x4x128x256 .f32 :=
  mulf (broadcastInDim S4x4x128x256 ![0, 1, 2, 3] bcast_S4x4x1x1_S4x4x128x256_0_1_2_3 (Host.negf (broadcastInDim S4x4x1x1 ![0, 1] bcast_S4x4_S4x4x1x1_0_1 (shapeCast _ (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) shapeCasts_S16_S4x4)))) (broadcastInDim S4x4x128x256 ![0, 1, 2, 3] bcast_S1x1x128x256_S4x4x128x256_0_1_2_3 (broadcastInDim S1x1x128x256 ![2, 3] bcast_S128x256_S1x1x128x256_2_3 (sitofp .f32 (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))))))
/-- A piece of the reference's result. -/
def refMask (V0 : Valuation τ sig (Elt Ideal)) : IVec S16x128x256 1 :=
  andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32))))))
/-- A piece of the reference's result. -/
def refSc (V0 : Valuation τ sig (Elt Ideal)) : FVec Ideal S16x16x4x4x128x256 .f32 :=
  select (broadcastInDim S16x16x4x4x128x256 ![0, 1, 2, 3, 4, 5] bcast_S1x16x1x1x128x256_S16x16x4x4x128x256_0_1_2_3_4_5 (broadcastInDim S1x16x1x1x128x256 ![1, 4, 5] bcast_S16x128x256_S1x16x1x1x128x256_1_4_5 (refMask V0))) (addf (mulf (transpose S16x16x4x4x128x256 [0, 1, 2, 5, 4, 3] (Host.dotGeneral dot_S16x16x256x4x64_S16x16x128x4x4x64_S16x16x4x256x128x4_4_5_2_24_013_013 none (refKey V0) (shapeCast _ (extf .f32 (extractStridedSlice S32768x1024 ![0, 6144] (V0 (Proc.devRef .tc main_arg0)) slices_S32768x8704_S32768x1024_0_6144) bitsLt_bf16_f32) shapeCasts_S32768x1024_S16x16x128x4x4x64)) transposes_S16x16x4x256x128x4_S16x16x4x4x128x256_0_1_2_5_4_3) (broadcastInDim S16x16x4x4x128x256 ![] bcast_S_S16x16x4x4x128x256 (constant S_ .f32 0x3E000000#32))) (broadcastInDim S16x16x4x4x128x256 ![0, 1, 2, 3, 4, 5] bcast_S1x1x4x4x128x256_S16x16x4x4x128x256_0_1_2_3_4_5 (broadcastInDim S1x1x4x4x128x256 ![2, 3, 4, 5] bcast_S4x4x128x256_S1x1x4x4x128x256_2_3_4_5 (refBias V0)))) (broadcastInDim S16x16x4x4x128x256 ![] bcast_S_S16x16x4x4x128x256 (id (constant S_ .f32 0xFF800000#32)))
/-- A piece of the reference's result. -/
def refSink (V0 : Valuation τ sig (Elt Ideal)) : FVec Ideal S16x16x4x4x128x1 .f32 :=
  broadcastInDim S16x16x4x4x128x1 ![0, 1, 2, 3, 4, 5] bcast_S1x1x4x4x1x1_S16x16x4x4x128x1_0_1_2_3_4_5 (broadcastInDim S1x1x4x4x1x1 ![2, 3, 4, 5] bcast_S4x4x1x1_S1x1x4x4x1x1_2_3_4_5 (broadcastInDim S4x4x1x1 ![0, 1] bcast_S4x4_S4x4x1x1_0_1 (shapeCast _ (V0 (Proc.devRef .tc main_arg6)) shapeCasts_S16_S4x4)))
/-- A piece of the reference's result. -/
def refMax (V0 : Valuation τ sig (Elt Ideal)) : FVec Ideal S16x16x4x4x128x1 .f32 :=
  maximumf (broadcastInDim S16x16x4x4x128x1 ![0, 1, 2, 3, 4] bcast_S16x16x4x4x128_S16x16x4x4x128x1_0_1_2_3_4 (Host.reduce FloatOps.maximumf (refSc V0) (constant S_ .f32 0xFF800000#32) reducesTo_S16x16x4x4x128x256_S16x16x4x4x128_d5 h_S_)) (refSink V0)
/-- A piece of the reference's result. -/
def refExp (V0 : Valuation τ sig (Elt Ideal)) : FVec Ideal S16x16x4x4x128x256 .f32 :=
  Host.exp (subf (refSc V0) (broadcastInDim S16x16x4x4x128x256 ![0, 1, 2, 3, 4, 5] bcast_S16x16x4x4x128x1_S16x16x4x4x128x256_0_1_2_3_4_5 (refMax V0)))
/-- A piece of the reference's result. -/
def refDen (V0 : Valuation τ sig (Elt Ideal)) : FVec Ideal S16x16x4x4x128x1 .f32 :=
  addf (broadcastInDim S16x16x4x4x128x1 ![0, 1, 2, 3, 4] bcast_S16x16x4x4x128_S16x16x4x4x128x1_0_1_2_3_4 (Host.reduceAdd (refExp V0) (constant S_ .f32 0x00000000#32) reducesTo_S16x16x4x4x128x256_S16x16x4x4x128_d5 h_S_)) (Host.exp (subf (refSink V0) (refMax V0)))
/-- A piece of the reference's result. -/
def refSwa (V0 : Valuation τ sig (Elt Ideal)) : FVec Ideal S32768x1024 .f32 :=
  shapeCast _ (transpose S16x16x128x4x4x64 [0, 1, 5, 2, 4, 3] (Host.dotGeneral dot_S16x16x256x4x64_S16x16x4x4x128x256_S16x16x4x64x4x128_2_5_4_34_013_012 none (refVal V0) (Host.divf (refExp V0) (broadcastInDim S16x16x4x4x128x256 ![0, 1, 2, 3, 4, 5] bcast_S16x16x4x4x128x1_S16x16x4x4x128x256_0_1_2_3_4_5 (refDen V0)))) transposes_S16x16x4x64x4x128_S16x16x128x4x4x64_0_1_5_2_4_3) shapeCasts_S16x16x128x4x4x64_S32768x1024
/-- A piece of the reference's result. -/
def refO (V0 : Valuation τ sig (Elt Ideal)) : FVec Ideal S32768x4x256 .f32 :=
  shapeCast _ (transpose S16x32x64x4x256 [1, 0, 3, 2, 4] (V0 (Proc.devRef .tc main_v25_6)) transposes_S32x16x4x64x256_S16x32x64x4x256_1_0_3_2_4) shapeCasts_S16x32x64x4x256_S32768x4x256
/-- A piece of the reference's result. -/
def refGn (V0 : Valuation τ sig (Elt Ideal)) : FVec Ideal S32768x1024 .f32 :=
  shapeCast _ (mulf (mulf (refO V0) (broadcastInDim S32768x4x256 ![0, 1, 2] bcast_S32768x4x1_S32768x4x256_0_1_2 (Host.rsqrt (addf (Host.divf (broadcastInDim S32768x4x1 ![0, 1] bcast_S32768x4_S32768x4x1_0_1 (Host.reduceAdd (mulf (refO V0) (refO V0)) (constant S_ .f32 0x00000000#32) reducesTo_S32768x4x256_S32768x4_d2 h_S_)) (broadcastInDim S32768x4x1 ![] bcast_S_S32768x4x1 (constant S_ .f32 0x43800000#32))) (broadcastInDim S32768x4x1 ![] bcast_S_S32768x4x1 (constant S_ .f32 0x358637BD#32)))))) (broadcastInDim S32768x4x256 ![0, 1, 2] bcast_S1x1x256_S32768x4x256_0_1_2 (broadcastInDim S1x1x256 ![2] bcast_S256_S1x1x256_2 (shapeCast _ (V0 (Proc.devRef .tc main_arg5)) shapeCasts_S1x256_S256)))) shapeCasts_S32768x4x256_S32768x1024
/-- A piece of the reference's result. -/
def refGla (V0 : Valuation τ sig (Elt Ideal)) : FVec Ideal S32768x1024 .f32 :=
  mulf (refGn V0) (mulf (extf .f32 (extractStridedSlice S32768x1024 ![0, 5120] (V0 (Proc.devRef .tc main_arg0)) slices_S32768x8704_S32768x1024_0_5120) bitsLt_bf16_f32) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 5120] (V0 (Proc.devRef .tc main_arg0)) slices_S32768x8704_S32768x1024_0_5120) bitsLt_bf16_f32))))))

theorem out_pieces (V0 : Valuation τ sig (Elt Ideal)) : out_main_v157 V0 =
  addf (V0 (Proc.devRef .tc main_arg2)) (Host.dotGeneral dot_S32768x2048_S2048x2048_S32768x2048_1_0_0_1_n_n none (addf (mulf (extf .f32 (extractStridedSlice S32768x2048 ![0, 0] (V0 (Proc.devRef .tc main_arg0)) slices_S32768x8704_S32768x2048_0_0) bitsLt_bf16_f32) (Host.dotGeneral dot_S32768x1024_S1024x2048_S32768x2048_1_0_0_1_n_n none (refGla V0) (extf .f32 (V0 (Proc.devRef .tc main_arg7)) bitsLt_bf16_f32))) (mulf (extf .f32 (extractStridedSlice S32768x2048 ![0, 2048] (V0 (Proc.devRef .tc main_arg0)) slices_S32768x8704_S32768x2048_0_2048) bitsLt_bf16_f32) (Host.dotGeneral dot_S32768x1024_S1024x2048_S32768x2048_1_0_0_1_n_n none (refSwa V0) (extf .f32 (V0 (Proc.devRef .tc main_arg8)) bitsLt_bf16_f32)))) (extf .f32 (V0 (Proc.devRef .tc main_arg9)) bitsLt_bf16_f32)) := rfl

theorem red5 : S16x16x4x4x128x256.Reduces [5] S16x16x4x4x128 := by decide

theorem lift5 (b n : Fin 16) (h r : Fin 4) (i : Fin 128) (k : Fin 256) : red5.lift (ix5 b n h r i) k = ix6 b n h r i k := by
  funext a
  refine Fin.ext ?_
  refine (Shape.Reduces.lift_val red5 (ix5 b n h r i) k a).trans ?_
  match a with
  | 0 => rfl
  | 1 => rfl
  | 2 => rfl
  | 3 => rfl
  | 4 => rfl
  | 5 => rfl

theorem max5 (y : FVec Ideal S16x16x4x4x128x256 .f32) (init : FVec Ideal S_ .f32) (b n : Fin 16) (h r : Fin 4) (i : Fin 128) :
    Host.reduce FloatOps.maximumf y init reducesTo_S16x16x4x4x128x256_S16x16x4x4x128_d5 h_S_ (ix5 b n h r i) = Finset.univ.fold max (init (Shape.Idx.first h_S_)) (fun k : Fin 256 => y (ix6 b n h r i k)) := by
  refine (Host.reduce_eq_fold_single (FloatOps.maximumf (F := Ideal)) y init reducesTo_S16x16x4x4x128x256_S16x16x4x4x128_d5 red5 h_S_ (ix5 b n h r i)).trans ?_
  exact congrArg (Finset.fold max (init (Shape.Idx.first h_S_)) · Finset.univ) (funext fun k => congrArg y (lift5 b n h r i k))

theorem sum5 (y : FVec Ideal S16x16x4x4x128x256 .f32) (init : FVec Ideal S_ .f32) (b n : Fin 16) (h r : Fin 4) (i : Fin 128) :
    Host.reduceAdd y init reducesTo_S16x16x4x4x128x256_S16x16x4x4x128_d5 h_S_ (ix5 b n h r i) = init (Shape.Idx.first h_S_) + ∑ k : Fin 256, y (ix6 b n h r i k) := by
  refine (Ideal.hostReduceAdd_single reducesTo_S16x16x4x4x128x256_S16x16x4x4x128_d5 red5 y (init (Shape.Idx.first h_S_)) (ix5 b n h r i)).trans ?_
  exact congrArg (_ + ·) (Finset.sum_congr rfl fun k _ => congrArg y (lift5 b n h r i k))

theorem mask1 : ∀ (n : Fin 16) (j : Fin 256), IntOp.ori (IntOp.cmpi CmpIPredicate.sgt (BitVec.ofNat 32 n.val) 0#32) (IntOp.cmpi CmpIPredicate.sge (BitVec.ofNat 32 j.val) 128#32)
      = if n.val ≠ 0 ∨ 128 ≤ j.val then 1#1 else 0#1 := by decide +kernel

section
variable (V0 : Valuation τ sig (Elt Ideal)) (I : Inp)
  (hP : ∀ (r : Fin 32768) (c : Fin 8704), V0 (Proc.devRef .tc main_arg0) (ix2 r c) = I.P r.val c.val)

theorem refMask_apply (n : Fin 16) (i : Fin 128) (j : Fin 256) : refMask V0 (ix3 n i j) = if i.val < j.val ∧ j.val ≤ i.val + 128 ∧ (n.val ≠ 0 ∨ 128 ≤ j.val) then 1#1 else 0#1 := by
  unfold refMask
  pointwise []
  rw [mask0, mask1]
  by_cases c : i.val < j.val ∧ j.val ≤ i.val + 128 <;> by_cases c2 : n.val ≠ 0 ∨ 128 ≤ j.val
  · rw [if_pos c, if_pos c2, if_pos ⟨c.1, c.2, c2⟩]; rfl
  · rw [if_pos c, if_neg c2, if_neg (fun h => c2 h.2.2)]; rfl
  · rw [if_neg c, if_pos c2, if_neg (fun h => c ⟨h.1, h.2.1⟩)]; rfl
  · rw [if_neg c, if_neg c2, if_neg (fun h => c2 h.2.2)]; rfl

theorem refBias_apply (h r : Fin 4) (i : Fin 128) (j : Fin 256) : refBias V0 (ix4 h r i j) = biasOf (h.val * 4 + r.val) i.val j.val := by
  unfold refBias
  pointwise []
  rfl

include hP in
theorem refKey_apply (b n : Fin 16) (j : Fin 256) (g : Fin 4) (d : Fin 64) (hj : n.val ≠ 0 ∨ 128 ≤ j.val) :
    refKey V0 (ix5 b n j g d) = I.P (128 * (16 * b.val + n.val) + j.val - 128) (8192 + (64 * g.val + d.val)) := by
  unfold refKey
  generalize V0 (Proc.devRef .tc main_arg0) = P at hP
  pointwise []
  have hj' := j.isLt
  have hn' := n.isLt
  by_cases c : j.val < 128
  · rw [dif_pos c, dif_pos (by omega)]
    refine (hP _ _).trans ?_
    congr 1 <;> (dsimp only; omega)
  · rw [dif_neg c]
    refine (hP _ _).trans ?_
    congr 1 <;> (dsimp only; omega)

include hP in
@[inherit_doc refKey_apply] theorem refVal_apply (b n : Fin 16) (j : Fin 256) (g : Fin 4) (d : Fin 64) (hj : n.val ≠ 0 ∨ 128 ≤ j.val) :
    refVal V0 (ix5 b n j g d) = I.P (128 * (16 * b.val + n.val) + j.val - 128) (8448 + (64 * g.val + d.val)) := by
  unfold refVal
  generalize V0 (Proc.devRef .tc main_arg0) = P at hP
  pointwise []
  have hj' := j.isLt
  have hn' := n.isLt
  by_cases c : j.val < 128
  · rw [dif_pos c, dif_pos (by omega)]
    refine (hP _ _).trans ?_
    congr 1 <;> (dsimp only; omega)
  · rw [dif_neg c]
    refine (hP _ _).trans ?_
    congr 1 <;> (dsimp only; omega)

variable (hb : ∀ h i j, I.bias h i j = biasOf h i j)
  (hs : ∀ h : Fin 16, V0 (Proc.devRef .tc main_arg6) (ix1 h) = I.sink h.val)

include hP hb in
theorem refSc_apply (b n : Fin 16) (h r : Fin 4) (i : Fin 128) (j : Fin 256) : refSc V0 (ix6 b n h r i j) = sc I (16 * b.val + n.val) (4 * h.val + r.val) i.val j.val := by
  have e1 := refKey_apply V0 I hP b n j h
  have e2 := refMask_apply V0 n i j
  have e3 := refBias_apply V0 h r i j
  unfold refSc
  simp only [id_eq]
  generalize refKey V0 = y1 at *
  generalize refMask V0 = y2 at *
  generalize refBias V0 = y3 at *
  generalize V0 (Proc.devRef .tc main_arg0) = P at hP
  pointwise []
  have hn := n.isLt
  have hr := r.isLt
  unfold sc
  rw [e2, e3]
  by_cases c : i.val < j.val ∧ j.val ≤ i.val + 128 ∧ (n.val ≠ 0 ∨ 128 ≤ j.val)
  · rw [if_pos c, if_pos (show ok _ _ _ from ⟨c.1, c.2.1, by have := c.2.2; omega⟩)]
    refine congrArg₂ (· + ·) (congrArg₂ (· * ·) (Finset.sum_congr rfl fun x _ => congrArg₂ (· * ·) ?_ ?_) ?_) ?_
    · rw [e1 x c.2.2]
      congr 1
      omega
    · refine (hP _ _).trans ?_
      congr 1 <;> (dsimp only; omega)
    · simp [Ideal.ofBits, Ideal.ieee, -EReal.coe_mul]; norm_num
    · rw [hb]
      congr 1
      omega
  · rw [if_neg c, if_neg (fun k : ok _ _ _ => c ⟨k.1, k.2.1, by have := k.2.2; omega⟩)]
    exact Cert.KernelIdeal.Val.ninf_f32

include hs in
theorem refSink_apply (b n : Fin 16) (h r : Fin 4) (i : Fin 128) (z : Fin 1) : refSink V0 (ix6 b n h r i z) = I.sink (4 * h.val + r.val) := by
  unfold refSink
  generalize V0 (Proc.devRef .tc main_arg6) = P at hs
  pointwise []
  refine (hs _).trans ?_
  congr 1
  dsimp only
  omega

theorem max6 (a b : FVec Ideal S16x16x4x4x128x1 .f32) (i : S16x16x4x4x128x1.Idx) : maximumf a b i = max (a i : EReal) (b i) := rfl
theorem max6_of (a b : FVec Ideal S16x16x4x4x128x1 .f32) (i : S16x16x4x4x128x1.Idx) (x y : EReal) (ha : a i = x) (hb : b i = y) : maximumf a b i = max x y := by
  rw [max6, ha, hb]
theorem br5 (y : FVec Ideal S16x16x4x4x128 .f32) (b n : Fin 16) (h r : Fin 4) (i : Fin 128) (z : Fin 1) : broadcastInDim S16x16x4x4x128x1 ![0, 1, 2, 3, 4] bcast_S16x16x4x4x128_S16x16x4x4x128x1_0_1_2_3_4 y (ix6 b n h r i z) = y (ix5 b n h r i) := by
  pointwise []

include hP hb hs in
theorem refMax_apply (b n : Fin 16) (h r : Fin 4) (i : Fin 128) (z : Fin 1) : refMax V0 (ix6 b n h r i z) = mB I (16 * b.val + n.val) (4 * h.val + r.val) i.val := by
  have e1 := refSc_apply V0 I hP hb b n h r i
  have e2 := refSink_apply V0 I hs b n h r i z
  unfold refMax mB
  generalize refSc V0 = y1 at *
  generalize refSink V0 = y3 at *
  refine max6_of _ _ _ _ _ ((br5 _ b n h r i z).trans ?_) e2
  refine (max5 y1 _ b n h r i).trans ?_
  exact congrArg₂ (fun (a : EReal) (f : Fin 256 → EReal) => Finset.fold max a f Finset.univ) Cert.KernelIdeal.Val.ninf_f32 (funext e1)

include hP hb hs in
theorem refExp_apply (b n : Fin 16) (h r : Fin 4) (i : Fin 128) (j : Fin 256) : refExp V0 (ix6 b n h r i j) = Ideal.exp (sc I (16 * b.val + n.val) (4 * h.val + r.val) i.val j.val - mB I (16 * b.val + n.val) (4 * h.val + r.val) i.val) := by
  have e1 := refSc_apply V0 I hP hb b n h r i
  have e2 := refMax_apply V0 I hP hb hs b n h r i
  unfold refExp
  generalize refSc V0 = y1 at *
  generalize refMax V0 = y3 at *
  pointwise []
  rw [e1, e2]

include hP hb hs in
theorem refDen_apply (b n : Fin 16) (h r : Fin 4) (i : Fin 128) (z : Fin 1) : refDen V0 (ix6 b n h r i z) = dB I (16 * b.val + n.val) (4 * h.val + r.val) i.val := by
  have e1 := refExp_apply V0 I hP hb hs b n h r i
  have e2 := refSink_apply V0 I hs b n h r i z
  have e3 := refMax_apply V0 I hP hb hs b n h r i z
  unfold refDen
  generalize refExp V0 = y1 at *
  generalize refSink V0 = y3 at *
  generalize refMax V0 = y4 at *
  have e4 : Host.reduceAdd y1 (constant (F := Ideal) S_ .f32 0x00000000#32) reducesTo_S16x16x4x4x128x256_S16x16x4x4x128_d5 h_S_ (ix5 b n h r i)
      = ∑ j : Fin 256, Ideal.exp (sc I (16 * b.val + n.val) (4 * h.val + r.val) i.val j.val - mB I (16 * b.val + n.val) (4 * h.val + r.val) i.val) := by
    refine (sum5 y1 _ b n h r i).trans ?_
    rw [show constant (F := Ideal) S_ .f32 0x00000000#32 (Shape.Idx.first h_S_) = (0 : EReal) from Ideal.ofBits_zero_f32, zero_add]
    exact Finset.sum_congr rfl fun j _ => e1 j
  generalize Host.reduceAdd y1 (constant (F := Ideal) S_ .f32 0x00000000#32) reducesTo_S16x16x4x4x128x256_S16x16x4x4x128_d5 h_S_ = y at e4 ⊢
  pointwise []
  rw [e2, e3, e4]
  rfl

variable (H : I.Fine)
include hP hb hs H in
theorem refSwa_apply (r : Fin 32768) (c : Fin 1024) : refSwa V0 (ix2 r c) = yB I (r.val / 128) (c.val / 64) (r.val % 128) (c.val % 64) := by
  have e1 := refExp_apply V0 I hP hb hs
  have e2 := refDen_apply V0 I hP hb hs
  have e3 := refVal_apply V0 I hP
  unfold refSwa
  generalize refExp V0 = y1 at *
  generalize refDen V0 = y3 at *
  generalize refVal V0 = y4 at *
  pointwise []
  have hr := r.isLt
  have hc := c.isLt
  simp only [e1, e2]
  have r1 : 16 * (r.val / 2048) + r.val / 128 % 16 = r.val / 128 := by omega
  have r2 : 4 * (c.val / 256) + c.val / 64 % 4 = c.val / 64 := by omega
  simp only [r1, r2]
  rw [div_sum _ _ _ (den_pos H _ _ _ (by omega) (by omega) (by omega))]
  unfold yB
  refine congrArg (· * _) (Finset.sum_congr rfl fun j _ => ?_)
  by_cases k : ok (r.val / 128) (r.val % 128) j.val
  · rw [e3 _ _ _ _ _ (by have := k.2.2; dsimp only; omega)]
    dsimp only
    rw [r1]
    refine congrArg₂ (· * ·) (congrArg (I.P _) ?_) rfl
    omega
  · have : sc I (r.val / 128) (c.val / 64) (r.val % 128) j.val = ⊥ := by unfold sc; rw [if_neg k]
    rw [this, EReal.bot_sub, Ideal.exp_bot, mul_zero, mul_zero]

variable (hO : ∀ (n : Fin 32) (b : Fin 16) (h : Fin 4) (i : Fin 64) (e : Fin 256), V0 (Proc.devRef .tc main_v25_6) (ix5 n b h i e) = oA I (32 * b.val + n.val) h.val i.val e.val)
  (hg : ∀ e : Fin 256, V0 (Proc.devRef .tc main_arg5) (ix2 0 e) = I.gain e.val)

include hO in
theorem refO_apply (r : Fin 32768) (h : Fin 4) (e : Fin 256) : refO V0 (ix3 r h e) = oA I (r.val / 64) h.val (r.val % 64) e.val := by
  unfold refO
  generalize V0 (Proc.devRef .tc main_v25_6) = y1 at hO
  pointwise []
  refine (hO _ _ _ _ _).trans ?_
  have hr := r.isLt
  congr 1
  dsimp only
  omega

theorem mul_gate (a : EReal) {p q : EReal} (h : p = q) : a * (p * Ideal.logistic p) = a * (q * Ideal.logistic q) := by rw [h]

include hP hO hg in
theorem refGla_apply (r : Fin 32768) (c : Fin 1024) : refGla V0 (ix2 r c) = yA I (r.val / 64) (c.val / 256) (r.val % 64) (c.val % 256) := by
  have e1 := refO_apply V0 I hO r
  have e2 : refGn V0 (ix2 r c) = oA I (r.val / 64) (c.val / 256) (r.val % 64) (c.val % 256)
      * Ideal.rsqrt (Ideal.div (∑ x : Fin 256, oA I (r.val / 64) (c.val / 256) (r.val % 64) x.val * oA I (r.val / 64) (c.val / 256) (r.val % 64) x.val) (Ideal.ofBits .f32 0x43800000#32) + Ideal.ofBits .f32 0x358637BD#32)
      * I.gain (c.val % 256) := by
    unfold refGn
    generalize refO V0 = y1 at *
    generalize V0 (Proc.devRef .tc main_arg5) = P at hg
    pointwise []
    simp only [e1]
    exact congrArg (_ * ·) (hg _)
  unfold refGla
  generalize refGn V0 = y1 at *
  generalize V0 (Proc.devRef .tc main_arg0) = P at hP
  pointwise []
  rw [e2]
  unfold yA
  have hp : P (ix2 r ⟨5120 + c.val, by have := c.isLt; omega⟩) = I.P (64 * (r.val / 64) + r.val % 64) (5120 + (256 * (c.val / 256) + c.val % 256)) := by
    refine (hP _ _).trans ?_
    congr 1 <;> ((try dsimp only); omega)
  exact mul_gate _ hp

variable (h2 : ∀ (r : Fin 32768) (c : Fin 2048), V0 (Proc.devRef .tc main_arg2) (ix2 r c) = I.X r.val c.val)
  (h7 : ∀ (x : Fin 1024) (k : Fin 2048), V0 (Proc.devRef .tc main_arg7) (ix2 x k) = I.wa x.val k.val)
  (h8 : ∀ (x : Fin 1024) (k : Fin 2048), V0 (Proc.devRef .tc main_arg8) (ix2 x k) = I.wb x.val k.val)
  (h9 : ∀ (x : Fin 2048) (k : Fin 2048), V0 (Proc.devRef .tc main_arg9) (ix2 x k) = I.wo x.val k.val)

include hP hb hs H hO hg h2 h7 h8 h9 in
theorem post_apply (r : Fin 32768) (c : Fin 2048) : out_main_v157 V0 (ix2 r c) = out I r.val c.val := by
  have e1 := refSwa_apply V0 I hP hb hs H r
  have e2 := refGla_apply V0 I hP hO hg r
  rw [out_pieces]
  generalize refSwa V0 = y1 at *
  generalize refGla V0 = y2 at *
  generalize V0 (Proc.devRef .tc main_arg0) = a0 at *
  generalize V0 (Proc.devRef .tc main_arg2) = a2 at *
  generalize V0 (Proc.devRef .tc main_arg7) = a7 at *
  generalize V0 (Proc.devRef .tc main_arg8) = a8 at *
  generalize V0 (Proc.devRef .tc main_arg9) = a9 at *
  pointwise []
  simp only [e1, e2, hP, h2, h7, h8, h9]
  unfold out merged
  refine congrArg (_ + ·) (Finset.sum_congr rfl fun k _ => congrArg (· * _) ?_)
  refine congrArg₂ (· + ·) (congrArg₂ (· * ·) ?_ (Finset.sum_congr rfl fun x _ => ?_)) (congrArg₂ (· * ·) ?_ (Finset.sum_congr rfl fun x _ => ?_))
  · congr 1
  · unfold yRow
    rw [if_pos x.isLt]
  · rfl
  · unfold yRow
    rw [if_neg (by omega), Nat.add_sub_cancel_left]

end

end Cert.ReferenceIdeal.Value

end
-- ==== Proof.MixRef.lean ====
/-
  The mixing reference's result, of its arguments.
-/
module

public import proofs.«01_k».proof.Proof.MixWin
public import proofs.«01_k».proof.Proof.MixEntry
public import proofs.«01_k».proof.Proof.MixIter
public import proofs.«01_k».proof.Proof.MixPost

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Cert.Mixm

variable (m : (ℓ : Loc nD τ sig) → Buf (Elt Ideal) ℓ) (c : Dev nD)
  (a0 : FVec Ideal S32768x8704 .bf16) (a1 : FVec Ideal S32768x128 .f32) (a2 : FVec Ideal S32768x2048 .f32) (a3 : FVec Ideal S128x512 .bf16) (a4 : FVec Ideal S1x512 .f32)
  (a5 : FVec Ideal S1x256 .f32) (a6 : FVec Ideal S16 .f32) (a7 a8 : FVec Ideal S1024x2048 .bf16) (a9 : FVec Ideal S2048x2048 .bf16)
  (h0 : m ((c.tc : Thread nD τ).loc main_arg0) = a0) (h1 : m ((c.tc : Thread nD τ).loc main_arg1) = a1) (h2 : m ((c.tc : Thread nD τ).loc main_arg2) = a2)
  (h3 : m ((c.tc : Thread nD τ).loc main_arg3) = a3) (h4 : m ((c.tc : Thread nD τ).loc main_arg4) = a4) (h5 : m ((c.tc : Thread nD τ).loc main_arg5) = a5)
  (h6 : m ((c.tc : Thread nD τ).loc main_arg6) = a6) (h7 : m ((c.tc : Thread nD τ).loc main_arg7) = a7) (h8 : m ((c.tc : Thread nD τ).loc main_arg8) = a8)
  (h9 : m ((c.tc : Thread nD τ).loc main_arg9) = a9)
  (hz : ∀ r d, r < 32768 → d < 512 → logit a1 a3 a4 r d ≠ ⊥)

include h0 h1 h3 h4 hz in
/-- The recurrence's rows when the loop ends. -/
theorem loop_out (n : Fin 32) (b : Fin 16) (h : Fin 4) (i : Fin 64) (e : Fin 256) :
    (STEP^[32] (entryContents (F := Ideal) preI m c)) (Proc.devRef .tc main_v25_6) (ix5 n b h i e) = oA (inpOf a0 a1 a2 a3 a4 a5 a6 a7 a8 a9) (32 * b.val + n.val) h.val i.val e.val := by
  have hP : ∀ (r : Fin 32768) (x : Fin 8704), launchContents m c (Proc.devRef .tc main_arg0) (ix2 r x) = (inpOf a0 a1 a2 a3 a4 a5 a6 a7 a8 a9).P r.val x.val :=
    fun r x => (congrFun h0 (ix2 r x)).trans (arr2_at (fun r c => a0 (ix2 r c)) r x).symm
  have V := inv_iter (entryContents (F := Ideal) preI m c) (inpOf a0 a1 a2 a3 a4 a5 a6 a7 a8 a9)
    (entry_0 m c _ hP) (entry_1 m c _ hP) (entry_2 m c _ hP)
    (entry_3 m c _ (logit a1 a3 a4) (fun _ _ => rfl) hz a1 a3 a4 h1 h3 h4
      (fun r d => (arr2_at (fun r d => (∑ x : Fin 128, (a1 (ix2 r x) : EReal) * a3 (ix2 x d)) + a4 (ix2 0 d)) r d).symm))
    (ctr_entry m c) (entry_5 m c) 32 (le_refl 32)
  exact V.o n b h i e n.isLt

include h0 h1 h2 h3 h4 h5 h6 h7 h8 h9 hz in
/-- The reference's result. -/
theorem ref_out (H : (inpOf a0 a1 a2 a3 a4 a5 a6 a7 a8 a9).Fine) (r : Fin 32768) (d : Fin 2048) :
    out_main_v157 (STEP^[32] (entryContents (F := Ideal) preI m c)) (ix2 r d) = out (inpOf a0 a1 a2 a3 a4 a5 a6 a7 a8 a9) r.val d.val := by
  have hO := loop_out m c a0 a1 a2 a3 a4 a5 a6 a7 a8 a9 h0 h1 h3 h4 hz
  have e0 := (iter_main_arg0 m c 32).trans h0
  have e2 := (iter_main_arg2 m c 32).trans h2
  have e5 := (iter_main_arg5 m c 32).trans h5
  have e6 := (iter_main_arg6 m c 32).trans h6
  have e7 := (iter_main_arg7 m c 32).trans h7
  have e8 := (iter_main_arg8 m c 32).trans h8
  have e9 := (iter_main_arg9 m c 32).trans h9
  generalize STEP^[32] (entryContents (F := Ideal) preI m c) = V at *
  exact post_apply V (inpOf a0 a1 a2 a3 a4 a5 a6 a7 a8 a9)
    (fun r x => (congrFun e0 (ix2 r x)).trans (arr2_at (fun r c => a0 (ix2 r c)) r x).symm)
    (fun _ _ _ => rfl)
    (fun h => (congrFun e6 (ix1 h)).trans (arr1_at (fun h => a6 (ix1 h)) h).symm)
    H hO
    (fun e => (congrFun e5 (ix2 0 e)).trans (arr1_at (fun e => a5 (ix2 0 e)) e).symm)
    (fun r x => (congrFun e2 (ix2 r x)).trans (arr2_at (fun r c => a2 (ix2 r c)) r x).symm)
    (fun r x => (congrFun e7 (ix2 r x)).trans (arr2_at (fun r c => a7 (ix2 r c)) r x).symm)
    (fun r x => (congrFun e8 (ix2 r x)).trans (arr2_at (fun r c => a8 (ix2 r c)) r x).symm)
    (fun r x => (congrFun e9 (ix2 r x)).trans (arr2_at (fun r c => a9 (ix2 r c)) r x).symm) r d

end Cert.ReferenceIdeal.Value

end
-- ==== Proof.MixPre.lean ====
/-
  What the mixing claim's condition says of the arguments.
-/
module

public import proofs.«01_k».proof.Defs
public import proofs.«01_k».proof.Proof.MixWin
public import proofs.«01_k».proof.Proof.MixDen
public import proofs.«01_k».proof.Proof.MixBias
public import proofs.«01_k».proof.Proof.MixSwa

@[expose] public section

set_option maxRecDepth 16384

noncomputable section

namespace Cert.Pre_mixable

open Idealize.ShloMosaic Idealize.ShloMosaic.TcCoe Cert.Mixm

instance facts : Facts where
  bitsLt_bf16_f32 := by decide
  bcast_S1x512_S32768x512_0_1 := by decide
  bcast_S_S32768x512 := by decide
  slices_S32768x8704_S32768x1024_0_6144 := by decide
  bcast_S_S32768x1024 := by decide
  slices_S32768x8704_S32768x256_0_8192 := by decide
  bcast_S_S32768x256 := by decide
  bcast_S_S16 := by decide
  bcast_S16_S32768x16_1 := by decide
  concatenates_S32768x512_S32768x1024_S32768x256_S32768x16_S32768x1808_d1 := by decide
  dot_S32768x128_S128x512_S32768x512_1_0_0_1_n_n_wf := by decide

theorem pinf : Ideal.ofBits .f32 0x7F800000#32 = ⊤ := by
  simp [Ideal.ofBits, Ideal.ieee]

/-- A value whose distance from zero is not infinite is real. -/
theorem real_of_abs {x : EReal} (h : (FloatOps.absf (F := Ideal) (φ := .f32) x : EReal) < ⊤) : ∃ y : ℝ, x = y := by
  induction x with
  | bot => exact absurd h (by show ¬((max ⊥ (-⊥) : EReal) < ⊤); simp)
  | top => exact absurd h (by show ¬((max ⊤ (-⊤) : EReal) < ⊤); simp)
  | coe y => exact ⟨y, rfl⟩

theorem lt_of_bit {x y : EReal} (h : Ideal.cmp .olt x y = 1#1) : x < y := by
  by_contra hc
  simp [Ideal.cmp, hc] at h

theorem gt_of_bit {x y : EReal} (h : Ideal.cmp .ogt x y = 1#1) : y < x := by
  by_contra hc
  simp [Ideal.cmp, hc] at h

variable (a0 : FVec Ideal S32768x8704 .bf16) (a1 : FVec Ideal S32768x128 .f32) (a2 : FVec Ideal S32768x2048 .f32) (a3 : FVec Ideal S128x512 .bf16) (a4 : FVec Ideal S1x512 .f32)
  (a5 : FVec Ideal S1x256 .f32) (a6 : FVec Ideal S16 .f32) (a7 a8 : FVec Ideal S1024x2048 .bf16) (a9 : FVec Ideal S2048x2048 .bf16)
  (hp : fn (F := Ideal) a0 a1 a2 a3 a4 a5 a6 a7 a8 a9 = fun _ => 1#1)

include hp in
theorem pre_logit (r : Fin 32768) (d : Fin 512) : (∑ x : Fin 128, (a1 (ix2 r x) : EReal) * a3 (ix2 x d)) + a4 (ix2 0 d) ≠ ⊥ := by
  have e := congrFun hp (ix2 r ⟨d.val, by omega⟩)
  unfold fn at e
  pointwise [] at e
  have hd := d.isLt
  exact ne_bot_of_gt (gt_of_bit e)

include hp in
theorem pre_q (r : Fin 32768) (d : Fin 1024) : ∃ y : ℝ, (a0 (ix2 r ⟨6144 + d.val, by omega⟩) : EReal) = y := by
  have e := congrFun hp (ix2 r ⟨512 + d.val, by omega⟩)
  unfold fn at e
  pointwise [] at e
  refine real_of_abs (lt_of_lt_of_eq (lt_of_bit e) pinf)

include hp in
theorem pre_k (r : Fin 32768) (d : Fin 256) : ∃ y : ℝ, (a0 (ix2 r ⟨8192 + d.val, by omega⟩) : EReal) = y := by
  have e := congrFun hp (ix2 r ⟨1536 + d.val, by omega⟩)
  unfold fn at e
  pointwise [] at e
  have hd := d.isLt
  rw [dif_neg (by omega), dif_neg (by omega), dif_pos (by omega)] at e
  have e' := real_of_abs (lt_of_lt_of_eq (lt_of_bit e) pinf)
  have hi : (⟨8192 + (1536 + d.val - 512 - 1024), by omega⟩ : Fin 8704) = ⟨8192 + d.val, by omega⟩ := Fin.ext (by dsimp only; omega)
  rwa [hi] at e'

include hp in
theorem pre_sink (h : Fin 16) : (a6 (ix1 h) : EReal) ≠ ⊤ := by
  have e := congrFun hp (ix2 0 ⟨1792 + h.val, by omega⟩)
  unfold fn at e
  pointwise [] at e
  have hd := h.isLt
  rw [dif_neg (by omega), dif_neg (by omega), dif_neg (by omega)] at e
  have e' := lt_of_lt_of_eq (lt_of_bit e) pinf
  have hi : (⟨1792 + h.val - 512 - 1024 - 256, by omega⟩ : Fin 16) = h := Fin.ext (by dsimp only; omega)
  rw [hi] at e'
  exact ne_of_lt e'

include hp in
/-- No decay logit of the layer is the infinity below. -/
theorem pre_hz (r d : Nat) (hr : r < 32768) (hd : d < 512) : logit a1 a3 a4 r d ≠ ⊥ := by
  rw [show logit a1 a3 a4 r d = _ from arr2_at (fun r d => (∑ x : Fin 128, (a1 (ix2 r x) : EReal) * a3 (ix2 x d)) + a4 (ix2 0 d)) ⟨r, hr⟩ ⟨d, hd⟩]
  exact pre_logit a0 a1 a2 a3 a4 a5 a6 a7 a8 a9 hp ⟨r, hr⟩ ⟨d, hd⟩

include hp in
/-- The attention's queries and keys are real, and no sink is the infinity above. -/
theorem pre_fine : (inpOf a0 a1 a2 a3 a4 a5 a6 a7 a8 a9).Fine where
  q r c hr hc := by
    obtain ⟨y, hy⟩ := pre_q a0 a1 a2 a3 a4 a5 a6 a7 a8 a9 hp ⟨r, hr⟩ ⟨c, hc⟩
    exact ⟨y, (arr2_at (fun r c => a0 (ix2 r c)) ⟨r, hr⟩ ⟨6144 + c, by omega⟩).trans hy⟩
  k r c hr hc := by
    obtain ⟨y, hy⟩ := pre_k a0 a1 a2 a3 a4 a5 a6 a7 a8 a9 hp ⟨r, hr⟩ ⟨c, hc⟩
    exact ⟨y, (arr2_at (fun r c => a0 (ix2 r c)) ⟨r, hr⟩ ⟨8192 + c, by omega⟩).trans hy⟩
  bias h i j := biasOf_real h i j
  sink h hh := fun e => pre_sink a0 a1 a2 a3 a4 a5 a6 a7 a8 a9 hp ⟨h, hh⟩ ((arr1_at (fun h => a6 (ix1 h)) ⟨h, hh⟩).symm.trans e)

end Cert.Pre_mixable

end
-- ==== Proof.MixClaim.lean ====
/-
  The mixing call's value claim.
-/
module

public import proofs.«01_k».proof.Defs
public import proofs.«01_k».proof.Proof.MixFold
public import proofs.«01_k».proof.Proof.MixRef
public import proofs.«01_k».proof.Proof.MixPre

@[expose] public section

set_option maxRecDepth 16384

noncomputable section

namespace Cert.Mix

open Idealize.ShloMosaic Idealize.ShloMosaic.TcCoe Idealize.SL.Sem

theorem algebraic1 : Cert.algebraic_KernelIdeal_ReferenceIdeal_pre_mixable (hKernelIdeal := Cert.KernelIdeal.Gen.facts) (hReferenceIdeal := Cert.ReferenceIdeal.Gen.facts) (hPre_mixable := Cert.Pre_mixable.facts) := by
  intro m g m' g' hpre hag
  have hz := fun c => Cert.Pre_mixable.pre_hz _ _ _ _ _ _ _ _ _ _ (hpre c)
  have hf := fun c => Cert.Pre_mixable.pre_fine _ _ _ _ _ _ _ _ _ _ (hpre c)
  refine ⟨fun c => Cert.KernelIdeal.Val.outArr (Cert.KernelIdeal.Val.inp m c), ?_, ?_⟩
  · refine (θ_run _ _ _).mono (fun r h c => ?_) (Cert.KernelIdeal.Value.run_blocks m g)
    obtain ⟨h0, h1⟩ := h c
    exact ⟨h0.trans (Cert.KernelIdeal.Val.final15 m c (hz c)), h1⟩
  · refine (θ_run _ _ _).mono (fun r h c => ?_) (Cert.ReferenceIdeal.Value.run m' g')
    obtain ⟨h0, h1⟩ := h c
    obtain ⟨a0, a1, a2, a3, a4, a5, a6, a7, a8, a9⟩ := hag c
    refine ⟨h0.trans (funext fun j => ?_), h1⟩
    obtain ⟨r, d, rfl⟩ : ∃ r d, j = ix2 (n0 := 32768) (n1 := 2048) r d := ⟨j 0, j 1, (ix2_eta (n0 := 32768) (n1 := 2048) j).symm⟩
    exact Cert.ReferenceIdeal.Value.ref_out m' c _ _ _ _ _ _ _ _ _ _ a0 a1 a2 a3 a4 a5 a6 a7 a8 a9 (hz c) (hf c) r d

end Cert.Mix

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MlpClaim
public import proofs.«01_k».proof.Proof.PleClaim
public import proofs.«01_k».proof.Proof.InprojClaim
public import proofs.«01_k».proof.Proof.MixClaim

@[expose] public section

open Idealize.ShloMosaic Idealize.SL.Sem

namespace Cert.Mix

theorem quiet_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiet_Reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiet_Reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiet_Reference4Ideal : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

end Cert.Mix

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_mixable.facts,
    fun m ρ _ => Cert.Kernel.Gen.frame m ρ, fun m ρ _ => Cert.KernelIdeal.Gen.frame m ρ, fun m ρ _ => Cert.KernelIdeal.Gen.frame m ρ,
    Cert.Mix.quiet_ReferenceIdeal, fun m ρ _ => Cert.Mix.quiet_ReferenceIdeal m ρ trivial,
    fun m ρ _ => Cert.Kernel2.Gen.frame m ρ, fun m ρ _ => Cert.Kernel2Ideal.Gen.frame m ρ, Cert.Mix.quiet_Reference2Ideal,
    fun m ρ _ => Cert.Kernel3.Gen.frame m ρ, fun m ρ _ => Cert.Kernel3Ideal.Gen.frame m ρ, Cert.Mix.quiet_Reference3Ideal,
    fun m ρ _ => Cert.Kernel4.Gen.frame m ρ, fun m ρ _ => Cert.Kernel4Ideal.Gen.frame m ρ, Cert.Mix.quiet_Reference4Ideal,
    IdealRules.named_const.statement Cert.KernelIdeal.κ "log2e_tau" .f32 0x3DB8AA3B#32 (((16 * (Real.log 2))⁻¹ : ℝ) : EReal) rfl,
    Cert.Mix.algebraic1, trivial, Cert.Mix.algebraic2, trivial, Cert.Mix.algebraic3, trivial, Cert.Mix.algebraic4⟩

end
